-- ==== Defs.lean ====
def Pre_Col (m : (ℓ : Loc Cert.Col.nD Cert.Col.τ Cert.Col.sig) → Buf (Elt Bits) ℓ) : Prop :=
  True

def Pre_ColIdeal (m : (ℓ : Loc Cert.ColIdeal.nD Cert.ColIdeal.τ Cert.ColIdeal.sig) → Buf (Elt Ideal) ℓ) : Prop :=
  True

def Pre_ColIdeal_finite_weights [hPre_finite_weights : Cert.Pre_finite_weights.Facts] (m : (ℓ : Loc Cert.ColIdeal.nD Cert.ColIdeal.τ Cert.ColIdeal.sig) → Buf (Elt Ideal) ℓ) : Prop :=
  ∀ c : Dev Cert.ColIdeal.nD,
    (Cert.Pre_finite_weights.fn (F := Ideal) (m ((c.tc : Thread Cert.ColIdeal.nD Cert.ColIdeal.τ).loc Cert.ColIdeal.main_arg0)) (m ((c.tc : Thread Cert.ColIdeal.nD Cert.ColIdeal.τ).loc Cert.ColIdeal.main_arg1)) (m ((c.tc : Thread Cert.ColIdeal.nD Cert.ColIdeal.τ).loc Cert.ColIdeal.main_arg2)) (m ((c.tc : Thread Cert.ColIdeal.nD Cert.ColIdeal.τ).loc Cert.ColIdeal.main_arg3)) (m ((c.tc : Thread Cert.ColIdeal.nD Cert.ColIdeal.τ).loc Cert.ColIdeal.main_arg4)) (m ((c.tc : Thread Cert.ColIdeal.nD Cert.ColIdeal.τ).loc Cert.ColIdeal.main_arg5)) (m ((c.tc : Thread Cert.ColIdeal.nD Cert.ColIdeal.τ).loc Cert.ColIdeal.main_arg6)) (m ((c.tc : Thread Cert.ColIdeal.nD Cert.ColIdeal.τ).loc Cert.ColIdeal.main_arg7)) (m ((c.tc : Thread Cert.ColIdeal.nD Cert.ColIdeal.τ).loc Cert.ColIdeal.main_arg8)) (m ((c.tc : Thread Cert.ColIdeal.nD Cert.ColIdeal.τ).loc Cert.ColIdeal.main_arg9)) (m ((c.tc : Thread Cert.ColIdeal.nD Cert.ColIdeal.τ).loc Cert.ColIdeal.main_arg10)) (m ((c.tc : Thread Cert.ColIdeal.nD Cert.ColIdeal.τ).loc Cert.ColIdeal.main_arg11)) (m ((c.tc : Thread Cert.ColIdeal.nD Cert.ColIdeal.τ).loc Cert.ColIdeal.main_arg12)) (m ((c.tc : Thread Cert.ColIdeal.nD Cert.ColIdeal.τ).loc Cert.ColIdeal.main_arg13)) (m ((c.tc : Thread Cert.ColIdeal.nD Cert.ColIdeal.τ).loc Cert.ColIdeal.main_arg14)) (m ((c.tc : Thread Cert.ColIdeal.nD Cert.ColIdeal.τ).loc Cert.ColIdeal.main_arg15)) (m ((c.tc : Thread Cert.ColIdeal.nD Cert.ColIdeal.τ).loc Cert.ColIdeal.main_arg16)) (m ((c.tc : Thread Cert.ColIdeal.nD Cert.ColIdeal.τ).loc Cert.ColIdeal.main_arg17)) (m ((c.tc : Thread Cert.ColIdeal.nD Cert.ColIdeal.τ).loc Cert.ColIdeal.main_arg18)) (m ((c.tc : Thread Cert.ColIdeal.nD Cert.ColIdeal.τ).loc Cert.ColIdeal.main_arg19)) (m ((c.tc : Thread Cert.ColIdeal.nD Cert.ColIdeal.τ).loc Cert.ColIdeal.main_arg20)) (m ((c.tc : Thread Cert.ColIdeal.nD Cert.ColIdeal.τ).loc Cert.ColIdeal.main_arg21)) (m ((c.tc : Thread Cert.ColIdeal.nD Cert.ColIdeal.τ).loc Cert.ColIdeal.main_arg22))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def Pre_Row (m : (ℓ : Loc Cert.Row.nD Cert.Row.τ Cert.Row.sig) → Buf (Elt Bits) ℓ) : Prop :=
  True

def Pre_RowIdeal (m : (ℓ : Loc Cert.RowIdeal.nD Cert.RowIdeal.τ Cert.RowIdeal.sig) → Buf (Elt Ideal) ℓ) : Prop :=
  True

def Pre_RowIdeal_finite_row_weights [hPre_finite_row_weights : Cert.Pre_finite_row_weights.Facts] (m : (ℓ : Loc Cert.RowIdeal.nD Cert.RowIdeal.τ Cert.RowIdeal.sig) → Buf (Elt Ideal) ℓ) : Prop :=
  ∀ c : Dev Cert.RowIdeal.nD,
    (Cert.Pre_finite_row_weights.fn (F := Ideal) (m ((c.tc : Thread Cert.RowIdeal.nD Cert.RowIdeal.τ).loc Cert.RowIdeal.main_arg0)) (m ((c.tc : Thread Cert.RowIdeal.nD Cert.RowIdeal.τ).loc Cert.RowIdeal.main_arg1)) (m ((c.tc : Thread Cert.RowIdeal.nD Cert.RowIdeal.τ).loc Cert.RowIdeal.main_arg2)) (m ((c.tc : Thread Cert.RowIdeal.nD Cert.RowIdeal.τ).loc Cert.RowIdeal.main_arg3)) (m ((c.tc : Thread Cert.RowIdeal.nD Cert.RowIdeal.τ).loc Cert.RowIdeal.main_arg4)) (m ((c.tc : Thread Cert.RowIdeal.nD Cert.RowIdeal.τ).loc Cert.RowIdeal.main_arg5)) (m ((c.tc : Thread Cert.RowIdeal.nD Cert.RowIdeal.τ).loc Cert.RowIdeal.main_arg6)) (m ((c.tc : Thread Cert.RowIdeal.nD Cert.RowIdeal.τ).loc Cert.RowIdeal.main_arg7)) (m ((c.tc : Thread Cert.RowIdeal.nD Cert.RowIdeal.τ).loc Cert.RowIdeal.main_arg8)) (m ((c.tc : Thread Cert.RowIdeal.nD Cert.RowIdeal.τ).loc Cert.RowIdeal.main_arg9)) (m ((c.tc : Thread Cert.RowIdeal.nD Cert.RowIdeal.τ).loc Cert.RowIdeal.main_arg10)) (m ((c.tc : Thread Cert.RowIdeal.nD Cert.RowIdeal.τ).loc Cert.RowIdeal.main_arg11)) (m ((c.tc : Thread Cert.RowIdeal.nD Cert.RowIdeal.τ).loc Cert.RowIdeal.main_arg12)) (m ((c.tc : Thread Cert.RowIdeal.nD Cert.RowIdeal.τ).loc Cert.RowIdeal.main_arg13))) = (fun _ => 1#1)

def Pre_RowReferenceIdeal (m : (ℓ : Loc Cert.RowReferenceIdeal.nD Cert.RowReferenceIdeal.τ Cert.RowReferenceIdeal.sig) → Buf (Elt Ideal) ℓ) : Prop :=
  True

def Pre_RowReferenceIdeal_finite_row_weights [hPre_finite_row_weights : Cert.Pre_finite_row_weights.Facts] (m : (ℓ : Loc Cert.RowReferenceIdeal.nD Cert.RowReferenceIdeal.τ Cert.RowReferenceIdeal.sig) → Buf (Elt Ideal) ℓ) : Prop :=
  ∀ c : Dev Cert.RowReferenceIdeal.nD,
    (Cert.Pre_finite_row_weights.fn (F := Ideal) (m ((c.tc : Thread Cert.RowReferenceIdeal.nD Cert.RowReferenceIdeal.τ).loc Cert.RowReferenceIdeal.main_arg0)) (m ((c.tc : Thread Cert.RowReferenceIdeal.nD Cert.RowReferenceIdeal.τ).loc Cert.RowReferenceIdeal.main_arg1)) (m ((c.tc : Thread Cert.RowReferenceIdeal.nD Cert.RowReferenceIdeal.τ).loc Cert.RowReferenceIdeal.main_arg2)) (m ((c.tc : Thread Cert.RowReferenceIdeal.nD Cert.RowReferenceIdeal.τ).loc Cert.RowReferenceIdeal.main_arg3)) (m ((c.tc : Thread Cert.RowReferenceIdeal.nD Cert.RowReferenceIdeal.τ).loc Cert.RowReferenceIdeal.main_arg4)) (m ((c.tc : Thread Cert.RowReferenceIdeal.nD Cert.RowReferenceIdeal.τ).loc Cert.RowReferenceIdeal.main_arg5)) (m ((c.tc : Thread Cert.RowReferenceIdeal.nD Cert.RowReferenceIdeal.τ).loc Cert.RowReferenceIdeal.main_arg6)) (m ((c.tc : Thread Cert.RowReferenceIdeal.nD Cert.RowReferenceIdeal.τ).loc Cert.RowReferenceIdeal.main_arg7)) (m ((c.tc : Thread Cert.RowReferenceIdeal.nD Cert.RowReferenceIdeal.τ).loc Cert.RowReferenceIdeal.main_arg8)) (m ((c.tc : Thread Cert.RowReferenceIdeal.nD Cert.RowReferenceIdeal.τ).loc Cert.RowReferenceIdeal.main_arg9)) (m ((c.tc : Thread Cert.RowReferenceIdeal.nD Cert.RowReferenceIdeal.τ).loc Cert.RowReferenceIdeal.main_arg10)) (m ((c.tc : Thread Cert.RowReferenceIdeal.nD Cert.RowReferenceIdeal.τ).loc Cert.RowReferenceIdeal.main_arg11)) (m ((c.tc : Thread Cert.RowReferenceIdeal.nD Cert.RowReferenceIdeal.τ).loc Cert.RowReferenceIdeal.main_arg12)) (m ((c.tc : Thread Cert.RowReferenceIdeal.nD Cert.RowReferenceIdeal.τ).loc Cert.RowReferenceIdeal.main_arg13))) = (fun _ => 1#1)

def quiescent_Col [hCol : Cert.Col.Facts] : Prop :=
  ∀ (m : (ℓ : Loc Cert.Col.nD Cert.Col.τ Cert.Col.sig) → Buf (Elt Bits) ℓ) (g : Dev Cert.Col.nD → PrngReg), Pre_Col m →
    θ_run (Cert.Col.defs (F := Bits)) (onTc (τ := Cert.Col.τ) (Cert.Col.main (F := Bits))) ⟨m, fun _ => 0, g⟩ (fun r => (∀ c : Dev Cert.Col.nD,
      r.2.mem ((c.tc : Thread Cert.Col.nD Cert.Col.τ).loc Cert.Col.main_arg0) = m ((c.tc : Thread Cert.Col.nD Cert.Col.τ).loc Cert.Col.main_arg0)
      ∧ r.2.mem ((c.tc : Thread Cert.Col.nD Cert.Col.τ).loc Cert.Col.main_arg1) = m ((c.tc : Thread Cert.Col.nD Cert.Col.τ).loc Cert.Col.main_arg1)
      ∧ r.2.mem ((c.tc : Thread Cert.Col.nD Cert.Col.τ).loc Cert.Col.main_arg2) = m ((c.tc : Thread Cert.Col.nD Cert.Col.τ).loc Cert.Col.main_arg2)
      ∧ r.2.mem ((c.tc : Thread Cert.Col.nD Cert.Col.τ).loc Cert.Col.main_arg3) = m ((c.tc : Thread Cert.Col.nD Cert.Col.τ).loc Cert.Col.main_arg3)
      ∧ r.2.mem ((c.tc : Thread Cert.Col.nD Cert.Col.τ).loc Cert.Col.main_arg4) = m ((c.tc : Thread Cert.Col.nD Cert.Col.τ).loc Cert.Col.main_arg4)
      ∧ r.2.mem ((c.tc : Thread Cert.Col.nD Cert.Col.τ).loc Cert.Col.main_arg5) = m ((c.tc : Thread Cert.Col.nD Cert.Col.τ).loc Cert.Col.main_arg5)
      ∧ r.2.mem ((c.tc : Thread Cert.Col.nD Cert.Col.τ).loc Cert.Col.main_arg6) = m ((c.tc : Thread Cert.Col.nD Cert.Col.τ).loc Cert.Col.main_arg6)
      ∧ r.2.mem ((c.tc : Thread Cert.Col.nD Cert.Col.τ).loc Cert.Col.main_arg7) = m ((c.tc : Thread Cert.Col.nD Cert.Col.τ).loc Cert.Col.main_arg7)
      ∧ r.2.mem ((c.tc : Thread Cert.Col.nD Cert.Col.τ).loc Cert.Col.main_arg8) = m ((c.tc : Thread Cert.Col.nD Cert.Col.τ).loc Cert.Col.main_arg8)
      ∧ r.2.mem ((c.tc : Thread Cert.Col.nD Cert.Col.τ).loc Cert.Col.main_arg9) = m ((c.tc : Thread Cert.Col.nD Cert.Col.τ).loc Cert.Col.main_arg9)
      ∧ r.2.mem ((c.tc : Thread Cert.Col.nD Cert.Col.τ).loc Cert.Col.main_arg10) = m ((c.tc : Thread Cert.Col.nD Cert.Col.τ).loc Cert.Col.main_arg10)
      ∧ r.2.mem ((c.tc : Thread Cert.Col.nD Cert.Col.τ).loc Cert.Col.main_arg11) = m ((c.tc : Thread Cert.Col.nD Cert.Col.τ).loc Cert.Col.main_arg11)
      ∧ r.2.mem ((c.tc : Thread Cert.Col.nD Cert.Col.τ).loc Cert.Col.main_arg12) = m ((c.tc : Thread Cert.Col.nD Cert.Col.τ).loc Cert.Col.main_arg12)
      ∧ r.2.mem ((c.tc : Thread Cert.Col.nD Cert.Col.τ).loc Cert.Col.main_arg13) = m ((c.tc : Thread Cert.Col.nD Cert.Col.τ).loc Cert.Col.main_arg13)
      ∧ r.2.mem ((c.tc : Thread Cert.Col.nD Cert.Col.τ).loc Cert.Col.main_arg14) = m ((c.tc : Thread Cert.Col.nD Cert.Col.τ).loc Cert.Col.main_arg14)
      ∧ r.2.mem ((c.tc : Thread Cert.Col.nD Cert.Col.τ).loc Cert.Col.main_arg15) = m ((c.tc : Thread Cert.Col.nD Cert.Col.τ).loc Cert.Col.main_arg15)
      ∧ r.2.mem ((c.tc : Thread Cert.Col.nD Cert.Col.τ).loc Cert.Col.main_arg16) = m ((c.tc : Thread Cert.Col.nD Cert.Col.τ).loc Cert.Col.main_arg16)
      ∧ r.2.mem ((c.tc : Thread Cert.Col.nD Cert.Col.τ).loc Cert.Col.main_arg17) = m ((c.tc : Thread Cert.Col.nD Cert.Col.τ).loc Cert.Col.main_arg17)
      ∧ r.2.mem ((c.tc : Thread Cert.Col.nD Cert.Col.τ).loc Cert.Col.main_arg18) = m ((c.tc : Thread Cert.Col.nD Cert.Col.τ).loc Cert.Col.main_arg18)
      ∧ r.2.mem ((c.tc : Thread Cert.Col.nD Cert.Col.τ).loc Cert.Col.main_arg19) = m ((c.tc : Thread Cert.Col.nD Cert.Col.τ).loc Cert.Col.main_arg19)
      ∧ r.2.mem ((c.tc : Thread Cert.Col.nD Cert.Col.τ).loc Cert.Col.main_arg20) = m ((c.tc : Thread Cert.Col.nD Cert.Col.τ).loc Cert.Col.main_arg20)
      ∧ r.2.mem ((c.tc : Thread Cert.Col.nD Cert.Col.τ).loc Cert.Col.main_arg21) = m ((c.tc : Thread Cert.Col.nD Cert.Col.τ).loc Cert.Col.main_arg21)
      ∧ r.2.mem ((c.tc : Thread Cert.Col.nD Cert.Col.τ).loc Cert.Col.main_arg22) = m ((c.tc : Thread Cert.Col.nD Cert.Col.τ).loc Cert.Col.main_arg22))
      ∧ r.2.sem = fun _ => 0)

def quiescent_ColIdeal [hColIdeal : Cert.ColIdeal.Facts] : Prop :=
  ∀ (m : (ℓ : Loc Cert.ColIdeal.nD Cert.ColIdeal.τ Cert.ColIdeal.sig) → Buf (Elt Ideal) ℓ) (g : Dev Cert.ColIdeal.nD → PrngReg), Pre_ColIdeal m →
    θ_run (Cert.ColIdeal.defs (F := Ideal)) (onTc (τ := Cert.ColIdeal.τ) (Cert.ColIdeal.main (F := Ideal))) ⟨m, fun _ => 0, g⟩ (fun r => (∀ c : Dev Cert.ColIdeal.nD,
      r.2.mem ((c.tc : Thread Cert.ColIdeal.nD Cert.ColIdeal.τ).loc Cert.ColIdeal.main_arg0) = m ((c.tc : Thread Cert.ColIdeal.nD Cert.ColIdeal.τ).loc Cert.ColIdeal.main_arg0)
      ∧ r.2.mem ((c.tc : Thread Cert.ColIdeal.nD Cert.ColIdeal.τ).loc Cert.ColIdeal.main_arg1) = m ((c.tc : Thread Cert.ColIdeal.nD Cert.ColIdeal.τ).loc Cert.ColIdeal.main_arg1)
      ∧ r.2.mem ((c.tc : Thread Cert.ColIdeal.nD Cert.ColIdeal.τ).loc Cert.ColIdeal.main_arg2) = m ((c.tc : Thread Cert.ColIdeal.nD Cert.ColIdeal.τ).loc Cert.ColIdeal.main_arg2)
      ∧ r.2.mem ((c.tc : Thread Cert.ColIdeal.nD Cert.ColIdeal.τ).loc Cert.ColIdeal.main_arg3) = m ((c.tc : Thread Cert.ColIdeal.nD Cert.ColIdeal.τ).loc Cert.ColIdeal.main_arg3)
      ∧ r.2.mem ((c.tc : Thread Cert.ColIdeal.nD Cert.ColIdeal.τ).loc Cert.ColIdeal.main_arg4) = m ((c.tc : Thread Cert.ColIdeal.nD Cert.ColIdeal.τ).loc Cert.ColIdeal.main_arg4)
      ∧ r.2.mem ((c.tc : Thread Cert.ColIdeal.nD Cert.ColIdeal.τ).loc Cert.ColIdeal.main_arg5) = m ((c.tc : Thread Cert.ColIdeal.nD Cert.ColIdeal.τ).loc Cert.ColIdeal.main_arg5)
      ∧ r.2.mem ((c.tc : Thread Cert.ColIdeal.nD Cert.ColIdeal.τ).loc Cert.ColIdeal.main_arg6) = m ((c.tc : Thread Cert.ColIdeal.nD Cert.ColIdeal.τ).loc Cert.ColIdeal.main_arg6)
      ∧ r.2.mem ((c.tc : Thread Cert.ColIdeal.nD Cert.ColIdeal.τ).loc Cert.ColIdeal.main_arg7) = m ((c.tc : Thread Cert.ColIdeal.nD Cert.ColIdeal.τ).loc Cert.ColIdeal.main_arg7)
      ∧ r.2.mem ((c.tc : Thread Cert.ColIdeal.nD Cert.ColIdeal.τ).loc Cert.ColIdeal.main_arg8) = m ((c.tc : Thread Cert.ColIdeal.nD Cert.ColIdeal.τ).loc Cert.ColIdeal.main_arg8)
      ∧ r.2.mem ((c.tc : Thread Cert.ColIdeal.nD Cert.ColIdeal.τ).loc Cert.ColIdeal.main_arg9) = m ((c.tc : Thread Cert.ColIdeal.nD Cert.ColIdeal.τ).loc Cert.ColIdeal.main_arg9)
      ∧ r.2.mem ((c.tc : Thread Cert.ColIdeal.nD Cert.ColIdeal.τ).loc Cert.ColIdeal.main_arg10) = m ((c.tc : Thread Cert.ColIdeal.nD Cert.ColIdeal.τ).loc Cert.ColIdeal.main_arg10)
      ∧ r.2.mem ((c.tc : Thread Cert.ColIdeal.nD Cert.ColIdeal.τ).loc Cert.ColIdeal.main_arg11) = m ((c.tc : Thread Cert.ColIdeal.nD Cert.ColIdeal.τ).loc Cert.ColIdeal.main_arg11)
      ∧ r.2.mem ((c.tc : Thread Cert.ColIdeal.nD Cert.ColIdeal.τ).loc Cert.ColIdeal.main_arg12) = m ((c.tc : Thread Cert.ColIdeal.nD Cert.ColIdeal.τ).loc Cert.ColIdeal.main_arg12)
      ∧ r.2.mem ((c.tc : Thread Cert.ColIdeal.nD Cert.ColIdeal.τ).loc Cert.ColIdeal.main_arg13) = m ((c.tc : Thread Cert.ColIdeal.nD Cert.ColIdeal.τ).loc Cert.ColIdeal.main_arg13)
      ∧ r.2.mem ((c.tc : Thread Cert.ColIdeal.nD Cert.ColIdeal.τ).loc Cert.ColIdeal.main_arg14) = m ((c.tc : Thread Cert.ColIdeal.nD Cert.ColIdeal.τ).loc Cert.ColIdeal.main_arg14)
      ∧ r.2.mem ((c.tc : Thread Cert.ColIdeal.nD Cert.ColIdeal.τ).loc Cert.ColIdeal.main_arg15) = m ((c.tc : Thread Cert.ColIdeal.nD Cert.ColIdeal.τ).loc Cert.ColIdeal.main_arg15)
      ∧ r.2.mem ((c.tc : Thread Cert.ColIdeal.nD Cert.ColIdeal.τ).loc Cert.ColIdeal.main_arg16) = m ((c.tc : Thread Cert.ColIdeal.nD Cert.ColIdeal.τ).loc Cert.ColIdeal.main_arg16)
      ∧ r.2.mem ((c.tc : Thread Cert.ColIdeal.nD Cert.ColIdeal.τ).loc Cert.ColIdeal.main_arg17) = m ((c.tc : Thread Cert.ColIdeal.nD Cert.ColIdeal.τ).loc Cert.ColIdeal.main_arg17)
      ∧ r.2.mem ((c.tc : Thread Cert.ColIdeal.nD Cert.ColIdeal.τ).loc Cert.ColIdeal.main_arg18) = m ((c.tc : Thread Cert.ColIdeal.nD Cert.ColIdeal.τ).loc Cert.ColIdeal.main_arg18)
      ∧ r.2.mem ((c.tc : Thread Cert.ColIdeal.nD Cert.ColIdeal.τ).loc Cert.ColIdeal.main_arg19) = m ((c.tc : Thread Cert.ColIdeal.nD Cert.ColIdeal.τ).loc Cert.ColIdeal.main_arg19)
      ∧ r.2.mem ((c.tc : Thread Cert.ColIdeal.nD Cert.ColIdeal.τ).loc Cert.ColIdeal.main_arg20) = m ((c.tc : Thread Cert.ColIdeal.nD Cert.ColIdeal.τ).loc Cert.ColIdeal.main_arg20)
      ∧ r.2.mem ((c.tc : Thread Cert.ColIdeal.nD Cert.ColIdeal.τ).loc Cert.ColIdeal.main_arg21) = m ((c.tc : Thread Cert.ColIdeal.nD Cert.ColIdeal.τ).loc Cert.ColIdeal.main_arg21)
      ∧ r.2.mem ((c.tc : Thread Cert.ColIdeal.nD Cert.ColIdeal.τ).loc Cert.ColIdeal.main_arg22) = m ((c.tc : Thread Cert.ColIdeal.nD Cert.ColIdeal.τ).loc Cert.ColIdeal.main_arg22))
      ∧ r.2.sem = fun _ => 0)

def quiescent_ColIdeal_pre_finite_weights [hColIdeal : Cert.ColIdeal.Facts] [hPre_finite_weights : Cert.Pre_finite_weights.Facts] : Prop :=
  ∀ (m : (ℓ : Loc Cert.ColIdeal.nD Cert.ColIdeal.τ Cert.ColIdeal.sig) → Buf (Elt Ideal) ℓ) (g : Dev Cert.ColIdeal.nD → PrngReg), Pre_ColIdeal_finite_weights m →
    θ_run (Cert.ColIdeal.defs (F := Ideal)) (onTc (τ := Cert.ColIdeal.τ) (Cert.ColIdeal.main (F := Ideal))) ⟨m, fun _ => 0, g⟩ (fun r => (∀ c : Dev Cert.ColIdeal.nD,
      r.2.mem ((c.tc : Thread Cert.ColIdeal.nD Cert.ColIdeal.τ).loc Cert.ColIdeal.main_arg0) = m ((c.tc : Thread Cert.ColIdeal.nD Cert.ColIdeal.τ).loc Cert.ColIdeal.main_arg0)
      ∧ r.2.mem ((c.tc : Thread Cert.ColIdeal.nD Cert.ColIdeal.τ).loc Cert.ColIdeal.main_arg1) = m ((c.tc : Thread Cert.ColIdeal.nD Cert.ColIdeal.τ).loc Cert.ColIdeal.main_arg1)
      ∧ r.2.mem ((c.tc : Thread Cert.ColIdeal.nD Cert.ColIdeal.τ).loc Cert.ColIdeal.main_arg2) = m ((c.tc : Thread Cert.ColIdeal.nD Cert.ColIdeal.τ).loc Cert.ColIdeal.main_arg2)
      ∧ r.2.mem ((c.tc : Thread Cert.ColIdeal.nD Cert.ColIdeal.τ).loc Cert.ColIdeal.main_arg3) = m ((c.tc : Thread Cert.ColIdeal.nD Cert.ColIdeal.τ).loc Cert.ColIdeal.main_arg3)
      ∧ r.2.mem ((c.tc : Thread Cert.ColIdeal.nD Cert.ColIdeal.τ).loc Cert.ColIdeal.main_arg4) = m ((c.tc : Thread Cert.ColIdeal.nD Cert.ColIdeal.τ).loc Cert.ColIdeal.main_arg4)
      ∧ r.2.mem ((c.tc : Thread Cert.ColIdeal.nD Cert.ColIdeal.τ).loc Cert.ColIdeal.main_arg5) = m ((c.tc : Thread Cert.ColIdeal.nD Cert.ColIdeal.τ).loc Cert.ColIdeal.main_arg5)
      ∧ r.2.mem ((c.tc : Thread Cert.ColIdeal.nD Cert.ColIdeal.τ).loc Cert.ColIdeal.main_arg6) = m ((c.tc : Thread Cert.ColIdeal.nD Cert.ColIdeal.τ).loc Cert.ColIdeal.main_arg6)
      ∧ r.2.mem ((c.tc : Thread Cert.ColIdeal.nD Cert.ColIdeal.τ).loc Cert.ColIdeal.main_arg7) = m ((c.tc : Thread Cert.ColIdeal.nD Cert.ColIdeal.τ).loc Cert.ColIdeal.main_arg7)
      ∧ r.2.mem ((c.tc : Thread Cert.ColIdeal.nD Cert.ColIdeal.τ).loc Cert.ColIdeal.main_arg8) = m ((c.tc : Thread Cert.ColIdeal.nD Cert.ColIdeal.τ).loc Cert.ColIdeal.main_arg8)
      ∧ r.2.mem ((c.tc : Thread Cert.ColIdeal.nD Cert.ColIdeal.τ).loc Cert.ColIdeal.main_arg9) = m ((c.tc : Thread Cert.ColIdeal.nD Cert.ColIdeal.τ).loc Cert.ColIdeal.main_arg9)
      ∧ r.2.mem ((c.tc : Thread Cert.ColIdeal.nD Cert.ColIdeal.τ).loc Cert.ColIdeal.main_arg10) = m ((c.tc : Thread Cert.ColIdeal.nD Cert.ColIdeal.τ).loc Cert.ColIdeal.main_arg10)
      ∧ r.2.mem ((c.tc : Thread Cert.ColIdeal.nD Cert.ColIdeal.τ).loc Cert.ColIdeal.main_arg11) = m ((c.tc : Thread Cert.ColIdeal.nD Cert.ColIdeal.τ).loc Cert.ColIdeal.main_arg11)
      ∧ r.2.mem ((c.tc : Thread Cert.ColIdeal.nD Cert.ColIdeal.τ).loc Cert.ColIdeal.main_arg12) = m ((c.tc : Thread Cert.ColIdeal.nD Cert.ColIdeal.τ).loc Cert.ColIdeal.main_arg12)
      ∧ r.2.mem ((c.tc : Thread Cert.ColIdeal.nD Cert.ColIdeal.τ).loc Cert.ColIdeal.main_arg13) = m ((c.tc : Thread Cert.ColIdeal.nD Cert.ColIdeal.τ).loc Cert.ColIdeal.main_arg13)
      ∧ r.2.mem ((c.tc : Thread Cert.ColIdeal.nD Cert.ColIdeal.τ).loc Cert.ColIdeal.main_arg14) = m ((c.tc : Thread Cert.ColIdeal.nD Cert.ColIdeal.τ).loc Cert.ColIdeal.main_arg14)
      ∧ r.2.mem ((c.tc : Thread Cert.ColIdeal.nD Cert.ColIdeal.τ).loc Cert.ColIdeal.main_arg15) = m ((c.tc : Thread Cert.ColIdeal.nD Cert.ColIdeal.τ).loc Cert.ColIdeal.main_arg15)
      ∧ r.2.mem ((c.tc : Thread Cert.ColIdeal.nD Cert.ColIdeal.τ).loc Cert.ColIdeal.main_arg16) = m ((c.tc : Thread Cert.ColIdeal.nD Cert.ColIdeal.τ).loc Cert.ColIdeal.main_arg16)
      ∧ r.2.mem ((c.tc : Thread Cert.ColIdeal.nD Cert.ColIdeal.τ).loc Cert.ColIdeal.main_arg17) = m ((c.tc : Thread Cert.ColIdeal.nD Cert.ColIdeal.τ).loc Cert.ColIdeal.main_arg17)
      ∧ r.2.mem ((c.tc : Thread Cert.ColIdeal.nD Cert.ColIdeal.τ).loc Cert.ColIdeal.main_arg18) = m ((c.tc : Thread Cert.ColIdeal.nD Cert.ColIdeal.τ).loc Cert.ColIdeal.main_arg18)
      ∧ r.2.mem ((c.tc : Thread Cert.ColIdeal.nD Cert.ColIdeal.τ).loc Cert.ColIdeal.main_arg19) = m ((c.tc : Thread Cert.ColIdeal.nD Cert.ColIdeal.τ).loc Cert.ColIdeal.main_arg19)
      ∧ r.2.mem ((c.tc : Thread Cert.ColIdeal.nD Cert.ColIdeal.τ).loc Cert.ColIdeal.main_arg20) = m ((c.tc : Thread Cert.ColIdeal.nD Cert.ColIdeal.τ).loc Cert.ColIdeal.main_arg20)
      ∧ r.2.mem ((c.tc : Thread Cert.ColIdeal.nD Cert.ColIdeal.τ).loc Cert.ColIdeal.main_arg21) = m ((c.tc : Thread Cert.ColIdeal.nD Cert.ColIdeal.τ).loc Cert.ColIdeal.main_arg21)
      ∧ r.2.mem ((c.tc : Thread Cert.ColIdeal.nD Cert.ColIdeal.τ).loc Cert.ColIdeal.main_arg22) = m ((c.tc : Thread Cert.ColIdeal.nD Cert.ColIdeal.τ).loc Cert.ColIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_Row [hRow : Cert.Row.Facts] : Prop :=
  ∀ (m : (ℓ : Loc Cert.Row.nD Cert.Row.τ Cert.Row.sig) → Buf (Elt Bits) ℓ) (g : Dev Cert.Row.nD → PrngReg), Pre_Row m →
    θ_run (Cert.Row.defs (F := Bits)) (onTc (τ := Cert.Row.τ) (Cert.Row.main (F := Bits))) ⟨m, fun _ => 0, g⟩ (fun r => (∀ c : Dev Cert.Row.nD,
      r.2.mem ((c.tc : Thread Cert.Row.nD Cert.Row.τ).loc Cert.Row.main_arg0) = m ((c.tc : Thread Cert.Row.nD Cert.Row.τ).loc Cert.Row.main_arg0)
      ∧ r.2.mem ((c.tc : Thread Cert.Row.nD Cert.Row.τ).loc Cert.Row.main_arg1) = m ((c.tc : Thread Cert.Row.nD Cert.Row.τ).loc Cert.Row.main_arg1)
      ∧ r.2.mem ((c.tc : Thread Cert.Row.nD Cert.Row.τ).loc Cert.Row.main_arg2) = m ((c.tc : Thread Cert.Row.nD Cert.Row.τ).loc Cert.Row.main_arg2)
      ∧ r.2.mem ((c.tc : Thread Cert.Row.nD Cert.Row.τ).loc Cert.Row.main_arg3) = m ((c.tc : Thread Cert.Row.nD Cert.Row.τ).loc Cert.Row.main_arg3)
      ∧ r.2.mem ((c.tc : Thread Cert.Row.nD Cert.Row.τ).loc Cert.Row.main_arg4) = m ((c.tc : Thread Cert.Row.nD Cert.Row.τ).loc Cert.Row.main_arg4)
      ∧ r.2.mem ((c.tc : Thread Cert.Row.nD Cert.Row.τ).loc Cert.Row.main_arg5) = m ((c.tc : Thread Cert.Row.nD Cert.Row.τ).loc Cert.Row.main_arg5)
      ∧ r.2.mem ((c.tc : Thread Cert.Row.nD Cert.Row.τ).loc Cert.Row.main_arg6) = m ((c.tc : Thread Cert.Row.nD Cert.Row.τ).loc Cert.Row.main_arg6)
      ∧ r.2.mem ((c.tc : Thread Cert.Row.nD Cert.Row.τ).loc Cert.Row.main_arg7) = m ((c.tc : Thread Cert.Row.nD Cert.Row.τ).loc Cert.Row.main_arg7)
      ∧ r.2.mem ((c.tc : Thread Cert.Row.nD Cert.Row.τ).loc Cert.Row.main_arg8) = m ((c.tc : Thread Cert.Row.nD Cert.Row.τ).loc Cert.Row.main_arg8)
      ∧ r.2.mem ((c.tc : Thread Cert.Row.nD Cert.Row.τ).loc Cert.Row.main_arg9) = m ((c.tc : Thread Cert.Row.nD Cert.Row.τ).loc Cert.Row.main_arg9)
      ∧ r.2.mem ((c.tc : Thread Cert.Row.nD Cert.Row.τ).loc Cert.Row.main_arg10) = m ((c.tc : Thread Cert.Row.nD Cert.Row.τ).loc Cert.Row.main_arg10)
      ∧ r.2.mem ((c.tc : Thread Cert.Row.nD Cert.Row.τ).loc Cert.Row.main_arg11) = m ((c.tc : Thread Cert.Row.nD Cert.Row.τ).loc Cert.Row.main_arg11)
      ∧ r.2.mem ((c.tc : Thread Cert.Row.nD Cert.Row.τ).loc Cert.Row.main_arg12) = m ((c.tc : Thread Cert.Row.nD Cert.Row.τ).loc Cert.Row.main_arg12)
      ∧ r.2.mem ((c.tc : Thread Cert.Row.nD Cert.Row.τ).loc Cert.Row.main_arg13) = m ((c.tc : Thread Cert.Row.nD Cert.Row.τ).loc Cert.Row.main_arg13))
      ∧ r.2.sem = fun _ => 0)

def quiescent_RowIdeal [hRowIdeal : Cert.RowIdeal.Facts] : Prop :=
  ∀ (m : (ℓ : Loc Cert.RowIdeal.nD Cert.RowIdeal.τ Cert.RowIdeal.sig) → Buf (Elt Ideal) ℓ) (g : Dev Cert.RowIdeal.nD → PrngReg), Pre_RowIdeal m →
    θ_run (Cert.RowIdeal.defs (F := Ideal)) (onTc (τ := Cert.RowIdeal.τ) (Cert.RowIdeal.main (F := Ideal))) ⟨m, fun _ => 0, g⟩ (fun r => (∀ c : Dev Cert.RowIdeal.nD,
      r.2.mem ((c.tc : Thread Cert.RowIdeal.nD Cert.RowIdeal.τ).loc Cert.RowIdeal.main_arg0) = m ((c.tc : Thread Cert.RowIdeal.nD Cert.RowIdeal.τ).loc Cert.RowIdeal.main_arg0)
      ∧ r.2.mem ((c.tc : Thread Cert.RowIdeal.nD Cert.RowIdeal.τ).loc Cert.RowIdeal.main_arg1) = m ((c.tc : Thread Cert.RowIdeal.nD Cert.RowIdeal.τ).loc Cert.RowIdeal.main_arg1)
      ∧ r.2.mem ((c.tc : Thread Cert.RowIdeal.nD Cert.RowIdeal.τ).loc Cert.RowIdeal.main_arg2) = m ((c.tc : Thread Cert.RowIdeal.nD Cert.RowIdeal.τ).loc Cert.RowIdeal.main_arg2)
      ∧ r.2.mem ((c.tc : Thread Cert.RowIdeal.nD Cert.RowIdeal.τ).loc Cert.RowIdeal.main_arg3) = m ((c.tc : Thread Cert.RowIdeal.nD Cert.RowIdeal.τ).loc Cert.RowIdeal.main_arg3)
      ∧ r.2.mem ((c.tc : Thread Cert.RowIdeal.nD Cert.RowIdeal.τ).loc Cert.RowIdeal.main_arg4) = m ((c.tc : Thread Cert.RowIdeal.nD Cert.RowIdeal.τ).loc Cert.RowIdeal.main_arg4)
      ∧ r.2.mem ((c.tc : Thread Cert.RowIdeal.nD Cert.RowIdeal.τ).loc Cert.RowIdeal.main_arg5) = m ((c.tc : Thread Cert.RowIdeal.nD Cert.RowIdeal.τ).loc Cert.RowIdeal.main_arg5)
      ∧ r.2.mem ((c.tc : Thread Cert.RowIdeal.nD Cert.RowIdeal.τ).loc Cert.RowIdeal.main_arg6) = m ((c.tc : Thread Cert.RowIdeal.nD Cert.RowIdeal.τ).loc Cert.RowIdeal.main_arg6)
      ∧ r.2.mem ((c.tc : Thread Cert.RowIdeal.nD Cert.RowIdeal.τ).loc Cert.RowIdeal.main_arg7) = m ((c.tc : Thread Cert.RowIdeal.nD Cert.RowIdeal.τ).loc Cert.RowIdeal.main_arg7)
      ∧ r.2.mem ((c.tc : Thread Cert.RowIdeal.nD Cert.RowIdeal.τ).loc Cert.RowIdeal.main_arg8) = m ((c.tc : Thread Cert.RowIdeal.nD Cert.RowIdeal.τ).loc Cert.RowIdeal.main_arg8)
      ∧ r.2.mem ((c.tc : Thread Cert.RowIdeal.nD Cert.RowIdeal.τ).loc Cert.RowIdeal.main_arg9) = m ((c.tc : Thread Cert.RowIdeal.nD Cert.RowIdeal.τ).loc Cert.RowIdeal.main_arg9)
      ∧ r.2.mem ((c.tc : Thread Cert.RowIdeal.nD Cert.RowIdeal.τ).loc Cert.RowIdeal.main_arg10) = m ((c.tc : Thread Cert.RowIdeal.nD Cert.RowIdeal.τ).loc Cert.RowIdeal.main_arg10)
      ∧ r.2.mem ((c.tc : Thread Cert.RowIdeal.nD Cert.RowIdeal.τ).loc Cert.RowIdeal.main_arg11) = m ((c.tc : Thread Cert.RowIdeal.nD Cert.RowIdeal.τ).loc Cert.RowIdeal.main_arg11)
      ∧ r.2.mem ((c.tc : Thread Cert.RowIdeal.nD Cert.RowIdeal.τ).loc Cert.RowIdeal.main_arg12) = m ((c.tc : Thread Cert.RowIdeal.nD Cert.RowIdeal.τ).loc Cert.RowIdeal.main_arg12)
      ∧ r.2.mem ((c.tc : Thread Cert.RowIdeal.nD Cert.RowIdeal.τ).loc Cert.RowIdeal.main_arg13) = m ((c.tc : Thread Cert.RowIdeal.nD Cert.RowIdeal.τ).loc Cert.RowIdeal.main_arg13))
      ∧ r.2.sem = fun _ => 0)

def quiescent_RowIdeal_pre_finite_row_weights [hRowIdeal : Cert.RowIdeal.Facts] [hPre_finite_row_weights : Cert.Pre_finite_row_weights.Facts] : Prop :=
  ∀ (m : (ℓ : Loc Cert.RowIdeal.nD Cert.RowIdeal.τ Cert.RowIdeal.sig) → Buf (Elt Ideal) ℓ) (g : Dev Cert.RowIdeal.nD → PrngReg), Pre_RowIdeal_finite_row_weights m →
    θ_run (Cert.RowIdeal.defs (F := Ideal)) (onTc (τ := Cert.RowIdeal.τ) (Cert.RowIdeal.main (F := Ideal))) ⟨m, fun _ => 0, g⟩ (fun r => (∀ c : Dev Cert.RowIdeal.nD,
      r.2.mem ((c.tc : Thread Cert.RowIdeal.nD Cert.RowIdeal.τ).loc Cert.RowIdeal.main_arg0) = m ((c.tc : Thread Cert.RowIdeal.nD Cert.RowIdeal.τ).loc Cert.RowIdeal.main_arg0)
      ∧ r.2.mem ((c.tc : Thread Cert.RowIdeal.nD Cert.RowIdeal.τ).loc Cert.RowIdeal.main_arg1) = m ((c.tc : Thread Cert.RowIdeal.nD Cert.RowIdeal.τ).loc Cert.RowIdeal.main_arg1)
      ∧ r.2.mem ((c.tc : Thread Cert.RowIdeal.nD Cert.RowIdeal.τ).loc Cert.RowIdeal.main_arg2) = m ((c.tc : Thread Cert.RowIdeal.nD Cert.RowIdeal.τ).loc Cert.RowIdeal.main_arg2)
      ∧ r.2.mem ((c.tc : Thread Cert.RowIdeal.nD Cert.RowIdeal.τ).loc Cert.RowIdeal.main_arg3) = m ((c.tc : Thread Cert.RowIdeal.nD Cert.RowIdeal.τ).loc Cert.RowIdeal.main_arg3)
      ∧ r.2.mem ((c.tc : Thread Cert.RowIdeal.nD Cert.RowIdeal.τ).loc Cert.RowIdeal.main_arg4) = m ((c.tc : Thread Cert.RowIdeal.nD Cert.RowIdeal.τ).loc Cert.RowIdeal.main_arg4)
      ∧ r.2.mem ((c.tc : Thread Cert.RowIdeal.nD Cert.RowIdeal.τ).loc Cert.RowIdeal.main_arg5) = m ((c.tc : Thread Cert.RowIdeal.nD Cert.RowIdeal.τ).loc Cert.RowIdeal.main_arg5)
      ∧ r.2.mem ((c.tc : Thread Cert.RowIdeal.nD Cert.RowIdeal.τ).loc Cert.RowIdeal.main_arg6) = m ((c.tc : Thread Cert.RowIdeal.nD Cert.RowIdeal.τ).loc Cert.RowIdeal.main_arg6)
      ∧ r.2.mem ((c.tc : Thread Cert.RowIdeal.nD Cert.RowIdeal.τ).loc Cert.RowIdeal.main_arg7) = m ((c.tc : Thread Cert.RowIdeal.nD Cert.RowIdeal.τ).loc Cert.RowIdeal.main_arg7)
      ∧ r.2.mem ((c.tc : Thread Cert.RowIdeal.nD Cert.RowIdeal.τ).loc Cert.RowIdeal.main_arg8) = m ((c.tc : Thread Cert.RowIdeal.nD Cert.RowIdeal.τ).loc Cert.RowIdeal.main_arg8)
      ∧ r.2.mem ((c.tc : Thread Cert.RowIdeal.nD Cert.RowIdeal.τ).loc Cert.RowIdeal.main_arg9) = m ((c.tc : Thread Cert.RowIdeal.nD Cert.RowIdeal.τ).loc Cert.RowIdeal.main_arg9)
      ∧ r.2.mem ((c.tc : Thread Cert.RowIdeal.nD Cert.RowIdeal.τ).loc Cert.RowIdeal.main_arg10) = m ((c.tc : Thread Cert.RowIdeal.nD Cert.RowIdeal.τ).loc Cert.RowIdeal.main_arg10)
      ∧ r.2.mem ((c.tc : Thread Cert.RowIdeal.nD Cert.RowIdeal.τ).loc Cert.RowIdeal.main_arg11) = m ((c.tc : Thread Cert.RowIdeal.nD Cert.RowIdeal.τ).loc Cert.RowIdeal.main_arg11)
      ∧ r.2.mem ((c.tc : Thread Cert.RowIdeal.nD Cert.RowIdeal.τ).loc Cert.RowIdeal.main_arg12) = m ((c.tc : Thread Cert.RowIdeal.nD Cert.RowIdeal.τ).loc Cert.RowIdeal.main_arg12)
      ∧ r.2.mem ((c.tc : Thread Cert.RowIdeal.nD Cert.RowIdeal.τ).loc Cert.RowIdeal.main_arg13) = m ((c.tc : Thread Cert.RowIdeal.nD Cert.RowIdeal.τ).loc Cert.RowIdeal.main_arg13))
      ∧ r.2.sem = fun _ => 0)

def quiescent_RowReferenceIdeal [hRowReferenceIdeal : Cert.RowReferenceIdeal.Facts] : Prop :=
  ∀ (m : (ℓ : Loc Cert.RowReferenceIdeal.nD Cert.RowReferenceIdeal.τ Cert.RowReferenceIdeal.sig) → Buf (Elt Ideal) ℓ) (g : Dev Cert.RowReferenceIdeal.nD → PrngReg), Pre_RowReferenceIdeal m →
    θ_run (Cert.RowReferenceIdeal.defs (F := Ideal)) (onTc (τ := Cert.RowReferenceIdeal.τ) (Cert.RowReferenceIdeal.main (F := Ideal))) ⟨m, fun _ => 0, g⟩ (fun r => (∀ c : Dev Cert.RowReferenceIdeal.nD,
      r.2.mem ((c.tc : Thread Cert.RowReferenceIdeal.nD Cert.RowReferenceIdeal.τ).loc Cert.RowReferenceIdeal.main_arg0) = m ((c.tc : Thread Cert.RowReferenceIdeal.nD Cert.RowReferenceIdeal.τ).loc Cert.RowReferenceIdeal.main_arg0)
      ∧ r.2.mem ((c.tc : Thread Cert.RowReferenceIdeal.nD Cert.RowReferenceIdeal.τ).loc Cert.RowReferenceIdeal.main_arg1) = m ((c.tc : Thread Cert.RowReferenceIdeal.nD Cert.RowReferenceIdeal.τ).loc Cert.RowReferenceIdeal.main_arg1)
      ∧ r.2.mem ((c.tc : Thread Cert.RowReferenceIdeal.nD Cert.RowReferenceIdeal.τ).loc Cert.RowReferenceIdeal.main_arg2) = m ((c.tc : Thread Cert.RowReferenceIdeal.nD Cert.RowReferenceIdeal.τ).loc Cert.RowReferenceIdeal.main_arg2)
      ∧ r.2.mem ((c.tc : Thread Cert.RowReferenceIdeal.nD Cert.RowReferenceIdeal.τ).loc Cert.RowReferenceIdeal.main_arg3) = m ((c.tc : Thread Cert.RowReferenceIdeal.nD Cert.RowReferenceIdeal.τ).loc Cert.RowReferenceIdeal.main_arg3)
      ∧ r.2.mem ((c.tc : Thread Cert.RowReferenceIdeal.nD Cert.RowReferenceIdeal.τ).loc Cert.RowReferenceIdeal.main_arg4) = m ((c.tc : Thread Cert.RowReferenceIdeal.nD Cert.RowReferenceIdeal.τ).loc Cert.RowReferenceIdeal.main_arg4)
      ∧ r.2.mem ((c.tc : Thread Cert.RowReferenceIdeal.nD Cert.RowReferenceIdeal.τ).loc Cert.RowReferenceIdeal.main_arg5) = m ((c.tc : Thread Cert.RowReferenceIdeal.nD Cert.RowReferenceIdeal.τ).loc Cert.RowReferenceIdeal.main_arg5)
      ∧ r.2.mem ((c.tc : Thread Cert.RowReferenceIdeal.nD Cert.RowReferenceIdeal.τ).loc Cert.RowReferenceIdeal.main_arg6) = m ((c.tc : Thread Cert.RowReferenceIdeal.nD Cert.RowReferenceIdeal.τ).loc Cert.RowReferenceIdeal.main_arg6)
      ∧ r.2.mem ((c.tc : Thread Cert.RowReferenceIdeal.nD Cert.RowReferenceIdeal.τ).loc Cert.RowReferenceIdeal.main_arg7) = m ((c.tc : Thread Cert.RowReferenceIdeal.nD Cert.RowReferenceIdeal.τ).loc Cert.RowReferenceIdeal.main_arg7)
      ∧ r.2.mem ((c.tc : Thread Cert.RowReferenceIdeal.nD Cert.RowReferenceIdeal.τ).loc Cert.RowReferenceIdeal.main_arg8) = m ((c.tc : Thread Cert.RowReferenceIdeal.nD Cert.RowReferenceIdeal.τ).loc Cert.RowReferenceIdeal.main_arg8)
      ∧ r.2.mem ((c.tc : Thread Cert.RowReferenceIdeal.nD Cert.RowReferenceIdeal.τ).loc Cert.RowReferenceIdeal.main_arg9) = m ((c.tc : Thread Cert.RowReferenceIdeal.nD Cert.RowReferenceIdeal.τ).loc Cert.RowReferenceIdeal.main_arg9)
      ∧ r.2.mem ((c.tc : Thread Cert.RowReferenceIdeal.nD Cert.RowReferenceIdeal.τ).loc Cert.RowReferenceIdeal.main_arg10) = m ((c.tc : Thread Cert.RowReferenceIdeal.nD Cert.RowReferenceIdeal.τ).loc Cert.RowReferenceIdeal.main_arg10)
      ∧ r.2.mem ((c.tc : Thread Cert.RowReferenceIdeal.nD Cert.RowReferenceIdeal.τ).loc Cert.RowReferenceIdeal.main_arg11) = m ((c.tc : Thread Cert.RowReferenceIdeal.nD Cert.RowReferenceIdeal.τ).loc Cert.RowReferenceIdeal.main_arg11)
      ∧ r.2.mem ((c.tc : Thread Cert.RowReferenceIdeal.nD Cert.RowReferenceIdeal.τ).loc Cert.RowReferenceIdeal.main_arg12) = m ((c.tc : Thread Cert.RowReferenceIdeal.nD Cert.RowReferenceIdeal.τ).loc Cert.RowReferenceIdeal.main_arg12)
      ∧ r.2.mem ((c.tc : Thread Cert.RowReferenceIdeal.nD Cert.RowReferenceIdeal.τ).loc Cert.RowReferenceIdeal.main_arg13) = m ((c.tc : Thread Cert.RowReferenceIdeal.nD Cert.RowReferenceIdeal.τ).loc Cert.RowReferenceIdeal.main_arg13))
      ∧ r.2.sem = fun _ => 0)

def quiescent_RowReferenceIdeal_pre_finite_row_weights [hRowReferenceIdeal : Cert.RowReferenceIdeal.Facts] [hPre_finite_row_weights : Cert.Pre_finite_row_weights.Facts] : Prop :=
  ∀ (m : (ℓ : Loc Cert.RowReferenceIdeal.nD Cert.RowReferenceIdeal.τ Cert.RowReferenceIdeal.sig) → Buf (Elt Ideal) ℓ) (g : Dev Cert.RowReferenceIdeal.nD → PrngReg), Pre_RowReferenceIdeal_finite_row_weights m →
    θ_run (Cert.RowReferenceIdeal.defs (F := Ideal)) (onTc (τ := Cert.RowReferenceIdeal.τ) (Cert.RowReferenceIdeal.main (F := Ideal))) ⟨m, fun _ => 0, g⟩ (fun r => (∀ c : Dev Cert.RowReferenceIdeal.nD,
      r.2.mem ((c.tc : Thread Cert.RowReferenceIdeal.nD Cert.RowReferenceIdeal.τ).loc Cert.RowReferenceIdeal.main_arg0) = m ((c.tc : Thread Cert.RowReferenceIdeal.nD Cert.RowReferenceIdeal.τ).loc Cert.RowReferenceIdeal.main_arg0)
      ∧ r.2.mem ((c.tc : Thread Cert.RowReferenceIdeal.nD Cert.RowReferenceIdeal.τ).loc Cert.RowReferenceIdeal.main_arg1) = m ((c.tc : Thread Cert.RowReferenceIdeal.nD Cert.RowReferenceIdeal.τ).loc Cert.RowReferenceIdeal.main_arg1)
      ∧ r.2.mem ((c.tc : Thread Cert.RowReferenceIdeal.nD Cert.RowReferenceIdeal.τ).loc Cert.RowReferenceIdeal.main_arg2) = m ((c.tc : Thread Cert.RowReferenceIdeal.nD Cert.RowReferenceIdeal.τ).loc Cert.RowReferenceIdeal.main_arg2)
      ∧ r.2.mem ((c.tc : Thread Cert.RowReferenceIdeal.nD Cert.RowReferenceIdeal.τ).loc Cert.RowReferenceIdeal.main_arg3) = m ((c.tc : Thread Cert.RowReferenceIdeal.nD Cert.RowReferenceIdeal.τ).loc Cert.RowReferenceIdeal.main_arg3)
      ∧ r.2.mem ((c.tc : Thread Cert.RowReferenceIdeal.nD Cert.RowReferenceIdeal.τ).loc Cert.RowReferenceIdeal.main_arg4) = m ((c.tc : Thread Cert.RowReferenceIdeal.nD Cert.RowReferenceIdeal.τ).loc Cert.RowReferenceIdeal.main_arg4)
      ∧ r.2.mem ((c.tc : Thread Cert.RowReferenceIdeal.nD Cert.RowReferenceIdeal.τ).loc Cert.RowReferenceIdeal.main_arg5) = m ((c.tc : Thread Cert.RowReferenceIdeal.nD Cert.RowReferenceIdeal.τ).loc Cert.RowReferenceIdeal.main_arg5)
      ∧ r.2.mem ((c.tc : Thread Cert.RowReferenceIdeal.nD Cert.RowReferenceIdeal.τ).loc Cert.RowReferenceIdeal.main_arg6) = m ((c.tc : Thread Cert.RowReferenceIdeal.nD Cert.RowReferenceIdeal.τ).loc Cert.RowReferenceIdeal.main_arg6)
      ∧ r.2.mem ((c.tc : Thread Cert.RowReferenceIdeal.nD Cert.RowReferenceIdeal.τ).loc Cert.RowReferenceIdeal.main_arg7) = m ((c.tc : Thread Cert.RowReferenceIdeal.nD Cert.RowReferenceIdeal.τ).loc Cert.RowReferenceIdeal.main_arg7)
      ∧ r.2.mem ((c.tc : Thread Cert.RowReferenceIdeal.nD Cert.RowReferenceIdeal.τ).loc Cert.RowReferenceIdeal.main_arg8) = m ((c.tc : Thread Cert.RowReferenceIdeal.nD Cert.RowReferenceIdeal.τ).loc Cert.RowReferenceIdeal.main_arg8)
      ∧ r.2.mem ((c.tc : Thread Cert.RowReferenceIdeal.nD Cert.RowReferenceIdeal.τ).loc Cert.RowReferenceIdeal.main_arg9) = m ((c.tc : Thread Cert.RowReferenceIdeal.nD Cert.RowReferenceIdeal.τ).loc Cert.RowReferenceIdeal.main_arg9)
      ∧ r.2.mem ((c.tc : Thread Cert.RowReferenceIdeal.nD Cert.RowReferenceIdeal.τ).loc Cert.RowReferenceIdeal.main_arg10) = m ((c.tc : Thread Cert.RowReferenceIdeal.nD Cert.RowReferenceIdeal.τ).loc Cert.RowReferenceIdeal.main_arg10)
      ∧ r.2.mem ((c.tc : Thread Cert.RowReferenceIdeal.nD Cert.RowReferenceIdeal.τ).loc Cert.RowReferenceIdeal.main_arg11) = m ((c.tc : Thread Cert.RowReferenceIdeal.nD Cert.RowReferenceIdeal.τ).loc Cert.RowReferenceIdeal.main_arg11)
      ∧ r.2.mem ((c.tc : Thread Cert.RowReferenceIdeal.nD Cert.RowReferenceIdeal.τ).loc Cert.RowReferenceIdeal.main_arg12) = m ((c.tc : Thread Cert.RowReferenceIdeal.nD Cert.RowReferenceIdeal.τ).loc Cert.RowReferenceIdeal.main_arg12)
      ∧ r.2.mem ((c.tc : Thread Cert.RowReferenceIdeal.nD Cert.RowReferenceIdeal.τ).loc Cert.RowReferenceIdeal.main_arg13) = m ((c.tc : Thread Cert.RowReferenceIdeal.nD Cert.RowReferenceIdeal.τ).loc Cert.RowReferenceIdeal.main_arg13))
      ∧ r.2.sem = fun _ => 0)

def preserves_Col_ColIdeal : Prop :=
  IdealRules.named_const.Statement Cert.ColIdeal.κ "scale" .f32 0x3E8293EE#32 (((11863283 / 67108864) * (Real.log 2)⁻¹ : ℝ) : EReal)

def algebraic_ColIdeal_ReferenceIdeal_pre_finite_weights [hColIdeal : Cert.ColIdeal.Facts] [hReferenceIdeal : Cert.ReferenceIdeal.Facts] [hPre_finite_weights : Cert.Pre_finite_weights.Facts] : Prop :=
  ∀ (m : (ℓ : Loc Cert.ColIdeal.nD Cert.ColIdeal.τ Cert.ColIdeal.sig) → Buf (Elt Ideal) ℓ) (g : Dev Cert.ColIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_ColIdeal_finite_weights m →
    (∀ c : Dev Cert.ColIdeal.nD,
      m' ((c.tc : Thread Cert.ReferenceIdeal.nD Cert.ReferenceIdeal.τ).loc Cert.ReferenceIdeal.main_arg0) = m ((c.tc : Thread Cert.ColIdeal.nD Cert.ColIdeal.τ).loc Cert.ColIdeal.main_arg0)
      ∧ m' ((c.tc : Thread Cert.ReferenceIdeal.nD Cert.ReferenceIdeal.τ).loc Cert.ReferenceIdeal.main_arg1) = m ((c.tc : Thread Cert.ColIdeal.nD Cert.ColIdeal.τ).loc Cert.ColIdeal.main_arg1)
      ∧ m' ((c.tc : Thread Cert.ReferenceIdeal.nD Cert.ReferenceIdeal.τ).loc Cert.ReferenceIdeal.main_arg2) = m ((c.tc : Thread Cert.ColIdeal.nD Cert.ColIdeal.τ).loc Cert.ColIdeal.main_arg2)
      ∧ m' ((c.tc : Thread Cert.ReferenceIdeal.nD Cert.ReferenceIdeal.τ).loc Cert.ReferenceIdeal.main_arg3) = m ((c.tc : Thread Cert.ColIdeal.nD Cert.ColIdeal.τ).loc Cert.ColIdeal.main_arg3)
      ∧ m' ((c.tc : Thread Cert.ReferenceIdeal.nD Cert.ReferenceIdeal.τ).loc Cert.ReferenceIdeal.main_arg4) = m ((c.tc : Thread Cert.ColIdeal.nD Cert.ColIdeal.τ).loc Cert.ColIdeal.main_arg4)
      ∧ m' ((c.tc : Thread Cert.ReferenceIdeal.nD Cert.ReferenceIdeal.τ).loc Cert.ReferenceIdeal.main_arg5) = m ((c.tc : Thread Cert.ColIdeal.nD Cert.ColIdeal.τ).loc Cert.ColIdeal.main_arg5)
      ∧ m' ((c.tc : Thread Cert.ReferenceIdeal.nD Cert.ReferenceIdeal.τ).loc Cert.ReferenceIdeal.main_arg6) = m ((c.tc : Thread Cert.ColIdeal.nD Cert.ColIdeal.τ).loc Cert.ColIdeal.main_arg6)
      ∧ m' ((c.tc : Thread Cert.ReferenceIdeal.nD Cert.ReferenceIdeal.τ).loc Cert.ReferenceIdeal.main_arg7) = m ((c.tc : Thread Cert.ColIdeal.nD Cert.ColIdeal.τ).loc Cert.ColIdeal.main_arg7)
      ∧ m' ((c.tc : Thread Cert.ReferenceIdeal.nD Cert.ReferenceIdeal.τ).loc Cert.ReferenceIdeal.main_arg8) = m ((c.tc : Thread Cert.ColIdeal.nD Cert.ColIdeal.τ).loc Cert.ColIdeal.main_arg8)
      ∧ m' ((c.tc : Thread Cert.ReferenceIdeal.nD Cert.ReferenceIdeal.τ).loc Cert.ReferenceIdeal.main_arg9) = m ((c.tc : Thread Cert.ColIdeal.nD Cert.ColIdeal.τ).loc Cert.ColIdeal.main_arg9)
      ∧ m' ((c.tc : Thread Cert.ReferenceIdeal.nD Cert.ReferenceIdeal.τ).loc Cert.ReferenceIdeal.main_arg10) = m ((c.tc : Thread Cert.ColIdeal.nD Cert.ColIdeal.τ).loc Cert.ColIdeal.main_arg10)
      ∧ m' ((c.tc : Thread Cert.ReferenceIdeal.nD Cert.ReferenceIdeal.τ).loc Cert.ReferenceIdeal.main_arg11) = m ((c.tc : Thread Cert.ColIdeal.nD Cert.ColIdeal.τ).loc Cert.ColIdeal.main_arg11)
      ∧ m' ((c.tc : Thread Cert.ReferenceIdeal.nD Cert.ReferenceIdeal.τ).loc Cert.ReferenceIdeal.main_arg12) = m ((c.tc : Thread Cert.ColIdeal.nD Cert.ColIdeal.τ).loc Cert.ColIdeal.main_arg12)
      ∧ m' ((c.tc : Thread Cert.ReferenceIdeal.nD Cert.ReferenceIdeal.τ).loc Cert.ReferenceIdeal.main_arg13) = m ((c.tc : Thread Cert.ColIdeal.nD Cert.ColIdeal.τ).loc Cert.ColIdeal.main_arg13)
      ∧ m' ((c.tc : Thread Cert.ReferenceIdeal.nD Cert.ReferenceIdeal.τ).loc Cert.ReferenceIdeal.main_arg14) = m ((c.tc : Thread Cert.ColIdeal.nD Cert.ColIdeal.τ).loc Cert.ColIdeal.main_arg14)
      ∧ m' ((c.tc : Thread Cert.ReferenceIdeal.nD Cert.ReferenceIdeal.τ).loc Cert.ReferenceIdeal.main_arg15) = m ((c.tc : Thread Cert.ColIdeal.nD Cert.ColIdeal.τ).loc Cert.ColIdeal.main_arg15)
      ∧ m' ((c.tc : Thread Cert.ReferenceIdeal.nD Cert.ReferenceIdeal.τ).loc Cert.ReferenceIdeal.main_arg16) = m ((c.tc : Thread Cert.ColIdeal.nD Cert.ColIdeal.τ).loc Cert.ColIdeal.main_arg16)
      ∧ m' ((c.tc : Thread Cert.ReferenceIdeal.nD Cert.ReferenceIdeal.τ).loc Cert.ReferenceIdeal.main_arg17) = m ((c.tc : Thread Cert.ColIdeal.nD Cert.ColIdeal.τ).loc Cert.ColIdeal.main_arg17)
      ∧ m' ((c.tc : Thread Cert.ReferenceIdeal.nD Cert.ReferenceIdeal.τ).loc Cert.ReferenceIdeal.main_arg18) = m ((c.tc : Thread Cert.ColIdeal.nD Cert.ColIdeal.τ).loc Cert.ColIdeal.main_arg18)
      ∧ m' ((c.tc : Thread Cert.ReferenceIdeal.nD Cert.ReferenceIdeal.τ).loc Cert.ReferenceIdeal.main_arg19) = m ((c.tc : Thread Cert.ColIdeal.nD Cert.ColIdeal.τ).loc Cert.ColIdeal.main_arg19)
      ∧ m' ((c.tc : Thread Cert.ReferenceIdeal.nD Cert.ReferenceIdeal.τ).loc Cert.ReferenceIdeal.main_arg20) = m ((c.tc : Thread Cert.ColIdeal.nD Cert.ColIdeal.τ).loc Cert.ColIdeal.main_arg20)
      ∧ m' ((c.tc : Thread Cert.ReferenceIdeal.nD Cert.ReferenceIdeal.τ).loc Cert.ReferenceIdeal.main_arg21) = m ((c.tc : Thread Cert.ColIdeal.nD Cert.ColIdeal.τ).loc Cert.ColIdeal.main_arg21)
      ∧ m' ((c.tc : Thread Cert.ReferenceIdeal.nD Cert.ReferenceIdeal.τ).loc Cert.ReferenceIdeal.main_arg22) = m ((c.tc : Thread Cert.ColIdeal.nD Cert.ColIdeal.τ).loc Cert.ColIdeal.main_arg22)) →
    ∃ (v0 : (c : Dev Cert.ColIdeal.nD) → Buf (Elt Ideal) ((c.tc : Thread Cert.ColIdeal.nD Cert.ColIdeal.τ).loc Cert.ColIdeal.main_v23)),
      θ_run (Cert.ColIdeal.defs (F := Ideal)) (onTc (τ := Cert.ColIdeal.τ) (Cert.ColIdeal.main (F := Ideal))) ⟨m, fun _ => 0, g⟩ (fun r => ∀ c : Dev Cert.ColIdeal.nD,
          r.2.mem ((c.tc : Thread Cert.ColIdeal.nD Cert.ColIdeal.τ).loc Cert.ColIdeal.main_v23) = v0 c
          ∧ r.2.mem ((c.tc : Thread Cert.ColIdeal.nD Cert.ColIdeal.τ).loc Cert.ColIdeal.main_arg0) = m ((c.tc : Thread Cert.ColIdeal.nD Cert.ColIdeal.τ).loc Cert.ColIdeal.main_arg0)
          ∧ r.2.mem ((c.tc : Thread Cert.ColIdeal.nD Cert.ColIdeal.τ).loc Cert.ColIdeal.main_arg1) = m ((c.tc : Thread Cert.ColIdeal.nD Cert.ColIdeal.τ).loc Cert.ColIdeal.main_arg1)
          ∧ r.2.mem ((c.tc : Thread Cert.ColIdeal.nD Cert.ColIdeal.τ).loc Cert.ColIdeal.main_arg2) = m ((c.tc : Thread Cert.ColIdeal.nD Cert.ColIdeal.τ).loc Cert.ColIdeal.main_arg2)
          ∧ r.2.mem ((c.tc : Thread Cert.ColIdeal.nD Cert.ColIdeal.τ).loc Cert.ColIdeal.main_arg3) = m ((c.tc : Thread Cert.ColIdeal.nD Cert.ColIdeal.τ).loc Cert.ColIdeal.main_arg3)
          ∧ r.2.mem ((c.tc : Thread Cert.ColIdeal.nD Cert.ColIdeal.τ).loc Cert.ColIdeal.main_arg4) = m ((c.tc : Thread Cert.ColIdeal.nD Cert.ColIdeal.τ).loc Cert.ColIdeal.main_arg4)
          ∧ r.2.mem ((c.tc : Thread Cert.ColIdeal.nD Cert.ColIdeal.τ).loc Cert.ColIdeal.main_arg5) = m ((c.tc : Thread Cert.ColIdeal.nD Cert.ColIdeal.τ).loc Cert.ColIdeal.main_arg5)
          ∧ r.2.mem ((c.tc : Thread Cert.ColIdeal.nD Cert.ColIdeal.τ).loc Cert.ColIdeal.main_arg6) = m ((c.tc : Thread Cert.ColIdeal.nD Cert.ColIdeal.τ).loc Cert.ColIdeal.main_arg6)
          ∧ r.2.mem ((c.tc : Thread Cert.ColIdeal.nD Cert.ColIdeal.τ).loc Cert.ColIdeal.main_arg7) = m ((c.tc : Thread Cert.ColIdeal.nD Cert.ColIdeal.τ).loc Cert.ColIdeal.main_arg7)
          ∧ r.2.mem ((c.tc : Thread Cert.ColIdeal.nD Cert.ColIdeal.τ).loc Cert.ColIdeal.main_arg8) = m ((c.tc : Thread Cert.ColIdeal.nD Cert.ColIdeal.τ).loc Cert.ColIdeal.main_arg8)
          ∧ r.2.mem ((c.tc : Thread Cert.ColIdeal.nD Cert.ColIdeal.τ).loc Cert.ColIdeal.main_arg9) = m ((c.tc : Thread Cert.ColIdeal.nD Cert.ColIdeal.τ).loc Cert.ColIdeal.main_arg9)
          ∧ r.2.mem ((c.tc : Thread Cert.ColIdeal.nD Cert.ColIdeal.τ).loc Cert.ColIdeal.main_arg10) = m ((c.tc : Thread Cert.ColIdeal.nD Cert.ColIdeal.τ).loc Cert.ColIdeal.main_arg10)
          ∧ r.2.mem ((c.tc : Thread Cert.ColIdeal.nD Cert.ColIdeal.τ).loc Cert.ColIdeal.main_arg11) = m ((c.tc : Thread Cert.ColIdeal.nD Cert.ColIdeal.τ).loc Cert.ColIdeal.main_arg11)
          ∧ r.2.mem ((c.tc : Thread Cert.ColIdeal.nD Cert.ColIdeal.τ).loc Cert.ColIdeal.main_arg12) = m ((c.tc : Thread Cert.ColIdeal.nD Cert.ColIdeal.τ).loc Cert.ColIdeal.main_arg12)
          ∧ r.2.mem ((c.tc : Thread Cert.ColIdeal.nD Cert.ColIdeal.τ).loc Cert.ColIdeal.main_arg13) = m ((c.tc : Thread Cert.ColIdeal.nD Cert.ColIdeal.τ).loc Cert.ColIdeal.main_arg13)
          ∧ r.2.mem ((c.tc : Thread Cert.ColIdeal.nD Cert.ColIdeal.τ).loc Cert.ColIdeal.main_arg14) = m ((c.tc : Thread Cert.ColIdeal.nD Cert.ColIdeal.τ).loc Cert.ColIdeal.main_arg14)
          ∧ r.2.mem ((c.tc : Thread Cert.ColIdeal.nD Cert.ColIdeal.τ).loc Cert.ColIdeal.main_arg15) = m ((c.tc : Thread Cert.ColIdeal.nD Cert.ColIdeal.τ).loc Cert.ColIdeal.main_arg15)
          ∧ r.2.mem ((c.tc : Thread Cert.ColIdeal.nD Cert.ColIdeal.τ).loc Cert.ColIdeal.main_arg16) = m ((c.tc : Thread Cert.ColIdeal.nD Cert.ColIdeal.τ).loc Cert.ColIdeal.main_arg16)
          ∧ r.2.mem ((c.tc : Thread Cert.ColIdeal.nD Cert.ColIdeal.τ).loc Cert.ColIdeal.main_arg17) = m ((c.tc : Thread Cert.ColIdeal.nD Cert.ColIdeal.τ).loc Cert.ColIdeal.main_arg17)
          ∧ r.2.mem ((c.tc : Thread Cert.ColIdeal.nD Cert.ColIdeal.τ).loc Cert.ColIdeal.main_arg18) = m ((c.tc : Thread Cert.ColIdeal.nD Cert.ColIdeal.τ).loc Cert.ColIdeal.main_arg18)
          ∧ r.2.mem ((c.tc : Thread Cert.ColIdeal.nD Cert.ColIdeal.τ).loc Cert.ColIdeal.main_arg19) = m ((c.tc : Thread Cert.ColIdeal.nD Cert.ColIdeal.τ).loc Cert.ColIdeal.main_arg19)
          ∧ r.2.mem ((c.tc : Thread Cert.ColIdeal.nD Cert.ColIdeal.τ).loc Cert.ColIdeal.main_arg20) = m ((c.tc : Thread Cert.ColIdeal.nD Cert.ColIdeal.τ).loc Cert.ColIdeal.main_arg20)
          ∧ r.2.mem ((c.tc : Thread Cert.ColIdeal.nD Cert.ColIdeal.τ).loc Cert.ColIdeal.main_arg21) = m ((c.tc : Thread Cert.ColIdeal.nD Cert.ColIdeal.τ).loc Cert.ColIdeal.main_arg21)
          ∧ r.2.mem ((c.tc : Thread Cert.ColIdeal.nD Cert.ColIdeal.τ).loc Cert.ColIdeal.main_arg22) = m ((c.tc : Thread Cert.ColIdeal.nD Cert.ColIdeal.τ).loc Cert.ColIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def preserves_Row_RowIdeal : Prop :=
  IdealRules.named_const.Statement Cert.RowIdeal.κ "log2e" .f32 0x3FB8AA3B#32 (((Real.log 2)⁻¹ : ℝ) : EReal)
  ∧ IdealRules.named_const.Statement Cert.RowIdeal.κ "scale" .f32 0x3E8293EE#32 (((11863283 / 67108864) * (Real.log 2)⁻¹ : ℝ) : EReal)

def algebraic_RowIdeal_RowReferenceIdeal_pre_finite_row_weights [hRowIdeal : Cert.RowIdeal.Facts] [hRowReferenceIdeal : Cert.RowReferenceIdeal.Facts] [hPre_finite_row_weights : Cert.Pre_finite_row_weights.Facts] : Prop :=
  ∀ (m : (ℓ : Loc Cert.RowIdeal.nD Cert.RowIdeal.τ Cert.RowIdeal.sig) → Buf (Elt Ideal) ℓ) (g : Dev Cert.RowIdeal.nD → PrngReg)
    (m' : (ℓ : Loc Cert.RowReferenceIdeal.nD Cert.RowReferenceIdeal.τ Cert.RowReferenceIdeal.sig) → Buf (Elt Ideal) ℓ) (g' : Dev Cert.RowReferenceIdeal.nD → PrngReg), Pre_RowIdeal_finite_row_weights m →
    (∀ c : Dev Cert.RowIdeal.nD,
      m' ((c.tc : Thread Cert.RowReferenceIdeal.nD Cert.RowReferenceIdeal.τ).loc Cert.RowReferenceIdeal.main_arg0) = m ((c.tc : Thread Cert.RowIdeal.nD Cert.RowIdeal.τ).loc Cert.RowIdeal.main_arg0)
      ∧ m' ((c.tc : Thread Cert.RowReferenceIdeal.nD Cert.RowReferenceIdeal.τ).loc Cert.RowReferenceIdeal.main_arg1) = m ((c.tc : Thread Cert.RowIdeal.nD Cert.RowIdeal.τ).loc Cert.RowIdeal.main_arg1)
      ∧ m' ((c.tc : Thread Cert.RowReferenceIdeal.nD Cert.RowReferenceIdeal.τ).loc Cert.RowReferenceIdeal.main_arg2) = m ((c.tc : Thread Cert.RowIdeal.nD Cert.RowIdeal.τ).loc Cert.RowIdeal.main_arg2)
      ∧ m' ((c.tc : Thread Cert.RowReferenceIdeal.nD Cert.RowReferenceIdeal.τ).loc Cert.RowReferenceIdeal.main_arg3) = m ((c.tc : Thread Cert.RowIdeal.nD Cert.RowIdeal.τ).loc Cert.RowIdeal.main_arg3)
      ∧ m' ((c.tc : Thread Cert.RowReferenceIdeal.nD Cert.RowReferenceIdeal.τ).loc Cert.RowReferenceIdeal.main_arg4) = m ((c.tc : Thread Cert.RowIdeal.nD Cert.RowIdeal.τ).loc Cert.RowIdeal.main_arg4)
      ∧ m' ((c.tc : Thread Cert.RowReferenceIdeal.nD Cert.RowReferenceIdeal.τ).loc Cert.RowReferenceIdeal.main_arg5) = m ((c.tc : Thread Cert.RowIdeal.nD Cert.RowIdeal.τ).loc Cert.RowIdeal.main_arg5)
      ∧ m' ((c.tc : Thread Cert.RowReferenceIdeal.nD Cert.RowReferenceIdeal.τ).loc Cert.RowReferenceIdeal.main_arg6) = m ((c.tc : Thread Cert.RowIdeal.nD Cert.RowIdeal.τ).loc Cert.RowIdeal.main_arg6)
      ∧ m' ((c.tc : Thread Cert.RowReferenceIdeal.nD Cert.RowReferenceIdeal.τ).loc Cert.RowReferenceIdeal.main_arg7) = m ((c.tc : Thread Cert.RowIdeal.nD Cert.RowIdeal.τ).loc Cert.RowIdeal.main_arg7)
      ∧ m' ((c.tc : Thread Cert.RowReferenceIdeal.nD Cert.RowReferenceIdeal.τ).loc Cert.RowReferenceIdeal.main_arg8) = m ((c.tc : Thread Cert.RowIdeal.nD Cert.RowIdeal.τ).loc Cert.RowIdeal.main_arg8)
      ∧ m' ((c.tc : Thread Cert.RowReferenceIdeal.nD Cert.RowReferenceIdeal.τ).loc Cert.RowReferenceIdeal.main_arg9) = m ((c.tc : Thread Cert.RowIdeal.nD Cert.RowIdeal.τ).loc Cert.RowIdeal.main_arg9)
      ∧ m' ((c.tc : Thread Cert.RowReferenceIdeal.nD Cert.RowReferenceIdeal.τ).loc Cert.RowReferenceIdeal.main_arg10) = m ((c.tc : Thread Cert.RowIdeal.nD Cert.RowIdeal.τ).loc Cert.RowIdeal.main_arg10)
      ∧ m' ((c.tc : Thread Cert.RowReferenceIdeal.nD Cert.RowReferenceIdeal.τ).loc Cert.RowReferenceIdeal.main_arg11) = m ((c.tc : Thread Cert.RowIdeal.nD Cert.RowIdeal.τ).loc Cert.RowIdeal.main_arg11)
      ∧ m' ((c.tc : Thread Cert.RowReferenceIdeal.nD Cert.RowReferenceIdeal.τ).loc Cert.RowReferenceIdeal.main_arg12) = m ((c.tc : Thread Cert.RowIdeal.nD Cert.RowIdeal.τ).loc Cert.RowIdeal.main_arg12)
      ∧ m' ((c.tc : Thread Cert.RowReferenceIdeal.nD Cert.RowReferenceIdeal.τ).loc Cert.RowReferenceIdeal.main_arg13) = m ((c.tc : Thread Cert.RowIdeal.nD Cert.RowIdeal.τ).loc Cert.RowIdeal.main_arg13)) →
    ∃ (v0 : (c : Dev Cert.RowIdeal.nD) → Buf (Elt Ideal) ((c.tc : Thread Cert.RowIdeal.nD Cert.RowIdeal.τ).loc Cert.RowIdeal.main_v13_0)) (v1 : (c : Dev Cert.RowIdeal.nD) → Buf (Elt Ideal) ((c.tc : Thread Cert.RowIdeal.nD Cert.RowIdeal.τ).loc Cert.RowIdeal.main_v13_1)) (v2 : (c : Dev Cert.RowIdeal.nD) → Buf (Elt Ideal) ((c.tc : Thread Cert.RowIdeal.nD Cert.RowIdeal.τ).loc Cert.RowIdeal.main_v13_2)) (v3 : (c : Dev Cert.RowIdeal.nD) → Buf (Elt Ideal) ((c.tc : Thread Cert.RowIdeal.nD Cert.RowIdeal.τ).loc Cert.RowIdeal.main_v13_3)) (v4 : (c : Dev Cert.RowIdeal.nD) → Buf (Elt Ideal) ((c.tc : Thread Cert.RowIdeal.nD Cert.RowIdeal.τ).loc Cert.RowIdeal.main_v13_4)) (v5 : (c : Dev Cert.RowIdeal.nD) → Buf (Elt Ideal) ((c.tc : Thread Cert.RowIdeal.nD Cert.RowIdeal.τ).loc Cert.RowIdeal.main_v13_5)) (v6 : (c : Dev Cert.RowIdeal.nD) → Buf (Elt Ideal) ((c.tc : Thread Cert.RowIdeal.nD Cert.RowIdeal.τ).loc Cert.RowIdeal.main_v13_6)) (v7 : (c : Dev Cert.RowIdeal.nD) → Buf (Elt Ideal) ((c.tc : Thread Cert.RowIdeal.nD Cert.RowIdeal.τ).loc Cert.RowIdeal.main_v13_7)),
      θ_run (Cert.RowIdeal.defs (F := Ideal)) (onTc (τ := Cert.RowIdeal.τ) (Cert.RowIdeal.main (F := Ideal))) ⟨m, fun _ => 0, g⟩ (fun r => ∀ c : Dev Cert.RowIdeal.nD,
          r.2.mem ((c.tc : Thread Cert.RowIdeal.nD Cert.RowIdeal.τ).loc Cert.RowIdeal.main_v13_0) = v0 c
          ∧ r.2.mem ((c.tc : Thread Cert.RowIdeal.nD Cert.RowIdeal.τ).loc Cert.RowIdeal.main_v13_1) = v1 c
          ∧ r.2.mem ((c.tc : Thread Cert.RowIdeal.nD Cert.RowIdeal.τ).loc Cert.RowIdeal.main_v13_2) = v2 c
          ∧ r.2.mem ((c.tc : Thread Cert.RowIdeal.nD Cert.RowIdeal.τ).loc Cert.RowIdeal.main_v13_3) = v3 c
          ∧ r.2.mem ((c.tc : Thread Cert.RowIdeal.nD Cert.RowIdeal.τ).loc Cert.RowIdeal.main_v13_4) = v4 c
          ∧ r.2.mem ((c.tc : Thread Cert.RowIdeal.nD Cert.RowIdeal.τ).loc Cert.RowIdeal.main_v13_5) = v5 c
          ∧ r.2.mem ((c.tc : Thread Cert.RowIdeal.nD Cert.RowIdeal.τ).loc Cert.RowIdeal.main_v13_6) = v6 c
          ∧ r.2.mem ((c.tc : Thread Cert.RowIdeal.nD Cert.RowIdeal.τ).loc Cert.RowIdeal.main_v13_7) = v7 c
          ∧ r.2.mem ((c.tc : Thread Cert.RowIdeal.nD Cert.RowIdeal.τ).loc Cert.RowIdeal.main_arg0) = m ((c.tc : Thread Cert.RowIdeal.nD Cert.RowIdeal.τ).loc Cert.RowIdeal.main_arg0)
          ∧ r.2.mem ((c.tc : Thread Cert.RowIdeal.nD Cert.RowIdeal.τ).loc Cert.RowIdeal.main_arg1) = m ((c.tc : Thread Cert.RowIdeal.nD Cert.RowIdeal.τ).loc Cert.RowIdeal.main_arg1)
          ∧ r.2.mem ((c.tc : Thread Cert.RowIdeal.nD Cert.RowIdeal.τ).loc Cert.RowIdeal.main_arg2) = m ((c.tc : Thread Cert.RowIdeal.nD Cert.RowIdeal.τ).loc Cert.RowIdeal.main_arg2)
          ∧ r.2.mem ((c.tc : Thread Cert.RowIdeal.nD Cert.RowIdeal.τ).loc Cert.RowIdeal.main_arg3) = m ((c.tc : Thread Cert.RowIdeal.nD Cert.RowIdeal.τ).loc Cert.RowIdeal.main_arg3)
          ∧ r.2.mem ((c.tc : Thread Cert.RowIdeal.nD Cert.RowIdeal.τ).loc Cert.RowIdeal.main_arg4) = m ((c.tc : Thread Cert.RowIdeal.nD Cert.RowIdeal.τ).loc Cert.RowIdeal.main_arg4)
          ∧ r.2.mem ((c.tc : Thread Cert.RowIdeal.nD Cert.RowIdeal.τ).loc Cert.RowIdeal.main_arg5) = m ((c.tc : Thread Cert.RowIdeal.nD Cert.RowIdeal.τ).loc Cert.RowIdeal.main_arg5)
          ∧ r.2.mem ((c.tc : Thread Cert.RowIdeal.nD Cert.RowIdeal.τ).loc Cert.RowIdeal.main_arg6) = m ((c.tc : Thread Cert.RowIdeal.nD Cert.RowIdeal.τ).loc Cert.RowIdeal.main_arg6)
          ∧ r.2.mem ((c.tc : Thread Cert.RowIdeal.nD Cert.RowIdeal.τ).loc Cert.RowIdeal.main_arg7) = m ((c.tc : Thread Cert.RowIdeal.nD Cert.RowIdeal.τ).loc Cert.RowIdeal.main_arg7)
          ∧ r.2.mem ((c.tc : Thread Cert.RowIdeal.nD Cert.RowIdeal.τ).loc Cert.RowIdeal.main_arg8) = m ((c.tc : Thread Cert.RowIdeal.nD Cert.RowIdeal.τ).loc Cert.RowIdeal.main_arg8)
          ∧ r.2.mem ((c.tc : Thread Cert.RowIdeal.nD Cert.RowIdeal.τ).loc Cert.RowIdeal.main_arg9) = m ((c.tc : Thread Cert.RowIdeal.nD Cert.RowIdeal.τ).loc Cert.RowIdeal.main_arg9)
          ∧ r.2.mem ((c.tc : Thread Cert.RowIdeal.nD Cert.RowIdeal.τ).loc Cert.RowIdeal.main_arg10) = m ((c.tc : Thread Cert.RowIdeal.nD Cert.RowIdeal.τ).loc Cert.RowIdeal.main_arg10)
          ∧ r.2.mem ((c.tc : Thread Cert.RowIdeal.nD Cert.RowIdeal.τ).loc Cert.RowIdeal.main_arg11) = m ((c.tc : Thread Cert.RowIdeal.nD Cert.RowIdeal.τ).loc Cert.RowIdeal.main_arg11)
          ∧ r.2.mem ((c.tc : Thread Cert.RowIdeal.nD Cert.RowIdeal.τ).loc Cert.RowIdeal.main_arg12) = m ((c.tc : Thread Cert.RowIdeal.nD Cert.RowIdeal.τ).loc Cert.RowIdeal.main_arg12)
          ∧ r.2.mem ((c.tc : Thread Cert.RowIdeal.nD Cert.RowIdeal.τ).loc Cert.RowIdeal.main_arg13) = m ((c.tc : Thread Cert.RowIdeal.nD Cert.RowIdeal.τ).loc Cert.RowIdeal.main_arg13))
      ∧ θ_run (Cert.RowReferenceIdeal.defs (F := Ideal)) (onTc (τ := Cert.RowReferenceIdeal.τ) (Cert.RowReferenceIdeal.main (F := Ideal))) ⟨m', fun _ => 0, g'⟩ (fun r => ∀ c : Dev Cert.RowReferenceIdeal.nD,
          r.2.mem ((c.tc : Thread Cert.RowReferenceIdeal.nD Cert.RowReferenceIdeal.τ).loc Cert.RowReferenceIdeal.main_v83) = v0 c
          ∧ r.2.mem ((c.tc : Thread Cert.RowReferenceIdeal.nD Cert.RowReferenceIdeal.τ).loc Cert.RowReferenceIdeal.main_v86) = v1 c
          ∧ r.2.mem ((c.tc : Thread Cert.RowReferenceIdeal.nD Cert.RowReferenceIdeal.τ).loc Cert.RowReferenceIdeal.main_v89) = v2 c
          ∧ r.2.mem ((c.tc : Thread Cert.RowReferenceIdeal.nD Cert.RowReferenceIdeal.τ).loc Cert.RowReferenceIdeal.main_v92) = v3 c
          ∧ r.2.mem ((c.tc : Thread Cert.RowReferenceIdeal.nD Cert.RowReferenceIdeal.τ).loc Cert.RowReferenceIdeal.main_v95) = v4 c
          ∧ r.2.mem ((c.tc : Thread Cert.RowReferenceIdeal.nD Cert.RowReferenceIdeal.τ).loc Cert.RowReferenceIdeal.main_v98) = v5 c
          ∧ r.2.mem ((c.tc : Thread Cert.RowReferenceIdeal.nD Cert.RowReferenceIdeal.τ).loc Cert.RowReferenceIdeal.main_v101) = v6 c
          ∧ r.2.mem ((c.tc : Thread Cert.RowReferenceIdeal.nD Cert.RowReferenceIdeal.τ).loc Cert.RowReferenceIdeal.main_v104) = v7 c
          ∧ r.2.mem ((c.tc : Thread Cert.RowReferenceIdeal.nD Cert.RowReferenceIdeal.τ).loc Cert.RowReferenceIdeal.main_arg0) = m' ((c.tc : Thread Cert.RowReferenceIdeal.nD Cert.RowReferenceIdeal.τ).loc Cert.RowReferenceIdeal.main_arg0)
          ∧ r.2.mem ((c.tc : Thread Cert.RowReferenceIdeal.nD Cert.RowReferenceIdeal.τ).loc Cert.RowReferenceIdeal.main_arg1) = m' ((c.tc : Thread Cert.RowReferenceIdeal.nD Cert.RowReferenceIdeal.τ).loc Cert.RowReferenceIdeal.main_arg1)
          ∧ r.2.mem ((c.tc : Thread Cert.RowReferenceIdeal.nD Cert.RowReferenceIdeal.τ).loc Cert.RowReferenceIdeal.main_arg2) = m' ((c.tc : Thread Cert.RowReferenceIdeal.nD Cert.RowReferenceIdeal.τ).loc Cert.RowReferenceIdeal.main_arg2)
          ∧ r.2.mem ((c.tc : Thread Cert.RowReferenceIdeal.nD Cert.RowReferenceIdeal.τ).loc Cert.RowReferenceIdeal.main_arg3) = m' ((c.tc : Thread Cert.RowReferenceIdeal.nD Cert.RowReferenceIdeal.τ).loc Cert.RowReferenceIdeal.main_arg3)
          ∧ r.2.mem ((c.tc : Thread Cert.RowReferenceIdeal.nD Cert.RowReferenceIdeal.τ).loc Cert.RowReferenceIdeal.main_arg4) = m' ((c.tc : Thread Cert.RowReferenceIdeal.nD Cert.RowReferenceIdeal.τ).loc Cert.RowReferenceIdeal.main_arg4)
          ∧ r.2.mem ((c.tc : Thread Cert.RowReferenceIdeal.nD Cert.RowReferenceIdeal.τ).loc Cert.RowReferenceIdeal.main_arg5) = m' ((c.tc : Thread Cert.RowReferenceIdeal.nD Cert.RowReferenceIdeal.τ).loc Cert.RowReferenceIdeal.main_arg5)
          ∧ r.2.mem ((c.tc : Thread Cert.RowReferenceIdeal.nD Cert.RowReferenceIdeal.τ).loc Cert.RowReferenceIdeal.main_arg6) = m' ((c.tc : Thread Cert.RowReferenceIdeal.nD Cert.RowReferenceIdeal.τ).loc Cert.RowReferenceIdeal.main_arg6)
          ∧ r.2.mem ((c.tc : Thread Cert.RowReferenceIdeal.nD Cert.RowReferenceIdeal.τ).loc Cert.RowReferenceIdeal.main_arg7) = m' ((c.tc : Thread Cert.RowReferenceIdeal.nD Cert.RowReferenceIdeal.τ).loc Cert.RowReferenceIdeal.main_arg7)
          ∧ r.2.mem ((c.tc : Thread Cert.RowReferenceIdeal.nD Cert.RowReferenceIdeal.τ).loc Cert.RowReferenceIdeal.main_arg8) = m' ((c.tc : Thread Cert.RowReferenceIdeal.nD Cert.RowReferenceIdeal.τ).loc Cert.RowReferenceIdeal.main_arg8)
          ∧ r.2.mem ((c.tc : Thread Cert.RowReferenceIdeal.nD Cert.RowReferenceIdeal.τ).loc Cert.RowReferenceIdeal.main_arg9) = m' ((c.tc : Thread Cert.RowReferenceIdeal.nD Cert.RowReferenceIdeal.τ).loc Cert.RowReferenceIdeal.main_arg9)
          ∧ r.2.mem ((c.tc : Thread Cert.RowReferenceIdeal.nD Cert.RowReferenceIdeal.τ).loc Cert.RowReferenceIdeal.main_arg10) = m' ((c.tc : Thread Cert.RowReferenceIdeal.nD Cert.RowReferenceIdeal.τ).loc Cert.RowReferenceIdeal.main_arg10)
          ∧ r.2.mem ((c.tc : Thread Cert.RowReferenceIdeal.nD Cert.RowReferenceIdeal.τ).loc Cert.RowReferenceIdeal.main_arg11) = m' ((c.tc : Thread Cert.RowReferenceIdeal.nD Cert.RowReferenceIdeal.τ).loc Cert.RowReferenceIdeal.main_arg11)
          ∧ r.2.mem ((c.tc : Thread Cert.RowReferenceIdeal.nD Cert.RowReferenceIdeal.τ).loc Cert.RowReferenceIdeal.main_arg12) = m' ((c.tc : Thread Cert.RowReferenceIdeal.nD Cert.RowReferenceIdeal.τ).loc Cert.RowReferenceIdeal.main_arg12)
          ∧ r.2.mem ((c.tc : Thread Cert.RowReferenceIdeal.nD Cert.RowReferenceIdeal.τ).loc Cert.RowReferenceIdeal.main_arg13) = m' ((c.tc : Thread Cert.RowReferenceIdeal.nD Cert.RowReferenceIdeal.τ).loc Cert.RowReferenceIdeal.main_arg13))

def Claim : Prop :=
  ∃ (hCol : Cert.Col.Facts) (hColIdeal : Cert.ColIdeal.Facts) (hReferenceIdeal : Cert.ReferenceIdeal.Facts) (hRow : Cert.Row.Facts) (hRowIdeal : Cert.RowIdeal.Facts) (hRowReferenceIdeal : Cert.RowReferenceIdeal.Facts) (hPre_finite_weights : Cert.Pre_finite_weights.Facts) (hPre_finite_row_weights : Cert.Pre_finite_row_weights.Facts),
    quiescent_Col (hCol := hCol)
    ∧ quiescent_ColIdeal (hColIdeal := hColIdeal)
    ∧ quiescent_ColIdeal_pre_finite_weights (hColIdeal := hColIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ quiescent_Row (hRow := hRow)
    ∧ quiescent_RowIdeal (hRowIdeal := hRowIdeal)
    ∧ quiescent_RowIdeal_pre_finite_row_weights (hRowIdeal := hRowIdeal) (hPre_finite_row_weights := hPre_finite_row_weights)
    ∧ quiescent_RowReferenceIdeal (hRowReferenceIdeal := hRowReferenceIdeal)
    ∧ quiescent_RowReferenceIdeal_pre_finite_row_weights (hRowReferenceIdeal := hRowReferenceIdeal) (hPre_finite_row_weights := hPre_finite_row_weights)
    ∧ preserves_Col_ColIdeal
    ∧ algebraic_ColIdeal_ReferenceIdeal_pre_finite_weights (hColIdeal := hColIdeal) (hReferenceIdeal := hReferenceIdeal) (hPre_finite_weights := hPre_finite_weights)
    ∧ preserves_Row_RowIdeal
    ∧ algebraic_RowIdeal_RowReferenceIdeal_pre_finite_row_weights (hRowIdeal := hRowIdeal) (hRowReferenceIdeal := hRowReferenceIdeal) (hPre_finite_row_weights := hPre_finite_row_weights)
-- ==== Pre_finite_row_weights.lean ====
abbrev S128x256x256 : Shape := ⟨3, ![128, 256, 256]⟩
abbrev S256x256x128 : Shape := ⟨3, ![256, 256, 128]⟩
abbrev S256 : Shape := ⟨1, ![256]⟩
abbrev S128 : Shape := ⟨1, ![128]⟩
abbrev S256x256 : Shape := ⟨2, ![256, 256]⟩
abbrev S128x8 : Shape := ⟨2, ![128, 8]⟩
abbrev S_ : Shape := ⟨0, ![]⟩
abbrev S256x1 : Shape := ⟨2, ![256, 1]⟩
abbrev S128x1 : Shape := ⟨2, ![128, 1]⟩
abbrev S256x256x1x1 : Shape := ⟨4, ![256, 256, 1, 1]⟩
abbrev S1x1x128x8 : Shape := ⟨4, ![1, 1, 128, 8]⟩
abbrev S256x256x128x8 : Shape := ⟨4, ![256, 256, 128, 8]⟩

class Facts : Prop where
  bcast_S_S256x256 : S_.BroadcastsInDim S256x256 (![] : Fin 0 → Fin S256x256.rank)
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S_S128x8 : S_.BroadcastsInDim S128x8 (![] : Fin 0 → Fin S128x8.rank)
  bcast_S_S128 : S_.BroadcastsInDim S128 (![] : Fin 0 → Fin S128.rank)
  bcast_S128_S128x1_0 : S128.BroadcastsInDim S128x1 (![0] : Fin 1 → Fin S128x1.rank)
  bcast_S128x1_S128x8_0_1 : S128x1.BroadcastsInDim S128x8 (![0, 1] : Fin 2 → Fin S128x8.rank)
  bcast_S256x256_S256x256x1x1_0_1 : S256x256.BroadcastsInDim S256x256x1x1 (![0, 1] : Fin 2 → Fin S256x256x1x1.rank)
  bcast_S128x8_S1x1x128x8_2_3 : S128x8.BroadcastsInDim S1x1x128x8 (![2, 3] : Fin 2 → Fin S1x1x128x8.rank)
  bcast_S256x256x1x1_S256x256x128x8_0_1_2_3 : S256x256x1x1.BroadcastsInDim S256x256x128x8 (![0, 1, 2, 3] : Fin 4 → Fin S256x256x128x8.rank)
  bcast_S1x1x128x8_S256x256x128x8_0_1_2_3 : S1x1x128x8.BroadcastsInDim S256x256x128x8 (![0, 1, 2, 3] : Fin 4 → Fin S256x256x128x8.rank)

variable [Facts]

def fn_part1 {F : FTy → Type} [FloatOps F] (main_arg4 : FVec F S128 .f32) (main_arg5 : FVec F S128 .f32) (main_v18 : IVec S256x256 1) (main_v19 : FVec F S128x8 .f32) : IVec S256x256x128x8 1 :=
  let main_cst_3 : FVec F S_ .f32 := constant S_ .f32 0x7F800000#32
  let main_v20 : FVec F S128x8 .f32 := broadcastInDim S128x8 ![] bcast_S_S128x8 main_cst_3
  let main_v21 : IVec S128x8 1 := cmpf .olt main_v19 main_v20
  let main_v22 : FVec F S128 .f32 := Host.absf main_arg4
  let main_cst_4 : FVec F S_ .f32 := constant S_ .f32 0x7F800000#32
  let main_v23 : FVec F S128 .f32 := broadcastInDim S128 ![] bcast_S_S128 main_cst_4
  let main_v24 : IVec S128 1 := cmpf .olt main_v22 main_v23
  let main_v25 : IVec S128x1 1 := broadcastInDim S128x1 ![0] bcast_S128_S128x1_0 main_v24
  let main_v26 : IVec S128x8 1 := broadcastInDim S128x8 ![0, 1] bcast_S128x1_S128x8_0_1 main_v25
  let main_v27 : IVec S128x8 1 := andi main_v21 main_v26
  let main_v28 : FVec F S128 .f32 := Host.absf main_arg5
  let main_cst_5 : FVec F S_ .f32 := constant S_ .f32 0x7F800000#32
  let main_v29 : FVec F S128 .f32 := broadcastInDim S128 ![] bcast_S_S128 main_cst_5
  let main_v30 : IVec S128 1 := cmpf .olt main_v28 main_v29
  let main_v31 : IVec S128x1 1 := broadcastInDim S128x1 ![0] bcast_S128_S128x1_0 main_v30
  let main_v32 : IVec S128x8 1 := broadcastInDim S128x8 ![0, 1] bcast_S128x1_S128x8_0_1 main_v31
  let main_v33 : IVec S128x8 1 := andi main_v27 main_v32
  let main_v34 : IVec S256x256x1x1 1 := broadcastInDim S256x256x1x1 ![0, 1] bcast_S256x256_S256x256x1x1_0_1 main_v18
  let main_v35 : IVec S1x1x128x8 1 := broadcastInDim S1x1x128x8 ![2, 3] bcast_S128x8_S1x1x128x8_2_3 main_v33
  let main_v36 : IVec S256x256x128x8 1 := broadcastInDim S256x256x128x8 ![0, 1, 2, 3] bcast_S256x256x1x1_S256x256x128x8_0_1_2_3 main_v34
  let main_v37 : IVec S256x256x128x8 1 := broadcastInDim S256x256x128x8 ![0, 1, 2, 3] bcast_S1x1x128x8_S256x256x128x8_0_1_2_3 main_v35
  let main_v38 : IVec S256x256x128x8 1 := andi main_v36 main_v37
  main_v38

def fn {F : FTy → Type} [FloatOps F] (main_arg0 : FVec F S128x256x256 .f32) (main_arg1 : FVec F S256x256x128 .f32) (main_arg2 : FVec F S256 .f32) (main_arg3 : FVec F S256 .f32) (main_arg4 : FVec F S128 .f32) (main_arg5 : FVec F S128 .f32) (main_arg6 : FVec F S256x256 .f32) (main_arg7 : FVec F S256x256 .f32) (main_arg8 : FVec F S256x256 .f32) (main_arg9 : FVec F S128x8 .f32) (main_arg10 : FVec F S256x256 .f32) (main_arg11 : FVec F S256 .f32) (main_arg12 : FVec F S256x256 .f32) (main_arg13 : FVec F S256 .f32) : IVec S256x256x128x8 1 :=
  let main_v0 : FVec F S256x256 .f32 := Host.absf main_arg6
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_v3 : FVec F S256x256 .f32 := Host.absf main_arg7
  let main_cst_0 : FVec F S_ .f32 := constant S_ .f32 0x7F800000#32
  let main_v4 : FVec F S256x256 .f32 := broadcastInDim S256x256 ![] bcast_S_S256x256 main_cst_0
  let main_v5 : IVec S256x256 1 := cmpf .olt main_v3 main_v4
  let main_v6 : IVec S256x256 1 := andi main_v2 main_v5
  let main_v7 : FVec F S256 .f32 := Host.absf main_arg2
  let main_cst_1 : FVec F S_ .f32 := constant S_ .f32 0x7F800000#32
  let main_v8 : FVec F S256 .f32 := broadcastInDim S256 ![] bcast_S_S256 main_cst_1
  let main_v9 : IVec S256 1 := cmpf .olt main_v7 main_v8
  let main_v10 : IVec S256x1 1 := broadcastInDim S256x1 ![0] bcast_S256_S256x1_0 main_v9
  let main_v11 : IVec S256x256 1 := broadcastInDim S256x256 ![0, 1] bcast_S256x1_S256x256_0_1 main_v10
  let main_v12 : IVec S256x256 1 := andi main_v6 main_v11
  let main_v13 : FVec F S256 .f32 := Host.absf main_arg3
  let main_cst_2 : FVec F S_ .f32 := constant S_ .f32 0x7F800000#32
  let main_v14 : FVec F S256 .f32 := broadcastInDim S256 ![] bcast_S_S256 main_cst_2
  let main_v15 : IVec S256 1 := cmpf .olt main_v13 main_v14
  let main_v16 : IVec S256x1 1 := broadcastInDim S256x1 ![0] bcast_S256_S256x1_0 main_v15
  let main_v17 : IVec S256x256 1 := broadcastInDim S256x256 ![0, 1] bcast_S256x1_S256x256_0_1 main_v16
  let main_v18 : IVec S256x256 1 := andi main_v12 main_v17
  let main_v19 : FVec F S128x8 .f32 := Host.absf main_arg9
  fn_part1 (F := F) main_arg4 main_arg5 main_v18 main_v19
-- ==== Pre_finite_weights.lean ====
abbrev S256x16x1x256 : Shape := ⟨4, ![256, 16, 1, 256]⟩
abbrev S256 : Shape := ⟨1, ![256]⟩
abbrev S256x256 : Shape := ⟨2, ![256, 256]⟩
abbrev S256x1024 : Shape := ⟨2, ![256, 1024]⟩
abbrev S1024 : Shape := ⟨1, ![1024]⟩
abbrev S1024x256 : Shape := ⟨2, ![1024, 256]⟩
abbrev S_ : Shape := ⟨0, ![]⟩
abbrev S256x1 : Shape := ⟨2, ![256, 1]⟩

class Facts : Prop where
  bcast_S_S256x256 : S_.BroadcastsInDim S256x256 (![] : Fin 0 → Fin S256x256.rank)
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)

variable [Facts]

def fn {F : FTy → Type} [FloatOps F] (main_arg0 : FVec F S256x16x1x256 .f32) (main_arg1 : FVec F S256x16x1x256 .f32) (main_arg2 : FVec F S256x16x1x256 .f32) (main_arg3 : FVec F S256x16x1x256 .f32) (main_arg4 : FVec F S256x16x1x256 .f32) (main_arg5 : FVec F S256x16x1x256 .f32) (main_arg6 : FVec F S256x16x1x256 .f32) (main_arg7 : FVec F S256x16x1x256 .f32) (main_arg8 : FVec F S256 .f32) (main_arg9 : FVec F S256 .f32) (main_arg10 : FVec F S256x256 .f32) (main_arg11 : FVec F S256x256 .f32) (main_arg12 : FVec F S256x256 .f32) (main_arg13 : FVec F S256x256 .f32) (main_arg14 : FVec F S256 .f32) (main_arg15 : FVec F S256x256 .f32) (main_arg16 : FVec F S256 .f32) (main_arg17 : FVec F S256 .f32) (main_arg18 : FVec F S256 .f32) (main_arg19 : FVec F S256x1024 .f32) (main_arg20 : FVec F S1024 .f32) (main_arg21 : FVec F S1024x256 .f32) (main_arg22 : FVec F S256 .f32) : IVec S256x256 1 :=
  let main_v0 : FVec F S256x256 .f32 := Host.absf main_arg10
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_v3 : FVec F S256x256 .f32 := Host.absf main_arg11
  let main_cst_0 : FVec F S_ .f32 := constant S_ .f32 0x7F800000#32
  let main_v4 : FVec F S256x256 .f32 := broadcastInDim S256x256 ![] bcast_S_S256x256 main_cst_0
  let main_v5 : IVec S256x256 1 := cmpf .olt main_v3 main_v4
  let main_v6 : IVec S256x256 1 := andi main_v2 main_v5
  let main_v7 : FVec F S256 .f32 := Host.absf main_arg8
  let main_cst_1 : FVec F S_ .f32 := constant S_ .f32 0x7F800000#32
  let main_v8 : FVec F S256 .f32 := broadcastInDim S256 ![] bcast_S_S256 main_cst_1
  let main_v9 : IVec S256 1 := cmpf .olt main_v7 main_v8
  let main_v10 : IVec S256x1 1 := broadcastInDim S256x1 ![0] bcast_S256_S256x1_0 main_v9
  let main_v11 : IVec S256x256 1 := broadcastInDim S256x256 ![0, 1] bcast_S256x1_S256x256_0_1 main_v10
  let main_v12 : IVec S256x256 1 := andi main_v6 main_v11
  let main_v13 : FVec F S256 .f32 := Host.absf main_arg9
  let main_cst_2 : FVec F S_ .f32 := constant S_ .f32 0x7F800000#32
  let main_v14 : FVec F S256 .f32 := broadcastInDim S256 ![] bcast_S_S256 main_cst_2
  let main_v15 : IVec S256 1 := cmpf .olt main_v13 main_v14
  let main_v16 : IVec S256x1 1 := broadcastInDim S256x1 ![0] bcast_S256_S256x1_0 main_v15
  let main_v17 : IVec S256x256 1 := broadcastInDim S256x256 ![0, 1] bcast_S256x1_S256x256_0_1 main_v16
  let main_v18 : IVec S256x256 1 := andi main_v12 main_v17
  main_v18
-- ==== Col.lean ====
abbrev S256x16x1x256 : Shape := ⟨4, ![256, 16, 1, 256]⟩
abbrev S256 : Shape := ⟨1, ![256]⟩
abbrev S256x256 : Shape := ⟨2, ![256, 256]⟩
abbrev S256x1024 : Shape := ⟨2, ![256, 1024]⟩
abbrev S1024 : Shape := ⟨1, ![1024]⟩
abbrev S1024x256 : Shape := ⟨2, ![1024, 256]⟩
abbrev S256x16x256 : Shape := ⟨3, ![256, 16, 256]⟩
abbrev S1x256 : Shape := ⟨2, ![1, 256]⟩
abbrev S1x1024 : Shape := ⟨2, ![1, 1024]⟩
abbrev S128x256x256 : Shape := ⟨3, ![128, 256, 256]⟩
abbrev S16x16x256 : Shape := ⟨3, ![16, 16, 256]⟩
abbrev S2x2048x256 : Shape := ⟨3, ![2, 2048, 256]⟩
abbrev S2x16 : Shape := ⟨2, ![2, 16]⟩
abbrev S16x128x256 : Shape := ⟨3, ![16, 128, 256]⟩
abbrev S2048x256 : Shape := ⟨2, ![2048, 256]⟩
abbrev S2048 : Shape := ⟨1, ![2048]⟩
abbrev S2048x1 : Shape := ⟨2, ![2048, 1]⟩
abbrev S128x32 : Shape := ⟨2, ![128, 32]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S2048x1024 : Shape := ⟨2, ![2048, 1024]⟩
abbrev S1x1 : Shape := ⟨2, ![1, 1]⟩
abbrev S_ : Shape := ⟨0, ![]⟩
abbrev S128x1x256 : Shape := ⟨3, ![128, 1, 256]⟩
abbrev S1x128x256 : Shape := ⟨3, ![1, 128, 256]⟩
abbrev S1x2048x256 : Shape := ⟨3, ![1, 2048, 256]⟩

abbrev nBuf : Space → Nat
  | .hbm => 47
  | .vmem => 32
  | .smem => 0
  | _ => 0

abbrev bufTy : (tb : Table) → Fin (tcTables nBuf tb) → BufTy
  | .hbm, ⟨0, _⟩ => ⟨S256x16x1x256, .f32⟩
  | .hbm, ⟨1, _⟩ => ⟨S256x16x1x256, .f32⟩
  | .hbm, ⟨2, _⟩ => ⟨S256x16x1x256, .f32⟩
  | .hbm, ⟨3, _⟩ => ⟨S256x16x1x256, .f32⟩
  | .hbm, ⟨4, _⟩ => ⟨S256x16x1x256, .f32⟩
  | .hbm, ⟨5, _⟩ => ⟨S256x16x1x256, .f32⟩
  | .hbm, ⟨6, _⟩ => ⟨S256x16x1x256, .f32⟩
  | .hbm, ⟨7, _⟩ => ⟨S256x16x1x256, .f32⟩
  | .hbm, ⟨8, _⟩ => ⟨S256, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256x1024, .f32⟩
  | .hbm, ⟨20, _⟩ => ⟨S1024, .f32⟩
  | .hbm, ⟨21, _⟩ => ⟨S1024x256, .f32⟩
  | .hbm, ⟨22, _⟩ => ⟨S256, .f32⟩
  | .hbm, ⟨23, _⟩ => ⟨S256x16x256, .f32⟩
  | .hbm, ⟨24, _⟩ => ⟨S256x16x256, .f32⟩
  | .hbm, ⟨25, _⟩ => ⟨S256x16x256, .f32⟩
  | .hbm, ⟨26, _⟩ => ⟨S256x16x256, .f32⟩
  | .hbm, ⟨27, _⟩ => ⟨S256x16x256, .f32⟩
  | .hbm, ⟨28, _⟩ => ⟨S256x16x256, .f32⟩
  | .hbm, ⟨29, _⟩ => ⟨S256x16x256, .f32⟩
  | .hbm, ⟨30, _⟩ => ⟨S256x16x256, .f32⟩
  | .hbm, ⟨31, _⟩ => ⟨S1x256, .f32⟩
  | .hbm, ⟨32, _⟩ => ⟨S1x256, .f32⟩
  | .hbm, ⟨33, _⟩ => ⟨S256x256, .bf16⟩
  | .hbm, ⟨34, _⟩ => ⟨S256x256, .bf16⟩
  | .hbm, ⟨35, _⟩ => ⟨S256x256, .bf16⟩
  | .hbm, ⟨36, _⟩ => ⟨S256x256, .bf16⟩
  | .hbm, ⟨37, _⟩ => ⟨S1x256, .f32⟩
  | .hbm, ⟨38, _⟩ => ⟨S256x256, .bf16⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S256x1024, .bf16⟩
  | .hbm, ⟨43, _⟩ => ⟨S1x1024, .f32⟩
  | .hbm, ⟨44, _⟩ => ⟨S1024x256, .bf16⟩
  | .hbm, ⟨45, _⟩ => ⟨S1x256, .f32⟩
  | .hbm, ⟨46, _⟩ => ⟨S128x256x256, .f32⟩
  | .local _ .vmem, ⟨0, _⟩ => ⟨S16x16x256, .f32⟩
  | .local _ .vmem, ⟨1, _⟩ => ⟨S16x16x256, .f32⟩
  | .local _ .vmem, ⟨2, _⟩ => ⟨S16x16x256, .f32⟩
  | .local _ .vmem, ⟨3, _⟩ => ⟨S16x16x256, .f32⟩
  | .local _ .vmem, ⟨4, _⟩ => ⟨S16x16x256, .f32⟩
  | .local _ .vmem, ⟨5, _⟩ => ⟨S16x16x256, .f32⟩
  | .local _ .vmem, ⟨6, _⟩ => ⟨S16x16x256, .f32⟩
  | .local _ .vmem, ⟨7, _⟩ => ⟨S16x16x256, .f32⟩
  | .local _ .vmem, ⟨8, _⟩ => ⟨S16x16x256, .f32⟩
  | .local _ .vmem, ⟨9, _⟩ => ⟨S16x16x256, .f32⟩
  | .local _ .vmem, ⟨10, _⟩ => ⟨S16x16x256, .f32⟩
  | .local _ .vmem, ⟨11, _⟩ => ⟨S16x16x256, .f32⟩
  | .local _ .vmem, ⟨12, _⟩ => ⟨S16x16x256, .f32⟩
  | .local _ .vmem, ⟨13, _⟩ => ⟨S16x16x256, .f32⟩
  | .local _ .vmem, ⟨14, _⟩ => ⟨S16x16x256, .f32⟩
  | .local _ .vmem, ⟨15, _⟩ => ⟨S16x16x256, .f32⟩
  | .local _ .vmem, ⟨16, _⟩ => ⟨S1x256, .f32⟩
  | .local _ .vmem, ⟨17, _⟩ => ⟨S1x256, .f32⟩
  | .local _ .vmem, ⟨18, _⟩ => ⟨S256x256, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S1x256, .f32⟩
  | .local _ .vmem, ⟨23, _⟩ => ⟨S256x256, .bf16⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S256x1024, .bf16⟩
  | .local _ .vmem, ⟨28, _⟩ => ⟨S1x1024, .f32⟩
  | .local _ .vmem, ⟨29, _⟩ => ⟨S1024x256, .bf16⟩
  | .local _ .vmem, ⟨30, _⟩ => ⟨S1x256, .f32⟩
  | .local _ .vmem, ⟨31, _⟩ => ⟨S2x2048x256, .f32⟩
  | _, _ => ⟨S256x16x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c2_i32_756 : BitVec 32 := 2#32
  let v2656 : BitVec 1 := Scalar.cmpi .sge arg0 c2_i32_756
  let v2657 : BitVec 32 := Scalar.extui v2656
  let c0_i32 : BitVec 32 := 0#32
  let v2658 : BitVec 1 := Scalar.cmpi .ne v2657 c0_i32
  v2658

def k0_off1 (i : grid0.Coords) : Fin 2 → Nat :=
  let arg0 : BitVec 32 := BitVec.ofNat 32 (i 0).val
  let c2_i32 : BitVec 32 := 2#32
  let v2655 : BitVec 32 := Scalar.remsi arg0 c2_i32
  let c0_i32_829 : BitVec 32 := 0#32
  ![v2655.toNat, 0]
def k0_off2 (i : grid0.Coords) : Fin 3 → Nat :=
  let arg0 : BitVec 32 := BitVec.ofNat 32 (i 0).val
  let c2_i32 : BitVec 32 := 2#32
  let v2655 : BitVec 32 := Scalar.remsi arg0 c2_i32
  let c0_i32_832 : BitVec 32 := 0#32
  let c0_i32_833 : BitVec 32 := 0#32
  ![v2655.toNat, 0, 0]
def k0_off3 (i : grid0.Coords) : Fin 2 → Nat :=
  let arg0 : BitVec 32 := BitVec.ofNat 32 (i 0).val
  let c2_i32 : BitVec 32 := 2#32
  let v2655 : BitVec 32 := Scalar.remsi arg0 c2_i32
  let c1_i32_835 : BitVec 32 := 1#32
  ![v2655.toNat, 1]
def k0_off4 (i : grid0.Coords) : Fin 3 → Nat :=
  let arg0 : BitVec 32 := BitVec.ofNat 32 (i 0).val
  let c2_i32 : BitVec 32 := 2#32
  let v2655 : BitVec 32 := Scalar.remsi arg0 c2_i32
  let c128_i32_838 : BitVec 32 := 128#32
  let c0_i32_839 : BitVec 32 := 0#32
  ![v2655.toNat, 128, 0]
def k0_off5 (i : grid0.Coords) : Fin 2 → Nat :=
  let arg0 : BitVec 32 := BitVec.ofNat 32 (i 0).val
  let c2_i32 : BitVec 32 := 2#32
  let v2655 : BitVec 32 := Scalar.remsi arg0 c2_i32
  let c2_i32_841 : BitVec 32 := 2#32
  ![v2655.toNat, 2]
def k0_off6 (i : grid0.Coords) : Fin 3 → Nat :=
  let arg0 : BitVec 32 := BitVec.ofNat 32 (i 0).val
  let c2_i32 : BitVec 32 := 2#32
  let v2655 : BitVec 32 := Scalar.remsi arg0 c2_i32
  let c256_i32_844 : BitVec 32 := 256#32
  let c0_i32_845 : BitVec 32 := 0#32
  ![v2655.toNat, 256, 0]
def k0_off7 (i : grid0.Coords) : Fin 2 → Nat :=
  let arg0 : BitVec 32 := BitVec.ofNat 32 (i 0).val
  let c2_i32 : BitVec 32 := 2#32
  let v2655 : BitVec 32 := Scalar.remsi arg0 c2_i32
  let c3_i32_847 : BitVec 32 := 3#32
  ![v2655.toNat, 3]
def k0_off8 (i : grid0.Coords) : Fin 3 → Nat :=
  let arg0 : BitVec 32 := BitVec.ofNat 32 (i 0).val
  let c2_i32 : BitVec 32 := 2#32
  let v2655 : BitVec 32 := Scalar.remsi arg0 c2_i32
  let c384_i32_850 : BitVec 32 := 384#32
  let c0_i32_851 : BitVec 32 := 0#32
  ![v2655.toNat, 384, 0]
def k0_off9 (i : grid0.Coords) : Fin 2 → Nat :=
  let arg0 : BitVec 32 := BitVec.ofNat 32 (i 0).val
  let c2_i32 : BitVec 32 := 2#32
  let v2655 : BitVec 32 := Scalar.remsi arg0 c2_i32
  let c4_i32_853 : BitVec 32 := 4#32
  ![v2655.toNat, 4]
def k0_off10 (i : grid0.Coords) : Fin 3 → Nat :=
  let arg0 : BitVec 32 := BitVec.ofNat 32 (i 0).val
  let c2_i32 : BitVec 32 := 2#32
  let v2655 : BitVec 32 := Scalar.remsi arg0 c2_i32
  let c512_i32_856 : BitVec 32 := 512#32
  let c0_i32_857 : BitVec 32 := 0#32
  ![v2655.toNat, 512, 0]
def k0_off11 (i : grid0.Coords) : Fin 2 → Nat :=
  let arg0 : BitVec 32 := BitVec.ofNat 32 (i 0).val
  let c2_i32 : BitVec 32 := 2#32
  let v2655 : BitVec 32 := Scalar.remsi arg0 c2_i32
  let c5_i32_859 : BitVec 32 := 5#32
  ![v2655.toNat, 5]
def k0_off12 (i : grid0.Coords) : Fin 3 → Nat :=
  let arg0 : BitVec 32 := BitVec.ofNat 32 (i 0).val
  let c2_i32 : BitVec 32 := 2#32
  let v2655 : BitVec 32 := Scalar.remsi arg0 c2_i32
  let c640_i32_862 : BitVec 32 := 640#32
  let c0_i32_863 : BitVec 32 := 0#32
  ![v2655.toNat, 640, 0]
def k0_off13 (i : grid0.Coords) : Fin 2 → Nat :=
  let arg0 : BitVec 32 := BitVec.ofNat 32 (i 0).val
  let c2_i32 : BitVec 32 := 2#32
  let v2655 : BitVec 32 := Scalar.remsi arg0 c2_i32
  let c6_i32_865 : BitVec 32 := 6#32
  ![v2655.toNat, 6]
def k0_off14 (i : grid0.Coords) : Fin 3 → Nat :=
  let arg0 : BitVec 32 := BitVec.ofNat 32 (i 0).val
  let c2_i32 : BitVec 32 := 2#32
  let v2655 : BitVec 32 := Scalar.remsi arg0 c2_i32
  let c768_i32_868 : BitVec 32 := 768#32
  let c0_i32_869 : BitVec 32 := 0#32
  ![v2655.toNat, 768, 0]
def k0_off15 (i : grid0.Coords) : Fin 2 → Nat :=
  let arg0 : BitVec 32 := BitVec.ofNat 32 (i 0).val
  let c2_i32 : BitVec 32 := 2#32
  let v2655 : BitVec 32 := Scalar.remsi arg0 c2_i32
  let c7_i32_871 : BitVec 32 := 7#32
  ![v2655.toNat, 7]
def k0_off16 (i : grid0.Coords) : Fin 3 → Nat :=
  let arg0 : BitVec 32 := BitVec.ofNat 32 (i 0).val
  let c2_i32 : BitVec 32 := 2#32
  let v2655 : BitVec 32 := Scalar.remsi arg0 c2_i32
  let c896_i32_874 : BitVec 32 := 896#32
  let c0_i32_875 : BitVec 32 := 0#32
  ![v2655.toNat, 896, 0]
def k0_off17 (i : grid0.Coords) : Fin 2 → Nat :=
  let arg0 : BitVec 32 := BitVec.ofNat 32 (i 0).val
  let c2_i32 : BitVec 32 := 2#32
  let v2655 : BitVec 32 := Scalar.remsi arg0 c2_i32
  let c8_i32_877 : BitVec 32 := 8#32
  ![v2655.toNat, 8]
def k0_off18 (i : grid0.Coords) : Fin 3 → Nat :=
  let arg0 : BitVec 32 := BitVec.ofNat 32 (i 0).val
  let c2_i32 : BitVec 32 := 2#32
  let v2655 : BitVec 32 := Scalar.remsi arg0 c2_i32
  let c1024_i32_880 : BitVec 32 := 1024#32
  let c0_i32_881 : BitVec 32 := 0#32
  ![v2655.toNat, 1024, 0]
def k0_off19 (i : grid0.Coords) : Fin 2 → Nat :=
  let arg0 : BitVec 32 := BitVec.ofNat 32 (i 0).val
  let c2_i32 : BitVec 32 := 2#32
  let v2655 : BitVec 32 := Scalar.remsi arg0 c2_i32
  let c9_i32_883 : BitVec 32 := 9#32
  ![v2655.toNat, 9]
def k0_off20 (i : grid0.Coords) : Fin 3 → Nat :=
  let arg0 : BitVec 32 := BitVec.ofNat 32 (i 0).val
  let c2_i32 : BitVec 32 := 2#32
  let v2655 : BitVec 32 := Scalar.remsi arg0 c2_i32
  let c1152_i32_886 : BitVec 32 := 1152#32
  let c0_i32_887 : BitVec 32 := 0#32
  ![v2655.toNat, 1152, 0]
def k0_off21 (i : grid0.Coords) : Fin 2 → Nat :=
  let arg0 : BitVec 32 := BitVec.ofNat 32 (i 0).val
  let c2_i32 : BitVec 32 := 2#32
  let v2655 : BitVec 32 := Scalar.remsi arg0 c2_i32
  let c10_i32_889 : BitVec 32 := 10#32
  ![v2655.toNat, 10]
def k0_off22 (i : grid0.Coords) : Fin 3 → Nat :=
  let arg0 : BitVec 32 := BitVec.ofNat 32 (i 0).val
  let c2_i32 : BitVec 32 := 2#32
  let v2655 : BitVec 32 := Scalar.remsi arg0 c2_i32
  let c1280_i32_892 : BitVec 32 := 1280#32
  let c0_i32_893 : BitVec 32 := 0#32
  ![v2655.toNat, 1280, 0]
def k0_off23 (i : grid0.Coords) : Fin 2 → Nat :=
  let arg0 : BitVec 32 := BitVec.ofNat 32 (i 0).val
  let c2_i32 : BitVec 32 := 2#32
  let v2655 : BitVec 32 := Scalar.remsi arg0 c2_i32
  let c11_i32_895 : BitVec 32 := 11#32
  ![v2655.toNat, 11]
def k0_off24 (i : grid0.Coords) : Fin 3 → Nat :=
  let arg0 : BitVec 32 := BitVec.ofNat 32 (i 0).val
  let c2_i32 : BitVec 32 := 2#32
  let v2655 : BitVec 32 := Scalar.remsi arg0 c2_i32
  let c1408_i32_898 : BitVec 32 := 1408#32
  let c0_i32_899 : BitVec 32 := 0#32
  ![v2655.toNat, 1408, 0]
def k0_off25 (i : grid0.Coords) : Fin 2 → Nat :=
  let arg0 : BitVec 32 := BitVec.ofNat 32 (i 0).val
  let c2_i32 : BitVec 32 := 2#32
  let v2655 : BitVec 32 := Scalar.remsi arg0 c2_i32
  let c12_i32_901 : BitVec 32 := 12#32
  ![v2655.toNat, 12]
def k0_off26 (i : grid0.Coords) : Fin 3 → Nat :=
  let arg0 : BitVec 32 := BitVec.ofNat 32 (i 0).val
  let c2_i32 : BitVec 32 := 2#32
  let v2655 : BitVec 32 := Scalar.remsi arg0 c2_i32
  let c1536_i32_904 : BitVec 32 := 1536#32
  let c0_i32_905 : BitVec 32 := 0#32
  ![v2655.toNat, 1536, 0]
def k0_off27 (i : grid0.Coords) : Fin 2 → Nat :=
  let arg0 : BitVec 32 := BitVec.ofNat 32 (i 0).val
  let c2_i32 : BitVec 32 := 2#32
  let v2655 : BitVec 32 := Scalar.remsi arg0 c2_i32
  let c13_i32_907 : BitVec 32 := 13#32
  ![v2655.toNat, 13]
def k0_off28 (i : grid0.Coords) : Fin 3 → Nat :=
  let arg0 : BitVec 32 := BitVec.ofNat 32 (i 0).val
  let c2_i32 : BitVec 32 := 2#32
  let v2655 : BitVec 32 := Scalar.remsi arg0 c2_i32
  let c1664_i32_910 : BitVec 32 := 1664#32
  let c0_i32_911 : BitVec 32 := 0#32
  ![v2655.toNat, 1664, 0]
def k0_off29 (i : grid0.Coords) : Fin 2 → Nat :=
  let arg0 : BitVec 32 := BitVec.ofNat 32 (i 0).val
  let c2_i32 : BitVec 32 := 2#32
  let v2655 : BitVec 32 := Scalar.remsi arg0 c2_i32
  let c14_i32_913 : BitVec 32 := 14#32
  ![v2655.toNat, 14]
def k0_off30 (i : grid0.Coords) : Fin 3 → Nat :=
  let arg0 : BitVec 32 := BitVec.ofNat 32 (i 0).val
  let c2_i32 : BitVec 32 := 2#32
  let v2655 : BitVec 32 := Scalar.remsi arg0 c2_i32
  let c1792_i32_916 : BitVec 32 := 1792#32
  let c0_i32_917 : BitVec 32 := 0#32
  ![v2655.toNat, 1792, 0]
def k0_off31 (i : grid0.Coords) : Fin 2 → Nat :=
  let arg0 : BitVec 32 := BitVec.ofNat 32 (i 0).val
  let c2_i32 : BitVec 32 := 2#32
  let v2655 : BitVec 32 := Scalar.remsi arg0 c2_i32
  let c15_i32_919 : BitVec 32 := 15#32
  ![v2655.toNat, 15]
def k0_off32 (i : grid0.Coords) : Fin 3 → Nat :=
  let arg0 : BitVec 32 := BitVec.ofNat 32 (i 0).val
  let c2_i32 : BitVec 32 := 2#32
  let v2655 : BitVec 32 := Scalar.remsi arg0 c2_i32
  let c1920_i32_922 : BitVec 32 := 1920#32
  let c0_i32_923 : BitVec 32 := 0#32
  ![v2655.toNat, 1920, 0]
def k0_off33 (i : grid0.Coords) : Fin 3 → Nat :=
  let arg0 : BitVec 32 := BitVec.ofNat 32 (i 0).val
  let c2_i32 : BitVec 32 := 2#32
  let v2655 : BitVec 32 := Scalar.remsi arg0 c2_i32
  let v2659 : Index := Scalar.indexCast v2655
  let c0_757 : Index := 0#32
  let c0_758 : Index := 0#32
  ![v2659.toNat, 0, 0]
def k0_off34 (i : grid0.Coords) : Fin 2 → Nat :=
  let arg0 : BitVec 32 := BitVec.ofNat 32 (i 0).val
  let c2_i32 : BitVec 32 := 2#32
  let v2655 : BitVec 32 := Scalar.remsi arg0 c2_i32
  let c0_i32_760 : BitVec 32 := 0#32
  ![v2655.toNat, 0]
def k0_off35 (i : grid0.Coords) (c0_i32_759 : BitVec 32) : Fin 3 → Nat :=
  let c0_i32_761 : BitVec 32 := 0#32
  let arg0 : BitVec 32 := BitVec.ofNat 32 (i 0).val
  let c16_i32 : BitVec 32 := 16#32
  let v2663 : BitVec 32 := Scalar.muli arg0 c16_i32
  let v2664 : BitVec 32 := Scalar.addi v2663 c0_i32_759
  let c0_i32_762 : BitVec 32 := 0#32
  ![0, v2664.toNat, 0]
def k0_off36 (i : grid0.Coords) : Fin 3 → Nat :=
  let arg0 : BitVec 32 := BitVec.ofNat 32 (i 0).val
  let c2_i32 : BitVec 32 := 2#32
  let v2655 : BitVec 32 := Scalar.remsi arg0 c2_i32
  let c0_i32_763 : BitVec 32 := 0#32
  let c0_i32_764 : BitVec 32 := 0#32
  ![v2655.toNat, 0, 0]
def k0_off37 (i : grid0.Coords) : Fin 2 → Nat :=
  let arg0 : BitVec 32 := BitVec.ofNat 32 (i 0).val
  let c2_i32 : BitVec 32 := 2#32
  let v2655 : BitVec 32 := Scalar.remsi arg0 c2_i32
  let c1_i32_765 : BitVec 32 := 1#32
  ![v2655.toNat, 1]
def k0_off38 (i : grid0.Coords) : Fin 3 → Nat :=
  let arg0 : BitVec 32 := BitVec.ofNat 32 (i 0).val
  let c2_i32 : BitVec 32 := 2#32
  let v2655 : BitVec 32 := Scalar.remsi arg0 c2_i32
  let c128_i32 : BitVec 32 := 128#32
  let c0_i32_768 : BitVec 32 := 0#32
  ![v2655.toNat, 128, 0]
def k0_off39 (i : grid0.Coords) : Fin 2 → Nat :=
  let arg0 : BitVec 32 := BitVec.ofNat 32 (i 0).val
  let c2_i32 : BitVec 32 := 2#32
  let v2655 : BitVec 32 := Scalar.remsi arg0 c2_i32
  let c2_i32_770 : BitVec 32 := 2#32
  ![v2655.toNat, 2]
def k0_off40 (i : grid0.Coords) : Fin 3 → Nat :=
  let arg0 : BitVec 32 := BitVec.ofNat 32 (i 0).val
  let c2_i32 : BitVec 32 := 2#32
  let v2655 : BitVec 32 := Scalar.remsi arg0 c2_i32
  let c256_i32 : BitVec 32 := 256#32
  let c0_i32_773 : BitVec 32 := 0#32
  ![v2655.toNat, 256, 0]
def k0_off41 (i : grid0.Coords) : Fin 2 → Nat :=
  let arg0 : BitVec 32 := BitVec.ofNat 32 (i 0).val
  let c2_i32 : BitVec 32 := 2#32
  let v2655 : BitVec 32 := Scalar.remsi arg0 c2_i32
  let c3_i32_774 : BitVec 32 := 3#32
  ![v2655.toNat, 3]
def k0_off42 (i : grid0.Coords) : Fin 3 → Nat :=
  let arg0 : BitVec 32 := BitVec.ofNat 32 (i 0).val
  let c2_i32 : BitVec 32 := 2#32
  let v2655 : BitVec 32 := Scalar.remsi arg0 c2_i32
  let c384_i32 : BitVec 32 := 384#32
  let c0_i32_777 : BitVec 32 := 0#32
  ![v2655.toNat, 384, 0]
def k0_off43 (i : grid0.Coords) : Fin 2 → Nat :=
  let arg0 : BitVec 32 := BitVec.ofNat 32 (i 0).val
  let c2_i32 : BitVec 32 := 2#32
  let v2655 : BitVec 32 := Scalar.remsi arg0 c2_i32
  let c4_i32_778 : BitVec 32 := 4#32
  ![v2655.toNat, 4]
def k0_off44 (i : grid0.Coords) : Fin 3 → Nat :=
  let arg0 : BitVec 32 := BitVec.ofNat 32 (i 0).val
  let c2_i32 : BitVec 32 := 2#32
  let v2655 : BitVec 32 := Scalar.remsi arg0 c2_i32
  let c512_i32 : BitVec 32 := 512#32
  let c0_i32_781 : BitVec 32 := 0#32
  ![v2655.toNat, 512, 0]
def k0_off45 (i : grid0.Coords) : Fin 2 → Nat :=
  let arg0 : BitVec 32 := BitVec.ofNat 32 (i 0).val
  let c2_i32 : BitVec 32 := 2#32
  let v2655 : BitVec 32 := Scalar.remsi arg0 c2_i32
  let c5_i32_782 : BitVec 32 := 5#32
  ![v2655.toNat, 5]
def k0_off46 (i : grid0.Coords) : Fin 3 → Nat :=
  let arg0 : BitVec 32 := BitVec.ofNat 32 (i 0).val
  let c2_i32 : BitVec 32 := 2#32
  let v2655 : BitVec 32 := Scalar.remsi arg0 c2_i32
  let c640_i32 : BitVec 32 := 640#32
  let c0_i32_785 : BitVec 32 := 0#32
  ![v2655.toNat, 640, 0]
def k0_off47 (i : grid0.Coords) : Fin 2 → Nat :=
  let arg0 : BitVec 32 := BitVec.ofNat 32 (i 0).val
  let c2_i32 : BitVec 32 := 2#32
  let v2655 : BitVec 32 := Scalar.remsi arg0 c2_i32
  let c6_i32_786 : BitVec 32 := 6#32
  ![v2655.toNat, 6]
def k0_off48 (i : grid0.Coords) : Fin 3 → Nat :=
  let arg0 : BitVec 32 := BitVec.ofNat 32 (i 0).val
  let c2_i32 : BitVec 32 := 2#32
  let v2655 : BitVec 32 := Scalar.remsi arg0 c2_i32
  let c768_i32 : BitVec 32 := 768#32
  let c0_i32_789 : BitVec 32 := 0#32
  ![v2655.toNat, 768, 0]
def k0_off49 (i : grid0.Coords) : Fin 2 → Nat :=
  let arg0 : BitVec 32 := BitVec.ofNat 32 (i 0).val
  let c2_i32 : BitVec 32 := 2#32
  let v2655 : BitVec 32 := Scalar.remsi arg0 c2_i32
  let c7_i32_790 : BitVec 32 := 7#32
  ![v2655.toNat, 7]
def k0_off50 (i : grid0.Coords) : Fin 3 → Nat :=
  let arg0 : BitVec 32 := BitVec.ofNat 32 (i 0).val
  let c2_i32 : BitVec 32 := 2#32
  let v2655 : BitVec 32 := Scalar.remsi arg0 c2_i32
  let c896_i32 : BitVec 32 := 896#32
  let c0_i32_793 : BitVec 32 := 0#32
  ![v2655.toNat, 896, 0]
def k0_off51 (i : grid0.Coords) : Fin 2 → Nat :=
  let arg0 : BitVec 32 := BitVec.ofNat 32 (i 0).val
  let c2_i32 : BitVec 32 := 2#32
  let v2655 : BitVec 32 := Scalar.remsi arg0 c2_i32
  let c8_i32_794 : BitVec 32 := 8#32
  ![v2655.toNat, 8]
def k0_off52 (i : grid0.Coords) : Fin 3 → Nat :=
  let arg0 : BitVec 32 := BitVec.ofNat 32 (i 0).val
  let c2_i32 : BitVec 32 := 2#32
  let v2655 : BitVec 32 := Scalar.remsi arg0 c2_i32
  let c1024_i32 : BitVec 32 := 1024#32
  let c0_i32_797 : BitVec 32 := 0#32
  ![v2655.toNat, 1024, 0]
def k0_off53 (i : grid0.Coords) : Fin 2 → Nat :=
  let arg0 : BitVec 32 := BitVec.ofNat 32 (i 0).val
  let c2_i32 : BitVec 32 := 2#32
  let v2655 : BitVec 32 := Scalar.remsi arg0 c2_i32
  let c9_i32_798 : BitVec 32 := 9#32
  ![v2655.toNat, 9]
def k0_off54 (i : grid0.Coords) : Fin 3 → Nat :=
  let arg0 : BitVec 32 := BitVec.ofNat 32 (i 0).val
  let c2_i32 : BitVec 32 := 2#32
  let v2655 : BitVec 32 := Scalar.remsi arg0 c2_i32
  let c1152_i32 : BitVec 32 := 1152#32
  let c0_i32_801 : BitVec 32 := 0#32
  ![v2655.toNat, 1152, 0]
def k0_off55 (i : grid0.Coords) : Fin 2 → Nat :=
  let arg0 : BitVec 32 := BitVec.ofNat 32 (i 0).val
  let c2_i32 : BitVec 32 := 2#32
  let v2655 : BitVec 32 := Scalar.remsi arg0 c2_i32
  let c10_i32_802 : BitVec 32 := 10#32
  ![v2655.toNat, 10]
def k0_off56 (i : grid0.Coords) : Fin 3 → Nat :=
  let arg0 : BitVec 32 := BitVec.ofNat 32 (i 0).val
  let c2_i32 : BitVec 32 := 2#32
  let v2655 : BitVec 32 := Scalar.remsi arg0 c2_i32
  let c1280_i32 : BitVec 32 := 1280#32
  let c0_i32_805 : BitVec 32 := 0#32
  ![v2655.toNat, 1280, 0]
def k0_off57 (i : grid0.Coords) : Fin 2 → Nat :=
  let arg0 : BitVec 32 := BitVec.ofNat 32 (i 0).val
  let c2_i32 : BitVec 32 := 2#32
  let v2655 : BitVec 32 := Scalar.remsi arg0 c2_i32
  let c11_i32_806 : BitVec 32 := 11#32
  ![v2655.toNat, 11]
def k0_off58 (i : grid0.Coords) : Fin 3 → Nat :=
  let arg0 : BitVec 32 := BitVec.ofNat 32 (i 0).val
  let c2_i32 : BitVec 32 := 2#32
  let v2655 : BitVec 32 := Scalar.remsi arg0 c2_i32
  let c1408_i32 : BitVec 32 := 1408#32
  let c0_i32_809 : BitVec 32 := 0#32
  ![v2655.toNat, 1408, 0]
def k0_off59 (i : grid0.Coords) : Fin 2 → Nat :=
  let arg0 : BitVec 32 := BitVec.ofNat 32 (i 0).val
  let c2_i32 : BitVec 32 := 2#32
  let v2655 : BitVec 32 := Scalar.remsi arg0 c2_i32
  let c12_i32_810 : BitVec 32 := 12#32
  ![v2655.toNat, 12]
def k0_off60 (i : grid0.Coords) : Fin 3 → Nat :=
  let arg0 : BitVec 32 := BitVec.ofNat 32 (i 0).val
  let c2_i32 : BitVec 32 := 2#32
  let v2655 : BitVec 32 := Scalar.remsi arg0 c2_i32
  let c1536_i32 : BitVec 32 := 1536#32
  let c0_i32_813 : BitVec 32 := 0#32
  ![v2655.toNat, 1536, 0]
def k0_off61 (i : grid0.Coords) : Fin 2 → Nat :=
  let arg0 : BitVec 32 := BitVec.ofNat 32 (i 0).val
  let c2_i32 : BitVec 32 := 2#32
  let v2655 : BitVec 32 := Scalar.remsi arg0 c2_i32
  let c13_i32_814 : BitVec 32 := 13#32
  ![v2655.toNat, 13]
def k0_off62 (i : grid0.Coords) : Fin 3 → Nat :=
  let arg0 : BitVec 32 := BitVec.ofNat 32 (i 0).val
  let c2_i32 : BitVec 32 := 2#32
  let v2655 : BitVec 32 := Scalar.remsi arg0 c2_i32
  let c1664_i32 : BitVec 32 := 1664#32
  let c0_i32_817 : BitVec 32 := 0#32
  ![v2655.toNat, 1664, 0]
def k0_off63 (i : grid0.Coords) : Fin 2 → Nat :=
  let arg0 : BitVec 32 := BitVec.ofNat 32 (i 0).val
  let c2_i32 : BitVec 32 := 2#32
  let v2655 : BitVec 32 := Scalar.remsi arg0 c2_i32
  let c14_i32_818 : BitVec 32 := 14#32
  ![v2655.toNat, 14]
def k0_off64 (i : grid0.Coords) : Fin 3 → Nat :=
  let arg0 : BitVec 32 := BitVec.ofNat 32 (i 0).val
  let c2_i32 : BitVec 32 := 2#32
  let v2655 : BitVec 32 := Scalar.remsi arg0 c2_i32
  let c1792_i32 : BitVec 32 := 1792#32
  let c0_i32_821 : BitVec 32 := 0#32
  ![v2655.toNat, 1792, 0]
def k0_off65 (i : grid0.Coords) : Fin 2 → Nat :=
  let arg0 : BitVec 32 := BitVec.ofNat 32 (i 0).val
  let c2_i32 : BitVec 32 := 2#32
  let v2655 : BitVec 32 := Scalar.remsi arg0 c2_i32
  let c15_i32_822 : BitVec 32 := 15#32
  ![v2655.toNat, 15]
def k0_off66 (i : grid0.Coords) : Fin 3 → Nat :=
  let arg0 : BitVec 32 := BitVec.ofNat 32 (i 0).val
  let c2_i32 : BitVec 32 := 2#32
  let v2655 : BitVec 32 := Scalar.remsi arg0 c2_i32
  let c1920_i32 : BitVec 32 := 1920#32
  let c0_i32_825 : BitVec 32 := 0#32
  ![v2655.toNat, 1920, 0]
def k0_cond2 (i : grid0.Coords) : BitVec 1 :=
  let arg0 : BitVec 32 := BitVec.ofNat 32 (i 0).val
  let c15_i32_826 : BitVec 32 := 15#32
  let v2776 : BitVec 1 := Scalar.cmpi .eq arg0 c15_i32_826
  let v2777 : BitVec 32 := Scalar.extui v2776
  let c0_i32_827 : BitVec 32 := 0#32
  let v2778 : BitVec 1 := Scalar.cmpi .ne v2777 c0_i32_827
  v2778

def k0_off67 (i : grid0.Coords) : Fin 2 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c0_i32_830 : BitVec 32 := 0#32
  ![v2779.toNat, 0]
def k0_off68 (i : grid0.Coords) : Fin 3 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c0_i32_833 : BitVec 32 := 0#32
  let c0_i32_834 : BitVec 32 := 0#32
  ![v2779.toNat, 0, 0]
def k0_off69 (i : grid0.Coords) : Fin 2 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c1_i32_836 : BitVec 32 := 1#32
  ![v2779.toNat, 1]
def k0_off70 (i : grid0.Coords) : Fin 3 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c128_i32_839 : BitVec 32 := 128#32
  let c0_i32_840 : BitVec 32 := 0#32
  ![v2779.toNat, 128, 0]
def k0_off71 (i : grid0.Coords) : Fin 2 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c2_i32_842 : BitVec 32 := 2#32
  ![v2779.toNat, 2]
def k0_off72 (i : grid0.Coords) : Fin 3 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c256_i32_845 : BitVec 32 := 256#32
  let c0_i32_846 : BitVec 32 := 0#32
  ![v2779.toNat, 256, 0]
def k0_off73 (i : grid0.Coords) : Fin 2 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c3_i32_848 : BitVec 32 := 3#32
  ![v2779.toNat, 3]
def k0_off74 (i : grid0.Coords) : Fin 3 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c384_i32_851 : BitVec 32 := 384#32
  let c0_i32_852 : BitVec 32 := 0#32
  ![v2779.toNat, 384, 0]
def k0_off75 (i : grid0.Coords) : Fin 2 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c4_i32_854 : BitVec 32 := 4#32
  ![v2779.toNat, 4]
def k0_off76 (i : grid0.Coords) : Fin 3 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c512_i32_857 : BitVec 32 := 512#32
  let c0_i32_858 : BitVec 32 := 0#32
  ![v2779.toNat, 512, 0]
def k0_off77 (i : grid0.Coords) : Fin 2 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c5_i32_860 : BitVec 32 := 5#32
  ![v2779.toNat, 5]
def k0_off78 (i : grid0.Coords) : Fin 3 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c640_i32_863 : BitVec 32 := 640#32
  let c0_i32_864 : BitVec 32 := 0#32
  ![v2779.toNat, 640, 0]
def k0_off79 (i : grid0.Coords) : Fin 2 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c6_i32_866 : BitVec 32 := 6#32
  ![v2779.toNat, 6]
def k0_off80 (i : grid0.Coords) : Fin 3 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c768_i32_869 : BitVec 32 := 768#32
  let c0_i32_870 : BitVec 32 := 0#32
  ![v2779.toNat, 768, 0]
def k0_off81 (i : grid0.Coords) : Fin 2 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c7_i32_872 : BitVec 32 := 7#32
  ![v2779.toNat, 7]
def k0_off82 (i : grid0.Coords) : Fin 3 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c896_i32_875 : BitVec 32 := 896#32
  let c0_i32_876 : BitVec 32 := 0#32
  ![v2779.toNat, 896, 0]
def k0_off83 (i : grid0.Coords) : Fin 2 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c8_i32_878 : BitVec 32 := 8#32
  ![v2779.toNat, 8]
def k0_off84 (i : grid0.Coords) : Fin 3 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c1024_i32_881 : BitVec 32 := 1024#32
  let c0_i32_882 : BitVec 32 := 0#32
  ![v2779.toNat, 1024, 0]
def k0_off85 (i : grid0.Coords) : Fin 2 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c9_i32_884 : BitVec 32 := 9#32
  ![v2779.toNat, 9]
def k0_off86 (i : grid0.Coords) : Fin 3 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c1152_i32_887 : BitVec 32 := 1152#32
  let c0_i32_888 : BitVec 32 := 0#32
  ![v2779.toNat, 1152, 0]
def k0_off87 (i : grid0.Coords) : Fin 2 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c10_i32_890 : BitVec 32 := 10#32
  ![v2779.toNat, 10]
def k0_off88 (i : grid0.Coords) : Fin 3 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c1280_i32_893 : BitVec 32 := 1280#32
  let c0_i32_894 : BitVec 32 := 0#32
  ![v2779.toNat, 1280, 0]
def k0_off89 (i : grid0.Coords) : Fin 2 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c11_i32_896 : BitVec 32 := 11#32
  ![v2779.toNat, 11]
def k0_off90 (i : grid0.Coords) : Fin 3 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c1408_i32_899 : BitVec 32 := 1408#32
  let c0_i32_900 : BitVec 32 := 0#32
  ![v2779.toNat, 1408, 0]
def k0_off91 (i : grid0.Coords) : Fin 2 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c12_i32_902 : BitVec 32 := 12#32
  ![v2779.toNat, 12]
def k0_off92 (i : grid0.Coords) : Fin 3 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c1536_i32_905 : BitVec 32 := 1536#32
  let c0_i32_906 : BitVec 32 := 0#32
  ![v2779.toNat, 1536, 0]
def k0_off93 (i : grid0.Coords) : Fin 2 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c13_i32_908 : BitVec 32 := 13#32
  ![v2779.toNat, 13]
def k0_off94 (i : grid0.Coords) : Fin 3 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c1664_i32_911 : BitVec 32 := 1664#32
  let c0_i32_912 : BitVec 32 := 0#32
  ![v2779.toNat, 1664, 0]
def k0_off95 (i : grid0.Coords) : Fin 2 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c14_i32_914 : BitVec 32 := 14#32
  ![v2779.toNat, 14]
def k0_off96 (i : grid0.Coords) : Fin 3 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c1792_i32_917 : BitVec 32 := 1792#32
  let c0_i32_918 : BitVec 32 := 0#32
  ![v2779.toNat, 1792, 0]
def k0_off97 (i : grid0.Coords) : Fin 2 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c15_i32_920 : BitVec 32 := 15#32
  ![v2779.toNat, 15]
def k0_off98 (i : grid0.Coords) : Fin 3 → Nat :=
  let c1_i32_828 : BitVec 32 := 1#32
  let arg0 : BitVec 32 := BitVec.ofNat 32 (i 0).val
  let c2_i32 : BitVec 32 := 2#32
  let v2655 : BitVec 32 := Scalar.remsi arg0 c2_i32
  let v2779 : BitVec 32 := Scalar.subi c1_i32_828 v2655
  let c1920_i32_923 : BitVec 32 := 1920#32
  let c0_i32_924 : BitVec 32 := 0#32
  ![v2779.toNat, 1920, 0]
def k0_off99 (i : grid0.Coords) : Fin 2 → Nat :=
  let arg0 : BitVec 32 := BitVec.ofNat 32 (i 0).val
  let c2_i32 : BitVec 32 := 2#32
  let v2655 : BitVec 32 := Scalar.remsi arg0 c2_i32
  let c0_i32_926 : BitVec 32 := 0#32
  ![v2655.toNat, 0]
def k0_off100 (i : grid0.Coords) : Fin 3 → Nat :=
  let arg0 : BitVec 32 := BitVec.ofNat 32 (i 0).val
  let c2_i32 : BitVec 32 := 2#32
  let v2655 : BitVec 32 := Scalar.remsi arg0 c2_i32
  let c0_i32_929 : BitVec 32 := 0#32
  let c0_i32_930 : BitVec 32 := 0#32
  ![v2655.toNat, 0, 0]
def k0_off101 (i : grid0.Coords) : Fin 2 → Nat :=
  let arg0 : BitVec 32 := BitVec.ofNat 32 (i 0).val
  let c2_i32 : BitVec 32 := 2#32
  let v2655 : BitVec 32 := Scalar.remsi arg0 c2_i32
  let c1_i32_932 : BitVec 32 := 1#32
  ![v2655.toNat, 1]
def k0_off102 (i : grid0.Coords) : Fin 3 → Nat :=
  let arg0 : BitVec 32 := BitVec.ofNat 32 (i 0).val
  let c2_i32 : BitVec 32 := 2#32
  let v2655 : BitVec 32 := Scalar.remsi arg0 c2_i32
  let c128_i32_935 : BitVec 32 := 128#32
  let c0_i32_936 : BitVec 32 := 0#32
  ![v2655.toNat, 128, 0]
def k0_off103 (i : grid0.Coords) : Fin 2 → Nat :=
  let arg0 : BitVec 32 := BitVec.ofNat 32 (i 0).val
  let c2_i32 : BitVec 32 := 2#32
  let v2655 : BitVec 32 := Scalar.remsi arg0 c2_i32
  let c2_i32_938 : BitVec 32 := 2#32
  ![v2655.toNat, 2]
def k0_off104 (i : grid0.Coords) : Fin 3 → Nat :=
  let arg0 : BitVec 32 := BitVec.ofNat 32 (i 0).val
  let c2_i32 : BitVec 32 := 2#32
  let v2655 : BitVec 32 := Scalar.remsi arg0 c2_i32
  let c256_i32_941 : BitVec 32 := 256#32
  let c0_i32_942 : BitVec 32 := 0#32
  ![v2655.toNat, 256, 0]
def k0_off105 (i : grid0.Coords) : Fin 2 → Nat :=
  let arg0 : BitVec 32 := BitVec.ofNat 32 (i 0).val
  let c2_i32 : BitVec 32 := 2#32
  let v2655 : BitVec 32 := Scalar.remsi arg0 c2_i32
  let c3_i32_944 : BitVec 32 := 3#32
  ![v2655.toNat, 3]
def k0_off106 (i : grid0.Coords) : Fin 3 → Nat :=
  let arg0 : BitVec 32 := BitVec.ofNat 32 (i 0).val
  let c2_i32 : BitVec 32 := 2#32
  let v2655 : BitVec 32 := Scalar.remsi arg0 c2_i32
  let c384_i32_947 : BitVec 32 := 384#32
  let c0_i32_948 : BitVec 32 := 0#32
  ![v2655.toNat, 384, 0]
def k0_off107 (i : grid0.Coords) : Fin 2 → Nat :=
  let arg0 : BitVec 32 := BitVec.ofNat 32 (i 0).val
  let c2_i32 : BitVec 32 := 2#32
  let v2655 : BitVec 32 := Scalar.remsi arg0 c2_i32
  let c4_i32_950 : BitVec 32 := 4#32
  ![v2655.toNat, 4]
def k0_off108 (i : grid0.Coords) : Fin 3 → Nat :=
  let arg0 : BitVec 32 := BitVec.ofNat 32 (i 0).val
  let c2_i32 : BitVec 32 := 2#32
  let v2655 : BitVec 32 := Scalar.remsi arg0 c2_i32
  let c512_i32_953 : BitVec 32 := 512#32
  let c0_i32_954 : BitVec 32 := 0#32
  ![v2655.toNat, 512, 0]
def k0_off109 (i : grid0.Coords) : Fin 2 → Nat :=
  let arg0 : BitVec 32 := BitVec.ofNat 32 (i 0).val
  let c2_i32 : BitVec 32 := 2#32
  let v2655 : BitVec 32 := Scalar.remsi arg0 c2_i32
  let c5_i32_956 : BitVec 32 := 5#32
  ![v2655.toNat, 5]
def k0_off110 (i : grid0.Coords) : Fin 3 → Nat :=
  let arg0 : BitVec 32 := BitVec.ofNat 32 (i 0).val
  let c2_i32 : BitVec 32 := 2#32
  let v2655 : BitVec 32 := Scalar.remsi arg0 c2_i32
  let c640_i32_959 : BitVec 32 := 640#32
  let c0_i32_960 : BitVec 32 := 0#32
  ![v2655.toNat, 640, 0]
def k0_off111 (i : grid0.Coords) : Fin 2 → Nat :=
  let arg0 : BitVec 32 := BitVec.ofNat 32 (i 0).val
  let c2_i32 : BitVec 32 := 2#32
  let v2655 : BitVec 32 := Scalar.remsi arg0 c2_i32
  let c6_i32_962 : BitVec 32 := 6#32
  ![v2655.toNat, 6]
def k0_off112 (i : grid0.Coords) : Fin 3 → Nat :=
  let arg0 : BitVec 32 := BitVec.ofNat 32 (i 0).val
  let c2_i32 : BitVec 32 := 2#32
  let v2655 : BitVec 32 := Scalar.remsi arg0 c2_i32
  let c768_i32_965 : BitVec 32 := 768#32
  let c0_i32_966 : BitVec 32 := 0#32
  ![v2655.toNat, 768, 0]
def k0_off113 (i : grid0.Coords) : Fin 2 → Nat :=
  let arg0 : BitVec 32 := BitVec.ofNat 32 (i 0).val
  let c2_i32 : BitVec 32 := 2#32
  let v2655 : BitVec 32 := Scalar.remsi arg0 c2_i32
  let c7_i32_968 : BitVec 32 := 7#32
  ![v2655.toNat, 7]
def k0_off114 (i : grid0.Coords) : Fin 3 → Nat :=
  let arg0 : BitVec 32 := BitVec.ofNat 32 (i 0).val
  let c2_i32 : BitVec 32 := 2#32
  let v2655 : BitVec 32 := Scalar.remsi arg0 c2_i32
  let c896_i32_971 : BitVec 32 := 896#32
  let c0_i32_972 : BitVec 32 := 0#32
  ![v2655.toNat, 896, 0]
def k0_off115 (i : grid0.Coords) : Fin 2 → Nat :=
  let arg0 : BitVec 32 := BitVec.ofNat 32 (i 0).val
  let c2_i32 : BitVec 32 := 2#32
  let v2655 : BitVec 32 := Scalar.remsi arg0 c2_i32
  let c8_i32_974 : BitVec 32 := 8#32
  ![v2655.toNat, 8]
def k0_off116 (i : grid0.Coords) : Fin 3 → Nat :=
  let arg0 : BitVec 32 := BitVec.ofNat 32 (i 0).val
  let c2_i32 : BitVec 32 := 2#32
  let v2655 : BitVec 32 := Scalar.remsi arg0 c2_i32
  let c1024_i32_977 : BitVec 32 := 1024#32
  let c0_i32_978 : BitVec 32 := 0#32
  ![v2655.toNat, 1024, 0]
def k0_off117 (i : grid0.Coords) : Fin 2 → Nat :=
  let arg0 : BitVec 32 := BitVec.ofNat 32 (i 0).val
  let c2_i32 : BitVec 32 := 2#32
  let v2655 : BitVec 32 := Scalar.remsi arg0 c2_i32
  let c9_i32_980 : BitVec 32 := 9#32
  ![v2655.toNat, 9]
def k0_off118 (i : grid0.Coords) : Fin 3 → Nat :=
  let arg0 : BitVec 32 := BitVec.ofNat 32 (i 0).val
  let c2_i32 : BitVec 32 := 2#32
  let v2655 : BitVec 32 := Scalar.remsi arg0 c2_i32
  let c1152_i32_983 : BitVec 32 := 1152#32
  let c0_i32_984 : BitVec 32 := 0#32
  ![v2655.toNat, 1152, 0]
def k0_off119 (i : grid0.Coords) : Fin 2 → Nat :=
  let arg0 : BitVec 32 := BitVec.ofNat 32 (i 0).val
  let c2_i32 : BitVec 32 := 2#32
  let v2655 : BitVec 32 := Scalar.remsi arg0 c2_i32
  let c10_i32_986 : BitVec 32 := 10#32
  ![v2655.toNat, 10]
def k0_off120 (i : grid0.Coords) : Fin 3 → Nat :=
  let arg0 : BitVec 32 := BitVec.ofNat 32 (i 0).val
  let c2_i32 : BitVec 32 := 2#32
  let v2655 : BitVec 32 := Scalar.remsi arg0 c2_i32
  let c1280_i32_989 : BitVec 32 := 1280#32
  let c0_i32_990 : BitVec 32 := 0#32
  ![v2655.toNat, 1280, 0]
def k0_off121 (i : grid0.Coords) : Fin 2 → Nat :=
  let arg0 : BitVec 32 := BitVec.ofNat 32 (i 0).val
  let c2_i32 : BitVec 32 := 2#32
  let v2655 : BitVec 32 := Scalar.remsi arg0 c2_i32
  let c11_i32_992 : BitVec 32 := 11#32
  ![v2655.toNat, 11]
def k0_off122 (i : grid0.Coords) : Fin 3 → Nat :=
  let arg0 : BitVec 32 := BitVec.ofNat 32 (i 0).val
  let c2_i32 : BitVec 32 := 2#32
  let v2655 : BitVec 32 := Scalar.remsi arg0 c2_i32
  let c1408_i32_995 : BitVec 32 := 1408#32
  let c0_i32_996 : BitVec 32 := 0#32
  ![v2655.toNat, 1408, 0]
def k0_off123 (i : grid0.Coords) : Fin 2 → Nat :=
  let arg0 : BitVec 32 := BitVec.ofNat 32 (i 0).val
  let c2_i32 : BitVec 32 := 2#32
  let v2655 : BitVec 32 := Scalar.remsi arg0 c2_i32
  let c12_i32_998 : BitVec 32 := 12#32
  ![v2655.toNat, 12]
def k0_off124 (i : grid0.Coords) : Fin 3 → Nat :=
  let arg0 : BitVec 32 := BitVec.ofNat 32 (i 0).val
  let c2_i32 : BitVec 32 := 2#32
  let v2655 : BitVec 32 := Scalar.remsi arg0 c2_i32
  let c1536_i32_1001 : BitVec 32 := 1536#32
  let c0_i32_1002 : BitVec 32 := 0#32
  ![v2655.toNat, 1536, 0]
def k0_off125 (i : grid0.Coords) : Fin 2 → Nat :=
  let arg0 : BitVec 32 := BitVec.ofNat 32 (i 0).val
  let c2_i32 : BitVec 32 := 2#32
  let v2655 : BitVec 32 := Scalar.remsi arg0 c2_i32
  let c13_i32_1004 : BitVec 32 := 13#32
  ![v2655.toNat, 13]
def k0_off126 (i : grid0.Coords) : Fin 3 → Nat :=
  let arg0 : BitVec 32 := BitVec.ofNat 32 (i 0).val
  let c2_i32 : BitVec 32 := 2#32
  let v2655 : BitVec 32 := Scalar.remsi arg0 c2_i32
  let c1664_i32_1007 : BitVec 32 := 1664#32
  let c0_i32_1008 : BitVec 32 := 0#32
  ![v2655.toNat, 1664, 0]
def k0_off127 (i : grid0.Coords) : Fin 2 → Nat :=
  let arg0 : BitVec 32 := BitVec.ofNat 32 (i 0).val
  let c2_i32 : BitVec 32 := 2#32
  let v2655 : BitVec 32 := Scalar.remsi arg0 c2_i32
  let c14_i32_1010 : BitVec 32 := 14#32
  ![v2655.toNat, 14]
def k0_off128 (i : grid0.Coords) : Fin 3 → Nat :=
  let arg0 : BitVec 32 := BitVec.ofNat 32 (i 0).val
  let c2_i32 : BitVec 32 := 2#32
  let v2655 : BitVec 32 := Scalar.remsi arg0 c2_i32
  let c1792_i32_1013 : BitVec 32 := 1792#32
  let c0_i32_1014 : BitVec 32 := 0#32
  ![v2655.toNat, 1792, 0]
def k0_off129 (i : grid0.Coords) : Fin 2 → Nat :=
  let arg0 : BitVec 32 := BitVec.ofNat 32 (i 0).val
  let c2_i32 : BitVec 32 := 2#32
  let v2655 : BitVec 32 := Scalar.remsi arg0 c2_i32
  let c15_i32_1016 : BitVec 32 := 15#32
  ![v2655.toNat, 15]
def k0_off130 (i : grid0.Coords) : Fin 3 → Nat :=
  let arg0 : BitVec 32 := BitVec.ofNat 32 (i 0).val
  let c2_i32 : BitVec 32 := 2#32
  let v2655 : BitVec 32 := Scalar.remsi arg0 c2_i32
  let c1920_i32_1019 : BitVec 32 := 1920#32
  let c0_i32_1020 : BitVec 32 := 0#32
  ![v2655.toNat, 1920, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== ColIdeal.lean ====
variable {F : FTy → Type} [FloatOps F] [Named F]
def κ : String → Option EReal := fun
  | "scale" => some (((11863283 / 67108864) * (Real.log 2)⁻¹ : ℝ) : EReal)
  | _ => none
-- ==== ReferenceIdeal.lean ====
abbrev S256x16x1x256 : Shape := ⟨4, ![256, 16, 1, 256]⟩
abbrev S256 : Shape := ⟨1, ![256]⟩
abbrev S256x256 : Shape := ⟨2, ![256, 256]⟩
abbrev S256x1024 : Shape := ⟨2, ![256, 1024]⟩
abbrev S1024 : Shape := ⟨1, ![1024]⟩
abbrev S1024x256 : Shape := ⟨2, ![1024, 256]⟩
abbrev S256x16x256 : Shape := ⟨3, ![256, 16, 256]⟩
abbrev S16x256x256 : Shape := ⟨3, ![16, 256, 256]⟩
abbrev S128x256x256 : Shape := ⟨3, ![128, 256, 256]⟩
abbrev S_ : Shape := ⟨0, ![]⟩
abbrev S128x256 : Shape := ⟨2, ![128, 256]⟩
abbrev S128x256x1 : Shape := ⟨3, ![128, 256, 1]⟩
abbrev S1x1x256 : Shape := ⟨3, ![1, 1, 256]⟩
abbrev S128x256x8x32 : Shape := ⟨4, ![128, 256, 8, 32]⟩
abbrev S256x8x128x128 : Shape := ⟨4, ![256, 8, 128, 128]⟩
abbrev S256x8x128 : Shape := ⟨3, ![256, 8, 128]⟩
abbrev S256x8x128x1 : Shape := ⟨4, ![256, 8, 128, 1]⟩
abbrev S256x8x32x128 : Shape := ⟨4, ![256, 8, 32, 128]⟩
abbrev S128x256x1024 : Shape := ⟨3, ![128, 256, 1024]⟩
abbrev S1x1x1024 : Shape := ⟨3, ![1, 1, 1024]⟩

abbrev nBuf : Space → Nat
  | .hbm => 186
  | .vmem => 0
  | .smem => 0
  | _ => 0

abbrev hbmTy0_0 (i : Nat) : BufTy := match i % 128 with
  | 0 => ⟨S256x16x1x256, .f32⟩
  | 1 => ⟨S256x16x1x256, .f32⟩
  | 2 => ⟨S256x16x1x256, .f32⟩
  | 3 => ⟨S256x16x1x256, .f32⟩
  | 4 => ⟨S256x16x1x256, .f32⟩
  | 5 => ⟨S256x16x1x256, .f32⟩
  | 6 => ⟨S256x16x1x256, .f32⟩
  | 7 => ⟨S256x16x1x256, .f32⟩
  | 8 => ⟨S256, .f32⟩
  | 9 => ⟨S256, .f32⟩
  | 10 => ⟨S256x256, .f32⟩
  | 11 => ⟨S256x256, .f32⟩
  | 12 => ⟨S256x256, .f32⟩
  | 13 => ⟨S256x256, .f32⟩
  | 14 => ⟨S256, .f32⟩
  | 15 => ⟨S256x256, .f32⟩
  | 16 => ⟨S256, .f32⟩
  | 17 => ⟨S256, .f32⟩
  | 18 => ⟨S256, .f32⟩
  | 19 => ⟨S256x1024, .f32⟩
  | 20 => ⟨S1024, .f32⟩
  | 21 => ⟨S1024x256, .f32⟩
  | 22 => ⟨S256, .f32⟩
  | 23 => ⟨S256x16x256, .f32⟩
  | 24 => ⟨S16x256x256, .f32⟩
  | 25 => ⟨S256x16x256, .f32⟩
  | 26 => ⟨S16x256x256, .f32⟩
  | 27 => ⟨S256x16x256, .f32⟩
  | 28 => ⟨S16x256x256, .f32⟩
  | 29 => ⟨S256x16x256, .f32⟩
  | 30 => ⟨S16x256x256, .f32⟩
  | 31 => ⟨S256x16x256, .f32⟩
  | 32 => ⟨S16x256x256, .f32⟩
  | 33 => ⟨S256x16x256, .f32⟩
  | 34 => ⟨S16x256x256, .f32⟩
  | 35 => ⟨S256x16x256, .f32⟩
  | 36 => ⟨S16x256x256, .f32⟩
  | 37 => ⟨S256x16x256, .f32⟩
  | 38 => ⟨S16x256x256, .f32⟩
  | 39 => ⟨S128x256x256, .f32⟩
  | 40 => ⟨S_, .f32⟩
  | 41 => ⟨S128x256, .f32⟩
  | 42 => ⟨S128x256x1, .f32⟩
  | 43 => ⟨S_, .f32⟩
  | 44 => ⟨S128x256x1, .f32⟩
  | 45 => ⟨S128x256x1, .f32⟩
  | 46 => ⟨S_, .i32⟩
  | 47 => ⟨S_, .f32⟩
  | 48 => ⟨S128x256, .f32⟩
  | 49 => ⟨S128x256x1, .f32⟩
  | 50 => ⟨S_, .f32⟩
  | 51 => ⟨S128x256x1, .f32⟩
  | 52 => ⟨S128x256x1, .f32⟩
  | 53 => ⟨S128x256x256, .f32⟩
  | 54 => ⟨S128x256x256, .f32⟩
  | 55 => ⟨S128x256x256, .f32⟩
  | 56 => ⟨S_, .f32⟩
  | 57 => ⟨S_, .f32⟩
  | 58 => ⟨S_, .f32⟩
  | 59 => ⟨S_, .f32⟩
  | 60 => ⟨S128x256, .f32⟩
  | 61 => ⟨S128x256x1, .f32⟩
  | 62 => ⟨S128x256x1, .f32⟩
  | 63 => ⟨S128x256x1, .f32⟩
  | 64 => ⟨S_, .f32⟩
  | 65 => ⟨S_, .i1⟩
  | 66 => ⟨S_, .f32⟩
  | 67 => ⟨S_, .f32⟩
  | 68 => ⟨S128x256x1, .f32⟩
  | 69 => ⟨S128x256x1, .f32⟩
  | 70 => ⟨S128x256x256, .f32⟩
  | 71 => ⟨S128x256x256, .f32⟩
  | 72 => ⟨S_, .f32⟩
  | 73 => ⟨S128x256x1, .f32⟩
  | 74 => ⟨S128x256x1, .f32⟩
  | 75 => ⟨S128x256x1, .f32⟩
  | 76 => ⟨S128x256x256, .f32⟩
  | 77 => ⟨S128x256x256, .f32⟩
  | 78 => ⟨S1x1x256, .f32⟩
  | 79 => ⟨S128x256x256, .f32⟩
  | 80 => ⟨S128x256x256, .f32⟩
  | 81 => ⟨S1x1x256, .f32⟩
  | 82 => ⟨S128x256x256, .f32⟩
  | 83 => ⟨S128x256x256, .f32⟩
  | 84 => ⟨S128x256x256, .f32⟩
  | 85 => ⟨S128x256x8x32, .f32⟩
  | 86 => ⟨S_, .f32⟩
  | 87 => ⟨S128x256x8x32, .f32⟩
  | 88 => ⟨S128x256x8x32, .f32⟩
  | 89 => ⟨S128x256x256, .f32⟩
  | 90 => ⟨S128x256x8x32, .f32⟩
  | 91 => ⟨S128x256x256, .f32⟩
  | 92 => ⟨S128x256x8x32, .f32⟩
  | 93 => ⟨S256x8x128x128, .f32⟩
  | 94 => ⟨S_, .f32⟩
  | 95 => ⟨S256x8x128, .f32⟩
  | 96 => ⟨S_, .f32⟩
  | 97 => ⟨S256x8x128, .f32⟩
  | 98 => ⟨S256x8x128, .f32⟩
  | 99 => ⟨S256x8x128x1, .f32⟩
  | 100 => ⟨S256x8x128x128, .f32⟩
  | 101 => ⟨S256x8x128x128, .f32⟩
  | 102 => ⟨S256x8x128x128, .f32⟩
  | 103 => ⟨S_, .f32⟩
  | 104 => ⟨S256x8x128, .f32⟩
  | 105 => ⟨S256x8x128x1, .f32⟩
  | 106 => ⟨S256x8x128x128, .f32⟩
  | 107 => ⟨S256x8x128x128, .f32⟩
  | 108 => ⟨S256x8x32x128, .f32⟩
  | 109 => ⟨S128x256x8x32, .f32⟩
  | 110 => ⟨S128x256x256, .f32⟩
  | 111 => ⟨S1x1x256, .f32⟩
  | 112 => ⟨S128x256x256, .f32⟩
  | 113 => ⟨S128x256x256, .f32⟩
  | 114 => ⟨S128x256x256, .f32⟩
  | 115 => ⟨S128x256x256, .f32⟩
  | 116 => ⟨S_, .f32⟩
  | 117 => ⟨S128x256x256, .f32⟩
  | 118 => ⟨S128x256x256, .f32⟩
  | 119 => ⟨S_, .f32⟩
  | 120 => ⟨S128x256x256, .f32⟩
  | 121 => ⟨S128x256x256, .f32⟩
  | 122 => ⟨S128x256x8x32, .f32⟩
  | 123 => ⟨S128x256x8x32, .f32⟩
  | 124 => ⟨S128x256x256, .f32⟩
  | 125 => ⟨S128x256x256, .f32⟩
  | 126 => ⟨S1x1x256, .f32⟩
  | 127 => ⟨S128x256x256, .f32⟩
  | _ => ⟨S256x16x1x256, .f32⟩

abbrev hbmTy0_1 (i : Nat) : BufTy := match i % 128 with
  | 0 => ⟨S128x256x256, .f32⟩
  | 1 => ⟨S128x256x256, .f32⟩
  | 2 => ⟨S_, .f32⟩
  | 3 => ⟨S128x256, .f32⟩
  | 4 => ⟨S128x256x1, .f32⟩
  | 5 => ⟨S_, .f32⟩
  | 6 => ⟨S128x256x1, .f32⟩
  | 7 => ⟨S128x256x1, .f32⟩
  | 8 => ⟨S_, .i32⟩
  | 9 => ⟨S_, .f32⟩
  | 10 => ⟨S128x256, .f32⟩
  | 11 => ⟨S128x256x1, .f32⟩
  | 12 => ⟨S_, .f32⟩
  | 13 => ⟨S128x256x1, .f32⟩
  | 14 => ⟨S128x256x1, .f32⟩
  | 15 => ⟨S128x256x256, .f32⟩
  | 16 => ⟨S128x256x256, .f32⟩
  | 17 => ⟨S128x256x256, .f32⟩
  | 18 => ⟨S_, .f32⟩
  | 19 => ⟨S_, .f32⟩
  | 20 => ⟨S_, .f32⟩
  | 21 => ⟨S_, .f32⟩
  | 22 => ⟨S128x256, .f32⟩
  | 23 => ⟨S128x256x1, .f32⟩
  | 24 => ⟨S128x256x1, .f32⟩
  | 25 => ⟨S128x256x1, .f32⟩
  | 26 => ⟨S_, .f32⟩
  | 27 => ⟨S_, .i1⟩
  | 28 => ⟨S_, .f32⟩
  | 29 => ⟨S_, .f32⟩
  | 30 => ⟨S128x256x1, .f32⟩
  | 31 => ⟨S128x256x1, .f32⟩
  | 32 => ⟨S128x256x256, .f32⟩
  | 33 => ⟨S128x256x256, .f32⟩
  | 34 => ⟨S_, .f32⟩
  | 35 => ⟨S128x256x1, .f32⟩
  | 36 => ⟨S128x256x1, .f32⟩
  | 37 => ⟨S128x256x1, .f32⟩
  | 38 => ⟨S128x256x256, .f32⟩
  | 39 => ⟨S128x256x256, .f32⟩
  | 40 => ⟨S1x1x256, .f32⟩
  | 41 => ⟨S128x256x256, .f32⟩
  | 42 => ⟨S128x256x256, .f32⟩
  | 43 => ⟨S1x1x256, .f32⟩
  | 44 => ⟨S128x256x256, .f32⟩
  | 45 => ⟨S128x256x256, .f32⟩
  | 46 => ⟨S128x256x1024, .f32⟩
  | 47 => ⟨S1x1x1024, .f32⟩
  | 48 => ⟨S128x256x1024, .f32⟩
  | 49 => ⟨S128x256x1024, .f32⟩
  | 50 => ⟨S_, .f32⟩
  | 51 => ⟨S128x256x1024, .f32⟩
  | 52 => ⟨S128x256x1024, .f32⟩
  | 53 => ⟨S128x256x256, .f32⟩
  | 54 => ⟨S1x1x256, .f32⟩
  | 55 => ⟨S128x256x256, .f32⟩
  | 56 => ⟨S128x256x256, .f32⟩
  | 57 => ⟨S128x256x256, .f32⟩
  | _ => ⟨S256x16x1x256, .f32⟩

abbrev hbmTy (i : Nat) : BufTy := match i / 128 with
  | 0 => hbmTy0_0 i
  | 1 => hbmTy0_1 i
  | _ => ⟨S256x16x1x256, .f32⟩

abbrev bufTy : (tb : Table) → Fin (tcTables nBuf tb) → BufTy
  | .hbm, ⟨i, _⟩ => hbmTy i
  | _, _ => ⟨S256x16x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst : Ref sig .tc := ⟨.hbm, 40, rfl⟩
abbrev main_v17 : Ref sig .tc := ⟨.hbm, 41, rfl⟩
abbrev main_v18 : Ref sig .tc := ⟨.hbm, 42, rfl⟩
abbrev main_cst_0 : Ref sig .tc := ⟨.hbm, 43, rfl⟩
abbrev main_v19 : Ref sig .tc := ⟨.hbm, 44, rfl⟩
abbrev main_v20 : Ref sig .tc := ⟨.hbm, 45, rfl⟩
abbrev main_c : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_cst_3 : Ref sig .tc := ⟨.hbm, 64, rfl⟩
abbrev main_call0_v13 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_cst_1 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_cst_2 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_cst_3 : Ref sig .tc := ⟨.hbm, 94, rfl⟩
abbrev main_v44 : Ref sig .tc := ⟨.hbm, 95, rfl⟩
abbrev main_cst_4 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_cst_5 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_6 : Ref sig .tc := ⟨.hbm, 116, rfl⟩
abbrev main_v63 : Ref sig .tc := ⟨.hbm, 117, rfl⟩
abbrev main_v64 : Ref sig .tc := ⟨.hbm, 118, rfl⟩
abbrev main_cst_7 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_cst_8 : Ref sig .tc := ⟨.hbm, 130, rfl⟩
abbrev main_v75 : Ref sig .tc := ⟨.hbm, 131, rfl⟩
abbrev main_v76 : Ref sig .tc := ⟨.hbm, 132, rfl⟩
abbrev main_cst_9 : Ref sig .tc := ⟨.hbm, 133, rfl⟩
abbrev main_v77 : Ref sig .tc := ⟨.hbm, 134, rfl⟩
abbrev main_v78 : Ref sig .tc := ⟨.hbm, 135, rfl⟩
abbrev main_c_10 : Ref sig .tc := ⟨.hbm, 136, rfl⟩
abbrev main_call1_cst : Ref sig .tc := ⟨.hbm, 137, rfl⟩
abbrev main_call1_v0 : Ref sig .tc := ⟨.hbm, 138, rfl⟩
abbrev main_call1_v1 : Ref sig .tc := ⟨.hbm, 139, rfl⟩
abbrev main_call1_cst_0 : Ref sig .tc := ⟨.hbm, 140, rfl⟩
abbrev main_call1_v2 : Ref sig .tc := ⟨.hbm, 141, rfl⟩
abbrev main_call1_v3 : Ref sig .tc := ⟨.hbm, 142, rfl⟩
abbrev main_call1_v4 : Ref sig .tc := ⟨.hbm, 143, rfl⟩
abbrev main_call1_v5 : Ref sig .tc := ⟨.hbm, 144, rfl⟩
abbrev main_call1_v6 : Ref sig .tc := ⟨.hbm, 145, rfl⟩
abbrev main_call1_v7 : Ref sig .tc := ⟨.hbm, 146, rfl⟩
abbrev main_call1_cst_1 : Ref sig .tc := ⟨.hbm, 147, rfl⟩
abbrev main_call1_v8 : Ref sig .tc := ⟨.hbm, 148, rfl⟩
abbrev main_call1_cst_2 : Ref sig .tc := ⟨.hbm, 149, rfl⟩
abbrev main_call1_v9 : Ref sig .tc := ⟨.hbm, 150, rfl⟩
abbrev main_call1_v10 : Ref sig .tc := ⟨.hbm, 151, rfl⟩
abbrev main_call1_v11 : Ref sig .tc := ⟨.hbm, 152, rfl⟩
abbrev main_call1_v12 : Ref sig .tc := ⟨.hbm, 153, rfl⟩
abbrev main_call1_cst_3 : Ref sig .tc := ⟨.hbm, 154, rfl⟩
abbrev main_call1_v13 : Ref sig .tc := ⟨.hbm, 155, rfl⟩
abbrev main_call1_cst_4 : Ref sig .tc := ⟨.hbm, 156, rfl⟩
abbrev main_call1_call0_v0 : Ref sig .tc := ⟨.hbm, 157, rfl⟩
abbrev main_call1_call0_v1 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_cst_11 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_call2_cst : Ref sig .tc := ⟨.hbm, 178, rfl⟩
abbrev main_call2_v0 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩

abbrev nD : Nat := 1
abbrev τ : Topo := Topo.v7x

variable {F : FTy → Type} [FloatOps F]
-- ==== Row.lean ====
abbrev S128x256x256 : Shape := ⟨3, ![128, 256, 256]⟩
abbrev S256x256x128 : Shape := ⟨3, ![256, 256, 128]⟩
abbrev S256 : Shape := ⟨1, ![256]⟩
abbrev S128 : Shape := ⟨1, ![128]⟩
abbrev S256x256 : Shape := ⟨2, ![256, 256]⟩
abbrev S128x8 : Shape := ⟨2, ![128, 8]⟩
abbrev S1x128 : Shape := ⟨2, ![1, 128]⟩
abbrev S8x128 : Shape := ⟨2, ![8, 128]⟩
abbrev S8x256x256 : Shape := ⟨3, ![8, 256, 256]⟩
abbrev S32x256x128 : Shape := ⟨3, ![32, 256, 128]⟩
abbrev S8x32x256 : Shape := ⟨3, ![8, 32, 256]⟩
abbrev S8192x128 : Shape := ⟨2, ![8192, 128]⟩
abbrev S8192 : Shape := ⟨1, ![8192]⟩
abbrev S8192x1 : Shape := ⟨2, ![8192, 1]⟩
abbrev S8x8192 : Shape := ⟨2, ![8, 8192]⟩
abbrev S8x256 : Shape := ⟨2, ![8, 256]⟩
abbrev S8x1x256 : Shape := ⟨3, ![8, 1, 256]⟩
abbrev S1x256 : Shape := ⟨2, ![1, 256]⟩
abbrev S256x16x1x256 : Shape := ⟨4, ![256, 16, 1, 256]⟩
abbrev S1x256x256 : Shape := ⟨3, ![1, 256, 256]⟩
abbrev S256x1x1x256 : Shape := ⟨4, ![256, 1, 1, 256]⟩
abbrev S2048x256 : Shape := ⟨2, ![2048, 256]⟩
abbrev S2048 : Shape := ⟨1, ![2048]⟩
abbrev S2048x1 : Shape := ⟨2, ![2048, 1]⟩
abbrev S256x32 : Shape := ⟨2, ![256, 32]⟩
abbrev S256x1 : Shape := ⟨2, ![256, 1]⟩

abbrev nBuf : Space → Nat
  | .hbm => 35
  | .vmem => 49
  | .smem => 0
  | _ => 0

abbrev bufTy : (tb : Table) → Fin (tcTables nBuf tb) → BufTy
  | .hbm, ⟨0, _⟩ => ⟨S128x256x256, .f32⟩
  | .hbm, ⟨1, _⟩ => ⟨S256x256x128, .f32⟩
  | .hbm, ⟨2, _⟩ => ⟨S256, .f32⟩
  | .hbm, ⟨3, _⟩ => ⟨S256, .f32⟩
  | .hbm, ⟨4, _⟩ => ⟨S128, .f32⟩
  | .hbm, ⟨5, _⟩ => ⟨S128, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S128x8, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S1x128, .f32⟩
  | .hbm, ⟨15, _⟩ => ⟨S1x128, .f32⟩
  | .hbm, ⟨16, _⟩ => ⟨S8x128, .f32⟩
  | .hbm, ⟨17, _⟩ => ⟨S8x256x256, .f32⟩
  | .hbm, ⟨18, _⟩ => ⟨S1x256, .f32⟩
  | .hbm, ⟨19, _⟩ => ⟨S1x256, .f32⟩
  | .hbm, ⟨20, _⟩ => ⟨S256x256, .bf16⟩
  | .hbm, ⟨21, _⟩ => ⟨S256x256, .bf16⟩
  | .hbm, ⟨22, _⟩ => ⟨S256x256, .bf16⟩
  | .hbm, ⟨23, _⟩ => ⟨S256x256, .bf16⟩
  | .hbm, ⟨24, _⟩ => ⟨S1x256, .f32⟩
  | .hbm, ⟨25, _⟩ => ⟨S256x256, .bf16⟩
  | .hbm, ⟨26, _⟩ => ⟨S1x256, .f32⟩
  | .hbm, ⟨27, _⟩ => ⟨S256x16x1x256, .f32⟩
  | .hbm, ⟨28, _⟩ => ⟨S256x16x1x256, .f32⟩
  | .hbm, ⟨29, _⟩ => ⟨S256x16x1x256, .f32⟩
  | .hbm, ⟨30, _⟩ => ⟨S256x16x1x256, .f32⟩
  | .hbm, ⟨31, _⟩ => ⟨S256x16x1x256, .f32⟩
  | .hbm, ⟨32, _⟩ => ⟨S256x16x1x256, .f32⟩
  | .hbm, ⟨33, _⟩ => ⟨S256x16x1x256, .f32⟩
  | .hbm, ⟨34, _⟩ => ⟨S256x16x1x256, .f32⟩
  | .local _ .vmem, ⟨0, _⟩ => ⟨S32x256x128, .f32⟩
  | .local _ .vmem, ⟨1, _⟩ => ⟨S32x256x128, .f32⟩
  | .local _ .vmem, ⟨2, _⟩ => ⟨S1x128, .f32⟩
  | .local _ .vmem, ⟨3, _⟩ => ⟨S1x128, .f32⟩
  | .local _ .vmem, ⟨4, _⟩ => ⟨S8x128, .f32⟩
  | .local _ .vmem, ⟨5, _⟩ => ⟨S8x32x256, .f32⟩
  | .local _ .vmem, ⟨6, _⟩ => ⟨S8x32x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .vmem, ⟨22, _⟩ => ⟨S1x256x256, .f32⟩
  | .local _ .vmem, ⟨23, _⟩ => ⟨S8x256x256, .f32⟩
  | .local _ .vmem, ⟨24, _⟩ => ⟨S1x256, .f32⟩
  | .local _ .vmem, ⟨25, _⟩ => ⟨S1x256, .f32⟩
  | .local _ .vmem, ⟨26, _⟩ => ⟨S256x256, .bf16⟩
  | .local _ .vmem, ⟨27, _⟩ => ⟨S256x256, .bf16⟩
  | .local _ .vmem, ⟨28, _⟩ => ⟨S256x256, .bf16⟩
  | .local _ .vmem, ⟨29, _⟩ => ⟨S256x256, .bf16⟩
  | .local _ .vmem, ⟨30, _⟩ => ⟨S1x256, .f32⟩
  | .local _ .vmem, ⟨31, _⟩ => ⟨S256x256, .bf16⟩
  | .local _ .vmem, ⟨32, _⟩ => ⟨S1x256, .f32⟩
  | .local _ .vmem, ⟨33, _⟩ => ⟨S256x1x1x256, .f32⟩
  | .local _ .vmem, ⟨34, _⟩ => ⟨S256x1x1x256, .f32⟩
  | .local _ .vmem, ⟨35, _⟩ => ⟨S256x1x1x256, .f32⟩
  | .local _ .vmem, ⟨36, _⟩ => ⟨S256x1x1x256, .f32⟩
  | .local _ .vmem, ⟨37, _⟩ => ⟨S256x1x1x256, .f32⟩
  | .local _ .vmem, ⟨38, _⟩ => ⟨S256x1x1x256, .f32⟩
  | .local _ .vmem, ⟨39, _⟩ => ⟨S256x1x1x256, .f32⟩
  | .local _ .vmem, ⟨40, _⟩ => ⟨S256x1x1x256, .f32⟩
  | .local _ .vmem, ⟨41, _⟩ => ⟨S256x1x1x256, .f32⟩
  | .local _ .vmem, ⟨42, _⟩ => ⟨S256x1x1x256, .f32⟩
  | .local _ .vmem, ⟨43, _⟩ => ⟨S256x1x1x256, .f32⟩
  | .local _ .vmem, ⟨44, _⟩ => ⟨S256x1x1x256, .f32⟩
  | .local _ .vmem, ⟨45, _⟩ => ⟨S256x1x1x256, .f32⟩
  | .local _ .vmem, ⟨46, _⟩ => ⟨S256x1x1x256, .f32⟩
  | .local _ .vmem, ⟨47, _⟩ => ⟨S256x1x1x256, .f32⟩
  | .local _ .vmem, ⟨48, _⟩ => ⟨S256x1x1x256, .f32⟩
  | _, _ => ⟨S128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev main_v13_4 : Ref sig .tc := ⟨.hbm, 31, rfl⟩
abbrev main_v13_5 : Ref sig .tc := ⟨.hbm, 32, rfl⟩
abbrev main_v13_6 : Ref sig .tc := ⟨.hbm, 33, rfl⟩
abbrev main_v13_7 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg14_0 : Ref sig .tc := ⟨.vmem, 29, rfl⟩
abbrev cc1_stg15_0 : Ref sig .tc := ⟨.vmem, 30, rfl⟩
abbrev cc1_stg16_0 : Ref sig .tc := ⟨.vmem, 31, rfl⟩
abbrev cc1_stg17_0 : Ref sig .tc := ⟨.vmem, 32, rfl⟩
abbrev cc1_stg18_0 : Ref sig .tc := ⟨.vmem, 33, rfl⟩
abbrev cc1_stg18_1 : Ref sig .tc := ⟨.vmem, 34, rfl⟩
abbrev cc1_stg19_0 : Ref sig .tc := ⟨.vmem, 35, rfl⟩
abbrev cc1_stg19_1 : Ref sig .tc := ⟨.vmem, 36, rfl⟩
abbrev cc1_stg20_0 : Ref sig .tc := ⟨.vmem, 37, rfl⟩
abbrev cc1_stg20_1 : Ref sig .tc := ⟨.vmem, 38, rfl⟩
abbrev cc1_stg21_0 : Ref sig .tc := ⟨.vmem, 39, rfl⟩
abbrev cc1_stg21_1 : Ref sig .tc := ⟨.vmem, 40, rfl⟩
abbrev cc1_stg22_0 : Ref sig .tc := ⟨.vmem, 41, rfl⟩
abbrev cc1_stg22_1 : Ref sig .tc := ⟨.vmem, 42, rfl⟩
abbrev cc1_stg23_0 : Ref sig .tc := ⟨.vmem, 43, rfl⟩
abbrev cc1_stg23_1 : Ref sig .tc := ⟨.vmem, 44, rfl⟩
abbrev cc1_stg24_0 : Ref sig .tc := ⟨.vmem, 45, rfl⟩
abbrev cc1_stg24_1 : Ref sig .tc := ⟨.vmem, 46, rfl⟩
abbrev cc1_stg25_0 : Ref sig .tc := ⟨.vmem, 47, rfl⟩
abbrev cc1_stg25_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem14_0 : DmaSem sig := 29
abbrev cc1_sem15_0 : DmaSem sig := 30
abbrev cc1_sem16_0 : DmaSem sig := 31
abbrev cc1_sem17_0 : DmaSem sig := 32
abbrev cc1_sem18_0 : DmaSem sig := 33
abbrev cc1_sem18_1 : DmaSem sig := 34
abbrev cc1_sem19_0 : DmaSem sig := 35
abbrev cc1_sem19_1 : DmaSem sig := 36
abbrev cc1_sem20_0 : DmaSem sig := 37
abbrev cc1_sem20_1 : DmaSem sig := 38
abbrev cc1_sem21_0 : DmaSem sig := 39
abbrev cc1_sem21_1 : DmaSem sig := 40
abbrev cc1_sem22_0 : DmaSem sig := 41
abbrev cc1_sem22_1 : DmaSem sig := 42
abbrev cc1_sem23_0 : DmaSem sig := 43
abbrev cc1_sem23_1 : DmaSem sig := 44
abbrev cc1_sem24_0 : DmaSem sig := 45
abbrev cc1_sem24_1 : DmaSem sig := 46
abbrev cc1_sem25_0 : DmaSem sig := 47
abbrev cc1_sem25_1 : DmaSem sig := 48

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc1_transform_1 (i : grid1.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 3 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 3 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  let c0_i32_1 : BitVec 32 := 0#32
  ![v0.toNat, c0_i32.toNat, c0_i32_0.toNat]

def cc1_transform_4 (i : grid1.Coords) : Fin 3 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![v0.toNat, c0_i32.toNat, c0_i32_0.toNat]

def cc1_transform_5 (i : grid1.Coords) : Fin 3 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  let c0_i32_1 : BitVec 32 := 0#32
  ![v0.toNat, c0_i32.toNat, c0_i32_0.toNat]

def cc1_transform_6 (i : grid1.Coords) : Fin 3 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  let c0_i32_1 : BitVec 32 := 0#32
  ![v0.toNat, c0_i32.toNat, c0_i32_0.toNat]

def cc1_transform_7 (i : grid1.Coords) : Fin 3 → Nat :=
  let arg0 : BitVec 32 := BitVec.ofNat 32 (i 0).val
  let c112_i32 : BitVec 32 := 112#32
  let v0 : BitVec 32 := Scalar.addi c112_i32 arg0
  let c0_i32 : BitVec 32 := 0#32
  let c0_i32_0 : BitVec 32 := 0#32
  let c0_i32_1 : BitVec 32 := 0#32
  ![v0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_19 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_20 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_21 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_22 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_23 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_24 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_25 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S1x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S8x256x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x256 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S256x256 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256x256 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S256x256 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S256x256 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x256 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S256x1x1x256 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S256x1x1x256 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S256x1x1x256 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev stage1_21 : Fin 2 → Memref sig .tc .vmem S256x1x1x256 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]

abbrev stage1_22 : Fin 2 → Memref sig .tc .vmem S256x1x1x256 .f32 := fun | 0 => Memref.whole cc1_stg22_0 | 1 => Memref.whole cc1_stg22_1 | ⟨_ + 2, h⟩ => absurd h (Nat.not_lt.2 (Nat.le_add_left _ _))
abbrev sem1_22 : Fin 2 → DmaSem sig := fun | 0 => cc1_sem22_0 | 1 => cc1_sem22_1 | ⟨_ + 2, h⟩ => absurd h (Nat.not_lt.2 (Nat.le_add_left _ _))
abbrev reads1_22 : Fin grid1.rank → Bool := ![true]

abbrev stage1_23 : Fin 2 → Memref sig .tc .vmem S256x1x1x256 .f32 := fun | 0 => Memref.whole cc1_stg23_0 | 1 => Memref.whole cc1_stg23_1 | ⟨_ + 2, h⟩ => absurd h (Nat.not_lt.2 (Nat.le_add_left _ _))
abbrev sem1_23 : Fin 2 → DmaSem sig := fun | 0 => cc1_sem23_0 | 1 => cc1_sem23_1 | ⟨_ + 2, h⟩ => absurd h (Nat.not_lt.2 (Nat.le_add_left _ _))
abbrev reads1_23 : Fin grid1.rank → Bool := ![true]

abbrev stage1_24 : Fin 2 → Memref sig .tc .vmem S256x1x1x256 .f32 := fun | 0 => Memref.whole cc1_stg24_0 | 1 => Memref.whole cc1_stg24_1 | ⟨_ + 2, h⟩ => absurd h (Nat.not_lt.2 (Nat.le_add_left _ _))
abbrev sem1_24 : Fin 2 → DmaSem sig := fun | 0 => cc1_sem24_0 | 1 => cc1_sem24_1 | ⟨_ + 2, h⟩ => absurd h (Nat.not_lt.2 (Nat.le_add_left _ _))
abbrev reads1_24 : Fin grid1.rank → Bool := ![true]

abbrev stage1_25 : Fin 2 → Memref sig .tc .vmem S256x1x1x256 .f32 := fun | 0 => Memref.whole cc1_stg25_0 | 1 => Memref.whole cc1_stg25_1 | ⟨_ + 2, h⟩ => absurd h (Nat.not_lt.2 (Nat.le_add_left _ _))
abbrev sem1_25 : Fin 2 → DmaSem sig := fun | 0 => cc1_sem25_0 | 1 => cc1_sem25_1 | ⟨_ + 2, h⟩ => absurd h (Nat.not_lt.2 (Nat.le_add_left _ _))
abbrev reads1_25 : Fin grid1.rank → Bool := ![true]
-- ==== RowIdeal.lean ====
variable {F : FTy → Type} [FloatOps F] [Named F]
def κ : String → Option EReal := fun
  | "log2e" => some (((Real.log 2)⁻¹ : ℝ) : EReal)
  | "scale" => some (((11863283 / 67108864) * (Real.log 2)⁻¹ : ℝ) : EReal)
  | _ => none
-- ==== RowReferenceIdeal.lean ====
abbrev S128x256x256 : Shape := ⟨3, ![128, 256, 256]⟩
abbrev S256x256x128 : Shape := ⟨3, ![256, 256, 128]⟩
abbrev S256 : Shape := ⟨1, ![256]⟩
abbrev S128 : Shape := ⟨1, ![128]⟩
abbrev S256x256 : Shape := ⟨2, ![256, 256]⟩
abbrev S128x8 : Shape := ⟨2, ![128, 8]⟩
abbrev S_ : Shape := ⟨0, ![]⟩
abbrev S128x256 : Shape := ⟨2, ![128, 256]⟩
abbrev S128x256x1 : Shape := ⟨3, ![128, 256, 1]⟩
abbrev S1x1x256 : Shape := ⟨3, ![1, 1, 256]⟩
abbrev S128x256x8x32 : Shape := ⟨4, ![128, 256, 8, 32]⟩
abbrev S256x256x1 : Shape := ⟨3, ![256, 256, 1]⟩
abbrev S1x1x128 : Shape := ⟨3, ![1, 1, 128]⟩
abbrev S256x256x8 : Shape := ⟨3, ![256, 256, 8]⟩
abbrev S8x256x256 : Shape := ⟨3, ![8, 256, 256]⟩
abbrev S128x8x256x256 : Shape := ⟨4, ![128, 8, 256, 256]⟩
abbrev S1x8x256x256 : Shape := ⟨4, ![1, 8, 256, 256]⟩
abbrev S128x8x256 : Shape := ⟨3, ![128, 8, 256]⟩
abbrev S128x8x256x1 : Shape := ⟨4, ![128, 8, 256, 1]⟩
abbrev S128x8x32x256 : Shape := ⟨4, ![128, 8, 32, 256]⟩
abbrev S16x256x256 : Shape := ⟨3, ![16, 256, 256]⟩
abbrev S256x16x256 : Shape := ⟨3, ![256, 16, 256]⟩
abbrev S256x16x1x256 : Shape := ⟨4, ![256, 16, 1, 256]⟩

abbrev nBuf : Space → Nat
  | .hbm => 177
  | .vmem => 0
  | .smem => 0
  | _ => 0

abbrev hbmTy0_0 (i : Nat) : BufTy := match i % 128 with
  | 0 => ⟨S128x256x256, .f32⟩
  | 1 => ⟨S256x256x128, .f32⟩
  | 2 => ⟨S256, .f32⟩
  | 3 => ⟨S256, .f32⟩
  | 4 => ⟨S128, .f32⟩
  | 5 => ⟨S128, .f32⟩
  | 6 => ⟨S256x256, .f32⟩
  | 7 => ⟨S256x256, .f32⟩
  | 8 => ⟨S256x256, .f32⟩
  | 9 => ⟨S128x8, .f32⟩
  | 10 => ⟨S256x256, .f32⟩
  | 11 => ⟨S256, .f32⟩
  | 12 => ⟨S256x256, .f32⟩
  | 13 => ⟨S256, .f32⟩
  | 14 => ⟨S_, .f32⟩
  | 15 => ⟨S128x256, .f32⟩
  | 16 => ⟨S128x256x1, .f32⟩
  | 17 => ⟨S_, .f32⟩
  | 18 => ⟨S128x256x1, .f32⟩
  | 19 => ⟨S128x256x1, .f32⟩
  | 20 => ⟨S_, .i32⟩
  | 21 => ⟨S_, .f32⟩
  | 22 => ⟨S128x256, .f32⟩
  | 23 => ⟨S128x256x1, .f32⟩
  | 24 => ⟨S_, .f32⟩
  | 25 => ⟨S128x256x1, .f32⟩
  | 26 => ⟨S128x256x1, .f32⟩
  | 27 => ⟨S128x256x256, .f32⟩
  | 28 => ⟨S128x256x256, .f32⟩
  | 29 => ⟨S128x256x256, .f32⟩
  | 30 => ⟨S_, .f32⟩
  | 31 => ⟨S_, .f32⟩
  | 32 => ⟨S_, .f32⟩
  | 33 => ⟨S_, .f32⟩
  | 34 => ⟨S128x256, .f32⟩
  | 35 => ⟨S128x256x1, .f32⟩
  | 36 => ⟨S128x256x1, .f32⟩
  | 37 => ⟨S128x256x1, .f32⟩
  | 38 => ⟨S_, .f32⟩
  | 39 => ⟨S_, .i1⟩
  | 40 => ⟨S_, .f32⟩
  | 41 => ⟨S_, .f32⟩
  | 42 => ⟨S128x256x1, .f32⟩
  | 43 => ⟨S128x256x1, .f32⟩
  | 44 => ⟨S128x256x256, .f32⟩
  | 45 => ⟨S128x256x256, .f32⟩
  | 46 => ⟨S_, .f32⟩
  | 47 => ⟨S128x256x1, .f32⟩
  | 48 => ⟨S128x256x1, .f32⟩
  | 49 => ⟨S128x256x1, .f32⟩
  | 50 => ⟨S128x256x256, .f32⟩
  | 51 => ⟨S128x256x256, .f32⟩
  | 52 => ⟨S1x1x256, .f32⟩
  | 53 => ⟨S128x256x256, .f32⟩
  | 54 => ⟨S128x256x256, .f32⟩
  | 55 => ⟨S1x1x256, .f32⟩
  | 56 => ⟨S128x256x256, .f32⟩
  | 57 => ⟨S128x256x256, .f32⟩
  | 58 => ⟨S128x256x256, .f32⟩
  | 59 => ⟨S128x256x8x32, .f32⟩
  | 60 => ⟨S_, .f32⟩
  | 61 => ⟨S128x256x8x32, .f32⟩
  | 62 => ⟨S128x256x8x32, .f32⟩
  | 63 => ⟨S128x256x256, .f32⟩
  | 64 => ⟨S128x256x8x32, .f32⟩
  | 65 => ⟨S128x256x256, .f32⟩
  | 66 => ⟨S128x256x8x32, .f32⟩
  | 67 => ⟨S_, .f32⟩
  | 68 => ⟨S256x256, .f32⟩
  | 69 => ⟨S256x256x1, .f32⟩
  | 70 => ⟨S_, .f32⟩
  | 71 => ⟨S256x256x1, .f32⟩
  | 72 => ⟨S256x256x1, .f32⟩
  | 73 => ⟨S_, .i32⟩
  | 74 => ⟨S_, .f32⟩
  | 75 => ⟨S256x256, .f32⟩
  | 76 => ⟨S256x256x1, .f32⟩
  | 77 => ⟨S_, .f32⟩
  | 78 => ⟨S256x256x1, .f32⟩
  | 79 => ⟨S256x256x1, .f32⟩
  | 80 => ⟨S256x256x128, .f32⟩
  | 81 => ⟨S256x256x128, .f32⟩
  | 82 => ⟨S256x256x128, .f32⟩
  | 83 => ⟨S_, .f32⟩
  | 84 => ⟨S_, .f32⟩
  | 85 => ⟨S_, .f32⟩
  | 86 => ⟨S_, .f32⟩
  | 87 => ⟨S256x256, .f32⟩
  | 88 => ⟨S256x256x1, .f32⟩
  | 89 => ⟨S256x256x1, .f32⟩
  | 90 => ⟨S256x256x1, .f32⟩
  | 91 => ⟨S_, .f32⟩
  | 92 => ⟨S_, .i1⟩
  | 93 => ⟨S_, .f32⟩
  | 94 => ⟨S_, .f32⟩
  | 95 => ⟨S256x256x1, .f32⟩
  | 96 => ⟨S256x256x1, .f32⟩
  | 97 => ⟨S256x256x128, .f32⟩
  | 98 => ⟨S256x256x128, .f32⟩
  | 99 => ⟨S_, .f32⟩
  | 100 => ⟨S256x256x1, .f32⟩
  | 101 => ⟨S256x256x1, .f32⟩
  | 102 => ⟨S256x256x1, .f32⟩
  | 103 => ⟨S256x256x128, .f32⟩
  | 104 => ⟨S256x256x128, .f32⟩
  | 105 => ⟨S1x1x128, .f32⟩
  | 106 => ⟨S256x256x128, .f32⟩
  | 107 => ⟨S256x256x128, .f32⟩
  | 108 => ⟨S1x1x128, .f32⟩
  | 109 => ⟨S256x256x128, .f32⟩
  | 110 => ⟨S256x256x128, .f32⟩
  | 111 => ⟨S256x256x8, .f32⟩
  | 112 => ⟨S8x256x256, .f32⟩
  | 113 => ⟨S128x8x256x256, .f32⟩
  | 114 => ⟨S1x8x256x256, .f32⟩
  | 115 => ⟨S128x8x256x256, .f32⟩
  | 116 => ⟨S128x8x256x256, .f32⟩
  | 117 => ⟨S_, .f32⟩
  | 118 => ⟨S128x8x256, .f32⟩
  | 119 => ⟨S_, .f32⟩
  | 120 => ⟨S128x8x256, .f32⟩
  | 121 => ⟨S128x8x256, .f32⟩
  | 122 => ⟨S128x8x256x1, .f32⟩
  | 123 => ⟨S128x8x256x256, .f32⟩
  | 124 => ⟨S128x8x256x256, .f32⟩
  | 125 => ⟨S128x8x256x256, .f32⟩
  | 126 => ⟨S_, .f32⟩
  | 127 => ⟨S128x8x256, .f32⟩
  | _ => ⟨S128x256x256, .f32⟩

abbrev hbmTy0_1 (i : Nat) : BufTy := match i % 128 with
  | 0 => ⟨S128x8x256x1, .f32⟩
  | 1 => ⟨S128x8x256x256, .f32⟩
  | 2 => ⟨S128x8x256x256, .f32⟩
  | 3 => ⟨S128x8x32x256, .f32⟩
  | 4 => ⟨S128x256x8x32, .f32⟩
  | 5 => ⟨S128x256x256, .f32⟩
  | 6 => ⟨S1x1x256, .f32⟩
  | 7 => ⟨S128x256x256, .f32⟩
  | 8 => ⟨S128x256x256, .f32⟩
  | 9 => ⟨S128x256x256, .f32⟩
  | 10 => ⟨S128x256x256, .f32⟩
  | 11 => ⟨S_, .f32⟩
  | 12 => ⟨S128x256x256, .f32⟩
  | 13 => ⟨S128x256x256, .f32⟩
  | 14 => ⟨S_, .f32⟩
  | 15 => ⟨S128x256x256, .f32⟩
  | 16 => ⟨S128x256x256, .f32⟩
  | 17 => ⟨S128x256x8x32, .f32⟩
  | 18 => ⟨S128x256x8x32, .f32⟩
  | 19 => ⟨S128x256x256, .f32⟩
  | 20 => ⟨S128x256x256, .f32⟩
  | 21 => ⟨S1x1x256, .f32⟩
  | 22 => ⟨S128x256x256, .f32⟩
  | 23 => ⟨S128x256x256, .f32⟩
  | 24 => ⟨S128x256x256, .f32⟩
  | 25 => ⟨S16x256x256, .f32⟩
  | 26 => ⟨S256x16x256, .f32⟩
  | 27 => ⟨S256x16x1x256, .f32⟩
  | 28 => ⟨S16x256x256, .f32⟩
  | 29 => ⟨S256x16x256, .f32⟩
  | 30 => ⟨S256x16x1x256, .f32⟩
  | 31 => ⟨S16x256x256, .f32⟩
  | 32 => ⟨S256x16x256, .f32⟩
  | 33 => ⟨S256x16x1x256, .f32⟩
  | 34 => ⟨S16x256x256, .f32⟩
  | 35 => ⟨S256x16x256, .f32⟩
  | 36 => ⟨S256x16x1x256, .f32⟩
  | 37 => ⟨S16x256x256, .f32⟩
  | 38 => ⟨S256x16x256, .f32⟩
  | 39 => ⟨S256x16x1x256, .f32⟩
  | 40 => ⟨S16x256x256, .f32⟩
  | 41 => ⟨S256x16x256, .f32⟩
  | 42 => ⟨S256x16x1x256, .f32⟩
  | 43 => ⟨S16x256x256, .f32⟩
  | 44 => ⟨S256x16x256, .f32⟩
  | 45 => ⟨S256x16x1x256, .f32⟩
  | 46 => ⟨S16x256x256, .f32⟩
  | 47 => ⟨S256x16x256, .f32⟩
  | 48 => ⟨S256x16x1x256, .f32⟩
  | _ => ⟨S128x256x256, .f32⟩

abbrev hbmTy (i : Nat) : BufTy := match i / 128 with
  | 0 => hbmTy0_0 i
  | 1 => hbmTy0_1 i
  | _ => ⟨S128x256x256, .f32⟩

abbrev bufTy : (tb : Table) → Fin (tcTables nBuf tb) → BufTy
  | .hbm, ⟨i, _⟩ => hbmTy i
  | _, _ => ⟨S128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_cst_3 : Ref sig .tc := ⟨.hbm, 38, rfl⟩
abbrev main_call0_v13 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_cst_1 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_2 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_3 : Ref sig .tc := ⟨.hbm, 67, rfl⟩
abbrev main_v26 : Ref sig .tc := ⟨.hbm, 68, rfl⟩
abbrev main_v27 : Ref sig .tc := ⟨.hbm, 69, rfl⟩
abbrev main_cst_4 : Ref sig .tc := ⟨.hbm, 70, rfl⟩
abbrev main_v28 : Ref sig .tc := ⟨.hbm, 71, rfl⟩
abbrev main_v29 : Ref sig .tc := ⟨.hbm, 72, rfl⟩
abbrev main_c_5 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_cst_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_cst_1 : Ref sig .tc := ⟨.hbm, 84, rfl⟩
abbrev main_call1_v8 : Ref sig .tc := ⟨.hbm, 85, rfl⟩
abbrev main_call1_cst_2 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_v12 : Ref sig .tc := ⟨.hbm, 90, rfl⟩
abbrev main_call1_cst_3 : Ref sig .tc := ⟨.hbm, 91, rfl⟩
abbrev main_call1_v13 : Ref sig .tc := ⟨.hbm, 92, rfl⟩
abbrev main_call1_cst_4 : Ref sig .tc := ⟨.hbm, 93, rfl⟩
abbrev main_call1_call0_v0 : Ref sig .tc := ⟨.hbm, 94, rfl⟩
abbrev main_call1_call0_v1 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_cst_6 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_cst_7 : Ref sig .tc := ⟨.hbm, 117, rfl⟩
abbrev main_v50 : Ref sig .tc := ⟨.hbm, 118, rfl⟩
abbrev main_cst_8 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_cst_9 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_cst_10 : Ref sig .tc := ⟨.hbm, 139, rfl⟩
abbrev main_v69 : Ref sig .tc := ⟨.hbm, 140, rfl⟩
abbrev main_v70 : Ref sig .tc := ⟨.hbm, 141, rfl⟩
abbrev main_cst_11 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩

abbrev nD : Nat := 1
abbrev τ : Topo := Topo.v7x

variable {F : FTy → Type} [FloatOps F]
-- ==== Proof.ColIdealBody.lean ====
/- The body of the column attention and transition kernel, read as one computation: it loads its operands, computes
   one block `E` of results out of them, and hands the block to the ring of copies (`ring`).  The ring is restated over
   lists of tiles, so that its sixteen waits and sixteen copies are each one recursion. -/
module

public import proofs.«01_k».proof.Proof.Gen.ColIdeal.Skeleton
public import proofs.«01_k».proof.Proof.Gen.ColIdeal.Launch
public import proofs.«01_k».proof.Proof.Gen.ColIdeal.Points

@[expose] public section

set_option maxRecDepth 65536

noncomputable section

namespace Cert.ColIdeal.Body

open Idealize.ShloMosaic Idealize.ShloMosaic.TcCoe Idealize.ShloMosaic.Tactic
open Idealize.SL.Sem
open Cert.ColIdeal Cert.ColIdeal.Gen

variable {F : FTy → Type} [FloatOps F] [Named F]

/-- The slot of the double buffer a step uses: its number modulo two. -/
def slot (i : grid0.Coords) : Fin 2 := ⟨(i 0).val % 2, Nat.mod_lt _ (by decide)⟩

/-- The other slot. -/
def oslot (i : grid0.Coords) : Fin 2 := ⟨((i 0).val + 1) % 2, Nat.mod_lt _ (by decide)⟩

/-- Where the waits of a step that reuses its buffer look: the step's own slot, tile by tile. -/
theorem offs1 : ∀ i : grid0.Coords,
    k0_off1 i = ![(slot i).val, 0] ∧
    k0_off2 i = ![(slot i).val, 0, 0] ∧
    k0_off3 i = ![(slot i).val, 1] ∧
    k0_off4 i = ![(slot i).val, 128, 0] ∧
    k0_off5 i = ![(slot i).val, 2] ∧
    k0_off6 i = ![(slot i).val, 256, 0] ∧
    k0_off7 i = ![(slot i).val, 3] ∧
    k0_off8 i = ![(slot i).val, 384, 0] ∧
    k0_off9 i = ![(slot i).val, 4] ∧
    k0_off10 i = ![(slot i).val, 512, 0] ∧
    k0_off11 i = ![(slot i).val, 5] ∧
    k0_off12 i = ![(slot i).val, 640, 0] ∧
    k0_off13 i = ![(slot i).val, 6] ∧
    k0_off14 i = ![(slot i).val, 768, 0] ∧
    k0_off15 i = ![(slot i).val, 7] ∧
    k0_off16 i = ![(slot i).val, 896, 0] ∧
    k0_off17 i = ![(slot i).val, 8] ∧
    k0_off18 i = ![(slot i).val, 1024, 0] ∧
    k0_off19 i = ![(slot i).val, 9] ∧
    k0_off20 i = ![(slot i).val, 1152, 0] ∧
    k0_off21 i = ![(slot i).val, 10] ∧
    k0_off22 i = ![(slot i).val, 1280, 0] ∧
    k0_off23 i = ![(slot i).val, 11] ∧
    k0_off24 i = ![(slot i).val, 1408, 0] ∧
    k0_off25 i = ![(slot i).val, 12] ∧
    k0_off26 i = ![(slot i).val, 1536, 0] ∧
    k0_off27 i = ![(slot i).val, 13] ∧
    k0_off28 i = ![(slot i).val, 1664, 0] ∧
    k0_off29 i = ![(slot i).val, 14] ∧
    k0_off30 i = ![(slot i).val, 1792, 0] ∧
    k0_off31 i = ![(slot i).val, 15] ∧
    k0_off32 i = ![(slot i).val, 1920, 0] := by
  intro i
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (revert i; decide +kernel)

/-- Where a step stores and where its sixteen copies start and land. -/
theorem offs2 : ∀ i : grid0.Coords,
    k0_off33 i = ![(slot i).val, 0, 0] ∧
    k0_off34 i = ![(slot i).val, 0] ∧
    k0_off36 i = ![(slot i).val, 0, 0] ∧
    k0_off35 i 0#32 = ![0, 16 * (i 0).val + 0, 0] ∧
    k0_off37 i = ![(slot i).val, 1] ∧
    k0_off38 i = ![(slot i).val, 128, 0] ∧
    k0_off35 i 1#32 = ![0, 16 * (i 0).val + 1, 0] ∧
    k0_off39 i = ![(slot i).val, 2] ∧
    k0_off40 i = ![(slot i).val, 256, 0] ∧
    k0_off35 i 2#32 = ![0, 16 * (i 0).val + 2, 0] ∧
    k0_off41 i = ![(slot i).val, 3] ∧
    k0_off42 i = ![(slot i).val, 384, 0] ∧
    k0_off35 i 3#32 = ![0, 16 * (i 0).val + 3, 0] ∧
    k0_off43 i = ![(slot i).val, 4] ∧
    k0_off44 i = ![(slot i).val, 512, 0] ∧
    k0_off35 i 4#32 = ![0, 16 * (i 0).val + 4, 0] ∧
    k0_off45 i = ![(slot i).val, 5] ∧
    k0_off46 i = ![(slot i).val, 640, 0] ∧
    k0_off35 i 5#32 = ![0, 16 * (i 0).val + 5, 0] ∧
    k0_off47 i = ![(slot i).val, 6] ∧
    k0_off48 i = ![(slot i).val, 768, 0] ∧
    k0_off35 i 6#32 = ![0, 16 * (i 0).val + 6, 0] ∧
    k0_off49 i = ![(slot i).val, 7] ∧
    k0_off50 i = ![(slot i).val, 896, 0] ∧
    k0_off35 i 7#32 = ![0, 16 * (i 0).val + 7, 0] ∧
    k0_off51 i = ![(slot i).val, 8] ∧
    k0_off52 i = ![(slot i).val, 1024, 0] ∧
    k0_off35 i 8#32 = ![0, 16 * (i 0).val + 8, 0] ∧
    k0_off53 i = ![(slot i).val, 9] ∧
    k0_off54 i = ![(slot i).val, 1152, 0] ∧
    k0_off35 i 9#32 = ![0, 16 * (i 0).val + 9, 0] ∧
    k0_off55 i = ![(slot i).val, 10] ∧
    k0_off56 i = ![(slot i).val, 1280, 0] ∧
    k0_off35 i 10#32 = ![0, 16 * (i 0).val + 10, 0] ∧
    k0_off57 i = ![(slot i).val, 11] ∧
    k0_off58 i = ![(slot i).val, 1408, 0] ∧
    k0_off35 i 11#32 = ![0, 16 * (i 0).val + 11, 0] ∧
    k0_off59 i = ![(slot i).val, 12] ∧
    k0_off60 i = ![(slot i).val, 1536, 0] ∧
    k0_off35 i 12#32 = ![0, 16 * (i 0).val + 12, 0] ∧
    k0_off61 i = ![(slot i).val, 13] ∧
    k0_off62 i = ![(slot i).val, 1664, 0] ∧
    k0_off35 i 13#32 = ![0, 16 * (i 0).val + 13, 0] ∧
    k0_off63 i = ![(slot i).val, 14] ∧
    k0_off64 i = ![(slot i).val, 1792, 0] ∧
    k0_off35 i 14#32 = ![0, 16 * (i 0).val + 14, 0] ∧
    k0_off65 i = ![(slot i).val, 15] ∧
    k0_off66 i = ![(slot i).val, 1920, 0] ∧
    k0_off35 i 15#32 = ![0, 16 * (i 0).val + 15, 0] := by
  intro i
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (revert i; decide +kernel)

/-- Where the last step's thirty-two waits look: the other slot first, then its own. -/
theorem offs3 : ∀ i : grid0.Coords,
    k0_off67 i = ![(oslot i).val, 0] ∧
    k0_off68 i = ![(oslot i).val, 0, 0] ∧
    k0_off69 i = ![(oslot i).val, 1] ∧
    k0_off70 i = ![(oslot i).val, 128, 0] ∧
    k0_off71 i = ![(oslot i).val, 2] ∧
    k0_off72 i = ![(oslot i).val, 256, 0] ∧
    k0_off73 i = ![(oslot i).val, 3] ∧
    k0_off74 i = ![(oslot i).val, 384, 0] ∧
    k0_off75 i = ![(oslot i).val, 4] ∧
    k0_off76 i = ![(oslot i).val, 512, 0] ∧
    k0_off77 i = ![(oslot i).val, 5] ∧
    k0_off78 i = ![(oslot i).val, 640, 0] ∧
    k0_off79 i = ![(oslot i).val, 6] ∧
    k0_off80 i = ![(oslot i).val, 768, 0] ∧
    k0_off81 i = ![(oslot i).val, 7] ∧
    k0_off82 i = ![(oslot i).val, 896, 0] ∧
    k0_off83 i = ![(oslot i).val, 8] ∧
    k0_off84 i = ![(oslot i).val, 1024, 0] ∧
    k0_off85 i = ![(oslot i).val, 9] ∧
    k0_off86 i = ![(oslot i).val, 1152, 0] ∧
    k0_off87 i = ![(oslot i).val, 10] ∧
    k0_off88 i = ![(oslot i).val, 1280, 0] ∧
    k0_off89 i = ![(oslot i).val, 11] ∧
    k0_off90 i = ![(oslot i).val, 1408, 0] ∧
    k0_off91 i = ![(oslot i).val, 12] ∧
    k0_off92 i = ![(oslot i).val, 1536, 0] ∧
    k0_off93 i = ![(oslot i).val, 13] ∧
    k0_off94 i = ![(oslot i).val, 1664, 0] ∧
    k0_off95 i = ![(oslot i).val, 14] ∧
    k0_off96 i = ![(oslot i).val, 1792, 0] ∧
    k0_off97 i = ![(oslot i).val, 15] ∧
    k0_off98 i = ![(oslot i).val, 1920, 0] ∧
    k0_off99 i = ![(slot i).val, 0] ∧
    k0_off100 i = ![(slot i).val, 0, 0] ∧
    k0_off101 i = ![(slot i).val, 1] ∧
    k0_off102 i = ![(slot i).val, 128, 0] ∧
    k0_off103 i = ![(slot i).val, 2] ∧
    k0_off104 i = ![(slot i).val, 256, 0] ∧
    k0_off105 i = ![(slot i).val, 3] ∧
    k0_off106 i = ![(slot i).val, 384, 0] ∧
    k0_off107 i = ![(slot i).val, 4] ∧
    k0_off108 i = ![(slot i).val, 512, 0] ∧
    k0_off109 i = ![(slot i).val, 5] ∧
    k0_off110 i = ![(slot i).val, 640, 0] ∧
    k0_off111 i = ![(slot i).val, 6] ∧
    k0_off112 i = ![(slot i).val, 768, 0] ∧
    k0_off113 i = ![(slot i).val, 7] ∧
    k0_off114 i = ![(slot i).val, 896, 0] ∧
    k0_off115 i = ![(slot i).val, 8] ∧
    k0_off116 i = ![(slot i).val, 1024, 0] ∧
    k0_off117 i = ![(slot i).val, 9] ∧
    k0_off118 i = ![(slot i).val, 1152, 0] ∧
    k0_off119 i = ![(slot i).val, 10] ∧
    k0_off120 i = ![(slot i).val, 1280, 0] ∧
    k0_off121 i = ![(slot i).val, 11] ∧
    k0_off122 i = ![(slot i).val, 1408, 0] ∧
    k0_off123 i = ![(slot i).val, 12] ∧
    k0_off124 i = ![(slot i).val, 1536, 0] ∧
    k0_off125 i = ![(slot i).val, 13] ∧
    k0_off126 i = ![(slot i).val, 1664, 0] ∧
    k0_off127 i = ![(slot i).val, 14] ∧
    k0_off128 i = ![(slot i).val, 1792, 0] ∧
    k0_off129 i = ![(slot i).val, 15] ∧
    k0_off130 i = ![(slot i).val, 1920, 0] := by
  intro i
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (revert i; decide +kernel)

/-- Cell `(g, j)` lies in the array of semaphores. -/
theorem cell_inb (g : Fin 2) (j : Fin 16) : ∀ a, (![g.val, j.val] : Fin 2 → ℕ) a + S1x1.size a ≤ S2x16.size a := by
  revert g j; decide

/-- Tile `j` of slot `g` lies in the buffer. -/
theorem tile_inb (g : Fin 2) (j : Fin 16) : ∀ a, (![g.val, 128 * j.val, 0] : Fin 3 → ℕ) a + S1x128x256.size a ≤ S2x2048x256.size a := by
  revert g j; decide

/-- Slot `g` lies in the buffer. -/
theorem slot_inb (g : Fin 2) : ∀ a, (![g.val, 0, 0] : Fin 3 → ℕ) a + S1x2048x256.size a ≤ S2x2048x256.size a := by
  revert g; decide

/-- Column `16 u + j` lies in the result. -/
theorem piece_inb (u j : Fin 16) : ∀ a, (![0, 16 * u.val + j.val, 0] : Fin 3 → ℕ) a + S128x1x256.size a ≤ S128x256x256.size a := by
  revert u j; decide

/-- Semaphore `(g, j)`: the copy out of tile `j` of slot `g` signals it. -/
def cellAt (a : DmaSems sig S2x16) (g : Fin 2) (j : Fin 16) : DmaSems sig S_ :=
  (a.slice (Rect.unit (s := S2x16) ![g.val, j.val] S1x1.size (cell_inb g j))).squeeze S_ squeezes_S1x1_S_

/-- Tile `j` of slot `g`: rows `128 j` to `128 j + 127`. -/
def tileAt (a : Memref sig .tc .vmem S2x2048x256 .f32) (g : Fin 2) (j : Fin 16) : Memref sig .tc .vmem S128x256 .f32 :=
  (a.slice (Rect.unit (s := S2x2048x256) ![g.val, 128 * j.val, 0] S1x128x256.size (tile_inb g j)) (fun _ => rfl)).squeeze S128x256 squeezes_S1x128x256_S128x256

/-- Column `16 u + j` of the result: what the copy `j` of step `u` writes. -/
def pieceAt (a : Memref sig .tc .hbm S128x256x256 .f32) (u j : Fin 16) : Memref sig .tc .hbm S128x256 .f32 :=
  (a.slice (Rect.unit (s := S128x256x256) ![0, 16 * u.val + j.val, 0] S128x1x256.size (piece_inb u j)) (fun _ => rfl)).squeeze S128x256 squeezes_S128x1x256_S128x256

/-- Wait for the copies of slot `g`, one per tile of the list. -/
def waits (a24 : Memref sig .tc .hbm S128x256x256 .f32) (a25 : Memref sig .tc .vmem S2x2048x256 .f32) (a26 : DmaSems sig S2x16) (g : Fin 2) :
    List (Fin 16) → Prog (TpuEff nD τ sig (Elt F) Λ₀ .tc) PUnit
  | [] => pure ⟨⟩
  | j :: js => do
    Prog.lift (.waitDma2 (cellAt a26 g j).sem (tileAt a25 g j) (pieceAt a24 0 j) ((View.wordExact_bits rfl).reshape _ _) ((View.wordExact_bits rfl).reshape _ _))
    waits a24 a25 a26 g js

/-- Start step `u`'s copies out of slot `g`, one per tile of the list. -/
def starts (a24 : Memref sig .tc .hbm S128x256x256 .f32) (a25 : Memref sig .tc .vmem S2x2048x256 .f32) (a26 : DmaSems sig S2x16) (g : Fin 2) (u : Fin 16) :
    List (Fin 16) → Prog (TpuEff nD τ sig (Elt F) Λ₀ .tc) PUnit
  | [] => pure ⟨⟩
  | j :: js => do
    Prog.lift (.enqueueDma (tileAt a25 g j) (.here (pieceAt a24 u j)) (.dma (cellAt a26 g j).sem) ((View.wordExact_bits rfl).reshape _ _) ((View.wordExact_bits rfl).reshape _ _) ⟨Or.inl rfl, trivial⟩)
    starts a24 a25 a26 g u js

/-- All sixteen tiles, in order. -/
def all16 : List (Fin 16) := [0, 1, 2, 3, 4, 5, 6, 7, 8, 9, 10, 11, 12, 13, 14, 15]

/-- What a step does with its block `y`: wait for its slot if an earlier step still copies out of it, store the block
    there, start its copies; at the last step wait for every copy still under way. The slot's offset is a parameter. -/
def ringAt (i : grid0.Coords) (a24 : Memref sig .tc .hbm S128x256x256 .f32) (a25 : Memref sig .tc .vmem S2x2048x256 .f32) (a26 : DmaSems sig S2x16)
    (y : FVec F S2048x256 .f32) (o : Fin 3 → ℕ) (p : ∀ a, o a + S1x2048x256.size a ≤ S2x2048x256.size a) : Prog (TpuEff nD τ sig (Elt F) Λ₀ .tc) PUnit := do
  if k0_cond1 i = 1#1 then waits a24 a25 a26 (slot i) all16 else pure ⟨⟩
  let _ ← Prog.lift (.load a25 (Rect.unit (s := S2x2048x256) o S1x2048x256.size p).toLoadRect (View.loadsAt_vmem h_S1x2048x256))
  Prog.lift (.store a25 (Rect.unit (s := S2x2048x256) o S1x2048x256.size p) (k0_pay628 y) Finset.univ (View.stores_vmem_bits_univ h_S1x2048x256 rfl) (.inl rfl))
  starts a24 a25 a26 (slot i) (i 0) all16
  if k0_cond2 i = 1#1 then do
    waits a24 a25 a26 (oslot i) all16
    waits a24 a25 a26 (slot i) all16
  else pure ⟨⟩

/-- What a step does with its block, at its slot. -/
abbrev ring (i : grid0.Coords) (a24 : Memref sig .tc .hbm S128x256x256 .f32) (a25 : Memref sig .tc .vmem S2x2048x256 .f32) (a26 : DmaSems sig S2x16)
    (y : FVec F S2048x256 .f32) : Prog (TpuEff nD τ sig (Elt F) Λ₀ .tc) PUnit :=
  ringAt i a24 a25 a26 y ![(slot i).val, 0, 0] (slot_inb (slot i))

/-- The block a step computes, as the composition of the values the body names. -/
def E (v0 : Vec F S16x16x256 .f32) (v2 : Vec F S16x16x256 .f32) (v4 : Vec F S16x16x256 .f32) (v6 : Vec F S16x16x256 .f32) (v8 : Vec F S16x16x256 .f32) (v10 : Vec F S16x16x256 .f32) (v12 : Vec F S16x16x256 .f32) (v14 : Vec F S16x16x256 .f32) (v18 : Vec F S1x256 .f32) (v20 : Vec F S1x256 .f32) (v43 : Vec F S256x256 .bf16) (v48 : Vec F S256x256 .bf16) (v51 : Vec F S256x256 .bf16) (v54 : Vec F S256x256 .bf16) (v57 : Vec F S1x256 .f32) (v2512 : Vec F S256x256 .bf16) (v2518 : Vec F S256x256 .bf16) (v2524 : Vec F S256x256 .bf16) (v2530 : Vec F S256x256 .bf16) (v2536 : Vec F S256x256 .bf16) (v2542 : Vec F S256x256 .bf16) (v2548 : Vec F S256x256 .bf16) (v2554 : Vec F S256x256 .bf16) (v2560 : Vec F S256x256 .bf16) (v2566 : Vec F S256x256 .bf16) (v2572 : Vec F S256x256 .bf16) (v2578 : Vec F S256x256 .bf16) (v2584 : Vec F S256x256 .bf16) (v2590 : Vec F S256x256 .bf16) (v2596 : Vec F S256x256 .bf16) (v2602 : Vec F S256x256 .bf16) (v2608 : Vec F S1x256 .f32) (v2612 : Vec F S1x256 .f32) (v2614 : Vec F S1x256 .f32) (v2636 : Vec F S256x1024 .bf16) (v2640 : Vec F S1x1024 .f32) (v2646 : Vec F S1024x256 .bf16) (v2651 : Vec F S1x256 .f32) : FVec F S2048x256 .f32 :=
  let v17 := k0_pay1 v0 v2 v4 v6 v8 v10 v12 v14
  let v19 := k0_pay2 v18
  let v21 := k0_pay3 v20
  let v27 := k0_pay4 v0 v2 v4 v6 v8 v10 v12 v14
  let v28 := k0_pay5 v0 v2 v4 v6 v8 v10 v12 v14
  let v47 := k0_pay7 v19 v21 v27 v28 v43
  let v50 := k0_pay8 v19 v21 v27 v28 v48
  let v53 := k0_pay9 v19 v21 v27 v28 v51
  let v61 := k0_pay10 v19 v21 v27 v28 v54 v57
  let v66 := k0_pay11 v19 v21 v27 v28 v43 v48
  let v68 := k0_pay12 v19 v21 v27 v28 v48
  let v69 := k0_pay13 v19 v21 v27 v28 v43
  let v71 := k0_pay14 v68 v69
  let v76 := k0_pay15 v47 v50
  let v81 := k0_pay16 v47 v50
  let v86 := k0_pay17 v47 v50
  let v91 := k0_pay18 v47 v50
  let v96 := k0_pay19 v47 v50
  let v101 := k0_pay20 v47 v50
  let v106 := k0_pay21 v47 v50
  let v111 := k0_pay22 v47 v50
  let v116 := k0_pay23 v47 v50
  let v118 := k0_pay24 v50
  let v119 := k0_pay25 v47
  let v121 := k0_pay26 v118 v119
  let v126 := k0_pay27 v47 v50
  let v131 := k0_pay28 v47 v50
  let v136 := k0_pay29 v47 v50
  let v141 := k0_pay30 v47 v50
  let v146 := k0_pay31 v47 v50
  let v151 := k0_pay32 v47 v50
  let v156 := k0_pay33 v47 v50
  let v161 := k0_pay34 v47 v50
  let v166 := k0_pay35 v47 v50
  let v168 := k0_pay36 v50
  let v169 := k0_pay37 v47
  let v171 := k0_pay38 v168 v169
  let v176 := k0_pay39 v47 v50
  let v181 := k0_pay40 v47 v50
  let v186 := k0_pay41 v47 v50
  let v191 := k0_pay42 v47 v50
  let v196 := k0_pay43 v47 v50
  let v201 := k0_pay44 v47 v50
  let v206 := k0_pay45 v47 v50
  let v211 := k0_pay46 v47 v50
  let v216 := k0_pay47 v47 v50
  let v218 := k0_pay48 v50
  let v219 := k0_pay49 v47
  let v221 := k0_pay50 v218 v219
  let v226 := k0_pay51 v47 v50
  let v231 := k0_pay52 v47 v50
  let v236 := k0_pay53 v47 v50
  let v241 := k0_pay54 v47 v50
  let v246 := k0_pay55 v47 v50
  let v251 := k0_pay56 v47 v50
  let v256 := k0_pay57 v47 v50
  let v261 := k0_pay58 v47 v50
  let v266 := k0_pay59 v47 v50
  let v268 := k0_pay60 v50
  let v269 := k0_pay61 v47
  let v271 := k0_pay62 v268 v269
  let v276 := k0_pay63 v47 v50
  let v281 := k0_pay64 v47 v50
  let v286 := k0_pay65 v47 v50
  let v291 := k0_pay66 v47 v50
  let v296 := k0_pay67 v47 v50
  let v301 := k0_pay68 v47 v50
  let v306 := k0_pay69 v47 v50
  let v311 := k0_pay70 v47 v50
  let v316 := k0_pay71 v47 v50
  let v318 := k0_pay72 v50
  let v319 := k0_pay73 v47
  let v321 := k0_pay74 v318 v319
  let v326 := k0_pay75 v47 v50
  let v331 := k0_pay76 v47 v50
  let v336 := k0_pay77 v47 v50
  let v341 := k0_pay78 v47 v50
  let v346 := k0_pay79 v47 v50
  let v351 := k0_pay80 v47 v50
  let v356 := k0_pay81 v47 v50
  let v361 := k0_pay82 v47 v50
  let v366 := k0_pay83 v47 v50
  let v368 := k0_pay84 v50
  let v369 := k0_pay85 v47
  let v371 := k0_pay86 v368 v369
  let v376 := k0_pay87 v47 v50
  let v381 := k0_pay88 v47 v50
  let v386 := k0_pay89 v47 v50
  let v391 := k0_pay90 v47 v50
  let v396 := k0_pay91 v47 v50
  let v401 := k0_pay92 v47 v50
  let v406 := k0_pay93 v47 v50
  let v411 := k0_pay94 v47 v50
  let v416 := k0_pay95 v47 v50
  let v418 := k0_pay96 v50
  let v419 := k0_pay97 v47
  let v421 := k0_pay98 v418 v419
  let v426 := k0_pay99 v47 v50
  let v431 := k0_pay100 v47 v50
  let v436 := k0_pay101 v47 v50
  let v441 := k0_pay102 v47 v50
  let v446 := k0_pay103 v47 v50
  let v451 := k0_pay104 v47 v50
  let v456 := k0_pay105 v47 v50
  let v461 := k0_pay106 v47 v50
  let v466 := k0_pay107 v47 v50
  let v468 := k0_pay108 v50
  let v469 := k0_pay109 v47
  let v471 := k0_pay110 v468 v469
  let v476 := k0_pay111 v47 v50
  let v481 := k0_pay112 v47 v50
  let v486 := k0_pay113 v47 v50
  let v491 := k0_pay114 v47 v50
  let v496 := k0_pay115 v47 v50
  let v501 := k0_pay116 v47 v50
  let v506 := k0_pay117 v47 v50
  let v511 := k0_pay118 v47 v50
  let v516 := k0_pay119 v47 v50
  let v518 := k0_pay120 v50
  let v519 := k0_pay121 v47
  let v521 := k0_pay122 v518 v519
  let v526 := k0_pay123 v47 v50
  let v531 := k0_pay124 v47 v50
  let v536 := k0_pay125 v47 v50
  let v541 := k0_pay126 v47 v50
  let v546 := k0_pay127 v47 v50
  let v551 := k0_pay128 v47 v50
  let v556 := k0_pay129 v47 v50
  let v561 := k0_pay130 v47 v50
  let v566 := k0_pay131 v47 v50
  let v568 := k0_pay132 v50
  let v569 := k0_pay133 v47
  let v571 := k0_pay134 v568 v569
  let v576 := k0_pay135 v47 v50
  let v581 := k0_pay136 v47 v50
  let v586 := k0_pay137 v47 v50
  let v591 := k0_pay138 v47 v50
  let v596 := k0_pay139 v47 v50
  let v601 := k0_pay140 v47 v50
  let v606 := k0_pay141 v47 v50
  let v611 := k0_pay142 v47 v50
  let v616 := k0_pay143 v47 v50
  let v618 := k0_pay144 v50
  let v619 := k0_pay145 v47
  let v621 := k0_pay146 v618 v619
  let v626 := k0_pay147 v47 v50
  let v631 := k0_pay148 v47 v50
  let v636 := k0_pay149 v47 v50
  let v641 := k0_pay150 v47 v50
  let v646 := k0_pay151 v47 v50
  let v651 := k0_pay152 v47 v50
  let v656 := k0_pay153 v47 v50
  let v661 := k0_pay154 v47 v50
  let v666 := k0_pay155 v47 v50
  let v668 := k0_pay156 v50
  let v669 := k0_pay157 v47
  let v671 := k0_pay158 v668 v669
  let v676 := k0_pay159 v47 v50
  let v681 := k0_pay160 v47 v50
  let v686 := k0_pay161 v47 v50
  let v691 := k0_pay162 v47 v50
  let v696 := k0_pay163 v47 v50
  let v701 := k0_pay164 v47 v50
  let v706 := k0_pay165 v66
  let v711 := k0_pay166 v71
  let v716 := k0_pay167 v76
  let v718 := k0_pay168 v81
  let v721 := k0_pay169 v81 v718
  let v726 := k0_pay170 v86
  let v731 := k0_pay171 v91
  let v736 := k0_pay172 v96
  let v741 := k0_pay173 v101
  let v746 := k0_pay174 v106
  let v751 := k0_pay175 v111
  let v756 := k0_pay176 v116
  let v761 := k0_pay177 v121
  let v766 := k0_pay178 v126
  let v768 := k0_pay179 v131
  let v771 := k0_pay180 v131 v768
  let v776 := k0_pay181 v136
  let v781 := k0_pay182 v141
  let v786 := k0_pay183 v146
  let v791 := k0_pay184 v151
  let v796 := k0_pay185 v156
  let v801 := k0_pay186 v161
  let v806 := k0_pay187 v166
  let v811 := k0_pay188 v171
  let v816 := k0_pay189 v176
  let v818 := k0_pay190 v181
  let v821 := k0_pay191 v181 v818
  let v826 := k0_pay192 v186
  let v831 := k0_pay193 v191
  let v836 := k0_pay194 v196
  let v841 := k0_pay195 v201
  let v846 := k0_pay196 v206
  let v851 := k0_pay197 v211
  let v856 := k0_pay198 v216
  let v861 := k0_pay199 v221
  let v866 := k0_pay200 v226
  let v868 := k0_pay201 v231
  let v871 := k0_pay202 v231 v868
  let v876 := k0_pay203 v236
  let v881 := k0_pay204 v241
  let v886 := k0_pay205 v246
  let v891 := k0_pay206 v251
  let v896 := k0_pay207 v256
  let v901 := k0_pay208 v261
  let v906 := k0_pay209 v266
  let v911 := k0_pay210 v271
  let v916 := k0_pay211 v276
  let v918 := k0_pay212 v281
  let v921 := k0_pay213 v281 v918
  let v926 := k0_pay214 v286
  let v931 := k0_pay215 v291
  let v936 := k0_pay216 v296
  let v941 := k0_pay217 v301
  let v946 := k0_pay218 v306
  let v951 := k0_pay219 v311
  let v956 := k0_pay220 v316
  let v961 := k0_pay221 v321
  let v966 := k0_pay222 v326
  let v968 := k0_pay223 v331
  let v971 := k0_pay224 v331 v968
  let v976 := k0_pay225 v336
  let v981 := k0_pay226 v341
  let v986 := k0_pay227 v346
  let v991 := k0_pay228 v351
  let v996 := k0_pay229 v356
  let v1001 := k0_pay230 v361
  let v1006 := k0_pay231 v366
  let v1011 := k0_pay232 v371
  let v1016 := k0_pay233 v376
  let v1018 := k0_pay234 v381
  let v1021 := k0_pay235 v381 v1018
  let v1026 := k0_pay236 v386
  let v1031 := k0_pay237 v391
  let v1036 := k0_pay238 v396
  let v1041 := k0_pay239 v401
  let v1046 := k0_pay240 v406
  let v1051 := k0_pay241 v411
  let v1056 := k0_pay242 v416
  let v1061 := k0_pay243 v421
  let v1066 := k0_pay244 v426
  let v1068 := k0_pay245 v431
  let v1071 := k0_pay246 v431 v1068
  let v1076 := k0_pay247 v436
  let v1081 := k0_pay248 v441
  let v1086 := k0_pay249 v446
  let v1091 := k0_pay250 v451
  let v1096 := k0_pay251 v456
  let v1101 := k0_pay252 v461
  let v1106 := k0_pay253 v466
  let v1111 := k0_pay254 v471
  let v1116 := k0_pay255 v476
  let v1118 := k0_pay256 v481
  let v1121 := k0_pay257 v481 v1118
  let v1126 := k0_pay258 v486
  let v1131 := k0_pay259 v491
  let v1136 := k0_pay260 v496
  let v1141 := k0_pay261 v501
  let v1146 := k0_pay262 v506
  let v1151 := k0_pay263 v511
  let v1156 := k0_pay264 v516
  let v1161 := k0_pay265 v521
  let v1166 := k0_pay266 v526
  let v1168 := k0_pay267 v531
  let v1171 := k0_pay268 v531 v1168
  let v1176 := k0_pay269 v536
  let v1181 := k0_pay270 v541
  let v1186 := k0_pay271 v546
  let v1191 := k0_pay272 v551
  let v1196 := k0_pay273 v556
  let v1201 := k0_pay274 v561
  let v1206 := k0_pay275 v566
  let v1211 := k0_pay276 v571
  let v1216 := k0_pay277 v576
  let v1218 := k0_pay278 v581
  let v1221 := k0_pay279 v581 v1218
  let v1226 := k0_pay280 v586
  let v1231 := k0_pay281 v591
  let v1236 := k0_pay282 v596
  let v1241 := k0_pay283 v601
  let v1246 := k0_pay284 v606
  let v1251 := k0_pay285 v611
  let v1256 := k0_pay286 v616
  let v1261 := k0_pay287 v621
  let v1266 := k0_pay288 v626
  let v1268 := k0_pay289 v631
  let v1271 := k0_pay290 v631 v1268
  let v1276 := k0_pay291 v636
  let v1281 := k0_pay292 v641
  let v1286 := k0_pay293 v646
  let v1291 := k0_pay294 v651
  let v1296 := k0_pay295 v656
  let v1301 := k0_pay296 v661
  let v1306 := k0_pay297 v666
  let v1311 := k0_pay298 v671
  let v1316 := k0_pay299 v676
  let v1318 := k0_pay300 v681
  let v1321 := k0_pay301 v681 v1318
  let v1326 := k0_pay302 v686
  let v1331 := k0_pay303 v691
  let v1336 := k0_pay304 v696
  let v1341 := k0_pay305 v701
  let v1345 := k0_pay306 v706
  let v1349 := k0_pay307 v711
  let v1353 := k0_pay308 v716
  let v1357 := k0_pay309 v721
  let v1361 := k0_pay310 v726
  let v1363 := k0_pay311 v731
  let v1365 := k0_pay312 v1363
  let v1369 := k0_pay313 v736
  let v1373 := k0_pay314 v741
  let v1377 := k0_pay315 v746
  let v1381 := k0_pay316 v751
  let v1385 := k0_pay317 v756
  let v1389 := k0_pay318 v761
  let v1393 := k0_pay319 v766
  let v1397 := k0_pay320 v771
  let v1401 := k0_pay321 v776
  let v1403 := k0_pay322 v781
  let v1405 := k0_pay323 v1403
  let v1409 := k0_pay324 v786
  let v1413 := k0_pay325 v791
  let v1417 := k0_pay326 v796
  let v1421 := k0_pay327 v801
  let v1425 := k0_pay328 v806
  let v1429 := k0_pay329 v811
  let v1433 := k0_pay330 v816
  let v1437 := k0_pay331 v821
  let v1441 := k0_pay332 v826
  let v1443 := k0_pay333 v831
  let v1445 := k0_pay334 v1443
  let v1449 := k0_pay335 v836
  let v1453 := k0_pay336 v841
  let v1457 := k0_pay337 v846
  let v1461 := k0_pay338 v851
  let v1465 := k0_pay339 v856
  let v1469 := k0_pay340 v861
  let v1473 := k0_pay341 v866
  let v1477 := k0_pay342 v871
  let v1481 := k0_pay343 v876
  let v1483 := k0_pay344 v881
  let v1485 := k0_pay345 v1483
  let v1489 := k0_pay346 v886
  let v1493 := k0_pay347 v891
  let v1497 := k0_pay348 v896
  let v1501 := k0_pay349 v901
  let v1505 := k0_pay350 v906
  let v1509 := k0_pay351 v911
  let v1513 := k0_pay352 v916
  let v1517 := k0_pay353 v921
  let v1521 := k0_pay354 v926
  let v1523 := k0_pay355 v931
  let v1525 := k0_pay356 v1523
  let v1529 := k0_pay357 v936
  let v1533 := k0_pay358 v941
  let v1537 := k0_pay359 v946
  let v1541 := k0_pay360 v951
  let v1545 := k0_pay361 v956
  let v1549 := k0_pay362 v961
  let v1553 := k0_pay363 v966
  let v1557 := k0_pay364 v971
  let v1561 := k0_pay365 v976
  let v1563 := k0_pay366 v981
  let v1565 := k0_pay367 v1563
  let v1569 := k0_pay368 v986
  let v1573 := k0_pay369 v991
  let v1577 := k0_pay370 v996
  let v1581 := k0_pay371 v1001
  let v1585 := k0_pay372 v1006
  let v1589 := k0_pay373 v1011
  let v1593 := k0_pay374 v1016
  let v1597 := k0_pay375 v1021
  let v1601 := k0_pay376 v1026
  let v1603 := k0_pay377 v1031
  let v1605 := k0_pay378 v1603
  let v1609 := k0_pay379 v1036
  let v1613 := k0_pay380 v1041
  let v1617 := k0_pay381 v1046
  let v1621 := k0_pay382 v1051
  let v1625 := k0_pay383 v1056
  let v1629 := k0_pay384 v1061
  let v1633 := k0_pay385 v1066
  let v1637 := k0_pay386 v1071
  let v1641 := k0_pay387 v1076
  let v1643 := k0_pay388 v1081
  let v1645 := k0_pay389 v1643
  let v1649 := k0_pay390 v1086
  let v1653 := k0_pay391 v1091
  let v1657 := k0_pay392 v1096
  let v1661 := k0_pay393 v1101
  let v1665 := k0_pay394 v1106
  let v1669 := k0_pay395 v1111
  let v1673 := k0_pay396 v1116
  let v1677 := k0_pay397 v1121
  let v1681 := k0_pay398 v1126
  let v1683 := k0_pay399 v1131
  let v1685 := k0_pay400 v1683
  let v1689 := k0_pay401 v1136
  let v1693 := k0_pay402 v1141
  let v1697 := k0_pay403 v1146
  let v1701 := k0_pay404 v1151
  let v1705 := k0_pay405 v1156
  let v1709 := k0_pay406 v1161
  let v1713 := k0_pay407 v1166
  let v1717 := k0_pay408 v1171
  let v1721 := k0_pay409 v1176
  let v1723 := k0_pay410 v1181
  let v1725 := k0_pay411 v1723
  let v1729 := k0_pay412 v1186
  let v1733 := k0_pay413 v1191
  let v1737 := k0_pay414 v1196
  let v1741 := k0_pay415 v1201
  let v1745 := k0_pay416 v1206
  let v1749 := k0_pay417 v1211
  let v1753 := k0_pay418 v1216
  let v1757 := k0_pay419 v1221
  let v1761 := k0_pay420 v1226
  let v1763 := k0_pay421 v1231
  let v1765 := k0_pay422 v1763
  let v1769 := k0_pay423 v1236
  let v1773 := k0_pay424 v1241
  let v1777 := k0_pay425 v1246
  let v1781 := k0_pay426 v1251
  let v1785 := k0_pay427 v1256
  let v1789 := k0_pay428 v1261
  let v1793 := k0_pay429 v1266
  let v1797 := k0_pay430 v1271
  let v1801 := k0_pay431 v1276
  let v1803 := k0_pay432 v1281
  let v1805 := k0_pay433 v1803
  let v1809 := k0_pay434 v1286
  let v1813 := k0_pay435 v1291
  let v1817 := k0_pay436 v1296
  let v1821 := k0_pay437 v1301
  let v1825 := k0_pay438 v1306
  let v1829 := k0_pay439 v1311
  let v1833 := k0_pay440 v1316
  let v1837 := k0_pay441 v1321
  let v1841 := k0_pay442 v1326
  let v1843 := k0_pay443 v1331
  let v1845 := k0_pay444 v1843
  let v1849 := k0_pay445 v1336
  let v1853 := k0_pay446 v1341
  let v1858 := k0_pay447 v53 v706 v1345
  let v1863 := k0_pay448 v53 v711 v1349
  let v1868 := k0_pay449 v53 v716 v1353
  let v1873 := k0_pay450 v53 v721 v1357
  let v1878 := k0_pay451 v53 v726 v1361
  let v1883 := k0_pay452 v53 v731 v1365
  let v1888 := k0_pay453 v53 v736 v1369
  let v1889 := k0_pay454 v53
  let v1890 := k0_pay455 v741
  let cst_565 := constant S128x32 .f32 0x00000000#32
  let v1893 := k0_pay456 v1373 v1889 v1890 cst_565
  let v1898 := k0_pay457 v53 v746 v1377
  let v1903 := k0_pay458 v53 v751 v1381
  let v1908 := k0_pay459 v53 v756 v1385
  let v1913 := k0_pay460 v53 v761 v1389
  let v1918 := k0_pay461 v53 v766 v1393
  let v1923 := k0_pay462 v53 v771 v1397
  let v1928 := k0_pay463 v53 v776 v1401
  let v1933 := k0_pay464 v53 v781 v1405
  let v1938 := k0_pay465 v53 v786 v1409
  let v1939 := k0_pay466 v53
  let v1940 := k0_pay467 v791
  let cst_575 := constant S128x32 .f32 0x00000000#32
  let v1943 := k0_pay468 v1413 v1939 v1940 cst_575
  let v1948 := k0_pay469 v53 v796 v1417
  let v1953 := k0_pay470 v53 v801 v1421
  let v1958 := k0_pay471 v53 v806 v1425
  let v1963 := k0_pay472 v53 v811 v1429
  let v1968 := k0_pay473 v53 v816 v1433
  let v1973 := k0_pay474 v53 v821 v1437
  let v1978 := k0_pay475 v53 v826 v1441
  let v1983 := k0_pay476 v53 v831 v1445
  let v1988 := k0_pay477 v53 v836 v1449
  let v1989 := k0_pay478 v53
  let v1990 := k0_pay479 v841
  let cst_585 := constant S128x32 .f32 0x00000000#32
  let v1993 := k0_pay480 v1453 v1989 v1990 cst_585
  let v1998 := k0_pay481 v53 v846 v1457
  let v2003 := k0_pay482 v53 v851 v1461
  let v2008 := k0_pay483 v53 v856 v1465
  let v2013 := k0_pay484 v53 v861 v1469
  let v2018 := k0_pay485 v53 v866 v1473
  let v2023 := k0_pay486 v53 v871 v1477
  let v2028 := k0_pay487 v53 v876 v1481
  let v2033 := k0_pay488 v53 v881 v1485
  let v2038 := k0_pay489 v53 v886 v1489
  let v2039 := k0_pay490 v53
  let v2040 := k0_pay491 v891
  let cst_595 := constant S128x32 .f32 0x00000000#32
  let v2043 := k0_pay492 v1493 v2039 v2040 cst_595
  let v2048 := k0_pay493 v53 v896 v1497
  let v2053 := k0_pay494 v53 v901 v1501
  let v2058 := k0_pay495 v53 v906 v1505
  let v2063 := k0_pay496 v53 v911 v1509
  let v2068 := k0_pay497 v53 v916 v1513
  let v2073 := k0_pay498 v53 v921 v1517
  let v2078 := k0_pay499 v53 v926 v1521
  let v2083 := k0_pay500 v53 v931 v1525
  let v2088 := k0_pay501 v53 v936 v1529
  let v2089 := k0_pay502 v53
  let v2090 := k0_pay503 v941
  let cst_605 := constant S128x32 .f32 0x00000000#32
  let v2093 := k0_pay504 v1533 v2089 v2090 cst_605
  let v2098 := k0_pay505 v53 v946 v1537
  let v2103 := k0_pay506 v53 v951 v1541
  let v2108 := k0_pay507 v53 v956 v1545
  let v2113 := k0_pay508 v53 v961 v1549
  let v2118 := k0_pay509 v53 v966 v1553
  let v2123 := k0_pay510 v53 v971 v1557
  let v2128 := k0_pay511 v53 v976 v1561
  let v2133 := k0_pay512 v53 v981 v1565
  let v2138 := k0_pay513 v53 v986 v1569
  let v2139 := k0_pay514 v53
  let v2140 := k0_pay515 v991
  let cst_615 := constant S128x32 .f32 0x00000000#32
  let v2143 := k0_pay516 v1573 v2139 v2140 cst_615
  let v2148 := k0_pay517 v53 v996 v1577
  let v2153 := k0_pay518 v53 v1001 v1581
  let v2158 := k0_pay519 v53 v1006 v1585
  let v2163 := k0_pay520 v53 v1011 v1589
  let v2168 := k0_pay521 v53 v1016 v1593
  let v2173 := k0_pay522 v53 v1021 v1597
  let v2178 := k0_pay523 v53 v1026 v1601
  let v2183 := k0_pay524 v53 v1031 v1605
  let v2188 := k0_pay525 v53 v1036 v1609
  let v2189 := k0_pay526 v53
  let v2190 := k0_pay527 v1041
  let cst_625 := constant S128x32 .f32 0x00000000#32
  let v2193 := k0_pay528 v1613 v2189 v2190 cst_625
  let v2198 := k0_pay529 v53 v1046 v1617
  let v2203 := k0_pay530 v53 v1051 v1621
  let v2208 := k0_pay531 v53 v1056 v1625
  let v2213 := k0_pay532 v53 v1061 v1629
  let v2218 := k0_pay533 v53 v1066 v1633
  let v2223 := k0_pay534 v53 v1071 v1637
  let v2228 := k0_pay535 v53 v1076 v1641
  let v2233 := k0_pay536 v53 v1081 v1645
  let v2238 := k0_pay537 v53 v1086 v1649
  let v2239 := k0_pay538 v53
  let v2240 := k0_pay539 v1091
  let cst_635 := constant S128x32 .f32 0x00000000#32
  let v2243 := k0_pay540 v1653 v2239 v2240 cst_635
  let v2248 := k0_pay541 v53 v1096 v1657
  let v2253 := k0_pay542 v53 v1101 v1661
  let v2258 := k0_pay543 v53 v1106 v1665
  let v2263 := k0_pay544 v53 v1111 v1669
  let v2268 := k0_pay545 v53 v1116 v1673
  let v2273 := k0_pay546 v53 v1121 v1677
  let v2278 := k0_pay547 v53 v1126 v1681
  let v2283 := k0_pay548 v53 v1131 v1685
  let v2288 := k0_pay549 v53 v1136 v1689
  let v2289 := k0_pay550 v53
  let v2290 := k0_pay551 v1141
  let cst_645 := constant S128x32 .f32 0x00000000#32
  let v2293 := k0_pay552 v1693 v2289 v2290 cst_645
  let v2298 := k0_pay553 v53 v1146 v1697
  let v2303 := k0_pay554 v53 v1151 v1701
  let v2308 := k0_pay555 v53 v1156 v1705
  let v2313 := k0_pay556 v53 v1161 v1709
  let v2318 := k0_pay557 v53 v1166 v1713
  let v2323 := k0_pay558 v53 v1171 v1717
  let v2328 := k0_pay559 v53 v1176 v1721
  let v2333 := k0_pay560 v53 v1181 v1725
  let v2338 := k0_pay561 v53 v1186 v1729
  let v2339 := k0_pay562 v53
  let v2340 := k0_pay563 v1191
  let cst_655 := constant S128x32 .f32 0x00000000#32
  let v2343 := k0_pay564 v1733 v2339 v2340 cst_655
  let v2348 := k0_pay565 v53 v1196 v1737
  let v2353 := k0_pay566 v53 v1201 v1741
  let v2358 := k0_pay567 v53 v1206 v1745
  let v2363 := k0_pay568 v53 v1211 v1749
  let v2368 := k0_pay569 v53 v1216 v1753
  let v2373 := k0_pay570 v53 v1221 v1757
  let v2378 := k0_pay571 v53 v1226 v1761
  let v2383 := k0_pay572 v53 v1231 v1765
  let v2388 := k0_pay573 v53 v1236 v1769
  let v2389 := k0_pay574 v53
  let v2390 := k0_pay575 v1241
  let cst_665 := constant S128x32 .f32 0x00000000#32
  let v2393 := k0_pay576 v1773 v2389 v2390 cst_665
  let v2398 := k0_pay577 v53 v1246 v1777
  let v2403 := k0_pay578 v53 v1251 v1781
  let v2408 := k0_pay579 v53 v1256 v1785
  let v2413 := k0_pay580 v53 v1261 v1789
  let v2418 := k0_pay581 v53 v1266 v1793
  let v2423 := k0_pay582 v53 v1271 v1797
  let v2428 := k0_pay583 v53 v1276 v1801
  let v2433 := k0_pay584 v53 v1281 v1805
  let v2438 := k0_pay585 v53 v1286 v1809
  let v2439 := k0_pay586 v53
  let v2440 := k0_pay587 v1291
  let cst_675 := constant S128x32 .f32 0x00000000#32
  let v2443 := k0_pay588 v1813 v2439 v2440 cst_675
  let v2448 := k0_pay589 v53 v1296 v1817
  let v2453 := k0_pay590 v53 v1301 v1821
  let v2458 := k0_pay591 v53 v1306 v1825
  let v2463 := k0_pay592 v53 v1311 v1829
  let v2468 := k0_pay593 v53 v1316 v1833
  let v2473 := k0_pay594 v53 v1321 v1837
  let v2478 := k0_pay595 v53 v1326 v1841
  let v2483 := k0_pay596 v53 v1331 v1845
  let v2488 := k0_pay597 v53 v1336 v1849
  let v2489 := k0_pay598 v53
  let v2490 := k0_pay599 v1341
  let cst_685 := constant S128x32 .f32 0x00000000#32
  let v2499 := k0_pay600 v2058 v2063 v2068 v2073 v2078 v2083 v2088 v2093
  let v2500 := k0_pay601 v2098 v2103 v2108 v2113 v2118 v2123 v2128 v2133
  let v2501 := k0_pay602 v2138 v2143 v2148 v2153 v2158 v2163 v2168 v2173
  let v2502 := k0_pay603 v2178 v2183 v2188 v2193 v2198 v2203 v2208 v2213
  let v2503 := k0_pay604 v2218 v2223 v2228 v2233 v2238 v2243 v2248 v2253
  let v2504 := k0_pay605 v2258 v2263 v2268 v2273 v2278 v2283 v2288 v2293
  let v2505 := k0_pay606 v2298 v2303 v2308 v2313 v2318 v2323 v2328 v2333
  let v2506 := k0_pay607 v2338 v2343 v2348 v2353 v2358 v2363 v2368 v2373
  let v2507 := k0_pay608 v2378 v2383 v2388 v2393 v2398 v2403 v2408 v2413
  let v2508 := k0_pay609 v2418 v2423 v2428 v2433 v2438 v2443 v2448 v2453
  let v2509 := k0_pay610 v1853 v2458 v2463 v2468 v2473 v2478 v2483 v2488 v2489 v2490 cst_685
  let v2515 := k0_pay611 v61 v1858 v1863 v1868 v1873 v1878 v1883 v1888 v1893 v2512
  let v2521 := k0_pay612 v61 v1898 v1903 v1908 v1913 v1918 v1923 v1928 v1933 v2518
  let v2527 := k0_pay613 v61 v1938 v1943 v1948 v1953 v1958 v1963 v1968 v1973 v2524
  let v2533 := k0_pay614 v61 v1978 v1983 v1988 v1993 v1998 v2003 v2008 v2013 v2530
  let v2535 := k0_pay615 v61 v2018 v2023 v2028 v2033 v2038 v2043 v2048 v2053
  let v2539 := k0_pay616 v2535 v2536
  let v2545 := k0_pay617 v61 v2499 v2542
  let v2551 := k0_pay618 v61 v2500 v2548
  let v2557 := k0_pay619 v61 v2501 v2554
  let v2563 := k0_pay620 v61 v2502 v2560
  let v2569 := k0_pay621 v61 v2503 v2566
  let v2575 := k0_pay622 v61 v2504 v2572
  let v2577 := k0_pay623 v61 v2505
  let v2611 := k0_pay624 v17 v61 v2506 v2507 v2508 v2509 v2515 v2521 v2527 v2533 v2539 v2545 v2551 v2557 v2563 v2569 v2575 v2577 v2578 v2584 v2590 v2596 v2602 v2608
  let v2613 := k0_pay625 v2612
  let v2615 := k0_pay626 v2614
  let v2654 := k0_pay627 v2611 v2613 v2615 v2636 v2640 v2646 v2651
  v2654

/-- The rest of a step, once its block is computed, as the body spells it. -/
def tail (i : grid0.Coords) (arg1 : Memref sig .tc .vmem S16x16x256 .f32) (harg1 : arg1.IsWhole) (arg2 : Memref sig .tc .vmem S16x16x256 .f32) (harg2 : arg2.IsWhole) (arg3 : Memref sig .tc .vmem S16x16x256 .f32) (harg3 : arg3.IsWhole) (arg4 : Memref sig .tc .vmem S16x16x256 .f32) (harg4 : arg4.IsWhole) (arg5 : Memref sig .tc .vmem S16x16x256 .f32) (harg5 : arg5.IsWhole) (arg6 : Memref sig .tc .vmem S16x16x256 .f32) (harg6 : arg6.IsWhole) (arg7 : Memref sig .tc .vmem S16x16x256 .f32) (harg7 : arg7.IsWhole) (arg8 : Memref sig .tc .vmem S16x16x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S1x256 .f32) (harg15 : arg15.IsWhole) (arg16 : Memref sig .tc .vmem S256x256 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S1x256 .f32) (harg19 : arg19.IsWhole) (arg20 : Memref sig .tc .vmem S256x1024 .bf16) (harg20 : arg20.IsWhole) (arg21 : Memref sig .tc .vmem S1x1024 .f32) (harg21 : arg21.IsWhole) (arg22 : Memref sig .tc .vmem S1024x256 .bf16) (harg22 : arg22.IsWhole) (arg23 : Memref sig .tc .vmem S1x256 .f32) (harg23 : arg23.IsWhole) (arg24 : Memref sig .tc .hbm S128x256x256 .f32) (harg24 : arg24.IsWhole) (arg25 : Memref sig .tc .vmem S2x2048x256 .f32) (harg25 : arg25.IsWhole) (arg26 : DmaSems sig S2x16) (v2654 : FVec F S2048x256 .f32) : Prog (TpuEff nD τ sig (Elt F) Λ₀ .tc) PUnit := do
  let arg0 : BitVec 32 := BitVec.ofNat 32 (i 0).val
  let v2655 : BitVec 32 := Scalar.remsi arg0 2#32
  let v2656 : BitVec 1 := Scalar.cmpi .sge arg0 2#32
  let v2657 : BitVec 32 := Scalar.extui v2656
  let ⟨arg0, v2655, v2663, c12⟩ : Σ' (arg0 : BitVec 32) (v2655 : BitVec 32) (v2663 : BitVec 32), BitVec 32 ← (do
    let v2663 ← k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg0 v2654 v2655 v2657 0#32
    k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v2663
    let c12 ← k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v2663
    pure ⟨arg0, v2655, v2663, c12⟩)
  k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg0 v2663 c12
  if k0_h2 : k0_cond2 i = 1#1 then do
    k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 v2655 k0_h2
    let v2970 : Memref sig .tc .vmem S1x128x256 .f32 := arg25.slice (Rect.unit (s := S2x2048x256) (k0_off130 i) S1x128x256.size (k0_off130_inb i k0_h2)) (fun _ => rfl)
    let v2971 : Memref sig .tc .vmem S128x256 .f32 := v2970.squeeze S128x256 squeezes_S1x128x256_S128x256
    let v2966 : DmaSems sig S1x1 := arg26.slice (Rect.unit (s := S2x16) (k0_off129 i) S1x1.size (k0_off129_inb i k0_h2))
    let v2967 : DmaSems sig S_ := v2966.squeeze S_ squeezes_S1x1_S_
    let v2968 : Memref sig .tc .hbm S128x1x256 .f32 := arg24.slice (Rect.unit (s := S128x256x256) ![0, 15, 0] S128x1x256.size inb_S128x256x256_S128x1x256_0_15_0) (fun _ => rfl)
    let v2969 : Memref sig .tc .hbm S128x256 .f32 := v2968.squeeze S128x256 squeezes_S128x1x256_S128x256
    Prog.lift (.waitDma2 v2967.sem v2971 v2969 ((View.wordExact_bits rfl).reshape _ _) ((View.wordExact_bits rfl).reshape _ _))
    pure ⟨⟩
  else do
    pure ⟨⟩
  pure ⟨⟩

/-- The body: the loads, then the rest of the step over the block. -/
theorem skel_eq (i : grid0.Coords) (arg1 : Memref sig .tc .vmem S16x16x256 .f32) (harg1 : arg1.IsWhole) (arg2 : Memref sig .tc .vmem S16x16x256 .f32) (harg2 : arg2.IsWhole) (arg3 : Memref sig .tc .vmem S16x16x256 .f32) (harg3 : arg3.IsWhole) (arg4 : Memref sig .tc .vmem S16x16x256 .f32) (harg4 : arg4.IsWhole) (arg5 : Memref sig .tc .vmem S16x16x256 .f32) (harg5 : arg5.IsWhole) (arg6 : Memref sig .tc .vmem S16x16x256 .f32) (harg6 : arg6.IsWhole) (arg7 : Memref sig .tc .vmem S16x16x256 .f32) (harg7 : arg7.IsWhole) (arg8 : Memref sig .tc .vmem S16x16x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S1x256 .f32) (harg15 : arg15.IsWhole) (arg16 : Memref sig .tc .vmem S256x256 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S1x256 .f32) (harg19 : arg19.IsWhole) (arg20 : Memref sig .tc .vmem S256x1024 .bf16) (harg20 : arg20.IsWhole) (arg21 : Memref sig .tc .vmem S1x1024 .f32) (harg21 : arg21.IsWhole) (arg22 : Memref sig .tc .vmem S1024x256 .bf16) (harg22 : arg22.IsWhole) (arg23 : Memref sig .tc .vmem S1x256 .f32) (harg23 : arg23.IsWhole) (arg24 : Memref sig .tc .hbm S128x256x256 .f32) (harg24 : arg24.IsWhole) (arg25 : Memref sig .tc .vmem S2x2048x256 .f32) (harg25 : arg25.IsWhole) (arg26 : DmaSems sig S2x16) :
    cc0_msa_col_atten_transition_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 = (do
  let v0 : Vec F S16x16x256 .f32 ← Prog.lift (.load arg1 (Rect.unit (s := S16x16x256) ![0, 0, 0] S16x16x256.size inb_S16x16x256_S16x16x256_0_0_0).toLoadRect (View.loadsAt_vmem h_S16x16x256))
  let v2 : Vec F S16x16x256 .f32 ← Prog.lift (.load arg2 (Rect.unit (s := S16x16x256) ![0, 0, 0] S16x16x256.size inb_S16x16x256_S16x16x256_0_0_0).toLoadRect (View.loadsAt_vmem h_S16x16x256))
  let v4 : Vec F S16x16x256 .f32 ← Prog.lift (.load arg3 (Rect.unit (s := S16x16x256) ![0, 0, 0] S16x16x256.size inb_S16x16x256_S16x16x256_0_0_0).toLoadRect (View.loadsAt_vmem h_S16x16x256))
  let v6 : Vec F S16x16x256 .f32 ← Prog.lift (.load arg4 (Rect.unit (s := S16x16x256) ![0, 0, 0] S16x16x256.size inb_S16x16x256_S16x16x256_0_0_0).toLoadRect (View.loadsAt_vmem h_S16x16x256))
  let v8 : Vec F S16x16x256 .f32 ← Prog.lift (.load arg5 (Rect.unit (s := S16x16x256) ![0, 0, 0] S16x16x256.size inb_S16x16x256_S16x16x256_0_0_0).toLoadRect (View.loadsAt_vmem h_S16x16x256))
  let v10 : Vec F S16x16x256 .f32 ← Prog.lift (.load arg6 (Rect.unit (s := S16x16x256) ![0, 0, 0] S16x16x256.size inb_S16x16x256_S16x16x256_0_0_0).toLoadRect (View.loadsAt_vmem h_S16x16x256))
  let v12 : Vec F S16x16x256 .f32 ← Prog.lift (.load arg7 (Rect.unit (s := S16x16x256) ![0, 0, 0] S16x16x256.size inb_S16x16x256_S16x16x256_0_0_0).toLoadRect (View.loadsAt_vmem h_S16x16x256))
  let v14 : Vec F S16x16x256 .f32 ← Prog.lift (.load arg8 (Rect.unit (s := S16x16x256) ![0, 0, 0] S16x16x256.size inb_S16x16x256_S16x16x256_0_0_0).toLoadRect (View.loadsAt_vmem h_S16x16x256))
  let v18 : Vec F S1x256 .f32 ← Prog.lift (.load arg9 (Rect.unit (s := S1x256) ![0, 0] S1x256.size inb_S1x256_S1x256_0_0).toLoadRect (View.loadsAt_vmem h_S1x256))
  let v20 : Vec F S1x256 .f32 ← Prog.lift (.load arg10 (Rect.unit (s := S1x256) ![0, 0] S1x256.size inb_S1x256_S1x256_0_0).toLoadRect (View.loadsAt_vmem h_S1x256))
  let v43 : Vec F S256x256 .bf16 ← Prog.lift (.load arg11 (Rect.unit (s := S256x256) ![0, 0] S256x256.size inb_S256x256_S256x256_0_0).toLoadRect (View.loadsAt_vmem h_S256x256))
  let v48 : Vec F S256x256 .bf16 ← Prog.lift (.load arg12 (Rect.unit (s := S256x256) ![0, 0] S256x256.size inb_S256x256_S256x256_0_0).toLoadRect (View.loadsAt_vmem h_S256x256))
  let v51 : Vec F S256x256 .bf16 ← Prog.lift (.load arg13 (Rect.unit (s := S256x256) ![0, 0] S256x256.size inb_S256x256_S256x256_0_0).toLoadRect (View.loadsAt_vmem h_S256x256))
  let v54 : Vec F S256x256 .bf16 ← Prog.lift (.load arg14 (Rect.unit (s := S256x256) ![0, 0] S256x256.size inb_S256x256_S256x256_0_0).toLoadRect (View.loadsAt_vmem h_S256x256))
  let v57 : Vec F S1x256 .f32 ← Prog.lift (.load arg15 (Rect.unit (s := S1x256) ![0, 0] S1x256.size inb_S1x256_S1x256_0_0).toLoadRect (View.loadsAt_vmem h_S1x256))
  let v2512 : Vec F S256x256 .bf16 ← Prog.lift (.load arg16 (Rect.unit (s := S256x256) ![0, 0] S256x256.size inb_S256x256_S256x256_0_0).toLoadRect (View.loadsAt_vmem h_S256x256))
  let v2518 : Vec F S256x256 .bf16 ← Prog.lift (.load arg16 (Rect.unit (s := S256x256) ![0, 0] S256x256.size inb_S256x256_S256x256_0_0).toLoadRect (View.loadsAt_vmem h_S256x256))
  let v2524 : Vec F S256x256 .bf16 ← Prog.lift (.load arg16 (Rect.unit (s := S256x256) ![0, 0] S256x256.size inb_S256x256_S256x256_0_0).toLoadRect (View.loadsAt_vmem h_S256x256))
  let v2530 : Vec F S256x256 .bf16 ← Prog.lift (.load arg16 (Rect.unit (s := S256x256) ![0, 0] S256x256.size inb_S256x256_S256x256_0_0).toLoadRect (View.loadsAt_vmem h_S256x256))
  let v2536 : Vec F S256x256 .bf16 ← Prog.lift (.load arg16 (Rect.unit (s := S256x256) ![0, 0] S256x256.size inb_S256x256_S256x256_0_0).toLoadRect (View.loadsAt_vmem h_S256x256))
  let v2542 : Vec F S256x256 .bf16 ← Prog.lift (.load arg16 (Rect.unit (s := S256x256) ![0, 0] S256x256.size inb_S256x256_S256x256_0_0).toLoadRect (View.loadsAt_vmem h_S256x256))
  let v2548 : Vec F S256x256 .bf16 ← Prog.lift (.load arg16 (Rect.unit (s := S256x256) ![0, 0] S256x256.size inb_S256x256_S256x256_0_0).toLoadRect (View.loadsAt_vmem h_S256x256))
  let v2554 : Vec F S256x256 .bf16 ← Prog.lift (.load arg16 (Rect.unit (s := S256x256) ![0, 0] S256x256.size inb_S256x256_S256x256_0_0).toLoadRect (View.loadsAt_vmem h_S256x256))
  let v2560 : Vec F S256x256 .bf16 ← Prog.lift (.load arg16 (Rect.unit (s := S256x256) ![0, 0] S256x256.size inb_S256x256_S256x256_0_0).toLoadRect (View.loadsAt_vmem h_S256x256))
  let v2566 : Vec F S256x256 .bf16 ← Prog.lift (.load arg16 (Rect.unit (s := S256x256) ![0, 0] S256x256.size inb_S256x256_S256x256_0_0).toLoadRect (View.loadsAt_vmem h_S256x256))
  let v2572 : Vec F S256x256 .bf16 ← Prog.lift (.load arg16 (Rect.unit (s := S256x256) ![0, 0] S256x256.size inb_S256x256_S256x256_0_0).toLoadRect (View.loadsAt_vmem h_S256x256))
  let v2578 : Vec F S256x256 .bf16 ← Prog.lift (.load arg16 (Rect.unit (s := S256x256) ![0, 0] S256x256.size inb_S256x256_S256x256_0_0).toLoadRect (View.loadsAt_vmem h_S256x256))
  let v2584 : Vec F S256x256 .bf16 ← Prog.lift (.load arg16 (Rect.unit (s := S256x256) ![0, 0] S256x256.size inb_S256x256_S256x256_0_0).toLoadRect (View.loadsAt_vmem h_S256x256))
  let v2590 : Vec F S256x256 .bf16 ← Prog.lift (.load arg16 (Rect.unit (s := S256x256) ![0, 0] S256x256.size inb_S256x256_S256x256_0_0).toLoadRect (View.loadsAt_vmem h_S256x256))
  let v2596 : Vec F S256x256 .bf16 ← Prog.lift (.load arg16 (Rect.unit (s := S256x256) ![0, 0] S256x256.size inb_S256x256_S256x256_0_0).toLoadRect (View.loadsAt_vmem h_S256x256))
  let v2602 : Vec F S256x256 .bf16 ← Prog.lift (.load arg16 (Rect.unit (s := S256x256) ![0, 0] S256x256.size inb_S256x256_S256x256_0_0).toLoadRect (View.loadsAt_vmem h_S256x256))
  let v2608 : Vec F S1x256 .f32 ← Prog.lift (.load arg17 (Rect.unit (s := S1x256) ![0, 0] S1x256.size inb_S1x256_S1x256_0_0).toLoadRect (View.loadsAt_vmem h_S1x256))
  let v2612 : Vec F S1x256 .f32 ← Prog.lift (.load arg18 (Rect.unit (s := S1x256) ![0, 0] S1x256.size inb_S1x256_S1x256_0_0).toLoadRect (View.loadsAt_vmem h_S1x256))
  let v2614 : Vec F S1x256 .f32 ← Prog.lift (.load arg19 (Rect.unit (s := S1x256) ![0, 0] S1x256.size inb_S1x256_S1x256_0_0).toLoadRect (View.loadsAt_vmem h_S1x256))
  let v2636 : Vec F S256x1024 .bf16 ← Prog.lift (.load arg20 (Rect.unit (s := S256x1024) ![0, 0] S256x1024.size inb_S256x1024_S256x1024_0_0).toLoadRect (View.loadsAt_vmem h_S256x1024))
  let v2640 : Vec F S1x1024 .f32 ← Prog.lift (.load arg21 (Rect.unit (s := S1x1024) ![0, 0] S1x1024.size inb_S1x1024_S1x1024_0_0).toLoadRect (View.loadsAt_vmem h_S1x1024))
  let v2646 : Vec F S1024x256 .bf16 ← Prog.lift (.load arg22 (Rect.unit (s := S1024x256) ![0, 0] S1024x256.size inb_S1024x256_S1024x256_0_0).toLoadRect (View.loadsAt_vmem h_S1024x256))
  let v2651 : Vec F S1x256 .f32 ← Prog.lift (.load arg23 (Rect.unit (s := S1x256) ![0, 0] S1x256.size inb_S1x256_S1x256_0_0).toLoadRect (View.loadsAt_vmem h_S1x256))
  tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 (E v0 v2 v4 v6 v8 v10 v12 v14 v18 v20 v43 v48 v51 v54 v57 v2512 v2518 v2524 v2530 v2536 v2542 v2548 v2554 v2560 v2566 v2572 v2578 v2584 v2590 v2596 v2602 v2608 v2612 v2614 v2636 v2640 v2646 v2651)) := by
  rfl

/-- One wait, at offsets given as numbers. -/
def waitAt (a24 : Memref sig .tc .hbm S128x256x256 .f32) (a25 : Memref sig .tc .vmem S2x2048x256 .f32) (a26 : DmaSems sig S2x16)
    (oc : Fin 2 → ℕ) (pc : ∀ a, oc a + S1x1.size a ≤ S2x16.size a) (ot : Fin 3 → ℕ) (pt : ∀ a, ot a + S1x128x256.size a ≤ S2x2048x256.size a)
    (od : Fin 3 → ℕ) (pd : ∀ a, od a + S128x1x256.size a ≤ S128x256x256.size a) : Prog (TpuEff nD τ sig (Elt F) Λ₀ .tc) PUnit :=
  Prog.lift (.waitDma2 ((a26.slice (Rect.unit (s := S2x16) oc ![1, 1] pc)).squeeze S_ squeezes_S1x1_S_).sem
    ((a25.slice (Rect.unit (s := S2x2048x256) ot ![1, 128, 256] pt) (fun _ => rfl)).squeeze S128x256 squeezes_S1x128x256_S128x256)
    ((a24.slice (Rect.unit (s := S128x256x256) od ![128, 1, 256] pd) (fun _ => rfl)).squeeze S128x256 squeezes_S128x1x256_S128x256)
    ((View.wordExact_bits rfl).reshape _ _) ((View.wordExact_bits rfl).reshape _ _))

/-- One copy started, at offsets given as numbers. -/
def startAt (a24 : Memref sig .tc .hbm S128x256x256 .f32) (a25 : Memref sig .tc .vmem S2x2048x256 .f32) (a26 : DmaSems sig S2x16)
    (oc : Fin 2 → ℕ) (pc : ∀ a, oc a + S1x1.size a ≤ S2x16.size a) (ot : Fin 3 → ℕ) (pt : ∀ a, ot a + S1x128x256.size a ≤ S2x2048x256.size a)
    (od : Fin 3 → ℕ) (pd : ∀ a, od a + S128x1x256.size a ≤ S128x256x256.size a) : Prog (TpuEff nD τ sig (Elt F) Λ₀ .tc) PUnit :=
  Prog.lift (.enqueueDma
    ((a25.slice (Rect.unit (s := S2x2048x256) ot ![1, 128, 256] pt) (fun _ => rfl)).squeeze S128x256 squeezes_S1x128x256_S128x256)
    (.here ((a24.slice (Rect.unit (s := S128x256x256) od ![128, 1, 256] pd) (fun _ => rfl)).squeeze S128x256 squeezes_S128x1x256_S128x256))
    (.dma ((a26.slice (Rect.unit (s := S2x16) oc ![1, 1] pc)).squeeze S_ squeezes_S1x1_S_).sem)
    ((View.wordExact_bits rfl).reshape _ _) ((View.wordExact_bits rfl).reshape _ _) ⟨Or.inl rfl, trivial⟩)

/-- A wait is `waitAt` at its offsets. -/
theorem wait_fold (a24 : Memref sig .tc .hbm S128x256x256 .f32) (a25 : Memref sig .tc .vmem S2x2048x256 .f32) (a26 : DmaSems sig S2x16)
    (oc : Fin 2 → ℕ) (pc) (ot : Fin 3 → ℕ) (pt) (od : Fin 3 → ℕ) (pd) (hs hd h1 h2) :
    (Prog.lift (.waitDma2 ((a26.slice (Rect.unit (s := S2x16) oc ![1, 1] pc)).squeeze S_ squeezes_S1x1_S_).sem
      ((a25.slice (Rect.unit (s := S2x2048x256) ot ![1, 128, 256] pt) hs).squeeze S128x256 squeezes_S1x128x256_S128x256)
      ((a24.slice (Rect.unit (s := S128x256x256) od ![128, 1, 256] pd) hd).squeeze S128x256 squeezes_S128x1x256_S128x256) h1 h2) : Prog (TpuEff nD τ sig (Elt F) Λ₀ .tc) PUnit)
      = waitAt a24 a25 a26 oc pc ot pt od pd := rfl

/-- A copy's start is `startAt` at its offsets. -/
theorem start_fold (a24 : Memref sig .tc .hbm S128x256x256 .f32) (a25 : Memref sig .tc .vmem S2x2048x256 .f32) (a26 : DmaSems sig S2x16)
    (oc : Fin 2 → ℕ) (pc) (ot : Fin 3 → ℕ) (pt) (od : Fin 3 → ℕ) (pd) (hs hd h1 h2 h3) :
    (Prog.lift (.enqueueDma
      ((a25.slice (Rect.unit (s := S2x2048x256) ot ![1, 128, 256] pt) hs).squeeze S128x256 squeezes_S1x128x256_S128x256)
      (.here ((a24.slice (Rect.unit (s := S128x256x256) od ![128, 1, 256] pd) hd).squeeze S128x256 squeezes_S128x1x256_S128x256))
      (.dma ((a26.slice (Rect.unit (s := S2x16) oc ![1, 1] pc)).squeeze S_ squeezes_S1x1_S_).sem) h1 h2 h3) : Prog (TpuEff nD τ sig (Elt F) Λ₀ .tc) PUnit)
      = startAt a24 a25 a26 oc pc ot pt od pd := rfl

set_option maxHeartbeats 4000000 in
/-- The rest of a step is the ring over the block: the offsets it computes are the slot's, and its waits and copies
    run through the sixteen tiles in order. -/
theorem tail_eq' (i : grid0.Coords) (arg1 : Memref sig .tc .vmem S16x16x256 .f32) (harg1 : arg1.IsWhole) (arg2 : Memref sig .tc .vmem S16x16x256 .f32) (harg2 : arg2.IsWhole) (arg3 : Memref sig .tc .vmem S16x16x256 .f32) (harg3 : arg3.IsWhole) (arg4 : Memref sig .tc .vmem S16x16x256 .f32) (harg4 : arg4.IsWhole) (arg5 : Memref sig .tc .vmem S16x16x256 .f32) (harg5 : arg5.IsWhole) (arg6 : Memref sig .tc .vmem S16x16x256 .f32) (harg6 : arg6.IsWhole) (arg7 : Memref sig .tc .vmem S16x16x256 .f32) (harg7 : arg7.IsWhole) (arg8 : Memref sig .tc .vmem S16x16x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S1x256 .f32) (harg15 : arg15.IsWhole) (arg16 : Memref sig .tc .vmem S256x256 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S1x256 .f32) (harg19 : arg19.IsWhole) (arg20 : Memref sig .tc .vmem S256x1024 .bf16) (harg20 : arg20.IsWhole) (arg21 : Memref sig .tc .vmem S1x1024 .f32) (harg21 : arg21.IsWhole) (arg22 : Memref sig .tc .vmem S1024x256 .bf16) (harg22 : arg22.IsWhole) (arg23 : Memref sig .tc .vmem S1x256 .f32) (harg23 : arg23.IsWhole) (arg24 : Memref sig .tc .hbm S128x256x256 .f32) (harg24 : arg24.IsWhole) (arg25 : Memref sig .tc .vmem S2x2048x256 .f32) (harg25 : arg25.IsWhole) (arg26 : DmaSems sig S2x16) (y : FVec F S2048x256 .f32) :
    tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 y = ringAt i arg24 arg25 arg26 y (k0_off33 i) (k0_off33_inb i) := by
  obtain ⟨p0, p1, p2, p3, p4, p5, p6, p7, p8, p9, p10, p11, p12, p13, p14, p15, p16, p17, p18, p19, p20, p21, p22, p23, p24, p25, p26, p27, p28, p29, p30, p31⟩ := offs1 i
  obtain ⟨q0, q1, q2, q3, q4, q5, q6, q7, q8, q9, q10, q11, q12, q13, q14, q15, q16, q17, q18, q19, q20, q21, q22, q23, q24, q25, q26, q27, q28, q29, q30, q31, q32, q33, q34, q35, q36, q37, q38, q39, q40, q41, q42, q43, q44, q45, q46, q47, q48⟩ := offs2 i
  obtain ⟨r0, r1, r2, r3, r4, r5, r6, r7, r8, r9, r10, r11, r12, r13, r14, r15, r16, r17, r18, r19, r20, r21, r22, r23, r24, r25, r26, r27, r28, r29, r30, r31, r32, r33, r34, r35, r36, r37, r38, r39, r40, r41, r42, r43, r44, r45, r46, r47, r48, r49, r50, r51, r52, r53, r54, r55, r56, r57, r58, r59, r60, r61, r62, r63⟩ := offs3 i
  simp only [tail, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part68_eq_skeleton, k0_part69_eq_skeleton, k0_part70_eq_skeleton, k0_part71_eq_skeleton,
    k0_part1_skel, k0_part2_skel, k0_part3_skel, k0_part4_skel, k0_part5_skel, k0_part6_skel, k0_part7_skel, k0_part8_skel, k0_part9_skel, k0_part10_skel, k0_part68_skel, k0_part69_skel, k0_part70_skel, k0_part71_skel, wait_fold, start_fold]
  simp only [p0, p1, p2, p3, p4, p5, p6, p7, p8, p9, p10, p11, p12, p13, p14, p15, p16, p17, p18, p19, p20, p21, p22, p23, p24, p25, p26, p27, p28, p29, p30, p31]
  simp only [q1, q2, q3, q4, q5, q6, q7, q8, q9, q10, q11, q12, q13, q14, q15, q16, q17, q18, q19, q20, q21, q22, q23, q24, q25, q26, q27, q28, q29, q30, q31, q32, q33, q34, q35, q36, q37, q38, q39, q40, q41, q42, q43, q44, q45, q46, q47, q48]
  simp only [r0, r1, r2, r3, r4, r5, r6, r7, r8, r9, r10, r11, r12, r13, r14, r15, r16, r17, r18, r19, r20, r21, r22, r23, r24, r25, r26, r27, r28, r29, r30, r31, r32, r33, r34, r35, r36, r37, r38, r39, r40, r41, r42, r43, r44, r45, r46, r47, r48, r49, r50, r51, r52, r53, r54, r55, r56, r57, r58, r59, r60, r61, r62, r63]
  simp only [ringAt, waits, starts, all16, cellAt, tileAt, pieceAt, wait_fold, start_fold]
  by_cases h1 : k0_cond1 i = 1#1 <;> by_cases h2 : k0_cond2 i = 1#1 <;>
    simp only [h1, h2, if_pos, if_neg, dif_pos, dif_neg, not_false_eq_true, bind_assoc, pure_bind,
      Fin.coe_ofNat_eq_mod, Nat.reduceMod, Nat.reduceMul, Nat.reduceAdd, Nat.add_zero, Nat.zero_add, Nat.zero_mod, Nat.mul_zero] <;> rfl

/-- The rest of a step is the ring over the block, at the step's slot. -/
theorem tail_eq (i : grid0.Coords) (arg1 : Memref sig .tc .vmem S16x16x256 .f32) (harg1 : arg1.IsWhole) (arg2 : Memref sig .tc .vmem S16x16x256 .f32) (harg2 : arg2.IsWhole) (arg3 : Memref sig .tc .vmem S16x16x256 .f32) (harg3 : arg3.IsWhole) (arg4 : Memref sig .tc .vmem S16x16x256 .f32) (harg4 : arg4.IsWhole) (arg5 : Memref sig .tc .vmem S16x16x256 .f32) (harg5 : arg5.IsWhole) (arg6 : Memref sig .tc .vmem S16x16x256 .f32) (harg6 : arg6.IsWhole) (arg7 : Memref sig .tc .vmem S16x16x256 .f32) (harg7 : arg7.IsWhole) (arg8 : Memref sig .tc .vmem S16x16x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S1x256 .f32) (harg15 : arg15.IsWhole) (arg16 : Memref sig .tc .vmem S256x256 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S1x256 .f32) (harg19 : arg19.IsWhole) (arg20 : Memref sig .tc .vmem S256x1024 .bf16) (harg20 : arg20.IsWhole) (arg21 : Memref sig .tc .vmem S1x1024 .f32) (harg21 : arg21.IsWhole) (arg22 : Memref sig .tc .vmem S1024x256 .bf16) (harg22 : arg22.IsWhole) (arg23 : Memref sig .tc .vmem S1x256 .f32) (harg23 : arg23.IsWhole) (arg24 : Memref sig .tc .hbm S128x256x256 .f32) (harg24 : arg24.IsWhole) (arg25 : Memref sig .tc .vmem S2x2048x256 .f32) (harg25 : arg25.IsWhole) (arg26 : DmaSems sig S2x16) (y : FVec F S2048x256 .f32) :
    tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 y = ring i arg24 arg25 arg26 y := by
  rw [tail_eq']
  have e : k0_off33 i = ![(slot i).val, 0, 0] := (offs2 i).1
  simp only [ring, e]

/-- The body: the loads, then the ring over the block they give. -/
theorem body_eq (i : grid0.Coords) (arg1 : Memref sig .tc .vmem S16x16x256 .f32) (harg1 : arg1.IsWhole) (arg2 : Memref sig .tc .vmem S16x16x256 .f32) (harg2 : arg2.IsWhole) (arg3 : Memref sig .tc .vmem S16x16x256 .f32) (harg3 : arg3.IsWhole) (arg4 : Memref sig .tc .vmem S16x16x256 .f32) (harg4 : arg4.IsWhole) (arg5 : Memref sig .tc .vmem S16x16x256 .f32) (harg5 : arg5.IsWhole) (arg6 : Memref sig .tc .vmem S16x16x256 .f32) (harg6 : arg6.IsWhole) (arg7 : Memref sig .tc .vmem S16x16x256 .f32) (harg7 : arg7.IsWhole) (arg8 : Memref sig .tc .vmem S16x16x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S1x256 .f32) (harg15 : arg15.IsWhole) (arg16 : Memref sig .tc .vmem S256x256 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S1x256 .f32) (harg19 : arg19.IsWhole) (arg20 : Memref sig .tc .vmem S256x1024 .bf16) (harg20 : arg20.IsWhole) (arg21 : Memref sig .tc .vmem S1x1024 .f32) (harg21 : arg21.IsWhole) (arg22 : Memref sig .tc .vmem S1024x256 .bf16) (harg22 : arg22.IsWhole) (arg23 : Memref sig .tc .vmem S1x256 .f32) (harg23 : arg23.IsWhole) (arg24 : Memref sig .tc .hbm S128x256x256 .f32) (harg24 : arg24.IsWhole) (arg25 : Memref sig .tc .vmem S2x2048x256 .f32) (harg25 : arg25.IsWhole) (arg26 : DmaSems sig S2x16) :
    cc0_msa_col_atten_transition (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 = (do
  let v0 : Vec F S16x16x256 .f32 ← Prog.lift (.load arg1 (Rect.unit (s := S16x16x256) ![0, 0, 0] S16x16x256.size inb_S16x16x256_S16x16x256_0_0_0).toLoadRect (View.loadsAt_vmem h_S16x16x256))
  let v2 : Vec F S16x16x256 .f32 ← Prog.lift (.load arg2 (Rect.unit (s := S16x16x256) ![0, 0, 0] S16x16x256.size inb_S16x16x256_S16x16x256_0_0_0).toLoadRect (View.loadsAt_vmem h_S16x16x256))
  let v4 : Vec F S16x16x256 .f32 ← Prog.lift (.load arg3 (Rect.unit (s := S16x16x256) ![0, 0, 0] S16x16x256.size inb_S16x16x256_S16x16x256_0_0_0).toLoadRect (View.loadsAt_vmem h_S16x16x256))
  let v6 : Vec F S16x16x256 .f32 ← Prog.lift (.load arg4 (Rect.unit (s := S16x16x256) ![0, 0, 0] S16x16x256.size inb_S16x16x256_S16x16x256_0_0_0).toLoadRect (View.loadsAt_vmem h_S16x16x256))
  let v8 : Vec F S16x16x256 .f32 ← Prog.lift (.load arg5 (Rect.unit (s := S16x16x256) ![0, 0, 0] S16x16x256.size inb_S16x16x256_S16x16x256_0_0_0).toLoadRect (View.loadsAt_vmem h_S16x16x256))
  let v10 : Vec F S16x16x256 .f32 ← Prog.lift (.load arg6 (Rect.unit (s := S16x16x256) ![0, 0, 0] S16x16x256.size inb_S16x16x256_S16x16x256_0_0_0).toLoadRect (View.loadsAt_vmem h_S16x16x256))
  let v12 : Vec F S16x16x256 .f32 ← Prog.lift (.load arg7 (Rect.unit (s := S16x16x256) ![0, 0, 0] S16x16x256.size inb_S16x16x256_S16x16x256_0_0_0).toLoadRect (View.loadsAt_vmem h_S16x16x256))
  let v14 : Vec F S16x16x256 .f32 ← Prog.lift (.load arg8 (Rect.unit (s := S16x16x256) ![0, 0, 0] S16x16x256.size inb_S16x16x256_S16x16x256_0_0_0).toLoadRect (View.loadsAt_vmem h_S16x16x256))
  let v18 : Vec F S1x256 .f32 ← Prog.lift (.load arg9 (Rect.unit (s := S1x256) ![0, 0] S1x256.size inb_S1x256_S1x256_0_0).toLoadRect (View.loadsAt_vmem h_S1x256))
  let v20 : Vec F S1x256 .f32 ← Prog.lift (.load arg10 (Rect.unit (s := S1x256) ![0, 0] S1x256.size inb_S1x256_S1x256_0_0).toLoadRect (View.loadsAt_vmem h_S1x256))
  let v43 : Vec F S256x256 .bf16 ← Prog.lift (.load arg11 (Rect.unit (s := S256x256) ![0, 0] S256x256.size inb_S256x256_S256x256_0_0).toLoadRect (View.loadsAt_vmem h_S256x256))
  let v48 : Vec F S256x256 .bf16 ← Prog.lift (.load arg12 (Rect.unit (s := S256x256) ![0, 0] S256x256.size inb_S256x256_S256x256_0_0).toLoadRect (View.loadsAt_vmem h_S256x256))
  let v51 : Vec F S256x256 .bf16 ← Prog.lift (.load arg13 (Rect.unit (s := S256x256) ![0, 0] S256x256.size inb_S256x256_S256x256_0_0).toLoadRect (View.loadsAt_vmem h_S256x256))
  let v54 : Vec F S256x256 .bf16 ← Prog.lift (.load arg14 (Rect.unit (s := S256x256) ![0, 0] S256x256.size inb_S256x256_S256x256_0_0).toLoadRect (View.loadsAt_vmem h_S256x256))
  let v57 : Vec F S1x256 .f32 ← Prog.lift (.load arg15 (Rect.unit (s := S1x256) ![0, 0] S1x256.size inb_S1x256_S1x256_0_0).toLoadRect (View.loadsAt_vmem h_S1x256))
  let v2512 : Vec F S256x256 .bf16 ← Prog.lift (.load arg16 (Rect.unit (s := S256x256) ![0, 0] S256x256.size inb_S256x256_S256x256_0_0).toLoadRect (View.loadsAt_vmem h_S256x256))
  let v2518 : Vec F S256x256 .bf16 ← Prog.lift (.load arg16 (Rect.unit (s := S256x256) ![0, 0] S256x256.size inb_S256x256_S256x256_0_0).toLoadRect (View.loadsAt_vmem h_S256x256))
  let v2524 : Vec F S256x256 .bf16 ← Prog.lift (.load arg16 (Rect.unit (s := S256x256) ![0, 0] S256x256.size inb_S256x256_S256x256_0_0).toLoadRect (View.loadsAt_vmem h_S256x256))
  let v2530 : Vec F S256x256 .bf16 ← Prog.lift (.load arg16 (Rect.unit (s := S256x256) ![0, 0] S256x256.size inb_S256x256_S256x256_0_0).toLoadRect (View.loadsAt_vmem h_S256x256))
  let v2536 : Vec F S256x256 .bf16 ← Prog.lift (.load arg16 (Rect.unit (s := S256x256) ![0, 0] S256x256.size inb_S256x256_S256x256_0_0).toLoadRect (View.loadsAt_vmem h_S256x256))
  let v2542 : Vec F S256x256 .bf16 ← Prog.lift (.load arg16 (Rect.unit (s := S256x256) ![0, 0] S256x256.size inb_S256x256_S256x256_0_0).toLoadRect (View.loadsAt_vmem h_S256x256))
  let v2548 : Vec F S256x256 .bf16 ← Prog.lift (.load arg16 (Rect.unit (s := S256x256) ![0, 0] S256x256.size inb_S256x256_S256x256_0_0).toLoadRect (View.loadsAt_vmem h_S256x256))
  let v2554 : Vec F S256x256 .bf16 ← Prog.lift (.load arg16 (Rect.unit (s := S256x256) ![0, 0] S256x256.size inb_S256x256_S256x256_0_0).toLoadRect (View.loadsAt_vmem h_S256x256))
  let v2560 : Vec F S256x256 .bf16 ← Prog.lift (.load arg16 (Rect.unit (s := S256x256) ![0, 0] S256x256.size inb_S256x256_S256x256_0_0).toLoadRect (View.loadsAt_vmem h_S256x256))
  let v2566 : Vec F S256x256 .bf16 ← Prog.lift (.load arg16 (Rect.unit (s := S256x256) ![0, 0] S256x256.size inb_S256x256_S256x256_0_0).toLoadRect (View.loadsAt_vmem h_S256x256))
  let v2572 : Vec F S256x256 .bf16 ← Prog.lift (.load arg16 (Rect.unit (s := S256x256) ![0, 0] S256x256.size inb_S256x256_S256x256_0_0).toLoadRect (View.loadsAt_vmem h_S256x256))
  let v2578 : Vec F S256x256 .bf16 ← Prog.lift (.load arg16 (Rect.unit (s := S256x256) ![0, 0] S256x256.size inb_S256x256_S256x256_0_0).toLoadRect (View.loadsAt_vmem h_S256x256))
  let v2584 : Vec F S256x256 .bf16 ← Prog.lift (.load arg16 (Rect.unit (s := S256x256) ![0, 0] S256x256.size inb_S256x256_S256x256_0_0).toLoadRect (View.loadsAt_vmem h_S256x256))
  let v2590 : Vec F S256x256 .bf16 ← Prog.lift (.load arg16 (Rect.unit (s := S256x256) ![0, 0] S256x256.size inb_S256x256_S256x256_0_0).toLoadRect (View.loadsAt_vmem h_S256x256))
  let v2596 : Vec F S256x256 .bf16 ← Prog.lift (.load arg16 (Rect.unit (s := S256x256) ![0, 0] S256x256.size inb_S256x256_S256x256_0_0).toLoadRect (View.loadsAt_vmem h_S256x256))
  let v2602 : Vec F S256x256 .bf16 ← Prog.lift (.load arg16 (Rect.unit (s := S256x256) ![0, 0] S256x256.size inb_S256x256_S256x256_0_0).toLoadRect (View.loadsAt_vmem h_S256x256))
  let v2608 : Vec F S1x256 .f32 ← Prog.lift (.load arg17 (Rect.unit (s := S1x256) ![0, 0] S1x256.size inb_S1x256_S1x256_0_0).toLoadRect (View.loadsAt_vmem h_S1x256))
  let v2612 : Vec F S1x256 .f32 ← Prog.lift (.load arg18 (Rect.unit (s := S1x256) ![0, 0] S1x256.size inb_S1x256_S1x256_0_0).toLoadRect (View.loadsAt_vmem h_S1x256))
  let v2614 : Vec F S1x256 .f32 ← Prog.lift (.load arg19 (Rect.unit (s := S1x256) ![0, 0] S1x256.size inb_S1x256_S1x256_0_0).toLoadRect (View.loadsAt_vmem h_S1x256))
  let v2636 : Vec F S256x1024 .bf16 ← Prog.lift (.load arg20 (Rect.unit (s := S256x1024) ![0, 0] S256x1024.size inb_S256x1024_S256x1024_0_0).toLoadRect (View.loadsAt_vmem h_S256x1024))
  let v2640 : Vec F S1x1024 .f32 ← Prog.lift (.load arg21 (Rect.unit (s := S1x1024) ![0, 0] S1x1024.size inb_S1x1024_S1x1024_0_0).toLoadRect (View.loadsAt_vmem h_S1x1024))
  let v2646 : Vec F S1024x256 .bf16 ← Prog.lift (.load arg22 (Rect.unit (s := S1024x256) ![0, 0] S1024x256.size inb_S1024x256_S1024x256_0_0).toLoadRect (View.loadsAt_vmem h_S1024x256))
  let v2651 : Vec F S1x256 .f32 ← Prog.lift (.load arg23 (Rect.unit (s := S1x256) ![0, 0] S1x256.size inb_S1x256_S1x256_0_0).toLoadRect (View.loadsAt_vmem h_S1x256))
  ring i arg24 arg25 arg26 (E v0 v2 v4 v6 v8 v10 v12 v14 v18 v20 v43 v48 v51 v54 v57 v2512 v2518 v2524 v2530 v2536 v2542 v2548 v2554 v2560 v2566 v2572 v2578 v2584 v2590 v2596 v2602 v2608 v2612 v2614 v2636 v2640 v2646 v2651)) := by
  rw [cc0_msa_col_atten_transition_eq_skeleton, skel_eq]
  simp only [tail_eq]

end Cert.ColIdeal.Body
-- ==== Proof.ColIdealRing.lean ====
/- The ring of copies of the column attention and transition kernel: the two slots of its buffer, their sixteen tiles
   each, the semaphores and the columns of the result as resources; the waits, the copies and the step as triples. -/
module

public import proofs.«01_k».proof.Proof.ColIdealBody
public import Idealize.ShloMosaic.Lib.Pipeline.FrameBody
public import Idealize.ShloMosaic.Lib.Ring
public import Idealize.ShloMosaic.Lib.Ring.WriteBehind
public import Idealize.ShloMosaic.Lib.Tactic

@[expose] public section

set_option maxRecDepth 16384

noncomputable section

namespace Cert.ColIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ColIdeal Cert.ColIdeal.Gen

variable {F : FTy → Type} [FloatOps F] [Named F]

local notation "𝕄" => MT nD τ sig Unit (Elt F) ℕ (Pipeline.UD sig nD τ) ℕ

/-! ## Conjunctions over lists -/

/-- The separating conjunction of a family over a list. -/
def seps {M : Type} [URA M] {ι : Type} (Φ : ι → sProp M) : List ι → sProp M
  | [] => iprop(emp)
  | j :: js => iprop(Φ j ∗ seps Φ js)

/-- Over a list without repetitions it is the conjunction over the list's elements. -/
theorem seps_eq {M : Type} [URA M] {ι : Type} [DecidableEq ι] (Φ : ι → sProp M) :
    ∀ l : List ι, l.Nodup → bigSep l.toFinset Φ = seps Φ l
  | [], _ => by simp only [List.toFinset_nil, seps]; exact bigSep_empty
  | j :: js, h => by
    have h' := List.nodup_cons.mp h
    rw [List.toFinset_cons, bigSep_insert (by simpa using h'.1), seps_eq Φ js h'.2]; rfl

/-- The conjunction over all sixteen tiles, in order. -/
theorem seps_all16 {M : Type} [URA M] (Φ : Fin 16 → sProp M) : bigSep Finset.univ Φ = seps Φ all16 := by
  rw [← seps_eq Φ all16 (by decide)]; congr 1

/-! ## The resources -/

/-- The double buffer, whole. -/
abbrev scM : Memref sig .tc .vmem S2x2048x256 .f32 := Memref.whole cc0_scratch0
/-- The result, whole. -/
abbrev hbM : Memref sig .tc .hbm S128x256x256 .f32 := Memref.whole main_v23

/-- The indices of slot `g` in the double buffer. -/
def slotSet (g : Fin 2) : Finset S2x2048x256.Idx := (Rect.unit (s := S2x2048x256) ![g.val, 0, 0] S1x2048x256.size (slot_inb g)).set
/-- The indices of tile `j` of slot `g`. -/
def tileSet (g : Fin 2) (j : Fin 16) : Finset S2x2048x256.Idx := (Rect.unit (s := S2x2048x256) ![g.val, 128 * j.val, 0] S1x128x256.size (tile_inb g j)).set
/-- The indices of column `16 u + j` of the result. -/
def pieceSet (u j : Fin 16) : Finset S128x256x256.Idx := (Rect.unit (s := S128x256x256) ![0, 16 * u.val + j.val, 0] S128x1x256.size (piece_inb u j)).set

/-- Tile `j` of slot `g` as a memory reference covers those indices. -/
theorem tile_set (g : Fin 2) (j : Fin 16) : (tileAt scM g j).view.set = tileSet g j := by
  simp only [tileAt, Memref.view_squeeze, View.set_reshape]; exact View.set_slice_whole _ _
/-- A column of the result as a memory reference covers its indices. -/
theorem piece_set (u j : Fin 16) : (pieceAt hbM u j).view.set = pieceSet u j := by
  simp only [pieceAt, Memref.view_squeeze, View.set_reshape]; exact View.set_slice_whole _ _

/-- An index lies in slot `g` when its first coordinate is `g`. -/
theorem mem_slotSet (g : Fin 2) (i : S2x2048x256.Idx) : i ∈ slotSet g ↔ (i 0).val = g.val := by
  have h0 := (i 0).isLt; have h1 := (i 1).isLt; have h2 := (i 2).isLt
  simp only [slotSet, Rect.mem_set_unit]
  constructor
  · intro h; have := h 0; simp at this; omega
  · intro h a; fin_cases a <;> simp at h0 h1 h2 ⊢ <;> omega

/-- An index lies in tile `j` of slot `g` when its first coordinate is `g` and its second one among the tile's rows. -/
theorem mem_tileSet (g : Fin 2) (j : Fin 16) (i : S2x2048x256.Idx) : i ∈ tileSet g j ↔ (i 0).val = g.val ∧ (i 1).val / 128 = j.val := by
  have h0 := (i 0).isLt; have h1 := (i 1).isLt; have h2 := (i 2).isLt
  simp only [tileSet, Rect.mem_set_unit]
  constructor
  · intro h; have := h 0; have h' := h 1; simp at this h'; omega
  · intro h a; fin_cases a <;> simp at h0 h1 h2 ⊢ <;> omega

/-- An index lies in column `16 u + j` when its second coordinate is that number. -/
theorem mem_pieceSet (u j : Fin 16) (i : S128x256x256.Idx) : i ∈ pieceSet u j ↔ (i 1).val = 16 * u.val + j.val := by
  have h0 := (i 0).isLt; have h1 := (i 1).isLt; have h2 := (i 2).isLt
  simp only [pieceSet, Rect.mem_set_unit]
  constructor
  · intro h; have := h 1; simp at this; omega
  · intro h a; fin_cases a <;> simp at h0 h1 h2 ⊢ <;> omega

/-- The tiles of a slot are pairwise disjoint, -/
theorem tiles_disjoint (g : Fin 2) (j j' : Fin 16) (h : j ≠ j') : Disjoint (tileSet g j) (tileSet g j') := by
  rw [Finset.disjoint_left]
  intro i hi hi'
  rw [mem_tileSet] at hi hi'
  exact h (Fin.ext (by omega))

/-- and make up the slot. -/
theorem tiles_cover (g : Fin 2) : Finset.univ.biUnion (tileSet g) = slotSet g := by
  ext i
  have h1 := (i 1).isLt
  simp only [Finset.mem_biUnion, Finset.mem_univ, true_and, mem_tileSet, mem_slotSet]
  constructor
  · rintro ⟨j, h, -⟩; exact h
  · intro h; exact ⟨⟨(i 1).val / 128, by simp at h1; omega⟩, h, rfl⟩

section Families
variable (c : Dev nD)

/-- The contents of the double buffer, and of the result. -/
abbrev ScBuf : Type := Buf (Elt F) ((c : Thread nD τ).loc cc0_scratch0)
abbrev ResBuf : Type := Buf (Elt F) ((c : Thread nD τ).loc main_v23)

/-- Semaphore `(g, j)`. -/
abbrev cellR (g : Fin 2) (j : Fin 16) : SemLoc sig := SemLoc.dma (cellAt cc0_scratch1 g j).sem
/-- Semaphore `(g, j)` at zero. -/
abbrev cellP (g : Fin 2) (j : Fin 16) : sProp 𝕄 := semVal ((c : Thread nD τ), cellR g j) 0
/-- Tile `j` of slot `g` held at `e`. -/
abbrev tileP (g : Fin 2) (j : Fin 16) (e : ScBuf (F := F) c) : sProp 𝕄 :=
  (tileAt scM g j).view.loc (c : Thread nD τ) ↦[(tileAt scM g j).view.set]{fullShare} e
/-- Column `16 u + j` of the result held at `f`. -/
abbrev pieceP (u j : Fin 16) (f : ResBuf (F := F) c) : sProp 𝕄 :=
  (pieceAt hbM u j).view.loc (c : Thread nD τ) ↦[(pieceAt hbM u j).view.set]{fullShare} f
/-- Slot `g` held at `e`. -/
abbrev slotP (g : Fin 2) (e : ScBuf (F := F) c) : sProp 𝕄 :=
  ((c : Thread nD τ).loc cc0_scratch0) ↦[slotSet g]{fullShare} e
/-- The copy out of tile `j` of slot `g` to column `16 u + j` under way: it delivers the column at `G` and the tile. -/
abbrev flightP (g : Fin 2) (u j : Fin 16) (G : ResBuf (F := F) c) (e : ScBuf (F := F) c) : sProp 𝕄 :=
  Transfers.Flight countersEmb (c : Thread nD τ) (cellR g j) default ((pieceAt hbM u j).view.amount (cellR g j)) iprop(pieceP c u j G ∗ tileP c g j e)

/-- A slot free: its semaphores at zero, its memory at anything. -/
abbrev freeP (g : Fin 2) : sProp 𝕄 := iprop(seps (fun j => cellP (F := F) c g j) all16 ∗ ∃ e, slotP c g e)
/-- A slot whose sixteen copies of step `u` are under way. -/
abbrev inflP (G : ResBuf (F := F) c) (g : Fin 2) (u : Fin 16) : sProp 𝕄 := iprop(∃ e, seps (fun j => flightP c g u j G e) all16)
/-- The columns of step `u` before they are written, -/
abbrev aheadP (u : Fin 16) : sProp 𝕄 := seps (fun j => iprop(∃ f, pieceP (F := F) c u j f)) all16
/-- and after. -/
abbrev behindP (G : ResBuf (F := F) c) (u : Fin 16) : sProp 𝕄 := seps (fun j => pieceP c u j G) all16

/-- A slot is its sixteen tiles. -/
theorem slot_tiles (g : Fin 2) (e : ScBuf (F := F) c) : slotP c g e = seps (fun j => tileP c g j e) all16 := by
  rw [← seps_all16]
  unfold slotP
  rw [Ring.pointsTo_sub_blocks (tileSet g) (tiles_disjoint g) (slotSet g) (tiles_cover g) e]
  refine BI.bigSep_congr fun j _ => ?_
  unfold tileP; rw [tile_set]; rfl

/-! ## The waits and the copies -/

/-- Waiting for a list of copies under way delivers their columns and tiles, and the semaphores at zero. -/
theorem waits_run (g : Fin 2) (u : Fin 16) (G : ResBuf (F := F) c) (e : ScBuf (F := F) c) (K : PUnit → sProp 𝕄) :
    ∀ (js : List (Fin 16)) (W : Waits sig Unit),
      iprop(seps (fun j => flightP c g u j G e) js ∗ owes (c : Thread nD τ) 0 W
          ∗ (iprop(seps (fun j => pieceP c u j G) js ∗ seps (fun j => tileP c g j e) js ∗ seps (fun j => cellP (F := F) c g j) js ∗ (∃ W', owes (c : Thread nD τ) 0 W')) -∗ K ⟨⟩))
        ⊢ wp frame (wpE (defs₀ (F := F)) Variants.none c none) Set.univ (waits hbM scM cc0_scratch1 g js) K
  | [], W => by
    simp only [waits, seps]
    iintro ⟨-, HW, Hk⟩
    sl_step
    iapply Hk
    isplitr; · iempintro
    isplitr; · iempintro
    isplitr; · iempintro
    iexists _; iexact HW
  | j :: js, W => by
    simp only [waits, seps]
    iintro ⟨⟨Hf, Hfs⟩, HW, Hk⟩
    simp only [Prog.lift, Prog.bind_op, Prog.bind_ret]
    iapply (Transfers.wp_waitLocal countersEmb Variants.none (c : Thread nD τ) none (srcw := tileAt scM g j) (dstw := pieceAt hbM 0 j)
      (hsrc := (View.wordExact_bits rfl).reshape _ _) (hdst := (View.wordExact_bits rfl).reshape _ _)
      default (N := (pieceAt hbM u j).view.amount (cellR g j)) rfl) $$ [Hf HW]
    · isplitl [Hf]; · iexact Hf
      iexact HW
    iintro ⟨⟨Hp, Ht⟩, Hc, HW⟩
    iapply (waits_run g u G e K js _)
    isplitl [Hfs]; · iexact Hfs
    isplitl [HW]; · iexact HW
    iintro ⟨Hps, Hts, Hcs, HW⟩
    iapply Hk
    isplitl [Hp Hps]
    · isplitl [Hp]; · iexact Hp
      iexact Hps
    isplitl [Ht Hts]
    · isplitl [Ht]; · iexact Ht
      iexact Hts
    isplitl [Hc Hcs]
    · isplitl [Hc]; · iexact Hc
      iexact Hcs
    iexact HW

/-- Writing through a view what a buffer holds there agrees with that buffer on the view's elements. -/
theorem write_agrees {κ : Kind} {sp : Space} {s : Shape} {e : EltTy} (v : View sig κ sp s e) (f G : v.ty.Contents (Elt F)) (w : s.Idx → Elt F e)
    (h : w = v.read (Elt F) G) : ∀ i ∈ v.set, v.write (Elt F) f w Finset.univ i = G i := by
  intro i hi
  obtain ⟨x, -, rfl⟩ := Finset.mem_map.mp hi
  rw [View.write_emb_of_mem _ _ (Finset.mem_univ x), h, View.read_apply, cast_cast, cast_eq]

/-- What a copy out of tile `j` delivers is the column at `G`, when `G` holds there what the tile does. -/
theorem piece_written (g : Fin 2) (u j : Fin 16) (G f : ResBuf (F := F) c) (e : ScBuf (F := F) c)
    (h : (tileAt scM g j).view.read (Elt F) e = (pieceAt hbM u j).view.read (Elt F) G) :
    pieceP c u j ((pieceAt hbM u j).view.write (Elt F) f ((tileAt scM g j).view.read (Elt F) e) Finset.univ) = pieceP c u j G :=
  pointsTo_congr (write_agrees (pieceAt hbM u j).view f G _ h)

/-- So the copy under way delivers the column at `G`. -/
theorem flight_written (g : Fin 2) (u j : Fin 16) (G f : ResBuf (F := F) c) (e : ScBuf (F := F) c)
    (h : (tileAt scM g j).view.read (Elt F) e = (pieceAt hbM u j).view.read (Elt F) G) :
    Transfers.Flight countersEmb (c : Thread nD τ) (cellR g j) default ((pieceAt hbM u j).view.amount (cellR g j))
        iprop(pieceP c u j ((pieceAt hbM u j).view.write (Elt F) f ((tileAt scM g j).view.read (Elt F) e) Finset.univ) ∗ tileP c g j e)
      ⊢ (flightP c g u j G e : sProp 𝕄) := by
  rw [piece_written c g u j G f e h]

/-- A copy moves something. -/
theorem amount_pos (g : Fin 2) (u j : Fin 16) : 0 < (pieceAt hbM u j).view.amount (cellR g j) :=
  View.amount_pos _ _ (by decide)

/-- Starting a list of copies puts their columns, tiles and semaphores under way. -/
theorem starts_run (g : Fin 2) (u : Fin 16) (G : ResBuf (F := F) c) (e : ScBuf (F := F) c) (K : PUnit → sProp 𝕄)
    (h : ∀ j, (tileAt scM g j).view.read (Elt F) e = (pieceAt hbM u j).view.read (Elt F) G) :
    ∀ (js : List (Fin 16)),
      iprop(seps (fun j => iprop(∃ f, pieceP (F := F) c u j f)) js ∗ seps (fun j => tileP c g j e) js ∗ seps (fun j => cellP (F := F) c g j) js
          ∗ (seps (fun j => flightP c g u j G e) js -∗ K ⟨⟩))
        ⊢ wp frame (wpE (defs₀ (F := F)) Variants.none c none) Set.univ (starts hbM scM cc0_scratch1 g u js) K
  | [] => by
    simp only [starts, seps]
    iintro ⟨-, -, -, Hk⟩
    sl_step
    iapply Hk
    iempintro
  | j :: js => by
    simp only [starts, seps]
    iintro ⟨⟨⟨%f, Hp⟩, Hps⟩, ⟨Ht, Hts⟩, ⟨Hc, Hcs⟩, Hk⟩
    simp only [Prog.lift, Prog.bind_op, Prog.bind_ret]
    iapply (Transfers.wp_dmaLocal countersEmb Variants.none (c : Thread nD τ) none (src := tileAt scM g j) (dst := pieceAt hbM u j) (sm := cellR g j)
      (hsrc := (View.wordExact_bits rfl).reshape _ _) (hdst := (View.wordExact_bits rfl).reshape _ _) (via := ReadAs.same) (fs := e) (fd := f)
      default ((pieceAt hbM u j).view.amount (cellR g j)) rfl (amount_pos g u j) (Finset.Subset.refl _)) $$ [Hp Ht Hc]
    · isplitl [Ht]; · iexact Ht
      isplitl [Hp]; · iexact Hp
      iexact Hc
    iintro Hf
    iapply (starts_run g u G e K h js)
    isplitl [Hps]; · iexact Hps
    isplitl [Hts]; · iexact Hts
    isplitl [Hcs]; · iexact Hcs
    iintro Hfs
    iapply Hk
    isplitl [Hf]
    · iapply (flight_written c g u j G f e (h j)); iexact Hf
    iexact Hfs

/-! ## The step -/

/-- The step's slot as a rectangle of the buffer. -/
abbrev slotRect (g : Fin 2) : Rect S2x2048x256 := Rect.unit (s := S2x2048x256) ![g.val, 0, 0] S1x2048x256.size (slot_inb g)

/-- Storing a block to a slot touches the slot only. -/
theorem slot_access (g : Fin 2) : (scM.access (slotRect g)).set = slotSet g := View.set_slice_whole _ _

/-- Loading, storing the block, and starting the copies: the slot, held whole, goes under way. -/
theorem mid_run (g : Fin 2) (u : Fin 16) (G : ResBuf (F := F) c) (y : FVec F S2048x256 .f32) (k : Prog (TpuEff nD τ sig (Elt F) Λ₀ .tc) PUnit) (K : PUnit → sProp 𝕄)
    (h : ∀ e j, (tileAt scM g j).view.read (Elt F) ((scM.access (slotRect g)).write (Elt F) e (k0_pay628 y) Finset.univ) = (pieceAt hbM u j).view.read (Elt F) G) (e : ScBuf (F := F) c) :
    iprop(slotP c g e ∗ seps (fun j => cellP (F := F) c g j) all16 ∗ aheadP (F := F) c u ∗ (inflP c G g u -∗ wp frame (wpE (defs₀ (F := F)) Variants.none c none) Set.univ k K))
      ⊢ wp frame (wpE (defs₀ (F := F)) Variants.none c none) Set.univ (do
          let _ ← Prog.lift (.load scM (slotRect g).toLoadRect (View.loadsAt_vmem h_S1x2048x256))
          Prog.lift (.store scM (slotRect g) (k0_pay628 y) Finset.univ (View.stores_vmem_bits_univ h_S1x2048x256 rfl) (.inl rfl))
          starts hbM scM cc0_scratch1 g u all16
          k) K := by
  iintro ⟨Hs, Hc, Hp, Hk⟩
  simp only [Prog.lift, Prog.bind_op, Prog.bind_ret]
  iapply (wp_load Variants.none (c : Thread nD τ) none Set.univ (m := scM) (r := (slotRect g).toLoadRect) (hl := View.loadsAt_vmem h_S1x2048x256) (S := slotSet g) (f := e) (by rw [← slot_access g]; exact le_of_eq (View.set_slice _ _).symm)) $$ [Hs]
  · iexact Hs
  iintro Hs
  iapply (wp_store Variants.none (c : Thread nD τ) none Set.univ (m := scM) (r := slotRect g) (w := k0_pay628 y) (Mk := Finset.univ) (hx := View.stores_vmem_bits_univ h_S1x2048x256 rfl) (hm := .inl rfl) (S := slotSet g) (f := e) (by rw [← slot_access g]; exact View.setOn_subset_set _ _)) $$ [Hs]
  · iexact Hs
  iintro Hs
  rw [wp_bind]
  iapply (starts_run c g u G _ _ (h e) all16)
  isplitl [Hp]; · iexact Hp
  isplitl [Hs]; · rw [← slot_tiles]; iexact Hs
  isplitl [Hc]; · iexact Hc
  iintro Hf
  iapply Hk
  iexists _; iexact Hf

variable (i : grid0.Coords) (G : ResBuf (F := F) c) (y : FVec F S2048x256 .f32)
  (h : ∀ e j, (tileAt scM (slot i) j).view.read (Elt F) ((scM.access (slotRect (slot i))).write (Elt F) e (k0_pay628 y) Finset.univ) = (pieceAt hbM (i 0) j).view.read (Elt F) G)
include h

/-- A step whose slot is free: its copies go under way. -/
theorem ring_first (h1 : ¬ k0_cond1 i = 1#1) (h2 : ¬ k0_cond2 i = 1#1) (W : Waits sig Unit) (K : PUnit → sProp 𝕄) :
    iprop(freeP (F := F) c (slot i) ∗ aheadP (F := F) c (i 0) ∗ owes (c : Thread nD τ) 0 W
        ∗ (iprop(inflP c G (slot i) (i 0) ∗ (∃ W', owes (c : Thread nD τ) 0 W')) -∗ K ⟨⟩))
      ⊢ wp frame (wpE (defs₀ (F := F)) Variants.none c none) Set.univ (ring i hbM scM cc0_scratch1 y) K := by
  unfold ring ringAt
  rw [if_neg h1, if_neg h2]
  iintro ⟨⟨Hc, ⟨%e, Hs⟩⟩, Hp, HW, Hk⟩
  iapply (mid_run c (slot i) (i 0) G y _ K h e)
  isplitl [Hs]; · iexact Hs
  isplitl [Hc]; · iexact Hc
  isplitl [Hp]; · iexact Hp
  iintro Hf
  sl_step
  iapply Hk
  isplitl [Hf]; · iexact Hf
  iexists _; iexact HW

/-- A step that reuses its slot: the columns of step `u` are home, its own copies go under way. -/
theorem ring_mid (u : Fin 16) (h1 : k0_cond1 i = 1#1) (h2 : ¬ k0_cond2 i = 1#1) (W : Waits sig Unit) (K : PUnit → sProp 𝕄) :
    iprop(inflP c G (slot i) u ∗ aheadP (F := F) c (i 0) ∗ owes (c : Thread nD τ) 0 W
        ∗ (iprop(behindP c G u ∗ inflP c G (slot i) (i 0) ∗ (∃ W', owes (c : Thread nD τ) 0 W')) -∗ K ⟨⟩))
      ⊢ wp frame (wpE (defs₀ (F := F)) Variants.none c none) Set.univ (ring i hbM scM cc0_scratch1 y) K := by
  unfold ring ringAt
  rw [if_pos h1, if_neg h2, wp_bind]
  iintro ⟨⟨%e, Hf⟩, Hp, HW, Hk⟩
  iapply (waits_run c (slot i) u G e _ all16 W)
  isplitl [Hf]; · iexact Hf
  isplitl [HW]; · iexact HW
  iintro ⟨Hb, Ht, Hc, ⟨%W', HW⟩⟩
  iapply (mid_run c (slot i) (i 0) G y _ K h e)
  isplitl [Ht]; · rw [slot_tiles]; iexact Ht
  isplitl [Hc]; · iexact Hc
  isplitl [Hp]; · iexact Hp
  iintro Hf
  sl_step
  iapply Hk
  isplitl [Hb]; · iexact Hb
  isplitl [Hf]; · iexact Hf
  iexists _; iexact HW

/-- The last step: every column is home, both slots are free. -/
theorem ring_last (u u' : Fin 16) (h1 : k0_cond1 i = 1#1) (h2 : k0_cond2 i = 1#1) (W : Waits sig Unit) (K : PUnit → sProp 𝕄) :
    iprop(inflP c G (slot i) u ∗ inflP c G (oslot i) u' ∗ aheadP (F := F) c (i 0) ∗ owes (c : Thread nD τ) 0 W
        ∗ (iprop(behindP c G u ∗ behindP c G u' ∗ behindP c G (i 0) ∗ freeP (F := F) c (slot i) ∗ freeP (F := F) c (oslot i) ∗ (∃ W', owes (c : Thread nD τ) 0 W')) -∗ K ⟨⟩))
      ⊢ wp frame (wpE (defs₀ (F := F)) Variants.none c none) Set.univ (ring i hbM scM cc0_scratch1 y) K := by
  unfold ring ringAt
  rw [if_pos h1, if_pos h2, wp_bind]
  iintro ⟨⟨%e, Hf⟩, ⟨%e', Hf'⟩, Hp, HW, Hk⟩
  iapply (waits_run c (slot i) u G e _ all16 W)
  isplitl [Hf]; · iexact Hf
  isplitl [HW]; · iexact HW
  iintro ⟨Hb, Ht, Hc, ⟨%W', HW⟩⟩
  iapply (mid_run c (slot i) (i 0) G y _ K h e)
  isplitl [Ht]; · rw [slot_tiles]; iexact Ht
  isplitl [Hc]; · iexact Hc
  isplitl [Hp]; · iexact Hp
  iintro ⟨%e'', Hf⟩
  rw [wp_bind]
  iapply (waits_run c (oslot i) u' G e' _ all16 W')
  isplitl [Hf']; · iexact Hf'
  isplitl [HW]; · iexact HW
  iintro ⟨Hb', Ht', Hc', ⟨%W'', HW⟩⟩
  iapply (waits_run c (slot i) (i 0) G e'' _ all16 W'')
  isplitl [Hf]; · iexact Hf
  isplitl [HW]; · iexact HW
  iintro ⟨Hb'', Ht'', Hc'', HW⟩
  iapply Hk
  isplitl [Hb]; · iexact Hb
  isplitl [Hb']; · iexact Hb'
  isplitl [Hb'']; · iexact Hb''
  isplitl [Hc'' Ht'']
  · isplitl [Hc'']; · iexact Hc''
    iexists e''; rw [slot_tiles]; iexact Ht''
  isplitl [Hc' Ht']
  · isplitl [Hc']; · iexact Hc'
    iexists e'; rw [slot_tiles]; iexact Ht'
  iexact HW

end Families

end Cert.ColIdeal.Body

end
-- ==== Proof.ColIdealStep.lean ====
/- One step of the column attention and transition kernel: its loads, and its turn of the ring of copies; what the
   launch hands the ring and takes back. -/
module

public import proofs.«01_k».proof.Proof.ColIdealRing
public import Idealize.ShloMosaic.Lib.ValueLayout
public import Idealize.ShloMosaic.Lib.VecWindow

@[expose] public section

set_option maxRecDepth 16384

noncomputable section

namespace Cert.ColIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.ColIdeal Cert.ColIdeal.Gen

variable {F : FTy → Type} [FloatOps F] [Named F]

local notation "𝕄" => MT nD τ sig Unit (Elt F) ℕ (Pipeline.UD sig nD τ) ℕ

/-! ## The result as a function of the blocks -/

/-- The result whose columns `16 u … 16 u + 15` come from block `Y u`: row `128 j + s` of the block is row `s` of
    column `16 u + j`. -/
def resOf (c : Dev nD) (Y : Fin 16 → FVec F S2048x256 .f32) : ResBuf (F := F) c := fun (x : S128x256x256.Idx) =>
  Y ⟨(x 1).val / 16, by have h : (x 1).val < 256 := (x 1).isLt; omega⟩
    (ix2 ⟨128 * ((x 1).val % 16) + (x 0).val, by have h : (x 0).val < 128 := (x 0).isLt; omega⟩ (x 2))

/-- An index `(x, y)` matched with shape `[a, 1, b]` is `(x, 0, y)`. -/
theorem reshape_a1b {a b : ℕ} (h : (⟨2, ![a, b]⟩ : Shape).numel = (⟨3, ![a, 1, b]⟩ : Shape).numel)
    (x : Fin a) (y : Fin b) : Shape.reshapeEquiv h (ix2 x y) = ix3 x (⟨0, Nat.one_pos⟩ : Fin 1) y :=
  Shape.reshapeEquiv_eq_of_rowMajor h (by
    rw [Shape.rowMajor_val_three, Shape.rowMajor_val_two]
    show ((x.val * 1 + 0) * b + y.val) = x.val * b + y.val
    simp only [Nat.mul_one, Nat.add_zero])

/-- Where a tile's element lies in the double buffer. -/
theorem tile_emb (g : Fin 2) (j : Fin 16) (s : Fin 128) (k : Fin 256) :
    (tileAt scM g j).view.emb (ix2 s k) = (ix3 g (⟨128 * j.val + s.val, by omega⟩ : Fin 2048) k : S2x2048x256.Idx) := by
  have e := reshapeEquiv_ix2_1ab (a := 128) (b := 256) (by decide) s k
  refine (congrArg (Rect.unit (s := S2x2048x256) ![g.val, 128 * j.val, 0] S1x128x256.size (tile_inb g j)).emb e).trans ?_
  funext a; apply Fin.ext; rw [Rect.emb_apply]; fin_cases a <;> simp <;> rfl

/-- Where a column's element lies in the result. -/
theorem piece_emb (u j : Fin 16) (s : Fin 128) (k : Fin 256) :
    (pieceAt hbM u j).view.emb (ix2 s k) = (ix3 s (⟨16 * u.val + j.val, by omega⟩ : Fin 256) k : S128x256x256.Idx) := by
  have e := reshape_a1b (a := 128) (b := 256) (by decide) s k
  refine (congrArg (Rect.unit (s := S128x256x256) ![0, 16 * u.val + j.val, 0] S128x1x256.size (piece_inb u j)).emb e).trans ?_
  funext a; apply Fin.ext; rw [Rect.emb_apply]; fin_cases a <;> simp <;> rfl

/-- Where a stored block's element lies in the double buffer. -/
theorem slot_emb (g : Fin 2) (r : Fin 2048) (k : Fin 256) :
    (scM.access (slotRect g)).emb (ix3 (0 : Fin 1) r k : S1x2048x256.Idx) = (ix3 g r k : S2x2048x256.Idx) := by
  refine (show (scM.access (slotRect g)).emb (ix3 (0 : Fin 1) r k : S1x2048x256.Idx) = (slotRect g).emb (ix3 (0 : Fin 1) r k : S1x2048x256.Idx) from rfl).trans ?_
  funext a; apply Fin.ext; rw [Rect.emb_apply]; fin_cases a <;> simp [slotRect] <;> rfl

/-- What tile `j` holds once the block is stored is what the result holds in column `16 u + j`. -/
theorem tile_piece (c : Dev nD) (g : Fin 2) (u j : Fin 16) (Y : Fin 16 → FVec F S2048x256 .f32) (e : ScBuf (F := F) c) :
    (tileAt scM g j).view.read (Elt F) ((scM.access (slotRect g)).write (Elt F) e (k0_pay628 (Y u)) Finset.univ)
      = (pieceAt hbM u j).view.read (Elt F) (resOf c Y) := by
  funext x
  obtain ⟨s, k, rfl⟩ : ∃ (s : Fin 128) (k : Fin 256), x = ix2 s k := ⟨_, _, eq_ix2 x⟩
  have hs := s.isLt
  have hw : (scM.access (slotRect g)).write (Elt F) e (k0_pay628 (Y u)) Finset.univ (ix3 g (⟨128 * j.val + s.val, by omega⟩ : Fin 2048) k : S2x2048x256.Idx)
      = k0_pay628 (Y u) (ix3 (0 : Fin 1) (⟨128 * j.val + s.val, by omega⟩ : Fin 2048) k) := by
    rw [← slot_emb]; exact (View.write_emb_of_mem _ _ (Finset.mem_univ _)).trans (cast_eq _ _)
  refine (View.read_apply (v := (tileAt scM g j).view) _ (ix2 s k)).trans ((cast_eq _ _).trans ((congrArg ((scM.access (slotRect g)).write (Elt F) e (k0_pay628 (Y u)) Finset.univ) (tile_emb g j s k)).trans (hw.trans ?_)))
  refine Eq.trans ?_ ((View.read_apply (v := (pieceAt hbM u j).view) _ (ix2 s k)).trans ((cast_eq _ _).trans (congrArg (resOf c Y) (piece_emb u j s k)))).symm
  unfold k0_pay628 resOf
  refine (shapeCast_ab_1ab_apply _ _ _ _ _).trans ?_
  have hj := j.isLt
  show Y u _ = Y ⟨(16 * u.val + j.val) / 16, _⟩ (ix2 ⟨128 * ((16 * u.val + j.val) % 16) + s.val, _⟩ k)
  have e1 : (⟨(16 * u.val + j.val) / 16, by omega⟩ : Fin 16) = u := Fin.ext (by show (16 * u.val + j.val) / 16 = u.val; omega)
  have e2 : (⟨128 * ((16 * u.val + j.val) % 16) + s.val, by omega⟩ : Fin 2048) = ⟨128 * j.val + s.val, by omega⟩ :=
    Fin.ext (by show 128 * ((16 * u.val + j.val) % 16) + s.val = 128 * j.val + s.val; omega)
  rw [e1, e2]

/-! ## The launch's hand-over -/

section HandOver
variable (c : Dev nD)

/-- The indices of column `16 u + j`, over pairs. -/
abbrev pieceSet' (p : Fin 16 × Fin 16) : Finset S128x256x256.Idx := pieceSet p.1 p.2

/-- The columns are pairwise disjoint, -/
theorem pieces_disjoint (p p' : Fin 16 × Fin 16) (h : p ≠ p') : Disjoint (pieceSet' p) (pieceSet' p') := by
  rw [Finset.disjoint_left]
  intro i hi hi'
  rw [mem_pieceSet] at hi hi'
  exact h (Prod.ext (Fin.ext (by omega)) (Fin.ext (by omega)))

/-- and make up the result. -/
theorem pieces_cover : Finset.univ.biUnion pieceSet' = Finset.univ := by
  ext i
  have h1 : (i 1).val < 256 := (i 1).isLt
  simp only [Finset.mem_biUnion, Finset.mem_univ, true_and, iff_true]
  exact ⟨(⟨(i 1).val / 16, by omega⟩, ⟨(i 1).val % 16, by omega⟩), (mem_pieceSet _ _ _).mpr (by show (i 1).val = 16 * ((i 1).val / 16) + (i 1).val % 16; omega)⟩

/-- The two slots are disjoint, -/
theorem slots_disjoint (g g' : Fin 2) (h : g ≠ g') : Disjoint (slotSet g) (slotSet g') := by
  rw [Finset.disjoint_left]
  intro i hi hi'
  rw [mem_slotSet] at hi hi'
  exact h (Fin.ext (by omega))

/-- and make up the double buffer. -/
theorem slots_cover : Finset.univ.biUnion slotSet = Finset.univ := by
  ext i
  have h0 : (i 0).val < 2 := (i 0).isLt
  simp only [Finset.mem_biUnion, Finset.mem_univ, true_and, iff_true]
  exact ⟨⟨(i 0).val, h0⟩, (mem_slotSet _ _).mpr rfl⟩

/-- The double buffer whole, at anything, is its two slots. -/
theorem scratch_in : iprop(∃ f : ScBuf (F := F) c, ((c : Thread nD τ).loc cc0_scratch0) ↦{fullShare} f) ⊢ (bigSep Finset.univ (fun g => iprop(∃ e, slotP (F := F) c g e)) : sProp 𝕄) :=
  Ring.pieces_split (U := Pipeline.UD sig nD τ) (ℓ := (c : Thread nD τ).loc cc0_scratch0) (q := fullShare) slotSet slots_disjoint slots_cover (fun g e => slotP c g e) (fun g e => rfl)

/-- and back. -/
theorem scratch_out [Nonempty (ScBuf (F := F) c)] : (bigSep Finset.univ (fun g => iprop(∃ e, slotP (F := F) c g e)) : sProp 𝕄) ⊢ iprop(∃ f : ScBuf (F := F) c, ((c : Thread nD τ).loc cc0_scratch0) ↦{fullShare} f) :=
  Ring.pieces_join (U := Pipeline.UD sig nD τ) (ℓ := (c : Thread nD τ).loc cc0_scratch0) (q := fullShare) slotSet slots_disjoint slots_cover (fun g e => slotP c g e) (fun g e => rfl) (Classical.arbitrary _)

/-- The result whole is its columns. -/
theorem result_pieces (f : ResBuf (F := F) c) : ((((c : Thread nD τ).loc main_v23) ↦{fullShare} f : sProp 𝕄)) = bigSep Finset.univ (behindP c f) := by
  refine (Ring.pointsTo_blocks (U := Pipeline.UD sig nD τ) (ℓ := (c : Thread nD τ).loc main_v23) (q := fullShare) pieceSet' pieces_disjoint pieces_cover f).trans ?_
  rw [BI.bigSep_univ_prod]
  refine BI.bigSep_congr fun u _ => ?_
  refine Eq.trans ?_ (seps_all16 (fun j => pieceP c u j f))
  refine BI.bigSep_congr fun j _ => ?_
  unfold pieceP; rw [piece_set]; rfl

/-- A column held at `f` is held at something. -/
theorem behind_ahead (f : ResBuf (F := F) c) (u : Fin 16) : behindP c f u ⊢ aheadP (F := F) c u := by
  unfold behindP aheadP
  rw [← seps_all16, ← seps_all16]
  exact BI.bigSep_mono (s := Finset.univ) fun j _ => show _ ⊢ iprop(∃ f, pieceP (F := F) c u j f) from by iintro H; iexists f; iexact H

/-- The ring before its step `k`. -/
def wring (G : ResBuf (F := F) c) (k : ℕ) : sProp 𝕄 := Ring.AtBΦ 2 (freeP (F := F) c) (inflP c G) (aheadP (F := F) c) (behindP c G) k

/-- The semaphores of the ring. -/
abbrev osem : Fin 2 × Fin 16 → SemLoc sig := fun p => cellR p.1 p.2

/-- The semaphores at zero and the slots make up the free slots. -/
theorem frees_eq : iprop(Pipeline.ownSems0 (Ix := Unit) (Name := ℕ) (U := Pipeline.UD sig nD τ) (Lvl := ℕ) (Val := Elt F) (τ := τ) osem c
      ∗ bigSep Finset.univ (fun g => iprop(∃ e, slotP (F := F) c g e))) = (bigSep Finset.univ (freeP (F := F) c) : sProp 𝕄) := by
  unfold Pipeline.ownSems0
  rw [BI.bigSep_univ_prod]
  refine (BI.bigSep_sep Finset.univ (fun g => bigSep Finset.univ (fun j => cellP (F := F) c g j)) (fun g => iprop(∃ e, slotP (F := F) c g e))).symm.trans ?_
  refine BI.bigSep_congr fun g _ => ?_
  rw [seps_all16]; rfl

/-- Into the ring: the double buffer, the semaphores and the result are the ring before its first step. -/
theorem wring_in (G f : ResBuf (F := F) c) : iprop((∃ e : ScBuf (F := F) c, ((c : Thread nD τ).loc cc0_scratch0) ↦{fullShare} e)
      ∗ Pipeline.ownSems0 (Ix := Unit) (Name := ℕ) (U := Pipeline.UD sig nD τ) (Lvl := ℕ) (Val := Elt F) (τ := τ) osem c
      ∗ (((c : Thread nD τ).loc main_v23) ↦{fullShare} f)) ⊢ wring c G 0 := by
  unfold wring; rw [Ring.AtBΦ_lt _ _ _ _ _ 0 (by decide), Ring.AtB_zero]; unfold Ring.AtB₀
  rw [result_pieces, ← frees_eq]
  iintro ⟨HS, HQ, HD⟩
  isplitl [HD]
  · iapply (show (bigSep Finset.univ (behindP c f) : sProp 𝕄) ⊢ bigSep Finset.univ (aheadP (F := F) c) from BI.bigSep_mono (s := Finset.univ) fun u _ => behind_ahead c f u); iexact HD
  isplitl [HQ]; · iexact HQ
  iapply (scratch_in c); iexact HS

/-- Out of the ring: after its last step they are there again, the result as the blocks say. -/
theorem wring_out (G : ResBuf (F := F) c) : wring c G 16 ⊢ iprop((∃ e : ScBuf (F := F) c, ((c : Thread nD τ).loc cc0_scratch0) ↦{fullShare} e)
      ∗ Pipeline.ownSems0 (Ix := Unit) (Name := ℕ) (U := Pipeline.UD sig nD τ) (Lvl := ℕ) (Val := Elt F) (τ := τ) osem c
      ∗ (((c : Thread nD τ).loc main_v23) ↦{fullShare} G)) := by
  haveI : Nonempty (ScBuf (F := F) c) := ⟨fun _ => G (ix3 (0 : Fin 128) (0 : Fin 256) (0 : Fin 256) : S128x256x256.Idx)⟩
  unfold wring; rw [Ring.AtBΦ_ge _ _ _ _ _ 16 (by decide)]; unfold Ring.AtBEnd
  rw [result_pieces, ← frees_eq]
  iintro ⟨HD, HQ, HS⟩
  isplitl [HS]; · iapply (scratch_out c); iexact HS
  isplitl [HQ]; · iexact HQ
  iexact HD

end HandOver

/-! ## A step's turn of the ring -/

/-- When a step waits, and when it drains; its slot, the other slot, its number. -/
theorem cond1_iff : ∀ t : Fin grid0.N, k0_cond1 (grid0.coords t) = 1#1 ↔ 2 ≤ t.val := by decide +kernel
theorem cond2_iff : ∀ t : Fin grid0.N, k0_cond2 (grid0.coords t) = 1#1 ↔ t.val + 1 = 16 := by decide +kernel
theorem slot_eq : ∀ t : Fin grid0.N, slot (grid0.coords t) = Ring.sl 2 t.val := by decide +kernel
theorem oslot_eq : ∀ t : Fin grid0.N, oslot (grid0.coords t) = Ring.sl 2 (t.val + 1) := by decide +kernel
theorem step_eq : ∀ t : Fin grid0.N, grid0.coords t 0 = Ring.bk 16 t.val := fun t => Fin.ext ((by decide +kernel : ∀ t : Fin grid0.N, (grid0.coords t 0).val = (Ring.bk 16 t.val).val) t)

/-- A step takes the ring from before it to after it. -/
theorem step_run (c : Dev nD) (t : Fin grid0.N) (Y : Fin 16 → FVec F S2048x256 .f32) (W : Waits sig Unit) (K : PUnit → sProp 𝕄) :
    iprop(wring c (resOf c Y) t.val ∗ owes (c : Thread nD τ) 0 W
        ∗ (iprop(wring c (resOf c Y) (t.val + 1) ∗ (∃ W', owes (c : Thread nD τ) 0 W')) -∗ K ⟨⟩))
      ⊢ wp frame (wpE (defs₀ (F := F)) Variants.none c none) Set.univ (ring (grid0.coords t) hbM scM cc0_scratch1 (Y (grid0.coords t 0))) K := by
  have hN : t.val < 16 := lt_of_lt_of_eq t.isLt N_0
  have h := fun e j => tile_piece c (slot (grid0.coords t)) (grid0.coords t 0) j Y e
  unfold wring
  by_cases h2 : 2 ≤ t.val
  · by_cases hl : t.val + 1 = 16
    · rw [Ring.AtBΦ_lt _ _ _ _ _ t.val (by omega), Ring.AtB22_here_last _ _ _ _ t.val h2 hl, Ring.AtBΦ_end _ _ _ _ _ (t.val + 1) hl, Ring.AtB22_drained _ _ t.val h2 hl]
      iintro ⟨⟨Ha, Hb, Hi, Hi'⟩, HW, Hk⟩
      iapply (ring_last c (grid0.coords t) (resOf c Y) (Y (grid0.coords t 0)) h (Ring.bk 16 (t.val - 2)) (Ring.bk 16 (t.val - 1)) ((cond1_iff t).mpr h2) ((cond2_iff t).mpr hl) W K)
      rw [slot_eq, oslot_eq, step_eq]
      isplitl [Hi]; · iexact Hi
      isplitl [Hi']; · iexact Hi'
      isplitl [Ha]; · iexact Ha
      isplitl [HW]; · iexact HW
      iintro ⟨H0, H1, H2, Hf, Hf', HW⟩
      iapply Hk
      isplitr [HW]
      · isplitl [Hb H0 H1 H2]
        · isplitl [H2]; · iexact H2
          isplitl [H0]; · iexact H0
          isplitl [H1]; · iexact H1
          iexact Hb
        isplitl [Hf]; · iexact Hf
        iexact Hf'
      iexact HW
    · rw [Ring.AtBΦ_lt _ _ _ _ _ t.val (by omega), Ring.AtB22_here _ _ _ _ t.val h2 (by omega), Ring.AtBΦ_lt _ _ _ _ _ (t.val + 1) (by omega), Ring.AtB22_next _ _ _ _ t.val h2 (by omega)]
      iintro ⟨⟨⟨Ha, Hr⟩, Hb, Hi, Hi'⟩, HW, Hk⟩
      iapply (ring_mid c (grid0.coords t) (resOf c Y) (Y (grid0.coords t 0)) h (Ring.bk 16 (t.val - 2)) ((cond1_iff t).mpr h2) (fun h => hl ((cond2_iff t).mp h)) W K)
      rw [slot_eq, step_eq]
      isplitl [Hi]; · iexact Hi
      isplitl [Ha]; · iexact Ha
      isplitl [HW]; · iexact HW
      iintro ⟨H0, H1, HW⟩
      iapply Hk
      isplitr [HW]
      · isplitl [Hr]; · iexact Hr
        isplitl [H0 Hb]
        · isplitl [H0]; · iexact H0
          iexact Hb
        isplitl [Hi']; · iexact Hi'
        iexact H1
      iexact HW
  · have hl : ¬ t.val + 1 = 16 := by omega
    rcases (show t.val = 0 ∨ t.val = 1 by omega) with h0 | h0
    · rw [Ring.AtBΦ_lt _ _ _ _ _ t.val (by omega), Ring.AtB2_zero' 2 _ _ _ _ t.val h0, Ring.AtBΦ_lt _ _ _ _ _ (t.val + 1) (by omega), Ring.AtB22_next_zero' _ _ _ _ t.val h0]
      iintro ⟨⟨⟨Ha, Hr⟩, Hf, Hf'⟩, HW, Hk⟩
      iapply (ring_first c (grid0.coords t) (resOf c Y) (Y (grid0.coords t 0)) h (fun h => h2 ((cond1_iff t).mp h)) (fun h => hl ((cond2_iff t).mp h)) W K)
      rw [slot_eq, step_eq]
      isplitl [Hf]; · iexact Hf
      isplitl [Ha]; · iexact Ha
      isplitl [HW]; · iexact HW
      iintro ⟨H1, HW⟩
      iapply Hk
      isplitr [HW]
      · isplitl [Hr]; · iexact Hr
        isplitl [Hf']; · iexact Hf'
        iexact H1
      iexact HW
    · rw [Ring.AtBΦ_lt _ _ _ _ _ t.val (by omega), Ring.AtB22_one' _ _ _ _ t.val h0 (by decide), Ring.AtBΦ_lt _ _ _ _ _ (t.val + 1) (by omega), Ring.AtB22_next_one' _ _ _ _ t.val h0]
      iintro ⟨⟨⟨Ha, Hr⟩, Hf, Hi⟩, HW, Hk⟩
      iapply (ring_first c (grid0.coords t) (resOf c Y) (Y (grid0.coords t 0)) h (fun h => h2 ((cond1_iff t).mp h)) (fun h => hl ((cond2_iff t).mp h)) W K)
      rw [slot_eq, step_eq]
      isplitl [Hf]; · iexact Hf
      isplitl [Ha]; · iexact Ha
      isplitl [HW]; · iexact HW
      iintro ⟨H1, HW⟩
      iapply Hk
      isplitr [HW]
      · isplitl [Hr]; · iexact Hr
        isplitl [Hi]; · iexact Hi
        iexact H1
      iexact HW

/-- Loading a whole block held at `x` gives `x`. -/
theorem load_owned (c : Dev nD) {s : Shape} {e : EltTy} (a : Memref sig .tc .vmem s e) {off : Fin s.rank → ℕ} (inb : ∀ k, off k + s.size k ≤ s.size k)
    (hl : a.view.LoadsAt (Rect.unit off s.size inb).toLoadRect) (x : s.Idx → Elt F e) (k : (s.Idx → Elt F e) → Prog (TpuEff nD τ sig (Elt F) Λ₀ .tc) PUnit) (K : PUnit → sProp 𝕄) :
    iprop(owns (c : Thread nD τ) a fullShare x ∗ (owns (c : Thread nD τ) a fullShare x -∗ wp frame (wpE (defs₀ (F := F)) Variants.none c none) Set.univ (k x) K))
      ⊢ wp frame (wpE (defs₀ (F := F)) Variants.none c none) Set.univ (Prog.op (.load a (Rect.unit off s.size inb).toLoadRect hl) k) K := by
  unfold owns
  iintro ⟨⟨%f, %hf, H⟩, Hk⟩
  iapply (wp_load Variants.none (c : Thread nD τ) none Set.univ (m := a) (r := (Rect.unit off s.size inb).toLoadRect) (hl := hl) (S := a.view.set) (f := f) (View.setOn_subset_set _ _)) $$ [H]
  · iexact H
  iintro H
  rw [View.readAt_full, hf]
  iapply Hk
  iexists f; isplitr; · ipureintro; exact hf
  iexact H

end Cert.ColIdeal.Body

end
-- ==== Proof.ColIdealFrame.lean ====
/- The column attention and transition kernel's run: its loads, its proof data, its body obligation, the launch, and what
   its arguments and its result hold in the end. -/
module

public import proofs.«01_k».proof.Proof.ColIdealStep
public import proofs.«01_k».proof.Proof.Gen.ColIdeal.Frame
public import Idealize.ShloMosaic.Lib.Pipeline.FrameValue
public import Idealize.ShloMosaic.Lib.Claim

@[expose] public section

set_option maxRecDepth 16384

noncomputable section

namespace Cert.ColIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.ColIdeal Cert.ColIdeal.Gen

variable {F : FTy → Type} [FloatOps F] [Named F]

local notation "𝕄" => MT nD τ sig Unit (Elt F) ℕ (Pipeline.UD sig nD τ) ℕ

/-! ## The loads -/

set_option maxHeartbeats 4000000 in
/-- The body loads its blocks, held at `x1 … x23`, and takes its turn of the ring with the block it computes of them. -/
theorem loads_run (c : Dev nD) (i : grid0.Coords)
    (arg1 : Memref sig .tc .vmem S16x16x256 .f32) (harg1 : arg1.IsWhole)
    (arg2 : Memref sig .tc .vmem S16x16x256 .f32) (harg2 : arg2.IsWhole)
    (arg3 : Memref sig .tc .vmem S16x16x256 .f32) (harg3 : arg3.IsWhole)
    (arg4 : Memref sig .tc .vmem S16x16x256 .f32) (harg4 : arg4.IsWhole)
    (arg5 : Memref sig .tc .vmem S16x16x256 .f32) (harg5 : arg5.IsWhole)
    (arg6 : Memref sig .tc .vmem S16x16x256 .f32) (harg6 : arg6.IsWhole)
    (arg7 : Memref sig .tc .vmem S16x16x256 .f32) (harg7 : arg7.IsWhole)
    (arg8 : Memref sig .tc .vmem S16x16x256 .f32) (harg8 : arg8.IsWhole)
    (arg9 : Memref sig .tc .vmem S1x256 .f32) (harg9 : arg9.IsWhole)
    (arg10 : Memref sig .tc .vmem S1x256 .f32) (harg10 : arg10.IsWhole)
    (arg11 : Memref sig .tc .vmem S256x256 .bf16) (harg11 : arg11.IsWhole)
    (arg12 : Memref sig .tc .vmem S256x256 .bf16) (harg12 : arg12.IsWhole)
    (arg13 : Memref sig .tc .vmem S256x256 .bf16) (harg13 : arg13.IsWhole)
    (arg14 : Memref sig .tc .vmem S256x256 .bf16) (harg14 : arg14.IsWhole)
    (arg15 : Memref sig .tc .vmem S1x256 .f32) (harg15 : arg15.IsWhole)
    (arg16 : Memref sig .tc .vmem S256x256 .bf16) (harg16 : arg16.IsWhole)
    (arg17 : Memref sig .tc .vmem S1x256 .f32) (harg17 : arg17.IsWhole)
    (arg18 : Memref sig .tc .vmem S1x256 .f32) (harg18 : arg18.IsWhole)
    (arg19 : Memref sig .tc .vmem S1x256 .f32) (harg19 : arg19.IsWhole)
    (arg20 : Memref sig .tc .vmem S256x1024 .bf16) (harg20 : arg20.IsWhole)
    (arg21 : Memref sig .tc .vmem S1x1024 .f32) (harg21 : arg21.IsWhole)
    (arg22 : Memref sig .tc .vmem S1024x256 .bf16) (harg22 : arg22.IsWhole)
    (arg23 : Memref sig .tc .vmem S1x256 .f32) (harg23 : arg23.IsWhole)
    (x1 : Vec F S16x16x256 .f32)
    (x2 : Vec F S16x16x256 .f32)
    (x3 : Vec F S16x16x256 .f32)
    (x4 : Vec F S16x16x256 .f32)
    (x5 : Vec F S16x16x256 .f32)
    (x6 : Vec F S16x16x256 .f32)
    (x7 : Vec F S16x16x256 .f32)
    (x8 : Vec F S16x16x256 .f32)
    (x9 : Vec F S1x256 .f32)
    (x10 : Vec F S1x256 .f32)
    (x11 : Vec F S256x256 .bf16)
    (x12 : Vec F S256x256 .bf16)
    (x13 : Vec F S256x256 .bf16)
    (x14 : Vec F S256x256 .bf16)
    (x15 : Vec F S1x256 .f32)
    (x16 : Vec F S256x256 .bf16)
    (x17 : Vec F S1x256 .f32)
    (x18 : Vec F S1x256 .f32)
    (x19 : Vec F S1x256 .f32)
    (x20 : Vec F S256x1024 .bf16)
    (x21 : Vec F S1x1024 .f32)
    (x22 : Vec F S1024x256 .bf16)
    (x23 : Vec F S1x256 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23) -∗
            wp frame (wpE (defs₀ (F := F)) Variants.none c none) Set.univ (ring i hbM scM cc0_scratch1 (E x1 x2 x3 x4 x5 x6 x7 x8 x9 x10 x11 x12 x13 x14 x15 x16 x16 x16 x16 x16 x16 x16 x16 x16 x16 x16 x16 x16 x16 x16 x16 x17 x18 x19 x20 x21 x22 x23)) K))
      ⊢ wp frame (wpE (defs₀ (F := F)) Variants.none c none) Set.univ (cc0_msa_col_atten_transition i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hbM (Memref.isWhole_whole _) scM (Memref.isWhole_whole _) cc0_scratch1) K := by
  rw [body_eq]
  simp only [Prog.lift, Prog.bind_op, Prog.bind_ret]
  iintro ⟨H1, H2, H3, H4, H5, H6, H7, H8, H9, H10, H11, H12, H13, H14, H15, H16, H17, H18, H19, H20, H21, H22, H23, Hk⟩
  iapply (load_owned c arg1 _ _ x1 _ K); isplitl [H1]; · iexact H1
  iintro H1
  iapply (load_owned c arg2 _ _ x2 _ K); isplitl [H2]; · iexact H2
  iintro H2
  iapply (load_owned c arg3 _ _ x3 _ K); isplitl [H3]; · iexact H3
  iintro H3
  iapply (load_owned c arg4 _ _ x4 _ K); isplitl [H4]; · iexact H4
  iintro H4
  iapply (load_owned c arg5 _ _ x5 _ K); isplitl [H5]; · iexact H5
  iintro H5
  iapply (load_owned c arg6 _ _ x6 _ K); isplitl [H6]; · iexact H6
  iintro H6
  iapply (load_owned c arg7 _ _ x7 _ K); isplitl [H7]; · iexact H7
  iintro H7
  iapply (load_owned c arg8 _ _ x8 _ K); isplitl [H8]; · iexact H8
  iintro H8
  iapply (load_owned c arg9 _ _ x9 _ K); isplitl [H9]; · iexact H9
  iintro H9
  iapply (load_owned c arg10 _ _ x10 _ K); isplitl [H10]; · iexact H10
  iintro H10
  iapply (load_owned c arg11 _ _ x11 _ K); isplitl [H11]; · iexact H11
  iintro H11
  iapply (load_owned c arg12 _ _ x12 _ K); isplitl [H12]; · iexact H12
  iintro H12
  iapply (load_owned c arg13 _ _ x13 _ K); isplitl [H13]; · iexact H13
  iintro H13
  iapply (load_owned c arg14 _ _ x14 _ K); isplitl [H14]; · iexact H14
  iintro H14
  iapply (load_owned c arg15 _ _ x15 _ K); isplitl [H15]; · iexact H15
  iintro H15
  iapply (load_owned c arg16 _ _ x16 _ K); isplitl [H16]; · iexact H16
  iintro H16
  iapply (load_owned c arg16 _ _ x16 _ K); isplitl [H16]; · iexact H16
  iintro H16
  iapply (load_owned c arg16 _ _ x16 _ K); isplitl [H16]; · iexact H16
  iintro H16
  iapply (load_owned c arg16 _ _ x16 _ K); isplitl [H16]; · iexact H16
  iintro H16
  iapply (load_owned c arg16 _ _ x16 _ K); isplitl [H16]; · iexact H16
  iintro H16
  iapply (load_owned c arg16 _ _ x16 _ K); isplitl [H16]; · iexact H16
  iintro H16
  iapply (load_owned c arg16 _ _ x16 _ K); isplitl [H16]; · iexact H16
  iintro H16
  iapply (load_owned c arg16 _ _ x16 _ K); isplitl [H16]; · iexact H16
  iintro H16
  iapply (load_owned c arg16 _ _ x16 _ K); isplitl [H16]; · iexact H16
  iintro H16
  iapply (load_owned c arg16 _ _ x16 _ K); isplitl [H16]; · iexact H16
  iintro H16
  iapply (load_owned c arg16 _ _ x16 _ K); isplitl [H16]; · iexact H16
  iintro H16
  iapply (load_owned c arg16 _ _ x16 _ K); isplitl [H16]; · iexact H16
  iintro H16
  iapply (load_owned c arg16 _ _ x16 _ K); isplitl [H16]; · iexact H16
  iintro H16
  iapply (load_owned c arg16 _ _ x16 _ K); isplitl [H16]; · iexact H16
  iintro H16
  iapply (load_owned c arg16 _ _ x16 _ K); isplitl [H16]; · iexact H16
  iintro H16
  iapply (load_owned c arg16 _ _ x16 _ K); isplitl [H16]; · iexact H16
  iintro H16
  iapply (load_owned c arg17 _ _ x17 _ K); isplitl [H17]; · iexact H17
  iintro H17
  iapply (load_owned c arg18 _ _ x18 _ K); isplitl [H18]; · iexact H18
  iintro H18
  iapply (load_owned c arg19 _ _ x19 _ K); isplitl [H19]; · iexact H19
  iintro H19
  iapply (load_owned c arg20 _ _ x20 _ K); isplitl [H20]; · iexact H20
  iintro H20
  iapply (load_owned c arg21 _ _ x21 _ K); isplitl [H21]; · iexact H21
  iintro H21
  iapply (load_owned c arg22 _ _ x22 _ K); isplitl [H22]; · iexact H22
  iintro H22
  iapply (load_owned c arg23 _ _ x23 _ K); isplitl [H23]; · iexact H23
  iintro H23
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

variable (m : (ℓ : Loc nD τ sig) → Buf (Elt F) ℓ) (ρ : Dev nD → PrngReg)

/-! ## The proof data -/

/-- The point that computes block `u`. -/
def pt (u : Fin 16) : Fin cfg0.N := ⟨u.val, lt_of_lt_of_eq u.isLt N_0.symm⟩

/-- It is the point with that coordinate. -/
theorem pt_coords (t : Fin cfg0.N) : pt (grid0.coords t 0) = t :=
  Fin.ext ((by decide +kernel : ∀ t : Fin grid0.N, (grid0.coords t 0).val = t.val) t)

/-- The block a point computes, of its windows' blocks. -/
def blockOf (c : Dev nD) (t : Fin cfg0.N) : FVec F S2048x256 .f32 :=
  E (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 15 t) (iblk m c 15 t) (iblk m c 15 t) (iblk m c 15 t) (iblk m c 15 t) (iblk m c 15 t) (iblk m c 15 t) (iblk m c 15 t) (iblk m c 15 t) (iblk m c 15 t) (iblk m c 15 t) (iblk m c 15 t) (iblk m c 15 t) (iblk m c 15 t) (iblk m c 15 t) (iblk m c 16 t) (iblk m c 17 t) (iblk m c 18 t) (iblk m c 19 t) (iblk m c 20 t) (iblk m c 21 t) (iblk m c 22 t)

/-- The blocks, by number. -/
def Y (c : Dev nD) (u : Fin 16) : FVec F S2048x256 .f32 := blockOf m c (pt u)

/-- The result. -/
abbrev res (c : Dev nD) : ResBuf (F := F) c := resOf c (Y m c)

/-- @main up to the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Before point `k`: the generator register at some state, and the ring. -/
def PhiR (c : Dev nD) (k : ℕ) : sProp 𝕄 := iprop((∃ r, prngReg c r) ∗ wring c (res m c) k)

/-- The proof data: the arrays as the region finds them, every window's block left in place, nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨_ + 23, h⟩ => absurd h (Nat.not_lt_of_ge (Nat.le_add_left 23 _))
  Φ t := PhiR m c t.val
  q _ := fullShare
  owed _ := 0

/-- Its arrays are the region-entry contents. -/
theorem A_eq (c : Dev nD) (w : Fin cfg0.W) : (dats m 0 c).A w = V m c (Pipeline.arrRef spec0 w) := by
  dsimp only [dats]

/-! What the body leaves in each window's buffer. -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]

/-- The invariant at a point's start, -/
theorem PhiR_castSucc (c : Dev nD) (t : Fin cfg0.N) : (dats m 0 c).Φ t.castSucc = PhiR m c t.val := by
  dsimp only [dats]; simp only [Fin.val_castSucc]
/-- and at its end. -/
theorem PhiR_succ (c : Dev nD) (t : Fin cfg0.N) : (dats m 0 c).Φ t.succ = PhiR m c (t.val + 1) := by
  dsimp only [dats]; simp only [Fin.val_succ]

/-! Each window's buffer before the body. -/

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin cfg0.N) (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
theorem before13 (c : Dev nD) (t : Fin cfg0.N) (d) : (dats m 0 c).before 13 t d = iblk m c 13 t :=
  ((dats m 0 c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)
theorem before14 (c : Dev nD) (t : Fin cfg0.N) (d) : (dats m 0 c).before 14 t d = iblk m c 14 t :=
  ((dats m 0 c).before_in_eq_fetched 14 rfl (fun _ => rfl) (fun _ _ _ => rfl) (fun t => by rw [after14]; unfold Dat.blockOf iblk; rw [A_eq]; try rfl) t d).trans
    (by unfold Dat.fetched Dat.blockOf iblk; rw [A_eq]; try rfl)
theorem before15 (c : Dev nD) (t : Fin cfg0.N) (d) : (dats m 0 c).before 15 t d = iblk m c 15 t :=
  ((dats m 0 c).before_in_eq_fetched 15 rfl (fun _ => rfl) (fun _ _ _ => rfl) (fun t => by rw [after15]; unfold Dat.blockOf iblk; rw [A_eq]; try rfl) t d).trans
    (by unfold Dat.fetched Dat.blockOf iblk; rw [A_eq]; try rfl)
theorem before16 (c : Dev nD) (t : Fin cfg0.N) (d) : (dats m 0 c).before 16 t d = iblk m c 16 t :=
  ((dats m 0 c).before_in_eq_fetched 16 rfl (fun _ => rfl) (fun _ _ _ => rfl) (fun t => by rw [after16]; unfold Dat.blockOf iblk; rw [A_eq]; try rfl) t d).trans
    (by unfold Dat.fetched Dat.blockOf iblk; rw [A_eq]; try rfl)
theorem before17 (c : Dev nD) (t : Fin cfg0.N) (d) : (dats m 0 c).before 17 t d = iblk m c 17 t :=
  ((dats m 0 c).before_in_eq_fetched 17 rfl (fun _ => rfl) (fun _ _ _ => rfl) (fun t => by rw [after17]; unfold Dat.blockOf iblk; rw [A_eq]; try rfl) t d).trans
    (by unfold Dat.fetched Dat.blockOf iblk; rw [A_eq]; try rfl)
theorem before18 (c : Dev nD) (t : Fin cfg0.N) (d) : (dats m 0 c).before 18 t d = iblk m c 18 t :=
  ((dats m 0 c).before_in_eq_fetched 18 rfl (fun _ => rfl) (fun _ _ _ => rfl) (fun t => by rw [after18]; unfold Dat.blockOf iblk; rw [A_eq]; try rfl) t d).trans
    (by unfold Dat.fetched Dat.blockOf iblk; rw [A_eq]; try rfl)
theorem before19 (c : Dev nD) (t : Fin cfg0.N) (d) : (dats m 0 c).before 19 t d = iblk m c 19 t :=
  ((dats m 0 c).before_in_eq_fetched 19 rfl (fun _ => rfl) (fun _ _ _ => rfl) (fun t => by rw [after19]; unfold Dat.blockOf iblk; rw [A_eq]; try rfl) t d).trans
    (by unfold Dat.fetched Dat.blockOf iblk; rw [A_eq]; try rfl)
theorem before20 (c : Dev nD) (t : Fin cfg0.N) (d) : (dats m 0 c).before 20 t d = iblk m c 20 t :=
  ((dats m 0 c).before_in_eq_fetched 20 rfl (fun _ => rfl) (fun _ _ _ => rfl) (fun t => by rw [after20]; unfold Dat.blockOf iblk; rw [A_eq]; try rfl) t d).trans
    (by unfold Dat.fetched Dat.blockOf iblk; rw [A_eq]; try rfl)
theorem before21 (c : Dev nD) (t : Fin cfg0.N) (d) : (dats m 0 c).before 21 t d = iblk m c 21 t :=
  ((dats m 0 c).before_in_eq_fetched 21 rfl (fun _ => rfl) (fun _ _ _ => rfl) (fun t => by rw [after21]; unfold Dat.blockOf iblk; rw [A_eq]; try rfl) t d).trans
    (by unfold Dat.fetched Dat.blockOf iblk; rw [A_eq]; try rfl)
theorem before22 (c : Dev nD) (t : Fin cfg0.N) (d) : (dats m 0 c).before 22 t d = iblk m c 22 t :=
  ((dats m 0 c).before_in_eq_fetched 22 rfl (fun _ => rfl) (fun _ _ _ => rfl) (fun t => by rw [after22]; unfold Dat.blockOf iblk; rw [A_eq]; try rfl) t d).trans
    (by unfold Dat.fetched Dat.blockOf iblk; rw [A_eq]; try rfl)

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18, before19, before20, before21, before22]
  rw [after0, after1, after2, after3, after4, after5, after6, after7, after8, after9, after10, after11, after12, after13, after14, after15, after16, after17, after18, after19, after20, after21, after22]
  rw [PhiR_castSucc m c t, PhiR_succ m c t]
  unfold Dat.owesAt Pipeline.owesWithin
  rw [show (dats m 0 c).owed t.castSucc = 0 from rfl, show (dats m 0 c).owed t.succ = 0 from rfl]
  unfold PhiR
  iintro ⟨⟨Hg, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (loads_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (st0_22 t) (hstage0_22 ((cfg0.slots t 22).cast nbuf0_22)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H0, H1, H2, H3, H4, H5, H6, H7, H8, H9, H10, H11, H12, H13, H14, H15, H16, H17, H18, H19, H20, H21, H22⟩
  have hY : Y m c (grid0.coords t 0) = E (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 15 t) (iblk m c 15 t) (iblk m c 15 t) (iblk m c 15 t) (iblk m c 15 t) (iblk m c 15 t) (iblk m c 15 t) (iblk m c 15 t) (iblk m c 15 t) (iblk m c 15 t) (iblk m c 15 t) (iblk m c 15 t) (iblk m c 15 t) (iblk m c 15 t) (iblk m c 15 t) (iblk m c 16 t) (iblk m c 17 t) (iblk m c 18 t) (iblk m c 19 t) (iblk m c 20 t) (iblk m c 21 t) (iblk m c 22 t) := by
    unfold Y; rw [pt_coords]; rfl
  rw [← hY]
  iapply (step_run c t (Y m c) W _)
  isplitl [Hr]; · iexact Hr
  isplitl [HW]; · iexact HW
  iintro ⟨Hr, ⟨%W', HW'⟩⟩
  isplitl [Hg Hr]
  · isplitl [Hg]; · iexact Hg
    iexact Hr
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The body's own semaphores are no window's. -/
theorem ownSemFacts : Pipeline.OwnSemFacts spec0 osem := by decide
/-- The array the body writes by its own copies. -/
def R0 : Finset (Ref sig .tc) := {main_v23}
/-- It is no window's array. -/
theorem R0_sub : R0 ⊆ Pipeline.restRefs sig spec0 \ (∅ : Finset (Ref sig .tc)) := by decide

/-- What the arrays hold after the region, as far as the body writes them. -/
def Gout (c : Dev nD) (b : Ref sig .tc) : Buf (Elt F) ((c : Thread nD τ).loc b) := Function.update (V m c) main_v23 (res m c) b

/-- The result's contents. -/
theorem Gout_res (c : Dev nD) : Gout m c main_v23 = res m c := Function.update_self ..

/-- What the launch hands over, in parts. -/
theorem hand_eq (c : Dev nD) (W : (c : Dev nD) → (b : Ref sig .tc) → Buf (Elt F) ((c : Thread nD τ).loc b)) : (Pipeline.ΦDRG osem spec0 ∅ R0 (V m) W c : sProp 𝕄)
    = iprop((∃ e : ScBuf (F := F) c, ((c : Thread nD τ).loc cc0_scratch0) ↦{fullShare} e) ∗ (∃ r, prngReg c r)
      ∗ Pipeline.ownSems0 (Ix := Unit) (Name := ℕ) (U := Pipeline.UD sig nD τ) (Lvl := ℕ) (Val := Elt F) (τ := τ) osem c
      ∗ iprop(emp) ∗ (((c : Thread nD τ).loc main_v23) ↦{fullShare} W c main_v23)) := by
  rw [Pipeline.ΦDRG_eq, scopedRest0_eq]
  unfold Pipeline.routed R0
  rw [BI.bigSep_empty, BI.bigSep_singleton]; rfl

/-- What the launch hands the region is the invariant before the first point, -/
theorem hin (c : Dev nD) : Pipeline.ΦDRG osem spec0 ∅ R0 (V m) (V m) c ⊢ (dats m 0 c).Φ 0 := by
  rw [hand_eq, show (dats m 0 c).Φ 0 = PhiR m c 0 from rfl]
  unfold PhiR
  iintro ⟨HS, Hg, HQ, -, HD⟩
  isplitl [Hg]; · iexact Hg
  iapply (wring_in c (res m c) (V m c main_v23))
  isplitl [HS]; · iexact HS
  isplitl [HQ]; · iexact HQ
  iexact HD

/-- and the invariant after the last hands it back, the result written. -/
theorem hout (c : Dev nD) : (dats m 0 c).Φ (Fin.last cfg0.N) ⊢ Pipeline.ΦDRG osem spec0 ∅ R0 (V m) (Gout m) c := by
  rw [hand_eq, Gout_res, show (dats m 0 c).Φ (Fin.last cfg0.N) = PhiR m c grid0.N from rfl]
  unfold PhiR
  rw [show grid0.N = 16 by rw [N_0]]
  iintro ⟨Hg, Hr⟩
  ihave HX := (wring_out c (res m c)) $$ Hr
  icases HX with ⟨HS, HQ, HD⟩
  isplitl [HS]; · iexact HS
  isplitl [Hg]; · iexact Hg
  isplitl [HQ]; · iexact HQ
  isplitr; · iempintro
  iexact HD

set_option backward.isDefEq.respectTransparency.types false in
/-- The launch: every execution ends, with the arrays as the proof data says, the result at the blocks, and the semaphores at zero. -/
theorem run_main : θ_run defs (onTc (τ := τ) (main (F := F))) (s₀ m ρ) (fun r => Pipeline.FramePostRG cfgs (dats m) 0 R0 (V m) (Gout m) r ∧ r.2.sem = fun _ => 0) :=
  Pipeline.θ_run_frame_dmaRG (Q' := _) cfgs (dats m) (0 : Fin 1) launch0 osem defs₀ Variants.none ownSemFacts ∅ R0 (by decide) R0_sub m ρ main
    (hbody := fun c => (body_obligation m c).loose) (hshare := fun c => (dats m 0 c).share_full fun _ => rfl)
    (howed := fun _ _ => rfl) (V := V m) (hmain := hmain m Variants.none) (hA := A_eq m) (G := Gout m)
    (hin := hin m) (hout := hout m)

/-- The result at the blocks, the arguments unchanged, the semaphores at zero. -/
theorem run_value : θ_run defs (onTc (τ := τ) (main (F := F))) ⟨m, fun _ => 0, ρ⟩ (fun r => (∀ c : Dev nD,
      r.2.mem ((c.tc : Thread nD τ).loc main_v23) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  have hr : ∀ r : PUnit × MemSt nD τ sig (Elt F), Pipeline.FramePostRG cfgs (dats m) 0 R0 (V m) (Gout m) r → ∀ (c : Dev nD) (b : Ref sig .tc), b ∈ Pipeline.restRefs sig spec0 \ R0 →
      r.2.mem ((c.tc : Thread nD τ).loc b) = V m c b := fun r h c b hb => (h.1 c).2 b hb
  (θ_run defs _ _).mono (fun r h => ⟨fun c => ⟨((h.1.2 c main_v23 (by decide)).trans (Gout_res m c)),
    (hr r h.1 c main_arg0 (by decide)).trans (V_main_arg0 m c),
    (hr r h.1 c main_arg1 (by decide)).trans (V_main_arg1 m c),
    (hr r h.1 c main_arg2 (by decide)).trans (V_main_arg2 m c),
    (hr r h.1 c main_arg3 (by decide)).trans (V_main_arg3 m c),
    (hr r h.1 c main_arg4 (by decide)).trans (V_main_arg4 m c),
    (hr r h.1 c main_arg5 (by decide)).trans (V_main_arg5 m c),
    (hr r h.1 c main_arg6 (by decide)).trans (V_main_arg6 m c),
    (hr r h.1 c main_arg7 (by decide)).trans (V_main_arg7 m c),
    (hr r h.1 c main_arg8 (by decide)).trans (V_main_arg8 m c),
    (hr r h.1 c main_arg9 (by decide)).trans (V_main_arg9 m c),
    (hr r h.1 c main_arg10 (by decide)).trans (V_main_arg10 m c),
    (hr r h.1 c main_arg11 (by decide)).trans (V_main_arg11 m c),
    (hr r h.1 c main_arg12 (by decide)).trans (V_main_arg12 m c),
    (hr r h.1 c main_arg13 (by decide)).trans (V_main_arg13 m c),
    (hr r h.1 c main_arg14 (by decide)).trans (V_main_arg14 m c),
    (hr r h.1 c main_arg15 (by decide)).trans (V_main_arg15 m c),
    (hr r h.1 c main_arg16 (by decide)).trans (V_main_arg16 m c),
    (hr r h.1 c main_arg17 (by decide)).trans (V_main_arg17 m c),
    (hr r h.1 c main_arg18 (by decide)).trans (V_main_arg18 m c),
    (hr r h.1 c main_arg19 (by decide)).trans (V_main_arg19 m c),
    (hr r h.1 c main_arg20 (by decide)).trans (V_main_arg20 m c),
    (hr r h.1 c main_arg21 (by decide)).trans (V_main_arg21 m c),
    (hr r h.1 c main_arg22 (by decide)).trans (V_main_arg22 m c)⟩, h.2⟩) (run_main m ρ)

/-- The frame: the arguments end unchanged, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  (θ_run defs _ _).mono (fun r h => ⟨fun c => (h.1 c).2, h.2⟩) (run_value m ρ)

end Cert.ColIdeal.Body

end
-- ==== Proof.ColNeat.lean ====
/- The block the column kernel computes, written once over the sixteen residues and the eight heads.  The printed body
   spells the attention of every residue and head out; here each stage is one definition with the residue and the head
   as parameters, and `E_eq` says the two are the same function. -/
module

public import proofs.«01_k».proof.Proof.ColIdealBody

@[expose] public section

set_option maxRecDepth 65536

noncomputable section

namespace Cert.ColIdeal.Body

open Idealize.ShloMosaic
open Cert.ColIdeal Cert.ColIdeal.Gen

variable {F : FTy → Type} [FloatOps F] [Named F]

/-- The 128 rows of residue `c`, the 32 channels of head `h`, lie inside the block. -/
theorem slicesHead (c : Fin 16) (h : Fin 8) : S2048x256.Slices ![128 * c.val, 32 * h.val] S128x32 := by
  refine ⟨rfl, fun a => ?_⟩
  have hc := c.isLt
  have hh := h.isLt
  match a with
  | 0 => show 128 * c.val + 128 ≤ 2048; omega
  | 1 => show 32 * h.val + 32 ≤ 256; omega

/-- The 128 rows of residue `c` lie inside the block. -/
theorem slicesRow (c : Fin 16) : S2048x256.Slices ![128 * c.val, 0] S128x256 := by
  refine ⟨rfl, fun a => ?_⟩
  have hc := c.isLt
  match a with
  | 0 => show 128 * c.val + 128 ≤ 2048; omega
  | 1 => show 0 + 256 ≤ 256; omega

/-- The rows of residue `c` and the channels of head `h`. -/
def headOf (x : FVec F S2048x256 .f32) (c : Fin 16) (h : Fin 8) : FVec F S128x32 .f32 :=
  extractStridedSlice S128x32 ![128 * c.val, 32 * h.val] x (slicesHead c h)

/-- The scores of a residue and a head. -/
def scoresOf (q k : FVec F S2048x256 .f32) (c : Fin 16) (h : Fin 8) : FVec F S128x128 .f32 :=
  matmul dot_S128x32_S128x32_S128x128_1_1_0_0_n_n none (truncf .bf16 (headOf q c h) bitsLt_bf16_f32)
    (truncf .bf16 (headOf k c h) bitsLt_bf16_f32) (constant S128x128 .f32 0x00000000#32)

/-- The powers of two of the scores less their row maximum. -/
def powOf (l : FVec F S128x128 .f32) : FVec F S128x128 .f32 :=
  exp2 (subf l (broadcastTo S128x128 (shapeCast S128x1
    (multiReduction .maximumf [1] S128 l 0xFF800000#32 reduces_S128x128_S128 (.inl rfl) rfl) shapeCasts_S128_S128x1)
    broadcasts_S128x1_S128x128))

/-- One over the row sums. -/
def recipOf (e : FVec F S128x128 .f32) : FVec F S128x1 .f32 :=
  divf (broadcast S128x1 (Scalar.ofBits .f32 0x3F800000#32)) (shapeCast S128x1
    (multiReduction .add [1] S128 e 0x00000000#32 reduces_S128x128_S128 (.inl rfl) rfl) shapeCasts_S128_S128x1)

/-- The attention output of a residue and a head. -/
def outOf (q k v : FVec F S2048x256 .f32) (c : Fin 16) (h : Fin 8) : FVec F S128x32 .f32 :=
  mulf (matmul dot_S128x128_S128x32_S128x32_1_0_0_1_n_n none
      (truncf .bf16 (powOf (scoresOf q k c h)) bitsLt_bf16_f32) (headOf v c h) (constant S128x32 .f32 0x00000000#32))
    (broadcastTo S128x32 (recipOf (powOf (scoresOf q k c h))) broadcasts_S128x1_S128x32)

/-- The eight heads of a residue side by side. -/
def headsOf (q k v : FVec F S2048x256 .f32) (c : Fin 16) : FVec F S128x256 .f32 :=
  concatenate S128x256 1 (List.ofFn fun h : Fin 8 => (⟨S128x32, outOf q k v c h⟩ : (s : Shape) × (s.Idx → F .f32)))
    concatenates_S128x32_S128x32_S128x32_S128x32_S128x32_S128x32_S128x32_S128x32_S128x256_d1

/-- The gated output of a residue, projected. -/
def projOf (q k v g : FVec F S2048x256 .f32) (wo : Vec F S256x256 .bf16) (c : Fin 16) : FVec F S128x256 .f32 :=
  matmul dot_S128x256_S256x256_S128x256_1_0_0_1_n_n none
    (truncf .bf16 (mulf (extractStridedSlice S128x256 ![128 * c.val, 0] g (slicesRow c)) (headsOf q k v c)) bitsLt_bf16_f32)
    (shapeCast S256x256 wo shapeCasts_S256x256_S256x256) (constant S128x256 .f32 0x00000000#32)

/-- The block with the attention added to it. -/
def attnOf (x q k v g : FVec F S2048x256 .f32) (wo : Vec F S256x256 .bf16) (bo : Vec F S1x256 .f32) : FVec F S2048x256 .f32 :=
  addf (addf x (concatenate S2048x256 0
      (List.ofFn fun c : Fin 16 => (⟨S128x256, projOf q k v g wo c⟩ : (s : Shape) × (s.Idx → F .f32)))
      concatenates_S128x256_S128x256_S128x256_S128x256_S128x256_S128x256_S128x256_S128x256_S128x256_S128x256_S128x256_S128x256_S128x256_S128x256_S128x256_S128x256_S2048x256_d0))
    (broadcastTo S2048x256 (shapeCast S1x256 bo shapeCasts_S1x256_S1x256) broadcasts_S1x256_S2048x256)

/-- The tail of the body: the sixteen residues' outputs out of the four projections, and the residual sum. -/
theorem E_eq (v0 v2 v4 v6 v8 v10 v12 v14 : Vec F S16x16x256 .f32) (w b : Vec F S1x256 .f32)
    (wq wk wv wg : Vec F S256x256 .bf16) (bg : Vec F S1x256 .f32) (wo : Vec F S256x256 .bf16) (bo w2 b2 : Vec F S1x256 .f32)
    (m1 : Vec F S256x1024 .bf16) (c1 : Vec F S1x1024 .f32) (m2 : Vec F S1024x256 .bf16) (c2 : Vec F S1x256 .f32) :
    E v0 v2 v4 v6 v8 v10 v12 v14 w b wq wk wv wg bg wo wo wo wo wo wo wo wo wo wo wo wo wo wo wo wo bo w2 b2 m1 c1 m2 c2 =
    k0_pay627 (attnOf (k0_pay1 v0 v2 v4 v6 v8 v10 v12 v14)
        (k0_pay7 (k0_pay2 w) (k0_pay3 b) (k0_pay4 v0 v2 v4 v6 v8 v10 v12 v14) (k0_pay5 v0 v2 v4 v6 v8 v10 v12 v14) wq)
        (k0_pay8 (k0_pay2 w) (k0_pay3 b) (k0_pay4 v0 v2 v4 v6 v8 v10 v12 v14) (k0_pay5 v0 v2 v4 v6 v8 v10 v12 v14) wk)
        (k0_pay9 (k0_pay2 w) (k0_pay3 b) (k0_pay4 v0 v2 v4 v6 v8 v10 v12 v14) (k0_pay5 v0 v2 v4 v6 v8 v10 v12 v14) wv)
        (k0_pay10 (k0_pay2 w) (k0_pay3 b) (k0_pay4 v0 v2 v4 v6 v8 v10 v12 v14) (k0_pay5 v0 v2 v4 v6 v8 v10 v12 v14) wg bg) wo bo)
      (k0_pay625 w2) (k0_pay626 b2) m1 c1 m2 c2 := rfl

end Cert.ColIdeal.Body
-- ==== Proof.ColMath.lean ====
/- The mathematics of the column block over the extended reals, apart from any program: the LayerNorm of a row, the two
   ways of writing one head's softmax attention, and the rest of a row's computation.  `attn_eq` is the step at which
   the kernel's text and the reference's really differ. -/
module

public import Idealize.ShloMosaic.PureOps.Ideal
public import Idealize.ShloMosaic.PureOps.Ideal.Laws
public import Mathlib.Data.EReal.Operations
public import Mathlib.Data.EReal.Inv
public import Mathlib.Analysis.SpecialFunctions.Pow.Real

@[expose] public section

noncomputable section

namespace Cert.ColMath

open Idealize.ShloMosaic

/-- The number of channels, as both programs write it. -/
def n256 : EReal := Ideal.ofBits .f32 0x43800000#32
/-- The LayerNorm's epsilon, as both programs write it. -/
def eps : EReal := Ideal.ofBits .f32 0x3727C5AC#32
/-- The reference's literal for one over the square root of 32. -/
def scale : EReal := Ideal.ofBits .f32 0x3E3504F3#32
/-- The kernel's score scale: the same number over the natural logarithm of two. -/
def scale2 : EReal := (((11863283 / 67108864) * (Real.log 2)⁻¹ : ℝ) : EReal)

/-- The channel count is the real number 256. -/
theorem n256_eq : n256 = ((256 : ℝ) : EReal) := by
  unfold n256
  simp [Ideal.ofBits, Ideal.ieee, -EReal.coe_mul]; norm_num

/-- The epsilon is a positive real number. -/
theorem eps_pos : ∃ r : ℝ, 0 < r ∧ eps = (r : EReal) := by
  unfold eps
  simp [Ideal.ofBits, Ideal.ieee, -EReal.coe_mul]

/-- The reference's score scale as a fraction. -/
theorem scale_eq : scale = ((11863283 / 67108864 : ℝ) : EReal) := by
  unfold scale
  simp [Ideal.ofBits, Ideal.ieee, -EReal.coe_mul]; norm_num

/-- The mean of a row. -/
def mean (f : Fin 256 → EReal) : EReal := Ideal.div (∑ k, f k) n256

/-- The LayerNorm of a row. -/
def ln (f w b : Fin 256 → EReal) (ch : Fin 256) : EReal :=
  (f ch - mean f) * Ideal.rsqrt (mean (fun k => (f k - mean f) * (f k - mean f)) + eps) * w ch + b ch

/-- A row times a matrix. -/
def dotp {n m : ℕ} (f : Fin n → EReal) (W : Fin n → Fin m → EReal) (j : Fin m) : EReal := ∑ k, f k * W k j

/-- Channel `d` of head `h`. -/
def chan (h : Fin 8) (d : Fin 32) : Fin 256 := ⟨32 * h.val + d.val, by omega⟩
/-- The head of a channel. -/
def headIx (j : Fin 256) : Fin 8 := ⟨j.val / 32, by omega⟩

/-- The score of rows `s` and `t` in head `h`. -/
def score (q k : Fin 128 → Fin 256 → EReal) (h : Fin 8) (s t : Fin 128) : EReal :=
  ∑ d : Fin 32, q s (chan h d) * k t (chan h d)

/-- The largest of 128 scores. -/
def top (l : Fin 128 → EReal) : EReal := Finset.univ.fold max ⊥ l

/-- Softmax attention as the kernel writes it: powers of two, the division after the sum. -/
def attnK (l v : Fin 128 → EReal) : EReal :=
  (∑ t, Ideal.exp2 (l t - top l) * v t) * Ideal.div 1 (∑ t, Ideal.exp2 (l t - top l))

/-- Softmax attention as the reference writes it: exponentials, the division before the sum. -/
def attnR (l v : Fin 128 → EReal) : EReal :=
  ∑ t, v t * Ideal.div (Ideal.exp (l t - top l)) (∑ u, Ideal.exp (l u - top l))

/-- A row after the attention `o` is gated, projected and added. -/
def mid (x o : Fin 256 → EReal) (w b : Fin 256 → EReal) (wg : Fin 256 → Fin 256 → EReal) (bg : Fin 256 → EReal)
    (wo : Fin 256 → Fin 256 → EReal) (bo : Fin 256 → EReal) (ch : Fin 256) : EReal :=
  x ch + ((∑ j, Ideal.logistic (dotp (ln x w b) wg j + bg j) * o j * wo j ch) + bo ch)

/-- A row after the transition. -/
def transit (x : Fin 256 → EReal) (w b : Fin 256 → EReal) (m1 : Fin 256 → Fin 1024 → EReal) (c1 : Fin 1024 → EReal)
    (m2 : Fin 1024 → Fin 256 → EReal) (c2 : Fin 256 → EReal) (ch : Fin 256) : EReal :=
  x ch + ((∑ j, max (dotp (ln x w b) m1 j + c1 j) 0 * m2 j ch) + c2 ch)

/-- A row `s` of one residue's column `X` after the whole block, the attention written by `A` from queries scaled by `sc`. -/
def colRow (A : (Fin 128 → EReal) → (Fin 128 → EReal) → EReal) (sc : EReal) (X : Fin 128 → Fin 256 → EReal)
    (w b : Fin 256 → EReal) (wq wk wv wg : Fin 256 → Fin 256 → EReal) (bg : Fin 256 → EReal) (wo : Fin 256 → Fin 256 → EReal)
    (bo w2 b2 : Fin 256 → EReal) (m1 : Fin 256 → Fin 1024 → EReal) (c1 : Fin 1024 → EReal) (m2 : Fin 1024 → Fin 256 → EReal)
    (c2 : Fin 256 → EReal) (s : Fin 128) (ch : Fin 256) : EReal :=
  transit (mid (X s) (fun j =>
    A (score (fun s j => dotp (ln (X s) w b) wq j * sc) (fun s j => dotp (ln (X s) w b) wk j) (headIx j) s)
      (fun t => dotp (ln (X t) w b) wv j)) w b wg bg wo bo) w2 b2 m1 c1 m2 c2 ch

/-- A finite sum of real numbers is a real number. -/
theorem real_sum {n : ℕ} (f : Fin n → EReal) (hf : ∀ k, ∃ r : ℝ, f k = r) : ∃ r : ℝ, ∑ k, f k = r := by
  choose g hg using hf
  refine ⟨∑ k, g k, ?_⟩
  simp only [hg]
  induction (Finset.univ : Finset (Fin n)) using Finset.cons_induction with
  | empty => simp
  | cons a s ha ih => rw [Finset.sum_cons, Finset.sum_cons, ih, EReal.coe_add]

/-- The square of an extended real is not negative. -/
theorem sq_nonneg (x : EReal) : 0 ≤ x * x := by
  rcases le_total 0 x with h | h
  · exact mul_nonneg h h
  · exact EReal.mul_nonneg_iff.2 (Or.inr ⟨h, h⟩)

/-- Dividing by the channel count is multiplying by a positive real. -/
theorem div_n256 (x : EReal) : Ideal.div x n256 = x * (((256 : ℝ)⁻¹ : ℝ) : EReal) := by
  rw [n256_eq]
  unfold Ideal.div
  rw [if_neg (by exact_mod_cast (by norm_num : (256 : ℝ) ≠ 0)), EReal.coe_inv]

/-- A LayerNorm with real scale and shift is real at every row, infinite ones included: there the reciprocal root is 0. -/
theorem real_ln (f w b : Fin 256 → EReal) (hw : ∀ k, ∃ r : ℝ, w k = r) (hb : ∀ k, ∃ r : ℝ, b k = r) (ch : Fin 256) :
    ∃ r : ℝ, ln f w b ch = r := by
  obtain ⟨rw', hw⟩ := hw ch
  obtain ⟨rb, hb⟩ := hb ch
  obtain ⟨e, he, hE⟩ := eps_pos
  unfold ln
  generalize hd : (fun k => f k - mean f) = d
  have hd' : ∀ k, f k - mean f = d k := fun k => congrFun hd k
  simp only [hd', hw, hb]
  suffices h : ∃ r : ℝ, d ch * Ideal.rsqrt (mean (fun k => d k * d k) + eps) = r by
    obtain ⟨r, hr⟩ := h
    exact ⟨r * rw' + rb, by rw [hr]; push_cast; rfl⟩
  by_cases hall : ∀ k, ∃ r : ℝ, d k = r
  · choose g hg using hall
    obtain ⟨s, hs⟩ := real_sum (fun k => d k * d k) (fun k => ⟨g k * g k, by rw [hg]; push_cast; rfl⟩)
    have hs0 : 0 ≤ s := by
      have : (0 : EReal) ≤ ∑ k, d k * d k := Finset.sum_nonneg fun k _ => sq_nonneg _
      rw [hs] at this
      exact_mod_cast this
    have hv : mean (fun k => d k * d k) + eps = ((s * 256⁻¹ + e : ℝ) : EReal) := by
      unfold mean
      rw [hs, div_n256, hE]; push_cast; rfl
    have hpos : 0 < s * 256⁻¹ + e := by positivity
    refine ⟨g ch * (Real.sqrt (s * 256⁻¹ + e))⁻¹, ?_⟩
    rw [hv, hg]
    show (g ch : EReal) * (if _ then _ else if _ then _ else _) = _
    rw [if_neg (not_lt.2 hpos.le), if_neg hpos.ne', EReal.coe_mul]
  · push Not at hall
    obtain ⟨k, hk⟩ := hall
    have hkk : d k * d k = ⊤ := by
      induction hx : d k with
      | bot => exact EReal.bot_mul_bot
      | top => exact EReal.top_mul_top
      | coe r => exact absurd hx (hk r)
    have hsum : ∑ k, d k * d k = ⊤ := by
      refine top_le_iff.1 (hkk ▸ ?_)
      exact Finset.single_le_sum (f := fun k => d k * d k) (fun i _ => sq_nonneg _) (Finset.mem_univ k)
    have hv : mean (fun k => d k * d k) + eps = ⊤ := by
      unfold mean
      rw [hsum, div_n256, EReal.top_mul_coe_of_pos (by norm_num), hE, EReal.top_add_coe]
    refine ⟨0, ?_⟩
    rw [hv]
    show d ch * 0 = _
    simp

/-- A real row times a real matrix is real. -/
theorem real_dotp {n m : ℕ} (f : Fin n → EReal) (W : Fin n → Fin m → EReal) (hf : ∀ k, ∃ r : ℝ, f k = r)
    (hW : ∀ k j, ∃ r : ℝ, W k j = r) (j : Fin m) : ∃ r : ℝ, dotp f W j = r :=
  real_sum _ fun k => by
    obtain ⟨a, ha⟩ := hf k
    obtain ⟨b, hb⟩ := hW k j
    exact ⟨a * b, by rw [ha, hb]; push_cast; rfl⟩

/-- Multiplication by a nonnegative real distributes over a finite sum. -/
theorem sum_mul_real {n : ℕ} (f : Fin n → EReal) (r : ℝ) (hr : 0 ≤ r) : (∑ t, f t) * (r : EReal) = ∑ t, f t * (r : EReal) := by
  induction (Finset.univ : Finset (Fin n)) using Finset.cons_induction with
  | empty => simp
  | cons a s ha ih =>
    rw [Finset.sum_cons, Finset.sum_cons, EReal.right_distrib_of_nonneg_of_ne_top (by exact_mod_cast hr) (EReal.coe_ne_top r), ih]

/-- The largest score is one of the scores, and no score is above it. -/
theorem top_spec (l : Fin 128 → EReal) : (∃ t, top l = l t) ∧ ∀ t, l t ≤ top l := by
  have h : top l = Finset.univ.sup l := rfl
  rw [h]
  refine ⟨?_, fun t => Finset.le_sup (Finset.mem_univ t)⟩
  obtain ⟨t, -, ht⟩ := Finset.exists_mem_eq_sup (Finset.univ : Finset (Fin 128)) ⟨0, Finset.mem_univ _⟩ l
  exact ⟨t, ht⟩

/-- The two ways of writing the attention agree when the kernel's scores are the reference's over the natural logarithm
    of two and those are real; the values may be infinite. -/
theorem attn_eq (lR : Fin 128 → ℝ) (v : Fin 128 → EReal) :
    attnK (fun t => ((lR t * (Real.log 2)⁻¹ : ℝ) : EReal)) v = attnR (fun t => (lR t : EReal)) v := by
  have hlog : 0 < Real.log 2 := Real.log_pos (by norm_num)
  obtain ⟨⟨t1, h1⟩, hR⟩ := top_spec (fun t => (lR t : EReal))
  have hmax : ∀ t, lR t ≤ lR t1 := fun t => by
    have := hR t; rw [h1] at this; exact_mod_cast this
  have hK : top (fun t => ((lR t * (Real.log 2)⁻¹ : ℝ) : EReal)) = ((lR t1 * (Real.log 2)⁻¹ : ℝ) : EReal) := by
    obtain ⟨⟨t0, h0⟩, hK⟩ := top_spec (fun t => ((lR t * (Real.log 2)⁻¹ : ℝ) : EReal))
    refine le_antisymm ?_ (hK t1)
    rw [h0]
    exact_mod_cast mul_le_mul_of_nonneg_right (hmax t0) (inv_nonneg.2 hlog.le)
  have he2 : ∀ t, Ideal.exp2 (((lR t * (Real.log 2)⁻¹ : ℝ) : EReal) - top (fun t => ((lR t * (Real.log 2)⁻¹ : ℝ) : EReal)))
      = ((Real.exp (lR t - lR t1) : ℝ) : EReal) := fun t => by
    rw [hK, ← EReal.coe_sub]
    show ((Real.rpow 2 _ : ℝ) : EReal) = _
    congr 1
    show (2 : ℝ) ^ (_ : ℝ) = _
    rw [Real.rpow_def_of_pos (by norm_num)]
    congr 1
    field_simp
  have he : ∀ t, Ideal.exp ((lR t : EReal) - top (fun t => (lR t : EReal))) = ((Real.exp (lR t - lR t1) : ℝ) : EReal) := fun t => by
    rw [h1, ← EReal.coe_sub]; rfl
  unfold attnK attnR
  simp only [he2, he]
  obtain ⟨S, hS⟩ := real_sum (fun t => ((Real.exp (lR t - lR t1) : ℝ) : EReal)) fun t => ⟨_, rfl⟩
  have hSpos : 0 < S := by
    have h : (((Real.exp (lR t1 - lR t1) : ℝ) : EReal)) ≤ ∑ t, ((Real.exp (lR t - lR t1) : ℝ) : EReal) :=
      Finset.single_le_sum (f := fun t => ((Real.exp (lR t - lR t1) : ℝ) : EReal))
        (fun i _ => by exact_mod_cast (Real.exp_pos _).le) (Finset.mem_univ t1)
    rw [hS] at h
    have h' : Real.exp (lR t1 - lR t1) ≤ S := by exact_mod_cast h
    exact lt_of_lt_of_le (Real.exp_pos _) h'
  have hdiv : ∀ x : EReal, Ideal.div x (S : EReal) = x * ((S⁻¹ : ℝ) : EReal) := fun x => by
    unfold Ideal.div
    rw [if_neg (by exact_mod_cast hSpos.ne'), EReal.coe_inv]
  rw [hS]
  simp only [hdiv, one_mul]
  rw [sum_mul_real _ _ (inv_nonneg.2 hSpos.le)]
  refine Finset.sum_congr rfl fun t _ => ?_
  rw [mul_comm (((Real.exp (lR t - lR t1) : ℝ) : EReal)) (v t), mul_assoc]

/-- The kernel's attention of a row, from its scaled projections, is the reference's: with real scale, shift and weights
    of the queries and keys every score is real. -/
theorem attn_rows (X : Fin 128 → Fin 256 → EReal) (w b : Fin 256 → EReal) (wq wk : Fin 256 → Fin 256 → EReal)
    (hw : ∀ k, ∃ r : ℝ, w k = r) (hb : ∀ k, ∃ r : ℝ, b k = r) (hq : ∀ k j, ∃ r : ℝ, wq k j = r)
    (hk : ∀ k j, ∃ r : ℝ, wk k j = r) (v : Fin 128 → EReal) (h : Fin 8) (s : Fin 128) :
    attnK (score (fun s j => dotp (ln (X s) w b) wq j * scale2) (fun s j => dotp (ln (X s) w b) wk j) h s) v =
    attnR (score (fun s j => dotp (ln (X s) w b) wq j * scale) (fun s j => dotp (ln (X s) w b) wk j) h s) v := by
  have hQ : ∀ s j, ∃ r : ℝ, dotp (ln (X s) w b) wq j = r := fun s j => real_dotp _ _ (real_ln _ _ _ hw hb) hq j
  have hK : ∀ s j, ∃ r : ℝ, dotp (ln (X s) w b) wk j = r := fun s j => real_dotp _ _ (real_ln _ _ _ hw hb) hk j
  choose Q hQ using hQ
  choose K hK using hK
  have hcoe : ∀ f : Fin 32 → ℝ, (∑ d, (f d : EReal)) = ((∑ d, f d : ℝ) : EReal) := fun f => by
    induction (Finset.univ : Finset (Fin 32)) using Finset.cons_induction with
    | empty => simp
    | cons a s ha ih => rw [Finset.sum_cons, Finset.sum_cons, ih, EReal.coe_add]
  have hR : score (fun s j => dotp (ln (X s) w b) wq j * scale) (fun s j => dotp (ln (X s) w b) wk j) h s
      = fun t => ((∑ d, Q s (chan h d) * (11863283 / 67108864) * K t (chan h d) : ℝ) : EReal) := by
    funext t
    unfold score
    rw [← hcoe]
    refine Finset.sum_congr rfl fun d _ => ?_
    simp only [hQ, hK, scale_eq]
    push_cast
    rfl
  have hL : score (fun s j => dotp (ln (X s) w b) wq j * scale2) (fun s j => dotp (ln (X s) w b) wk j) h s
      = fun t => (((∑ d, Q s (chan h d) * (11863283 / 67108864) * K t (chan h d)) * (Real.log 2)⁻¹ : ℝ) : EReal) := by
    funext t
    unfold score
    rw [Finset.sum_mul, ← hcoe]
    refine Finset.sum_congr rfl fun d _ => ?_
    simp only [hQ, hK, scale2, ← EReal.coe_mul]
    congr 1
    ring
  rw [hR, hL]
  exact attn_eq _ _

/-- The block as the kernel writes it is the block as the reference writes it. -/
theorem colRow_eq (X : Fin 128 → Fin 256 → EReal)
    (w b : Fin 256 → EReal) (wq wk wv wg : Fin 256 → Fin 256 → EReal) (bg : Fin 256 → EReal) (wo : Fin 256 → Fin 256 → EReal)
    (bo w2 b2 : Fin 256 → EReal) (m1 : Fin 256 → Fin 1024 → EReal) (c1 : Fin 1024 → EReal) (m2 : Fin 1024 → Fin 256 → EReal)
    (c2 : Fin 256 → EReal) (hw : ∀ k, ∃ r : ℝ, w k = r) (hb : ∀ k, ∃ r : ℝ, b k = r) (hq : ∀ k j, ∃ r : ℝ, wq k j = r)
    (hk : ∀ k j, ∃ r : ℝ, wk k j = r) (s : Fin 128) (ch : Fin 256) :
    colRow attnK scale2 X w b wq wk wv wg bg wo bo w2 b2 m1 c1 m2 c2 s ch =
    colRow attnR scale X w b wq wk wv wg bg wo bo w2 b2 m1 c1 m2 c2 s ch := by
  unfold colRow
  simp only [attn_rows X w b wq wk hw hb hq hk]

end Cert.ColMath
-- ==== Proof.ColValue.lean ====
/- The block the column kernel computes, read at the extended reals: row `s` of residue `c` of the block is the row the
   mathematics of ColMath gives, with the kernel's way of writing the attention. -/
module

public import proofs.«01_k».proof.Proof.ColNeat
public import proofs.«01_k».proof.Proof.ColMath
public import Idealize.ShloMosaic.Lib.Pointwise

@[expose] public section

set_option maxRecDepth 65536

noncomputable section

namespace Cert.ColIdeal.Body

open Idealize.ShloMosaic
open Cert.ColIdeal Cert.ColIdeal.Gen Cert.ColMath

/-- Row `s` of residue `c` in the block. -/
def rowIx (c : Fin 16) (s : Fin 128) : Fin 2048 := ⟨128 * c.val + s.val, by omega⟩

/-- Row `p` of a block. -/
def rowOf (x : FVec Ideal S2048x256 .f32) (p : Fin 2048) : Fin 256 → EReal := fun ch => x (ix2 p ch)

/-- The only row of a one-row operand. -/
def vecOf {n : ℕ} (x : FVec Ideal (⟨2, ![1, n]⟩ : Shape) .f32) : Fin n → EReal := fun ch => x (ix2 0 ch)

/-- A matrix operand as a function of two coordinates. -/
def matOf {n m : ℕ} (x : FVec Ideal (⟨2, ![n, m]⟩ : Shape) .bf16) : Fin n → Fin m → EReal := fun i j => x (ix2 i j)

/-- The pattern of minus infinity is the least extended real. -/
theorem ofBits_bot : Ideal.ofBits .f32 0xFF800000#32 = ⊥ := by
  simp [Ideal.ofBits, Ideal.ieee]

/-- The rows of a residue and the channels of a head, read at an index. -/
theorem headOf_apply (x : FVec Ideal S2048x256 .f32) (c : Fin 16) (h : Fin 8) (s : Fin 128) (d : Fin 32) :
    headOf x c h (ix2 s d) = rowOf x (rowIx c s) (chan h d) := by
  pointwise [headOf, rowOf, rowIx, chan]

/-- The scores, read at an index. -/
theorem scoresOf_apply (q k : FVec Ideal S2048x256 .f32) (c : Fin 16) (h : Fin 8) (s t : Fin 128) :
    scoresOf q k c h (ix2 s t) = score (fun s => rowOf q (rowIx c s)) (fun s => rowOf k (rowIx c s)) h s t := by
  pointwise [scoresOf, score, headOf_apply]

/-- The powers of two, read at an index. -/
theorem powOf_apply (l : FVec Ideal S128x128 .f32) (s t : Fin 128) :
    powOf l (ix2 s t) = Ideal.exp2 (l (ix2 s t) - top (fun u => l (ix2 s u))) := by
  pointwise [powOf]
  rw [ofBits_bot]
  rfl

/-- The reciprocals, read at an index. -/
theorem recipOf_apply (e : FVec Ideal S128x128 .f32) (s : Fin 128) (z : Fin 1) :
    recipOf e (ix2 s z) = Ideal.div 1 (∑ t, e (ix2 s t)) := by
  pointwise [recipOf]

/-- The attention output of a residue and a head, read at an index. -/
theorem outOf_apply (q k v : FVec Ideal S2048x256 .f32) (c : Fin 16) (h : Fin 8) (s : Fin 128) (d : Fin 32) :
    outOf q k v c h (ix2 s d) =
    attnK (score (fun s => rowOf q (rowIx c s)) (fun s => rowOf k (rowIx c s)) h s)
      (fun t => rowOf v (rowIx c t) (chan h d)) := by
  pointwise [outOf, headOf_apply, powOf_apply, recipOf_apply, scoresOf_apply, attnK]

/-- The eight heads side by side, read at an index. -/
theorem headsOf_apply (q k v : FVec Ideal S2048x256 .f32) (c : Fin 16) (s : Fin 128) (j : Fin 256) :
    headsOf q k v c (ix2 s j) =
    attnK (score (fun s => rowOf q (rowIx c s)) (fun s => rowOf k (rowIx c s)) (headIx j) s)
      (fun t => rowOf v (rowIx c t) j) := by
  have hj : chan (headIx j) ⟨j.val % 32, Nat.mod_lt _ (by decide)⟩ = j :=
    Fin.ext (by show 32 * (j.val / 32) + j.val % 32 = j.val; omega)
  have h := outOf_apply q k v c (headIx j) s ⟨j.val % 32, Nat.mod_lt _ (by decide)⟩
  rw [hj] at h
  rw [← h]
  unfold headsOf
  exact concatenate_ofFn_apply (t := S128x256) (s₁ := S128x32) 1 (fun h : Fin 8 => outOf q k v c h) _ rfl 32 rfl _ (headIx j) rfl
    (ix2 s ⟨j.val % 32, Nat.mod_lt _ (by decide)⟩) rfl (fun b hb => by
      match b with
      | 0 => rfl
      | 1 => exact absurd rfl hb)

/-- The projected output of a residue, read at an index. -/
theorem projOf_apply (q k v g : FVec Ideal S2048x256 .f32) (wo : Vec Ideal S256x256 .bf16) (c : Fin 16) (s : Fin 128) (ch : Fin 256) :
    projOf q k v g wo c (ix2 s ch) =
    ∑ j, rowOf g (rowIx c s) j * headsOf q k v c (ix2 s j) * matOf wo j ch := by
  pointwise [projOf, rowOf, rowIx, matOf]

/-- The block with the attention added, read at an index. -/
theorem attnOf_apply (x q k v g : FVec Ideal S2048x256 .f32) (wo : Vec Ideal S256x256 .bf16) (bo : Vec Ideal S1x256 .f32)
    (c : Fin 16) (s : Fin 128) (ch : Fin 256) :
    attnOf x q k v g wo bo (ix2 (rowIx c s) ch) =
    rowOf x (rowIx c s) ch + (∑ j, rowOf g (rowIx c s) j * headsOf q k v c (ix2 s j) * matOf wo j ch) + vecOf bo ch := by
  rw [← projOf_apply]
  have h : concatenate S2048x256 0
      (List.ofFn fun c : Fin 16 => (⟨S128x256, projOf q k v g wo c⟩ : (s : Shape) × (s.Idx → Ideal .f32)))
      concatenates_S128x256_S128x256_S128x256_S128x256_S128x256_S128x256_S128x256_S128x256_S128x256_S128x256_S128x256_S128x256_S128x256_S128x256_S128x256_S128x256_S2048x256_d0
      (ix2 (rowIx c s) ch) = projOf q k v g wo c (ix2 s ch) :=
    concatenate_ofFn_apply (t := S2048x256) (s₁ := S128x256) 0 (fun c : Fin 16 => projOf q k v g wo c) _ rfl 128 rfl _ c
      (by show (128 * c.val + s.val) / 128 = c.val; omega) (ix2 s ch)
      (by show s.val = (128 * c.val + s.val) % 128; omega) (fun b hb => by
      match b with
      | 0 => exact absurd rfl hb
      | 1 => rfl)
  rw [← h]
  pointwise [attnOf, rowOf, vecOf]

/-- The normalised block, read at an index. -/
theorem ln_apply (v0 v2 v4 v6 v8 v10 v12 v14 : Vec Ideal S16x16x256 .f32) (w b : Vec Ideal S1x256 .f32) (p : Fin 2048) (ch : Fin 256) :
    k0_pay6 (F := Ideal) (k0_pay2 w) (k0_pay3 b) (k0_pay4 v0 v2 v4 v6 v8 v10 v12 v14) (k0_pay5 v0 v2 v4 v6 v8 v10 v12 v14) (ix2 p ch) =
    ln (rowOf (k0_pay1 (F := Ideal) v0 v2 v4 v6 v8 v10 v12 v14) p) (vecOf w) (vecOf b) ch := by
  generalize hx : k0_pay1 (F := Ideal) v0 v2 v4 v6 v8 v10 v12 v14 = x
  pointwise [k0_pay6, k0_pay5, k0_pay4, k0_pay3, k0_pay2, hx, ln, mean, rowOf, vecOf]
  rfl

/-- The scaled queries, read at an index. -/
theorem q_apply (v0 v2 v4 v6 v8 v10 v12 v14 : Vec Ideal S16x16x256 .f32) (w b : Vec Ideal S1x256 .f32) (wq : Vec Ideal S256x256 .bf16)
    (p : Fin 2048) :
    rowOf (k0_pay7 (F := Ideal) (k0_pay2 w) (k0_pay3 b) (k0_pay4 v0 v2 v4 v6 v8 v10 v12 v14) (k0_pay5 v0 v2 v4 v6 v8 v10 v12 v14) wq) p =
    fun j => dotp (ln (rowOf (k0_pay1 (F := Ideal) v0 v2 v4 v6 v8 v10 v12 v14) p) (vecOf w) (vecOf b)) (matOf wq) j * scale2 := by
  funext j
  have hs : Named.named (F := Ideal) κ "scale" (φ := .f32) 0x3E8293EE#32 = scale2 := IdealRules.named_const.ideal_named_scalar _ _ _ _ rfl
  pointwise [k0_pay7, rowOf, dotp, matOf, ln_apply]
  rw [hs]

/-- The keys, read at an index. -/
theorem k_apply (v0 v2 v4 v6 v8 v10 v12 v14 : Vec Ideal S16x16x256 .f32) (w b : Vec Ideal S1x256 .f32) (wk : Vec Ideal S256x256 .bf16)
    (p : Fin 2048) :
    rowOf (k0_pay8 (F := Ideal) (k0_pay2 w) (k0_pay3 b) (k0_pay4 v0 v2 v4 v6 v8 v10 v12 v14) (k0_pay5 v0 v2 v4 v6 v8 v10 v12 v14) wk) p =
    fun j => dotp (ln (rowOf (k0_pay1 (F := Ideal) v0 v2 v4 v6 v8 v10 v12 v14) p) (vecOf w) (vecOf b)) (matOf wk) j := by
  funext j
  pointwise [k0_pay8, rowOf, dotp, matOf, ln_apply]

/-- The values, read at an index. -/
theorem v_apply (v0 v2 v4 v6 v8 v10 v12 v14 : Vec Ideal S16x16x256 .f32) (w b : Vec Ideal S1x256 .f32) (wv : Vec Ideal S256x256 .bf16)
    (p : Fin 2048) :
    rowOf (k0_pay9 (F := Ideal) (k0_pay2 w) (k0_pay3 b) (k0_pay4 v0 v2 v4 v6 v8 v10 v12 v14) (k0_pay5 v0 v2 v4 v6 v8 v10 v12 v14) wv) p =
    fun j => dotp (ln (rowOf (k0_pay1 (F := Ideal) v0 v2 v4 v6 v8 v10 v12 v14) p) (vecOf w) (vecOf b)) (matOf wv) j := by
  funext j
  pointwise [k0_pay9, rowOf, dotp, matOf, ln_apply]

/-- The gates, read at an index. -/
theorem g_apply (v0 v2 v4 v6 v8 v10 v12 v14 : Vec Ideal S16x16x256 .f32) (w b : Vec Ideal S1x256 .f32) (wg : Vec Ideal S256x256 .bf16)
    (bg : Vec Ideal S1x256 .f32) (p : Fin 2048) :
    rowOf (k0_pay10 (F := Ideal) (k0_pay2 w) (k0_pay3 b) (k0_pay4 v0 v2 v4 v6 v8 v10 v12 v14) (k0_pay5 v0 v2 v4 v6 v8 v10 v12 v14) wg bg) p =
    fun j => Ideal.logistic (dotp (ln (rowOf (k0_pay1 (F := Ideal) v0 v2 v4 v6 v8 v10 v12 v14) p) (vecOf w) (vecOf b)) (matOf wg) j + vecOf bg j) := by
  funext j
  pointwise [k0_pay10, rowOf, dotp, matOf, vecOf, ln_apply]

/-- The transition, read at an index. -/
theorem trans_apply (x : FVec Ideal S2048x256 .f32) (w b : Vec Ideal S1x256 .f32) (m1 : Vec Ideal S256x1024 .bf16) (c1 : Vec Ideal S1x1024 .f32)
    (m2 : Vec Ideal S1024x256 .bf16) (c2 : Vec Ideal S1x256 .f32) (p : Fin 2048) (ch : Fin 256) :
    k0_pay627 (F := Ideal) x (k0_pay625 w) (k0_pay626 b) m1 c1 m2 c2 (ix2 p ch) =
    transit (rowOf x p) (vecOf w) (vecOf b) (matOf m1) (vecOf c1) (matOf m2) (vecOf c2) ch := by
  pointwise [k0_pay627, k0_pay625, k0_pay626]
  unfold transit dotp ln mean rowOf vecOf matOf
  rw [add_assoc]
  rfl

/-- The block's input rows: row `s` of residue `c` is row `s % 16` of operand `s / 16`. -/
theorem x_apply (vs : Fin 8 → Vec Ideal S16x16x256 .f32) (c : Fin 16) (s : Fin 128) :
    rowOf (k0_pay1 (F := Ideal) (vs 0) (vs 1) (vs 2) (vs 3) (vs 4) (vs 5) (vs 6) (vs 7)) (rowIx c s) =
    fun ch => vs ⟨s.val / 16, by omega⟩ (ix3 c ⟨s.val % 16, Nat.mod_lt _ (by decide)⟩ ch) := by
  funext ch
  have h : k0_pay1 (F := Ideal) (vs 0) (vs 1) (vs 2) (vs 3) (vs 4) (vs 5) (vs 6) (vs 7) =
      shapeCast S2048x256 (concatenate S16x128x256 1
        (List.ofFn fun i : Fin 8 => (⟨S16x16x256, shapeCast S16x16x256 (vs i) shapeCasts_S16x16x256_S16x16x256⟩ : (s : Shape) × (s.Idx → Ideal .f32)))
        concatenates_S16x16x256_S16x16x256_S16x16x256_S16x16x256_S16x16x256_S16x16x256_S16x16x256_S16x16x256_S16x128x256_d1)
        shapeCasts_S16x128x256_S2048x256 := rfl
  unfold rowOf
  rw [h, shapeCast_apply _ _ _ (ix3 c s ch) (by
    pointwise [rowIx, Shape.rowMajor_val_two, Shape.rowMajor_val_three]
    omega)]
  refine (concatenate_ofFn_apply (t := S16x128x256) (s₁ := S16x16x256) 1
    (fun i : Fin 8 => shapeCast S16x16x256 (vs i) shapeCasts_S16x16x256_S16x16x256) _ rfl 16 rfl _ ⟨s.val / 16, by omega⟩ rfl
    (ix3 c ⟨s.val % 16, Nat.mod_lt _ (by decide)⟩ ch) rfl (fun b hb => by
      match b with
      | 0 => rfl
      | 1 => exact absurd rfl hb
      | 2 => rfl)).trans ?_
  pointwise

/-- The block of a step, read at an index: the mathematics' row, with the kernel's attention. -/
theorem E_apply (vs : Fin 8 → Vec Ideal S16x16x256 .f32) (w b : Vec Ideal S1x256 .f32)
    (wq wk wv wg : Vec Ideal S256x256 .bf16) (bg : Vec Ideal S1x256 .f32) (wo : Vec Ideal S256x256 .bf16) (bo w2 b2 : Vec Ideal S1x256 .f32)
    (m1 : Vec Ideal S256x1024 .bf16) (c1 : Vec Ideal S1x1024 .f32) (m2 : Vec Ideal S1024x256 .bf16) (c2 : Vec Ideal S1x256 .f32)
    (c : Fin 16) (s : Fin 128) (ch : Fin 256) :
    E (vs 0) (vs 1) (vs 2) (vs 3) (vs 4) (vs 5) (vs 6) (vs 7) w b wq wk wv wg bg wo wo wo wo wo wo wo wo wo wo wo wo wo wo wo wo bo w2 b2 m1 c1 m2 c2
      (ix2 (rowIx c s) ch) =
    colRow attnK scale2 (fun s ch => vs ⟨s.val / 16, by omega⟩ (ix3 c ⟨s.val % 16, Nat.mod_lt _ (by decide)⟩ ch))
      (vecOf w) (vecOf b) (matOf wq) (matOf wk) (matOf wv) (matOf wg) (vecOf bg) (matOf wo) (vecOf bo) (vecOf w2) (vecOf b2)
      (matOf m1) (vecOf c1) (matOf m2) (vecOf c2) s ch := by
  rw [E_eq, trans_apply]
  unfold colRow
  refine congrArg (fun f => transit f (vecOf w2) (vecOf b2) (matOf m1) (vecOf c1) (matOf m2) (vecOf c2) ch) ?_
  funext j
  refine (attnOf_apply _ _ _ _ _ _ _ c s j).trans ?_
  simp only [headsOf_apply, q_apply, k_apply, v_apply, g_apply, x_apply]
  unfold mid
  rw [add_assoc]

end Cert.ColIdeal.Body
-- ==== Proof.ColBlocks.lean ====
/- The operands of a step of the column kernel, read back to the program's arguments, and the result buffer's contents in
   those terms: element `(s, r, ch)` of the result is row `s` of residue `r`'s column. -/
module

public import proofs.«01_k».proof.Proof.ColValue
public import proofs.«01_k».proof.Proof.ColIdealFrame
public import Idealize.ShloMosaic.Lib.Pipeline.ValueKit.Point
public import Idealize.ShloMosaic.Lib.Claim

@[expose] public section

set_option maxRecDepth 65536
set_option maxHeartbeats 4000000

noncomputable section

namespace Cert.ColIdeal.Body

open Idealize.ShloMosaic Idealize.ShloMosaic.TcCoe Idealize.SL.Sem
open Cert.ColIdeal Cert.ColIdeal.Gen Cert.ColMath

variable (m : (ℓ : Loc nD τ sig) → Buf (Elt Ideal) ℓ) (c : Dev nD) (t : Fin cfg0.N)

/-- A step's block of each of the eight sequence operands is its sixteen residues of the argument. -/
theorem seq_blocks (u c' s' : Fin 16) (ch : Fin 256) :
    iblk m c 0 (pt u) (ix3 c' s' ch) = m ((c : Thread nD τ).loc main_arg0) (ix4 ⟨16 * u.val + c'.val, by omega⟩ s' 0 ch) ∧
    iblk m c 1 (pt u) (ix3 c' s' ch) = m ((c : Thread nD τ).loc main_arg1) (ix4 ⟨16 * u.val + c'.val, by omega⟩ s' 0 ch) ∧
    iblk m c 2 (pt u) (ix3 c' s' ch) = m ((c : Thread nD τ).loc main_arg2) (ix4 ⟨16 * u.val + c'.val, by omega⟩ s' 0 ch) ∧
    iblk m c 3 (pt u) (ix3 c' s' ch) = m ((c : Thread nD τ).loc main_arg3) (ix4 ⟨16 * u.val + c'.val, by omega⟩ s' 0 ch) ∧
    iblk m c 4 (pt u) (ix3 c' s' ch) = m ((c : Thread nD τ).loc main_arg4) (ix4 ⟨16 * u.val + c'.val, by omega⟩ s' 0 ch) ∧
    iblk m c 5 (pt u) (ix3 c' s' ch) = m ((c : Thread nD τ).loc main_arg5) (ix4 ⟨16 * u.val + c'.val, by omega⟩ s' 0 ch) ∧
    iblk m c 6 (pt u) (ix3 c' s' ch) = m ((c : Thread nD τ).loc main_arg6) (ix4 ⟨16 * u.val + c'.val, by omega⟩ s' 0 ch) ∧
    iblk m c 7 (pt u) (ix3 c' s' ch) = m ((c : Thread nD τ).loc main_arg7) (ix4 ⟨16 * u.val + c'.val, by omega⟩ s' 0 ch) := by
  refine ⟨?_, ?_, ?_, ?_, ?_, ?_, ?_, ?_⟩
  · have h : ∀ u : Fin 16, win0_0.index (pt u) 0 = u.val ∧ win0_0.index (pt u) 1 = 0 ∧ win0_0.index (pt u) 2 = 0 := by decide +kernel
    blk_ext! [iblk, V, (h u).1, (h u).2.1, (h u).2.2]
  · have h : ∀ u : Fin 16, win0_1.index (pt u) 0 = u.val ∧ win0_1.index (pt u) 1 = 0 ∧ win0_1.index (pt u) 2 = 0 := by decide +kernel
    blk_ext! [iblk, V, (h u).1, (h u).2.1, (h u).2.2]
  · have h : ∀ u : Fin 16, win0_2.index (pt u) 0 = u.val ∧ win0_2.index (pt u) 1 = 0 ∧ win0_2.index (pt u) 2 = 0 := by decide +kernel
    blk_ext! [iblk, V, (h u).1, (h u).2.1, (h u).2.2]
  · have h : ∀ u : Fin 16, win0_3.index (pt u) 0 = u.val ∧ win0_3.index (pt u) 1 = 0 ∧ win0_3.index (pt u) 2 = 0 := by decide +kernel
    blk_ext! [iblk, V, (h u).1, (h u).2.1, (h u).2.2]
  · have h : ∀ u : Fin 16, win0_4.index (pt u) 0 = u.val ∧ win0_4.index (pt u) 1 = 0 ∧ win0_4.index (pt u) 2 = 0 := by decide +kernel
    blk_ext! [iblk, V, (h u).1, (h u).2.1, (h u).2.2]
  · have h : ∀ u : Fin 16, win0_5.index (pt u) 0 = u.val ∧ win0_5.index (pt u) 1 = 0 ∧ win0_5.index (pt u) 2 = 0 := by decide +kernel
    blk_ext! [iblk, V, (h u).1, (h u).2.1, (h u).2.2]
  · have h : ∀ u : Fin 16, win0_6.index (pt u) 0 = u.val ∧ win0_6.index (pt u) 1 = 0 ∧ win0_6.index (pt u) 2 = 0 := by decide +kernel
    blk_ext! [iblk, V, (h u).1, (h u).2.1, (h u).2.2]
  · have h : ∀ u : Fin 16, win0_7.index (pt u) 0 = u.val ∧ win0_7.index (pt u) 1 = 0 ∧ win0_7.index (pt u) 2 = 0 := by decide +kernel
    blk_ext! [iblk, V, (h u).1, (h u).2.1, (h u).2.2]

/-- Each step's block of a vector operand is the whole argument. -/
theorem vec_blocks (ch : Fin 256) :
    iblk m c 8 t (ix2 0 ch) = m ((c : Thread nD τ).loc main_arg8) (ix1 ch) ∧
    iblk m c 9 t (ix2 0 ch) = m ((c : Thread nD τ).loc main_arg9) (ix1 ch) ∧
    iblk m c 14 t (ix2 0 ch) = m ((c : Thread nD τ).loc main_arg14) (ix1 ch) ∧
    iblk m c 16 t (ix2 0 ch) = m ((c : Thread nD τ).loc main_arg16) (ix1 ch) ∧
    iblk m c 17 t (ix2 0 ch) = m ((c : Thread nD τ).loc main_arg17) (ix1 ch) ∧
    iblk m c 18 t (ix2 0 ch) = m ((c : Thread nD τ).loc main_arg18) (ix1 ch) ∧
    iblk m c 22 t (ix2 0 ch) = m ((c : Thread nD τ).loc main_arg22) (ix1 ch) := by
  refine ⟨?_, ?_, ?_, ?_, ?_, ?_, ?_⟩
  · have h : ∀ t, win0_8.index t 1 = 0 := by decide +kernel
    blk_ext! [iblk, V, h t]
  · have h : ∀ t, win0_9.index t 1 = 0 := by decide +kernel
    blk_ext! [iblk, V, h t]
  · have h : ∀ t, win0_14.index t 1 = 0 := by decide +kernel
    blk_ext! [iblk, V, h t]
  · have h : ∀ t, win0_16.index t 1 = 0 := by decide +kernel
    blk_ext! [iblk, V, h t]
  · have h : ∀ t, win0_17.index t 1 = 0 := by decide +kernel
    blk_ext! [iblk, V, h t]
  · have h : ∀ t, win0_18.index t 1 = 0 := by decide +kernel
    blk_ext! [iblk, V, h t]
  · have h : ∀ t, win0_22.index t 1 = 0 := by decide +kernel
    blk_ext! [iblk, V, h t]

/-- Each step's block of a square matrix operand is the whole argument. -/
theorem mat_blocks (i j : Fin 256) :
    iblk m c 10 t (ix2 i j) = m ((c : Thread nD τ).loc main_arg10) (ix2 i j) ∧
    iblk m c 11 t (ix2 i j) = m ((c : Thread nD τ).loc main_arg11) (ix2 i j) ∧
    iblk m c 12 t (ix2 i j) = m ((c : Thread nD τ).loc main_arg12) (ix2 i j) ∧
    iblk m c 13 t (ix2 i j) = m ((c : Thread nD τ).loc main_arg13) (ix2 i j) ∧
    iblk m c 15 t (ix2 i j) = m ((c : Thread nD τ).loc main_arg15) (ix2 i j) := by
  refine ⟨?_, ?_, ?_, ?_, ?_⟩
  · have h : ∀ t, win0_10.index t 0 = 0 ∧ win0_10.index t 1 = 0 := by decide +kernel
    blk_ext! [iblk, V, (h t).1, (h t).2]
  · have h : ∀ t, win0_11.index t 0 = 0 ∧ win0_11.index t 1 = 0 := by decide +kernel
    blk_ext! [iblk, V, (h t).1, (h t).2]
  · have h : ∀ t, win0_12.index t 0 = 0 ∧ win0_12.index t 1 = 0 := by decide +kernel
    blk_ext! [iblk, V, (h t).1, (h t).2]
  · have h : ∀ t, win0_13.index t 0 = 0 ∧ win0_13.index t 1 = 0 := by decide +kernel
    blk_ext! [iblk, V, (h t).1, (h t).2]
  · have h : ∀ t, win0_15.index t 0 = 0 ∧ win0_15.index t 1 = 0 := by decide +kernel
    blk_ext! [iblk, V, (h t).1, (h t).2]

/-- Each step's block of the transition's operands with 1024 hidden channels is the whole argument. -/
theorem hidden_blocks (i : Fin 256) (j : Fin 1024) :
    iblk m c 19 t (ix2 i j) = m ((c : Thread nD τ).loc main_arg19) (ix2 i j) ∧
    iblk m c 20 t (ix2 0 j) = m ((c : Thread nD τ).loc main_arg20) (ix1 j) ∧
    iblk m c 21 t (ix2 j i) = m ((c : Thread nD τ).loc main_arg21) (ix2 j i) := by
  refine ⟨?_, ?_, ?_⟩
  · have h : ∀ t, win0_19.index t 0 = 0 ∧ win0_19.index t 1 = 0 := by decide +kernel
    blk_ext! [iblk, V, (h t).1, (h t).2]
  · have h : ∀ t, win0_20.index t 1 = 0 := by decide +kernel
    blk_ext! [iblk, V, h t]
  · have h : ∀ t, win0_21.index t 0 = 0 ∧ win0_21.index t 1 = 0 := by decide +kernel
    blk_ext! [iblk, V, (h t).1, (h t).2]

end Cert.ColIdeal.Body
-- ==== Proof.ColResult.lean ====
/- The result of the column kernel at an element, in terms of the program's arguments: element `(s, r, ch)` is row `s` of
   residue `r`'s column. -/
module

public import proofs.«01_k».proof.Proof.ColBlocks

@[expose] public section

set_option maxRecDepth 65536
set_option maxHeartbeats 1000000

noncomputable section

namespace Cert.ColIdeal.Body

open Idealize.ShloMosaic Idealize.ShloMosaic.TcCoe Idealize.SL.Sem
open Cert.ColIdeal Cert.ColIdeal.Gen Cert.ColMath

variable (m : (ℓ : Loc nD τ sig) → Buf (Elt Ideal) ℓ) (c : Dev nD) (t : Fin cfg0.N)

/-- Row `s` of residue `r`'s column: row `s % 16` of sequence argument `s / 16`. -/
def argCol (r : Fin 256) (s : Fin 128) (ch : Fin 256) : EReal :=
  (![m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7)] : Fin 8 → S256x16x1x256.Idx → EReal)
    ⟨s.val / 16, by omega⟩ (ix4 r ⟨s.val % 16, Nat.mod_lt _ (by decide)⟩ 0 ch)

/-- A vector argument by its coordinate. -/
def argVec {n : ℕ} (x : (⟨1, ![n]⟩ : Shape).Idx → EReal) (i : Fin n) : EReal := x (ix1 i)

/-- A matrix argument by its coordinates. -/
def argMat {n k : ℕ} (x : (⟨2, ![n, k]⟩ : Shape).Idx → EReal) (i : Fin n) (j : Fin k) : EReal := x (ix2 i j)

/-- The sequence operands' blocks at point `u`, by number. -/
def seqs (u : Fin 16) : Fin 8 → Vec Ideal S16x16x256 .f32 :=
  ![iblk m c 0 (pt u), iblk m c 1 (pt u), iblk m c 2 (pt u), iblk m c 3 (pt u), iblk m c 4 (pt u), iblk m c 5 (pt u),
    iblk m c 6 (pt u), iblk m c 7 (pt u)]

/-- Their elements are the column's. -/
theorem seqs_apply (u c' : Fin 16) (s : Fin 128) (ch : Fin 256) :
    seqs m c u ⟨s.val / 16, by omega⟩ (ix3 c' ⟨s.val % 16, Nat.mod_lt _ (by decide)⟩ ch) =
      argCol m c ⟨16 * u.val + c'.val, by omega⟩ s ch := by
  have h := seq_blocks m c u c' ⟨s.val % 16, Nat.mod_lt _ (by decide)⟩ ch
  unfold argCol seqs
  generalize hk : (⟨s.val / 16, by omega⟩ : Fin 8) = k
  match k with
  | 0 => exact h.1
  | 1 => exact h.2.1
  | 2 => exact h.2.2.1
  | 3 => exact h.2.2.2.1
  | 4 => exact h.2.2.2.2.1
  | 5 => exact h.2.2.2.2.2.1
  | 6 => exact h.2.2.2.2.2.2.1
  | 7 => exact h.2.2.2.2.2.2.2

/-- Row `s` of residue `c'` in the block of point `u`. -/
theorem Y_apply (u c' : Fin 16) (s : Fin 128) (ch : Fin 256) :
    Y m c u (ix2 (rowIx c' s) ch) = colRow attnK scale2 (argCol m c ⟨16 * u.val + c'.val, by omega⟩)
      (argVec (m ((c : Thread nD τ).loc main_arg8))) (argVec (m ((c : Thread nD τ).loc main_arg9)))
      (argMat (m ((c : Thread nD τ).loc main_arg10))) (argMat (m ((c : Thread nD τ).loc main_arg11)))
      (argMat (m ((c : Thread nD τ).loc main_arg12))) (argMat (m ((c : Thread nD τ).loc main_arg13)))
      (argVec (m ((c : Thread nD τ).loc main_arg14))) (argMat (m ((c : Thread nD τ).loc main_arg15)))
      (argVec (m ((c : Thread nD τ).loc main_arg16))) (argVec (m ((c : Thread nD τ).loc main_arg17)))
      (argVec (m ((c : Thread nD τ).loc main_arg18))) (argMat (m ((c : Thread nD τ).loc main_arg19)))
      (argVec (m ((c : Thread nD τ).loc main_arg20))) (argMat (m ((c : Thread nD τ).loc main_arg21)))
      (argVec (m ((c : Thread nD τ).loc main_arg22))) s ch := by
  have hv := vec_blocks m c (pt u)
  have hm := mat_blocks m c (pt u)
  have hh := hidden_blocks m c (pt u)
  refine (E_apply (seqs m c u) (iblk m c 8 (pt u)) (iblk m c 9 (pt u)) (iblk m c 10 (pt u)) (iblk m c 11 (pt u)) (iblk m c 12 (pt u))
    (iblk m c 13 (pt u)) (iblk m c 14 (pt u)) (iblk m c 15 (pt u)) (iblk m c 16 (pt u)) (iblk m c 17 (pt u)) (iblk m c 18 (pt u))
    (iblk m c 19 (pt u)) (iblk m c 20 (pt u)) (iblk m c 21 (pt u)) (iblk m c 22 (pt u)) c' s ch).trans ?_
  have h0 : (fun (s : Fin 128) (ch : Fin 256) => seqs m c u ⟨s.val / 16, by omega⟩ (ix3 c' ⟨s.val % 16, Nat.mod_lt _ (by decide)⟩ ch)) =
      argCol m c ⟨16 * u.val + c'.val, by omega⟩ := funext fun s => funext fun ch => seqs_apply m c u c' s ch
  have h8 : vecOf (iblk m c 8 (pt u)) = argVec (m ((c : Thread nD τ).loc main_arg8)) := funext fun k => (hv k).1
  have h9 : vecOf (iblk m c 9 (pt u)) = argVec (m ((c : Thread nD τ).loc main_arg9)) := funext fun k => (hv k).2.1
  have h14 : vecOf (iblk m c 14 (pt u)) = argVec (m ((c : Thread nD τ).loc main_arg14)) := funext fun k => (hv k).2.2.1
  have h16 : vecOf (iblk m c 16 (pt u)) = argVec (m ((c : Thread nD τ).loc main_arg16)) := funext fun k => (hv k).2.2.2.1
  have h17 : vecOf (iblk m c 17 (pt u)) = argVec (m ((c : Thread nD τ).loc main_arg17)) := funext fun k => (hv k).2.2.2.2.1
  have h18 : vecOf (iblk m c 18 (pt u)) = argVec (m ((c : Thread nD τ).loc main_arg18)) := funext fun k => (hv k).2.2.2.2.2.1
  have h22 : vecOf (iblk m c 22 (pt u)) = argVec (m ((c : Thread nD τ).loc main_arg22)) := funext fun k => (hv k).2.2.2.2.2.2
  have h10 : matOf (iblk m c 10 (pt u)) = argMat (m ((c : Thread nD τ).loc main_arg10)) := funext fun i => funext fun j => (hm i j).1
  have h11 : matOf (iblk m c 11 (pt u)) = argMat (m ((c : Thread nD τ).loc main_arg11)) := funext fun i => funext fun j => (hm i j).2.1
  have h12 : matOf (iblk m c 12 (pt u)) = argMat (m ((c : Thread nD τ).loc main_arg12)) := funext fun i => funext fun j => (hm i j).2.2.1
  have h13 : matOf (iblk m c 13 (pt u)) = argMat (m ((c : Thread nD τ).loc main_arg13)) := funext fun i => funext fun j => (hm i j).2.2.2.1
  have h15 : matOf (iblk m c 15 (pt u)) = argMat (m ((c : Thread nD τ).loc main_arg15)) := funext fun i => funext fun j => (hm i j).2.2.2.2
  have h19 : matOf (iblk m c 19 (pt u)) = argMat (m ((c : Thread nD τ).loc main_arg19)) := funext fun i => funext fun j => (hh i j).1
  have h20 : vecOf (iblk m c 20 (pt u)) = argVec (m ((c : Thread nD τ).loc main_arg20)) := funext fun j => (hh 0 j).2.1
  have h21 : matOf (iblk m c 21 (pt u)) = argMat (m ((c : Thread nD τ).loc main_arg21)) := funext fun j => funext fun i => (hh i j).2.2
  rw [h0, h8, h9, h10, h11, h12, h13, h14, h15, h16, h17, h18, h19, h20, h21, h22]

/-- The result, read at an index. -/
theorem res_apply (s : Fin 128) (r ch : Fin 256) :
    res m c (ix3 s r ch : S128x256x256.Idx) = colRow attnK scale2 (argCol m c r)
      (argVec (m ((c : Thread nD τ).loc main_arg8))) (argVec (m ((c : Thread nD τ).loc main_arg9)))
      (argMat (m ((c : Thread nD τ).loc main_arg10))) (argMat (m ((c : Thread nD τ).loc main_arg11)))
      (argMat (m ((c : Thread nD τ).loc main_arg12))) (argMat (m ((c : Thread nD τ).loc main_arg13)))
      (argVec (m ((c : Thread nD τ).loc main_arg14))) (argMat (m ((c : Thread nD τ).loc main_arg15)))
      (argVec (m ((c : Thread nD τ).loc main_arg16))) (argVec (m ((c : Thread nD τ).loc main_arg17)))
      (argVec (m ((c : Thread nD τ).loc main_arg18))) (argMat (m ((c : Thread nD τ).loc main_arg19)))
      (argVec (m ((c : Thread nD τ).loc main_arg20))) (argMat (m ((c : Thread nD τ).loc main_arg21)))
      (argVec (m ((c : Thread nD τ).loc main_arg22))) s ch := by
  have h := Y_apply m c ⟨r.val / 16, by omega⟩ ⟨r.val % 16, Nat.mod_lt _ (by decide)⟩ s ch
  have e : (⟨16 * (r.val / 16) + r.val % 16, by omega⟩ : Fin 256) = r := Fin.ext (Nat.div_add_mod r.val 16)
  simp only [e] at h
  exact h

end Cert.ColIdeal.Body
-- ==== Proof.RefValue.lean ====
/- The reference of the column block, read at an element of its result: row `s` of residue `r`'s column, in the
   mathematics of ColMath, with the reference's way of writing the attention. -/
module

public import proofs.«01_k».proof.Proof.Gen.ReferenceIdeal
public import proofs.«01_k».proof.Proof.Gen.ReferenceIdeal.Run
public import proofs.«01_k».proof.Proof.Gen.ReferenceIdeal.Read
public import proofs.«01_k».proof.Proof.ColMath
public import Idealize.ShloMosaic.Lib.Pointwise
public import Idealize.ShloMosaic.Lib.Pipeline.Value
public import Idealize.ShloMosaic.Lib.KernelVsHost

@[expose] public section

set_option maxRecDepth 65536
set_option maxHeartbeats 1000000

noncomputable section

namespace Cert.ReferenceIdeal.Col

open Idealize.ShloMosaic
open Cert.ReferenceIdeal Cert.ReferenceIdeal.Gen Cert.ReferenceIdeal.Read Cert.ColMath

variable (x0 x1 x2 x3 x4 x5 x6 x7 : (⟨S256x16x1x256, .f32⟩ : BufTy).Contents (Elt Ideal))
  (x8 x9 : (⟨S256, .f32⟩ : BufTy).Contents (Elt Ideal)) (x10 x11 x12 x13 : (⟨S256x256, .f32⟩ : BufTy).Contents (Elt Ideal))
  (x14 : (⟨S256, .f32⟩ : BufTy).Contents (Elt Ideal)) (x15 : (⟨S256x256, .f32⟩ : BufTy).Contents (Elt Ideal))
  (x16 x17 x18 : (⟨S256, .f32⟩ : BufTy).Contents (Elt Ideal)) (x19 : (⟨S256x1024, .f32⟩ : BufTy).Contents (Elt Ideal))
  (x20 : (⟨S1024, .f32⟩ : BufTy).Contents (Elt Ideal)) (x21 : (⟨S1024x256, .f32⟩ : BufTy).Contents (Elt Ideal))
  (x22 : (⟨S256, .f32⟩ : BufTy).Contents (Elt Ideal))

/-- A vector argument as a function of its coordinate. -/
def vec {n : ℕ} (x : (⟨1, ![n]⟩ : Shape).Idx → EReal) : Fin n → EReal := fun i => x (ix1 i)

/-- A matrix argument as a function of its two coordinates. -/
def mat {n k : ℕ} (x : (⟨2, ![n, k]⟩ : Shape).Idx → EReal) : Fin n → Fin k → EReal := fun i j => x (ix2 i j)

/-- The column of residue `r`: sequence `s` is row `s % 16` of argument `s / 16`. -/
def col (r : Fin 256) (s : Fin 128) (ch : Fin 256) : EReal :=
  (![x0, x1, x2, x3, x4, x5, x6, x7] : Fin 8 → (⟨S256x16x1x256, .f32⟩ : BufTy).Contents (Elt Ideal)) ⟨s.val / 16, by omega⟩
    (ix4 r ⟨s.val % 16, Nat.mod_lt _ (by decide)⟩ 0 ch)

/-- The alignment put together from the eight arguments, read at an index. -/
theorem v16_apply (s : Fin 128) (r ch : Fin 256) :
    val_main_v16 (F := Ideal) x0 x1 x2 x3 x4 x5 x6 x7 (ix3 s r ch) = col x0 x1 x2 x3 x4 x5 x6 x7 r s ch := by
  have h : val_main_v16 (F := Ideal) x0 x1 x2 x3 x4 x5 x6 x7 = concatenate S128x256x256 0
      (List.ofFn fun i : Fin 8 => (⟨S16x256x256, val_main_v1 (F := Ideal)
        ((![x0, x1, x2, x3, x4, x5, x6, x7] : Fin 8 → (⟨S256x16x1x256, .f32⟩ : BufTy).Contents (Elt Ideal)) i)⟩ : (s : Shape) × (s.Idx → Ideal .f32)))
      concatenates_S16x256x256_S16x256x256_S16x256x256_S16x256x256_S16x256x256_S16x256x256_S16x256x256_S16x256x256_S128x256x256_d0 := rfl
  rw [h]
  refine (concatenate_ofFn_apply (t := S128x256x256) (s₁ := S16x256x256) 0 (fun i : Fin 8 => val_main_v1 (F := Ideal)
        ((![x0, x1, x2, x3, x4, x5, x6, x7] : Fin 8 → (⟨S256x16x1x256, .f32⟩ : BufTy).Contents (Elt Ideal)) i)) _ rfl 16 rfl _
    ⟨s.val / 16, by omega⟩ rfl (ix3 ⟨s.val % 16, Nat.mod_lt _ (by decide)⟩ r ch) rfl (fun b hb => by
      match b with
      | 0 => exact absurd rfl hb
      | 1 => rfl
      | 2 => rfl)).trans ?_
  unfold col
  pointwise [val_main_v1, val_main_v0]

/-- The divisor of the variance is the channel count. -/
theorem count_eq : (Ideal.ofBits .f32 0x43800000#32 : EReal) - FloatOps.sitofp (F := Ideal) .f32 0#32 = n256 := by
  have h : (FloatOps.sitofp (F := Ideal) .f32 (0#32 : BitVec 32) : EReal) = 0 := by
    show (((0 : Int) : ℝ) : EReal) = 0; simp
  rw [h, sub_zero]
  rfl

/-- The channel count is positive. -/
theorem n256_pos : 0 < n256 := by
  rw [n256_eq]
  exact_mod_cast (by norm_num : (0 : ℝ) < 256)

/-- The normalised alignment, read at an index. -/
theorem v34_apply (s : Fin 128) (r ch : Fin 256) :
    val_main_v34 (F := Ideal) x0 x1 x2 x3 x4 x5 x6 x7 x8 x9 (ix3 s r ch) = ln (fun k => val_main_v16 (F := Ideal) x0 x1 x2 x3 x4 x5 x6 x7 (ix3 s r k)) (vec x8) (vec x9) ch := by
  pointwise [val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_call0_v0, val_main_call0_call0_v1, val_main_cst, val_main_cst_0, val_main_cst_1, val_main_c, val_main_call0_cst, val_main_call0_cst_0, val_main_call0_cst_1, val_main_call0_cst_2, val_main_call0_cst_3, val_main_call0_cst_4]
  simp only [count_eq, if_pos n256_pos]
  rfl

/-- The maximum over the last axis from minus infinity, read at an index. -/
theorem rowMax_apply (y : FVec Ideal S256x8x128x128 .f32) (r : Fin 256) (h : Fin 8) (s : Fin 128) :
    Host.reduce FloatOps.maximumf y (constant S_ .f32 0xFF800000#32) reducesTo_S256x8x128x128_S256x8x128_d3 h_S_ (ix3 r h s) =
    top (fun t => y (ix4 r h s t)) := by
  have hred : S256x8x128x128.Reduces [3] S256x8x128 := by decide
  refine (congrFun (hostReduce_maximumf_eq_multiReduction y 0xFF800000#32 reducesTo_S256x8x128x128_S256x8x128_d3 h_S_ hred
    (.inl rfl) rfl) (ix3 r h s)).trans ((Ideal.multiReduction_maximumf_single y _ hred (.inl rfl) rfl _).trans ?_)
  have hb : (FloatOps.ofBits .f32 0xFF800000#32 : Ideal .f32) = (⊥ : EReal) := by
    show Ideal.ofBits .f32 0xFF800000#32 = ⊥
    simp [Ideal.ofBits, Ideal.ieee]
  refine (congrArg (fun b : EReal => Finset.univ.fold max b _) hb).trans ?_
  unfold top
  refine congrArg (fun f : Fin 128 → EReal => Finset.univ.fold max ⊥ f) (funext fun t => ?_)
  exact congrArg y (funext fun a => Fin.ext (by match a with | ⟨0, _⟩ => rfl | ⟨1, _⟩ => rfl | ⟨2, _⟩ => rfl | ⟨3, _⟩ => rfl))

/-- The row maxima, read at an index. -/
theorem v46_apply (r : Fin 256) (h : Fin 8) (s : Fin 128) :
    val_main_v46 (F := Ideal) x0 x1 x2 x3 x4 x5 x6 x7 x8 x9 x10 x11 (ix3 r h s) = top (fun t => val_main_v43 (F := Ideal) x0 x1 x2 x3 x4 x5 x6 x7 x8 x9 x10 x11 (ix4 r h s t)) := by
  have hb : (val_main_v45 (F := Ideal)) (ix3 r h s) = (⊥ : EReal) := by
    show Ideal.ofBits .f32 0xFF800000#32 = ⊥
    simp [Ideal.ofBits, Ideal.ieee]
  have hm : val_main_v44 (F := Ideal) x0 x1 x2 x3 x4 x5 x6 x7 x8 x9 x10 x11 (ix3 r h s) = top (fun t => val_main_v43 (F := Ideal) x0 x1 x2 x3 x4 x5 x6 x7 x8 x9 x10 x11 (ix4 r h s t)) :=
    rowMax_apply _ r h s
  rw [val_main_v46_apply, hb, hm]
  exact max_eq_right bot_le

end Cert.ReferenceIdeal.Col
-- ==== Proof.RefBlock.lean ====
/- The reference of the column block, read on: the queries, keys and values, the attention, its gate and projection, and
   the transition, each at an element. -/
module

public import proofs.«01_k».proof.Proof.RefValue

@[expose] public section

set_option maxRecDepth 65536
set_option maxHeartbeats 1000000

noncomputable section

namespace Cert.ReferenceIdeal.Col

open Idealize.ShloMosaic
open Cert.ReferenceIdeal Cert.ReferenceIdeal.Gen Cert.ReferenceIdeal.Read Cert.ColMath

variable (x0 x1 x2 x3 x4 x5 x6 x7 : (⟨S256x16x1x256, .f32⟩ : BufTy).Contents (Elt Ideal))
  (x8 x9 : (⟨S256, .f32⟩ : BufTy).Contents (Elt Ideal)) (x10 x11 x12 x13 : (⟨S256x256, .f32⟩ : BufTy).Contents (Elt Ideal))
  (x14 : (⟨S256, .f32⟩ : BufTy).Contents (Elt Ideal)) (x15 : (⟨S256x256, .f32⟩ : BufTy).Contents (Elt Ideal))
  (x16 x17 x18 : (⟨S256, .f32⟩ : BufTy).Contents (Elt Ideal)) (x19 : (⟨S256x1024, .f32⟩ : BufTy).Contents (Elt Ideal))
  (x20 : (⟨S1024, .f32⟩ : BufTy).Contents (Elt Ideal)) (x21 : (⟨S1024x256, .f32⟩ : BufTy).Contents (Elt Ideal))
  (x22 : (⟨S256, .f32⟩ : BufTy).Contents (Elt Ideal))

/-- An index of two coordinates is known by their values. -/
theorem at2 {a b : ℕ} (j : (⟨2, ![a, b]⟩ : Shape).Idx) (x : Fin a) (y : Fin b) (h0 : (j 0).val = x.val)
    (h1 : (j 1).val = y.val) : j = ix2 x y :=
  funext fun q => Fin.ext (by match q with | ⟨0, _⟩ => exact h0 | ⟨1, _⟩ => exact h1)

/-- An index of three coordinates is known by their values. -/
theorem at3 {a b c : ℕ} (j : (⟨3, ![a, b, c]⟩ : Shape).Idx) (x : Fin a) (y : Fin b) (z : Fin c) (h0 : (j 0).val = x.val)
    (h1 : (j 1).val = y.val) (h2 : (j 2).val = z.val) : j = ix3 x y z :=
  funext fun q => Fin.ext (by match q with | ⟨0, _⟩ => exact h0 | ⟨1, _⟩ => exact h1 | ⟨2, _⟩ => exact h2)

/-- An index of four coordinates is known by their values. -/
theorem at4 {a b c d : ℕ} (j : (⟨4, ![a, b, c, d]⟩ : Shape).Idx) (x : Fin a) (y : Fin b) (z : Fin c) (w : Fin d)
    (h0 : (j 0).val = x.val) (h1 : (j 1).val = y.val) (h2 : (j 2).val = z.val) (h3 : (j 3).val = w.val) : j = ix4 x y z w :=
  funext fun q => Fin.ext (by
    match q with | ⟨0, _⟩ => exact h0 | ⟨1, _⟩ => exact h1 | ⟨2, _⟩ => exact h2 | ⟨3, _⟩ => exact h3)

/-- Splitting the channels into heads: channel `d` of head `h`. -/
theorem head_ix (s : Fin 128) (r : Fin 256) (h : Fin 8) (d : Fin 32) :
    idx_main_v36 (ix4 s r h d) = ix3 s r (chan h d) := by
  refine at3 _ _ _ _ ?_ ?_ ?_
  · show (((s.val * 256 + r.val) * 8 + h.val) * 32 + d.val) / 65536 = s.val
    omega
  · show (((s.val * 256 + r.val) * 8 + h.val) * 32 + d.val) / 256 % 256 = r.val
    omega
  · show (((s.val * 256 + r.val) * 8 + h.val) * 32 + d.val) % 256 = 32 * h.val + d.val
    omega

/-- The channel of a head within which a channel lies. -/
def subIx (j : Fin 256) : Fin 32 := ⟨j.val % 32, Nat.mod_lt _ (by decide)⟩

/-- A channel is the named channel of its head. -/
theorem chan_sub (j : Fin 256) : chan (headIx j) (subIx j) = j :=
  Fin.ext (by show 32 * (j.val / 32) + j.val % 32 = j.val; omega)

/-- Joining the heads: a channel is read in its head. -/
theorem join_ix (s : Fin 128) (r j : Fin 256) : idx_main_v69 (ix3 s r j) = ix4 s r (headIx j) (subIx j) := by
  refine at4 _ _ _ _ _ ?_ ?_ ?_ ?_
  · show ((s.val * 256 + r.val) * 256 + j.val) / 65536 = s.val
    omega
  · show ((s.val * 256 + r.val) * 256 + j.val) / 256 % 256 = r.val
    omega
  · show ((s.val * 256 + r.val) * 256 + j.val) / 32 % 8 = j.val / 32
    omega
  · show ((s.val * 256 + r.val) * 256 + j.val) % 32 = j.val % 32
    omega

/-- Row `s` of residue `r`'s column after the LayerNorm. -/
def nrm (r : Fin 256) (s : Fin 128) : Fin 256 → EReal := ln (col x0 x1 x2 x3 x4 x5 x6 x7 r s) (vec x8) (vec x9)

/-- The normalised alignment is the LayerNorm of the column. -/
theorem v34_col (s : Fin 128) (r ch : Fin 256) : val_main_v34 (F := Ideal) x0 x1 x2 x3 x4 x5 x6 x7 x8 x9 (ix3 s r ch) = nrm x0 x1 x2 x3 x4 x5 x6 x7 x8 x9 r s ch := by
  rw [v34_apply, funext fun k => v16_apply x0 x1 x2 x3 x4 x5 x6 x7 s r k]
  rfl

/-- The queries' projection. -/
theorem v35_col (s : Fin 128) (r j : Fin 256) :
    val_main_v35 (F := Ideal) x0 x1 x2 x3 x4 x5 x6 x7 x8 x9 x10 (ix3 s r j) = dotp (nrm x0 x1 x2 x3 x4 x5 x6 x7 x8 x9 r s) (mat x10) j := by
  rw [val_main_v35_apply]
  refine Finset.sum_congr rfl fun k _ => congrArg₂ (· * ·) ?_ (congrArg _ (at2 _ _ _ rfl rfl))
  exact (congrArg _ (at3 _ _ _ _ rfl rfl rfl)).trans (v34_col x0 x1 x2 x3 x4 x5 x6 x7 x8 x9 s r k)

/-- The keys' projection. -/
theorem v39_col (s : Fin 128) (r j : Fin 256) :
    val_main_v39 (F := Ideal) x0 x1 x2 x3 x4 x5 x6 x7 x8 x9 x11 (ix3 s r j) = dotp (nrm x0 x1 x2 x3 x4 x5 x6 x7 x8 x9 r s) (mat x11) j := by
  rw [val_main_v39_apply]
  refine Finset.sum_congr rfl fun k _ => congrArg₂ (· * ·) ?_ (congrArg _ (at2 _ _ _ rfl rfl))
  exact (congrArg _ (at3 _ _ _ _ rfl rfl rfl)).trans (v34_col x0 x1 x2 x3 x4 x5 x6 x7 x8 x9 s r k)

/-- The values' projection. -/
theorem v41_col (s : Fin 128) (r j : Fin 256) :
    val_main_v41 (F := Ideal) x0 x1 x2 x3 x4 x5 x6 x7 x8 x9 x12 (ix3 s r j) = dotp (nrm x0 x1 x2 x3 x4 x5 x6 x7 x8 x9 r s) (mat x12) j := by
  rw [val_main_v41_apply]
  refine Finset.sum_congr rfl fun k _ => congrArg₂ (· * ·) ?_ (congrArg _ (at2 _ _ _ rfl rfl))
  exact (congrArg _ (at3 _ _ _ _ rfl rfl rfl)).trans (v34_col x0 x1 x2 x3 x4 x5 x6 x7 x8 x9 s r k)

/-- The gate's projection. -/
theorem v57_col (s : Fin 128) (r j : Fin 256) :
    val_main_v57 (F := Ideal) x0 x1 x2 x3 x4 x5 x6 x7 x8 x9 x13 (ix3 s r j) = dotp (nrm x0 x1 x2 x3 x4 x5 x6 x7 x8 x9 r s) (mat x13) j := by
  rw [val_main_v57_apply]
  refine Finset.sum_congr rfl fun k _ => congrArg₂ (· * ·) ?_ (congrArg _ (at2 _ _ _ rfl rfl))
  exact (congrArg _ (at3 _ _ _ _ rfl rfl rfl)).trans (v34_col x0 x1 x2 x3 x4 x5 x6 x7 x8 x9 s r k)

/-- The scaled queries by heads. -/
theorem v38_col (s : Fin 128) (r : Fin 256) (h : Fin 8) (d : Fin 32) :
    val_main_v38 (F := Ideal) x0 x1 x2 x3 x4 x5 x6 x7 x8 x9 x10 (ix4 s r h d) = dotp (nrm x0 x1 x2 x3 x4 x5 x6 x7 x8 x9 r s) (mat x10) (chan h d) * scale := by
  rw [val_main_v38_apply, val_main_v36_apply, val_main_v37_apply, head_ix, v35_col]
  rfl

/-- The keys by heads. -/
theorem v40_col (s : Fin 128) (r : Fin 256) (h : Fin 8) (d : Fin 32) :
    val_main_v40 (F := Ideal) x0 x1 x2 x3 x4 x5 x6 x7 x8 x9 x11 (ix4 s r h d) = dotp (nrm x0 x1 x2 x3 x4 x5 x6 x7 x8 x9 r s) (mat x11) (chan h d) := by
  rw [val_main_v40_apply]
  exact (congrArg _ (head_ix s r h d)).trans (v39_col x0 x1 x2 x3 x4 x5 x6 x7 x8 x9 x11 s r _)

/-- The values by heads. -/
theorem v42_col (s : Fin 128) (r : Fin 256) (h : Fin 8) (d : Fin 32) :
    val_main_v42 (F := Ideal) x0 x1 x2 x3 x4 x5 x6 x7 x8 x9 x12 (ix4 s r h d) = dotp (nrm x0 x1 x2 x3 x4 x5 x6 x7 x8 x9 r s) (mat x12) (chan h d) := by
  rw [val_main_v42_apply]
  exact (congrArg _ (head_ix s r h d)).trans (v41_col x0 x1 x2 x3 x4 x5 x6 x7 x8 x9 x12 s r _)

/-- The scores of the rows of residue `r` in head `h`. -/
def scr (r : Fin 256) (h : Fin 8) (s t : Fin 128) : EReal :=
  score (fun s j => dotp (nrm x0 x1 x2 x3 x4 x5 x6 x7 x8 x9 r s) (mat x10) j * scale) (fun s j => dotp (nrm x0 x1 x2 x3 x4 x5 x6 x7 x8 x9 r s) (mat x11) j) h s t

/-- The scores, read at an index. -/
theorem v43_col (r : Fin 256) (h : Fin 8) (s t : Fin 128) :
    val_main_v43 (F := Ideal) x0 x1 x2 x3 x4 x5 x6 x7 x8 x9 x10 x11 (ix4 r h s t) = scr x0 x1 x2 x3 x4 x5 x6 x7 x8 x9 x10 x11 r h s t := by
  rw [val_main_v43_apply]
  unfold scr score
  refine Finset.sum_congr rfl fun d _ => congrArg₂ (· * ·) ?_ ?_
  · exact (congrArg _ (at4 _ _ _ _ _ rfl rfl rfl rfl)).trans (v38_col x0 x1 x2 x3 x4 x5 x6 x7 x8 x9 x10 s r h d)
  · exact (congrArg _ (at4 _ _ _ _ _ rfl rfl rfl rfl)).trans (v40_col x0 x1 x2 x3 x4 x5 x6 x7 x8 x9 x11 t r h d)

/-- The exponentials of the scores less their row's maximum. -/
theorem v50_col (r : Fin 256) (h : Fin 8) (s t : Fin 128) :
    val_main_v50 (F := Ideal) x0 x1 x2 x3 x4 x5 x6 x7 x8 x9 x10 x11 (ix4 r h s t) = Ideal.exp (scr x0 x1 x2 x3 x4 x5 x6 x7 x8 x9 x10 x11 r h s t - top (scr x0 x1 x2 x3 x4 x5 x6 x7 x8 x9 x10 x11 r h s)) := by
  rw [val_main_v50_apply, val_main_v49_apply, val_main_v48_apply, val_main_v47_apply, v43_col]
  have e : idx_main_v47 (idx_main_v48 (ix4 r h s t)) = ix3 r h s := at3 _ _ _ _ rfl rfl rfl
  rw [e, v46_apply, funext fun t => v43_col x0 x1 x2 x3 x4 x5 x6 x7 x8 x9 x10 x11 r h s t]
  rfl

/-- The sums of the exponentials. -/
theorem v51_col (r : Fin 256) (h : Fin 8) (s : Fin 128) :
    val_main_v51 (F := Ideal) x0 x1 x2 x3 x4 x5 x6 x7 x8 x9 x10 x11 (ix3 r h s) = ∑ t, Ideal.exp (scr x0 x1 x2 x3 x4 x5 x6 x7 x8 x9 x10 x11 r h s t - top (scr x0 x1 x2 x3 x4 x5 x6 x7 x8 x9 x10 x11 r h s)) := by
  have e : ∀ t, idx_main_v51 (ix3 r h s) t = ix4 r h s t := fun t => at4 _ _ _ _ _ rfl rfl rfl rfl
  rw [val_main_v51_apply]
  simp only [e, v50_col]
  have hz : (val_main_cst_5 (F := Ideal)) ((Shape.Idx.first (s := S_)) h_S_) = (0 : EReal) := Ideal.ofBits_zero_f32
  exact (congrArg (· + _) hz).trans (zero_add _)

/-- The weights. -/
theorem v54_col (r : Fin 256) (h : Fin 8) (s t : Fin 128) :
    val_main_v54 (F := Ideal) x0 x1 x2 x3 x4 x5 x6 x7 x8 x9 x10 x11 (ix4 r h s t) = Ideal.div (Ideal.exp (scr x0 x1 x2 x3 x4 x5 x6 x7 x8 x9 x10 x11 r h s t - top (scr x0 x1 x2 x3 x4 x5 x6 x7 x8 x9 x10 x11 r h s)))
      (∑ t, Ideal.exp (scr x0 x1 x2 x3 x4 x5 x6 x7 x8 x9 x10 x11 r h s t - top (scr x0 x1 x2 x3 x4 x5 x6 x7 x8 x9 x10 x11 r h s))) := by
  rw [val_main_v54_apply, val_main_v53_apply, val_main_v52_apply, v50_col]
  have e : idx_main_v52 (idx_main_v53 (ix4 r h s t)) = ix3 r h s := at3 _ _ _ _ rfl rfl rfl
  rw [e, v51_col]
  rfl

/-- The attention's output at row `s` and channel `d` of head `h`. -/
theorem v55_col (r : Fin 256) (h : Fin 8) (d : Fin 32) (s : Fin 128) :
    val_main_v55 (F := Ideal) x0 x1 x2 x3 x4 x5 x6 x7 x8 x9 x10 x11 x12 (ix4 r h d s) =
      attnR (scr x0 x1 x2 x3 x4 x5 x6 x7 x8 x9 x10 x11 r h s) (fun t => dotp (nrm x0 x1 x2 x3 x4 x5 x6 x7 x8 x9 r t) (mat x12) (chan h d)) := by
  rw [val_main_v55_apply]
  refine Finset.sum_congr rfl fun t _ => congrArg₂ (· * ·) ?_ ?_
  · exact (congrArg _ (at4 _ _ _ _ _ rfl rfl rfl rfl)).trans (v42_col x0 x1 x2 x3 x4 x5 x6 x7 x8 x9 x12 t r h d)
  · exact (congrArg _ (at4 _ _ _ _ _ rfl rfl rfl rfl)).trans (v54_col x0 x1 x2 x3 x4 x5 x6 x7 x8 x9 x10 x11 r h s t)

/-- The gate. -/
theorem v66_col (s : Fin 128) (r j : Fin 256) :
    val_main_v66 (F := Ideal) x0 x1 x2 x3 x4 x5 x6 x7 x8 x9 x13 x14 (ix3 s r j) =
      Ideal.logistic (dotp (nrm x0 x1 x2 x3 x4 x5 x6 x7 x8 x9 r s) (mat x13) j + vec x14 j) := by
  rw [val_main_v66_apply, val_main_v65_apply, val_main_v64_apply, val_main_v63_apply, val_main_v62_apply, val_main_v61_apply,
    val_main_v60_apply, val_main_v59_apply, val_main_v58_apply, v57_col]
  have e : x14 (idx_main_v58 (idx_main_v59 (ix3 s r j))) = vec x14 j :=
    congrArg x14 (funext fun q => Fin.ext (by match q with | ⟨0, _⟩ => rfl))
  have h1 : (FloatOps.ofBits .f32 0x3F800000#32 : Ideal .f32) = (1 : EReal) := Ideal.ofBits_one_f32
  rw [e]
  show Ideal.div (FloatOps.ofBits (F := Ideal) .f32 0x3F800000#32) ((FloatOps.ofBits (F := Ideal) .f32 0x3F800000#32 : EReal) +
    Ideal.exp (-(dotp (nrm x0 x1 x2 x3 x4 x5 x6 x7 x8 x9 r s) (mat x13) j + vec x14 j))) = _
  rw [h1]
  rfl

/-- The gated attention, its heads joined. -/
theorem v69_col (s : Fin 128) (r j : Fin 256) :
    val_main_v69 (F := Ideal) x0 x1 x2 x3 x4 x5 x6 x7 x8 x9 x10 x11 x12 x13 x14 (ix3 s r j) = Ideal.logistic (dotp (nrm x0 x1 x2 x3 x4 x5 x6 x7 x8 x9 r s) (mat x13) j + vec x14 j) *
      attnR (scr x0 x1 x2 x3 x4 x5 x6 x7 x8 x9 x10 x11 r (headIx j) s) (fun t => dotp (nrm x0 x1 x2 x3 x4 x5 x6 x7 x8 x9 r t) (mat x12) j) := by
  rw [val_main_v69_apply, join_ix, val_main_v68_apply, val_main_v67_apply, val_main_v56_apply]
  have e : idx_main_v56 (ix4 s r (headIx j) (subIx j)) = ix4 r (headIx j) (subIx j) s := at4 _ _ _ _ _ rfl rfl rfl rfl
  have e' : idx_main_v67 (ix4 s r (headIx j) (subIx j)) = ix3 s r j :=
    (head_ix s r (headIx j) (subIx j)).trans (congrArg (ix3 s r) (chan_sub j))
  rw [e, e', v66_col, v55_col, chan_sub]
  rfl

/-- The alignment after the attention: row `s` of residue `r`. -/
def midRow (r : Fin 256) (s : Fin 128) : Fin 256 → EReal :=
  mid (col x0 x1 x2 x3 x4 x5 x6 x7 r s) (fun j => attnR (scr x0 x1 x2 x3 x4 x5 x6 x7 x8 x9 x10 x11 r (headIx j) s) (fun t => dotp (nrm x0 x1 x2 x3 x4 x5 x6 x7 x8 x9 r t) (mat x12) j))
    (vec x8) (vec x9) (mat x13) (vec x14) (mat x15) (vec x16)

/-- The alignment after the attention, read at an index. -/
theorem v74_col (s : Fin 128) (r ch : Fin 256) : val_main_v74 (F := Ideal) x0 x1 x2 x3 x4 x5 x6 x7 x8 x9 x10 x11 x12 x13 x14 x15 x16 (ix3 s r ch) = midRow x0 x1 x2 x3 x4 x5 x6 x7 x8 x9 x10 x11 x12 x13 x14 x15 x16 r s ch := by
  rw [val_main_v74_apply, val_main_v73_apply, val_main_v72_apply, val_main_v71_apply, v16_apply]
  have e : x16 (idx_main_v71 (idx_main_v72 (ix3 s r ch))) = vec x16 ch :=
    congrArg x16 (funext fun q => Fin.ext (by match q with | ⟨0, _⟩ => rfl))
  have hp : val_main_v70 (F := Ideal) x0 x1 x2 x3 x4 x5 x6 x7 x8 x9 x10 x11 x12 x13 x14 x15 (ix3 s r ch) = ∑ j, Ideal.logistic (dotp (nrm x0 x1 x2 x3 x4 x5 x6 x7 x8 x9 r s) (mat x13) j + vec x14 j) *
      attnR (scr x0 x1 x2 x3 x4 x5 x6 x7 x8 x9 x10 x11 r (headIx j) s) (fun t => dotp (nrm x0 x1 x2 x3 x4 x5 x6 x7 x8 x9 r t) (mat x12) j) * mat x15 j ch := by
    rw [val_main_v70_apply]
    refine Finset.sum_congr rfl fun k _ => congrArg₂ (· * ·) ?_ (congrArg _ (at2 _ _ _ rfl rfl))
    exact (congrArg _ (at3 _ _ _ _ rfl rfl rfl)).trans (v69_col x0 x1 x2 x3 x4 x5 x6 x7 x8 x9 x10 x11 x12 x13 x14 s r k)
  rw [e, hp]
  rfl

/-- The transition's LayerNorm, read at an index. -/
theorem v92_apply (s : Fin 128) (r ch : Fin 256) :
    val_main_v92 (F := Ideal) x0 x1 x2 x3 x4 x5 x6 x7 x8 x9 x10 x11 x12 x13 x14 x15 x16 x17 x18 (ix3 s r ch) = ln (fun k => val_main_v74 (F := Ideal) x0 x1 x2 x3 x4 x5 x6 x7 x8 x9 x10 x11 x12 x13 x14 x15 x16 (ix3 s r k)) (vec x17) (vec x18) ch := by
  pointwise [val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_v12, val_main_call1_v13, val_main_call1_call0_v0, val_main_call1_call0_v1, val_main_cst_8, val_main_cst_9, val_main_cst_11, val_main_c_10, val_main_call1_cst, val_main_call1_cst_0, val_main_call1_cst_1, val_main_call1_cst_2, val_main_call1_cst_3, val_main_call1_cst_4]
  simp only [count_eq, if_pos n256_pos]
  rfl

/-- The transition's hidden layer, read at an index. -/
theorem v97_col (s : Fin 128) (r : Fin 256) (j : Fin 1024) :
    val_main_v97 (F := Ideal) x0 x1 x2 x3 x4 x5 x6 x7 x8 x9 x10 x11 x12 x13 x14 x15 x16 x17 x18 x19 x20 (ix3 s r j) = max (dotp (ln (midRow x0 x1 x2 x3 x4 x5 x6 x7 x8 x9 x10 x11 x12 x13 x14 x15 x16 r s) (vec x17) (vec x18)) (mat x19) j + vec x20 j) 0 := by
  have hz : val_main_call2_v0 (F := Ideal) (ix3 s r j) = (0 : EReal) := Ideal.ofBits_zero_f32
  have e : x20 (idx_main_v94 (idx_main_v95 (ix3 s r j))) = vec x20 j :=
    congrArg x20 (funext fun q => Fin.ext (by match q with | ⟨0, _⟩ => rfl))
  have hp : val_main_v93 (F := Ideal) x0 x1 x2 x3 x4 x5 x6 x7 x8 x9 x10 x11 x12 x13 x14 x15 x16 x17 x18 x19 (ix3 s r j) = dotp (ln (midRow x0 x1 x2 x3 x4 x5 x6 x7 x8 x9 x10 x11 x12 x13 x14 x15 x16 r s) (vec x17) (vec x18)) (mat x19) j := by
    rw [val_main_v93_apply]
    refine Finset.sum_congr rfl fun k _ => congrArg₂ (· * ·) ?_ (congrArg _ (at2 _ _ _ rfl rfl))
    refine (congrArg _ (at3 _ _ _ _ rfl rfl rfl)).trans ((v92_apply x0 x1 x2 x3 x4 x5 x6 x7 x8 x9 x10 x11 x12 x13 x14 x15 x16 x17 x18 s r k).trans ?_)
    rw [funext fun k => v74_col x0 x1 x2 x3 x4 x5 x6 x7 x8 x9 x10 x11 x12 x13 x14 x15 x16 s r k]
  rw [val_main_v97_apply, val_main_v96_apply, val_main_v95_apply, val_main_v94_apply, hz, e, hp]
  rfl

/-- The reference's result, read at an index. -/
theorem v102_col (s : Fin 128) (r ch : Fin 256) :
    val_main_v102 (F := Ideal) x0 x1 x2 x3 x4 x5 x6 x7 x8 x9 x10 x11 x12 x13 x14 x15 x16 x17 x18 x19 x20 x21 x22 (ix3 s r ch) = colRow attnR scale (col x0 x1 x2 x3 x4 x5 x6 x7 r) (vec x8) (vec x9) (mat x10) (mat x11) (mat x12) (mat x13)
      (vec x14) (mat x15) (vec x16) (vec x17) (vec x18) (mat x19) (vec x20) (mat x21) (vec x22) s ch := by
  have e : x22 (idx_main_v99 (idx_main_v100 (ix3 s r ch))) = vec x22 ch :=
    congrArg x22 (funext fun q => Fin.ext (by match q with | ⟨0, _⟩ => rfl))
  have hp : val_main_v98 (F := Ideal) x0 x1 x2 x3 x4 x5 x6 x7 x8 x9 x10 x11 x12 x13 x14 x15 x16 x17 x18 x19 x20 x21 (ix3 s r ch) =
      ∑ j, max (dotp (ln (midRow x0 x1 x2 x3 x4 x5 x6 x7 x8 x9 x10 x11 x12 x13 x14 x15 x16 r s) (vec x17) (vec x18)) (mat x19) j + vec x20 j) 0 * mat x21 j ch := by
    rw [val_main_v98_apply]
    refine Finset.sum_congr rfl fun k _ => congrArg₂ (· * ·) ?_ (congrArg _ (at2 _ _ _ rfl rfl))
    exact (congrArg _ (at3 _ _ _ _ rfl rfl rfl)).trans (v97_col x0 x1 x2 x3 x4 x5 x6 x7 x8 x9 x10 x11 x12 x13 x14 x15 x16 x17 x18 x19 x20 s r k)
  rw [val_main_v102_apply, val_main_v101_apply, val_main_v100_apply, val_main_v99_apply, v74_col, e, hp]
  rfl

end Cert.ReferenceIdeal.Col
-- ==== Proof.Finite.lean ====
/- The precondition, read at an element: the LayerNorm's scale and shift and the query and key weights are real numbers. -/
module

public import proofs.«01_k».proof.Pre_finite_weights
public import Idealize.ShloMosaic.Lib.Pointwise

@[expose] public section

set_option maxRecDepth 65536

noncomputable section

namespace Cert.Pre_finite_weights

open Idealize.ShloMosaic

/-- The shape relations of the precondition's operations hold. -/
theorem shapes : Facts := ⟨by decide, by decide, by decide, by decide⟩

/-- An extended real whose absolute value is below infinity is a real number. -/
theorem real_of_abs (x : EReal) (h : (FloatOps.absf (F := Ideal) (φ := .f32) x : EReal) < Ideal.ofBits .f32 0x7F800000#32) :
    ∃ r : ℝ, x = r := by
  have ht : Ideal.ofBits .f32 0x7F800000#32 = ⊤ := by simp [Ideal.ofBits, Ideal.ieee]
  rw [ht] at h
  have h2 : max x (-x) < ⊤ := h
  induction x with
  | bot => simp at h2
  | coe r => exact ⟨r, rfl⟩
  | top => simp at h2

/-- Four conditions joined bit by bit all hold where the joined bit is one. -/
theorem all_four (p q r s : Prop) [Decidable p] [Decidable q] [Decidable r] [Decidable s]
    (h : IntOp.andi (IntOp.andi (IntOp.andi (BitVec.ofBool (decide p)) (BitVec.ofBool (decide q))) (BitVec.ofBool (decide r)))
      (BitVec.ofBool (decide s)) = 1#1) : p ∧ q ∧ r ∧ s := by
  by_cases hp : p <;> by_cases hq : q <;> by_cases hr : r <;> by_cases hs : s <;>
    simp [hp, hq, hr, hs, IntOp.andi] at h ⊢

/-- What the precondition says, element by element. -/
theorem real_of_pre [Facts] (x0 x1 x2 x3 x4 x5 x6 x7 : FVec Ideal S256x16x1x256 .f32) (w b : FVec Ideal S256 .f32)
    (wq wk wv wg : FVec Ideal S256x256 .f32) (bg : FVec Ideal S256 .f32) (wo : FVec Ideal S256x256 .f32) (bo w2 b2 : FVec Ideal S256 .f32)
    (m1 : FVec Ideal S256x1024 .f32) (c1 : FVec Ideal S1024 .f32) (m2 : FVec Ideal S1024x256 .f32) (c2 : FVec Ideal S256 .f32)
    (h : fn x0 x1 x2 x3 x4 x5 x6 x7 w b wq wk wv wg bg wo bo w2 b2 m1 c1 m2 c2 = fun _ => 1#1) (i j : Fin 256) :
    (∃ r : ℝ, w (ix1 i) = r) ∧ (∃ r : ℝ, b (ix1 i) = r) ∧ (∃ r : ℝ, wq (ix2 i j) = r) ∧ (∃ r : ℝ, wk (ix2 i j) = r) := by
  have h1 := congrFun h (ix2 i j)
  revert h1
  pointwise [fn]
  intro h1
  obtain ⟨hq, hk, hw, hb⟩ := all_four _ _ _ _ h1
  exact ⟨real_of_abs _ hw, real_of_abs _ hb, real_of_abs _ hq, real_of_abs _ hk⟩

end Cert.Pre_finite_weights
-- ==== Proof.Meet.lean ====
/- The kernel's result and the reference's are one array, where the precondition holds. -/
module

public import proofs.«01_k».proof.Proof.ColResult
public import proofs.«01_k».proof.Proof.RefBlock
public import proofs.«01_k».proof.Proof.Finite

@[expose] public section

set_option maxRecDepth 65536
set_option maxHeartbeats 1000000

noncomputable section

namespace Cert.ColIdeal.Body

open Idealize.ShloMosaic Idealize.ShloMosaic.TcCoe Idealize.SL.Sem
open Cert.ColIdeal Cert.ColIdeal.Gen Cert.ColMath

/-- On equal arguments with finite LayerNorm, query and key weights the two results are equal. -/
theorem meet [Cert.Pre_finite_weights.Facts] (m : (ℓ : Loc nD τ sig) → Buf (Elt Ideal) ℓ) (c : Dev nD)
    (x0 x1 x2 x3 x4 x5 x6 x7 : (⟨Cert.ReferenceIdeal.S256x16x1x256, .f32⟩ : BufTy).Contents (Elt Ideal))
    (x8 x9 : (⟨Cert.ReferenceIdeal.S256, .f32⟩ : BufTy).Contents (Elt Ideal))
    (x10 x11 x12 x13 : (⟨Cert.ReferenceIdeal.S256x256, .f32⟩ : BufTy).Contents (Elt Ideal))
    (x14 : (⟨Cert.ReferenceIdeal.S256, .f32⟩ : BufTy).Contents (Elt Ideal))
    (x15 : (⟨Cert.ReferenceIdeal.S256x256, .f32⟩ : BufTy).Contents (Elt Ideal))
    (x16 x17 x18 : (⟨Cert.ReferenceIdeal.S256, .f32⟩ : BufTy).Contents (Elt Ideal))
    (x19 : (⟨Cert.ReferenceIdeal.S256x1024, .f32⟩ : BufTy).Contents (Elt Ideal))
    (x20 : (⟨Cert.ReferenceIdeal.S1024, .f32⟩ : BufTy).Contents (Elt Ideal))
    (x21 : (⟨Cert.ReferenceIdeal.S1024x256, .f32⟩ : BufTy).Contents (Elt Ideal))
    (x22 : (⟨Cert.ReferenceIdeal.S256, .f32⟩ : BufTy).Contents (Elt Ideal))
    (h0 : x0 = m ((c : Thread nD τ).loc main_arg0))
    (h1 : x1 = m ((c : Thread nD τ).loc main_arg1))
    (h2 : x2 = m ((c : Thread nD τ).loc main_arg2))
    (h3 : x3 = m ((c : Thread nD τ).loc main_arg3))
    (h4 : x4 = m ((c : Thread nD τ).loc main_arg4))
    (h5 : x5 = m ((c : Thread nD τ).loc main_arg5))
    (h6 : x6 = m ((c : Thread nD τ).loc main_arg6))
    (h7 : x7 = m ((c : Thread nD τ).loc main_arg7))
    (h8 : x8 = m ((c : Thread nD τ).loc main_arg8))
    (h9 : x9 = m ((c : Thread nD τ).loc main_arg9))
    (h10 : x10 = m ((c : Thread nD τ).loc main_arg10))
    (h11 : x11 = m ((c : Thread nD τ).loc main_arg11))
    (h12 : x12 = m ((c : Thread nD τ).loc main_arg12))
    (h13 : x13 = m ((c : Thread nD τ).loc main_arg13))
    (h14 : x14 = m ((c : Thread nD τ).loc main_arg14))
    (h15 : x15 = m ((c : Thread nD τ).loc main_arg15))
    (h16 : x16 = m ((c : Thread nD τ).loc main_arg16))
    (h17 : x17 = m ((c : Thread nD τ).loc main_arg17))
    (h18 : x18 = m ((c : Thread nD τ).loc main_arg18))
    (h19 : x19 = m ((c : Thread nD τ).loc main_arg19))
    (h20 : x20 = m ((c : Thread nD τ).loc main_arg20))
    (h21 : x21 = m ((c : Thread nD τ).loc main_arg21))
    (h22 : x22 = m ((c : Thread nD τ).loc main_arg22))
    (hpre : Cert.Pre_finite_weights.fn (F := Ideal) x0 x1 x2 x3 x4 x5 x6 x7 x8 x9 x10 x11 x12 x13 x14 x15 x16 x17 x18 x19 x20 x21 x22 = fun _ => 1#1) :
    Cert.ReferenceIdeal.Read.val_main_v102 (F := Ideal) x0 x1 x2 x3 x4 x5 x6 x7 x8 x9 x10 x11 x12 x13 x14 x15 x16 x17 x18 x19 x20 x21 x22 = res m c := by
  have hf := Cert.Pre_finite_weights.real_of_pre x0 x1 x2 x3 x4 x5 x6 x7 x8 x9 x10 x11 x12 x13 x14 x15 x16 x17 x18 x19 x20 x21 x22 hpre
  subst h0 h1 h2 h3 h4 h5 h6 h7 h8 h9 h10 h11 h12 h13 h14 h15 h16 h17 h18 h19 h20 h21 h22
  funext i
  have e : i = (ix3 (i 0) (i 1) (i 2) : S128x256x256.Idx) := Cert.ReferenceIdeal.Col.at3 i _ _ _ rfl rfl rfl
  rw [e]
  refine (Cert.ReferenceIdeal.Col.v102_col _ _ _ _ _ _ _ _ _ _ _ _ _ _ _ _ _ _ _ _ _ _ _ (i 0) (i 1) (i 2)).trans (Eq.trans ?_ (res_apply m c (i 0) (i 1) (i 2)).symm)
  exact (colRow_eq _ _ _ _ _ _ _ _ _ _ _ _ _ _ _ _ (fun k => (hf k 0).1) (fun k => (hf k 0).2.1) (fun k j => (hf k j).2.2.1)
    (fun k j => (hf k j).2.2.2) (i 0) (i 2)).symm

end Cert.ColIdeal.Body
-- ==== Proof.RowIdealNeat.lean ====
/- The blocks the bias call and the row call compute.  The printed bodies spell the work on every query row, and the
   attention of every sequence and head, out one by one; here each stage is one definition with the query row, the sequence
   and the head as parameters. -/
module

public import proofs.«01_k».proof.Proof.Gen.RowIdeal.Launch
public import proofs.«01_k».proof.Proof.Gen.RowIdeal.Skeleton
public import Idealize.ShloMosaic.Lib.Pipeline.FrameBody

@[expose] public section

set_option maxRecDepth 65536

noncomputable section

namespace Cert.RowIdeal.Body

open Cert.RowIdeal Cert.RowIdeal.Gen
open Idealize.ShloMosaic

variable {F : FTy → Type} [FloatOps F] [Named F]

/-- The 256 rows of sequence `c`, the 32 channels of head `h`, lie inside the block. -/
theorem slicesHead (c h : Fin 8) : S2048x256.Slices ![256 * c.val, 32 * h.val] S256x32 := by
  refine ⟨rfl, fun a => ?_⟩
  have hc := c.isLt
  have hh := h.isLt
  match a with
  | 0 => show 256 * c.val + 256 ≤ 2048; omega
  | 1 => show 32 * h.val + 32 ≤ 256; omega

/-- The 256 rows of sequence `c` lie inside the block. -/
theorem slicesRow (c : Fin 8) : S2048x256.Slices ![256 * c.val, 0] S256x256 := by
  refine ⟨rfl, fun a => ?_⟩
  have hc := c.isLt
  match a with
  | 0 => show 256 * c.val + 256 ≤ 2048; omega
  | 1 => show 0 + 256 ≤ 256; omega

/-- The plane of head `h` lies inside the bias. -/
theorem inbBias (h : Fin 8) : ∀ a, (![h.val, 0, 0] : Fin S8x256x256.rank → ℕ) a + S1x256x256.size a ≤ S8x256x256.size a := by
  intro a
  have hh := h.isLt
  match a with
  | 0 => show h.val + 1 ≤ 8; omega
  | 1 => show 0 + 256 ≤ 256; omega
  | 2 => show 0 + 256 ≤ 256; omega

/-- The rows of sequence `c`. -/
def partOf (x : FVec F S2048x256 .f32) (c : Fin 8) : FVec F S256x256 .f32 :=
  extractStridedSlice S256x256 ![256 * c.val, 0] x (slicesRow c)

/-- The rows of sequence `c` and the channels of head `h`. -/
def headOf (x : FVec F S2048x256 .f32) (c h : Fin 8) : FVec F S256x32 .f32 :=
  extractStridedSlice S256x32 ![256 * c.val, 32 * h.val] x (slicesHead c h)

/-- The bias of head `h`. -/
def biasPlane (b : Vec F S8x256x256 .f32) (h : Fin 8) : FVec F S256x256 .f32 :=
  shapeCast S256x256 (View.ld b (Rect.unit (s := S8x256x256) ![h.val, 0, 0] S1x256x256.size (inbBias h)))
    shapeCasts_S1x256x256_S256x256

/-- The scores of a sequence and a head, with the bias. -/
def scoresOf (q k : FVec F S2048x256 .f32) (b : Vec F S8x256x256 .f32) (c h : Fin 8) : FVec F S256x256 .f32 :=
  addf (matmul dot_S256x32_S256x32_S256x256_1_1_0_0_n_n none (truncf .bf16 (headOf q c h) bitsLt_bf16_f32)
    (truncf .bf16 (headOf k c h) bitsLt_bf16_f32) (constant S256x256 .f32 0x00000000#32)) (biasPlane b h)

/-- The powers of two of the scores less their row maximum. -/
def powOf (l : FVec F S256x256 .f32) : FVec F S256x256 .f32 :=
  exp2 (subf l (broadcastTo S256x256 (shapeCast S256x1
    (multiReduction .maximumf [1] S256 l 0xFF800000#32 reduces_S256x256_S256 (.inl rfl) rfl) shapeCasts_S256_S256x1)
    broadcasts_S256x1_S256x256))

/-- One over the row sums. -/
def recipOf (e : FVec F S256x256 .f32) : FVec F S256x1 .f32 :=
  divf (broadcast S256x1 (Scalar.ofBits .f32 0x3F800000#32)) (shapeCast S256x1
    (multiReduction .add [1] S256 e 0x00000000#32 reduces_S256x256_S256 (.inl rfl) rfl) shapeCasts_S256_S256x1)

/-- The attention output of a sequence and a head, from the powers. -/
def outOf (e : FVec F S256x256 .f32) (v : FVec F S2048x256 .f32) (c h : Fin 8) : FVec F S256x32 .f32 :=
  mulf (matmul dot_S256x256_S256x32_S256x32_1_0_0_1_n_n none
      (truncf .bf16 e bitsLt_bf16_f32) (headOf v c h) (constant S256x32 .f32 0x00000000#32))
    (broadcastTo S256x32 (recipOf e) broadcasts_S256x1_S256x32)

/-- The eight heads of a sequence side by side. -/
def headsOf (q k v : FVec F S2048x256 .f32) (b : Vec F S8x256x256 .f32) (c : Fin 8) : FVec F S256x256 .f32 :=
  concatenate S256x256 1 (List.ofFn fun h : Fin 8 =>
      (⟨S256x32, outOf (powOf (scoresOf q k b c h)) v c h⟩ : (s : Shape) × (s.Idx → F .f32)))
    concatenates_S256x32_S256x32_S256x32_S256x32_S256x32_S256x32_S256x32_S256x32_S256x256_d1

/-- A sequence with its gated and projected attention added. -/
def rowsOf (x q k v g : FVec F S2048x256 .f32) (b : Vec F S8x256x256 .f32) (wo : Vec F S256x256 .bf16) (bo : Vec F S1x256 .f32)
    (c : Fin 8) : FVec F S256x1x1x256 .f32 :=
  shapeCast S256x1x1x256 (addf (addf (partOf x c) (matmul dot_S256x256_S256x256_S256x256_1_0_0_1_n_n none
      (truncf .bf16 (mulf (partOf g c) (headsOf q k v b c)) bitsLt_bf16_f32)
      (shapeCast S256x256 wo shapeCasts_S256x256_S256x256) (constant S256x256 .f32 0x00000000#32)))
    (broadcastTo S256x256 (shapeCast S1x256 bo shapeCasts_S1x256_S1x256) broadcasts_S1x256_S256x256))
    shapeCasts_S256x256_S256x1x1x256

/-! ### The bias call's output block -/

/-- A whole buffer of the bias call, as a region that the body reads or writes. -/
abbrev r0_0 : Rect S32x256x128 := Rect.unit (s := S32x256x128) ![0, 0, 0] S32x256x128.size inb_S32x256x128_S32x256x128_0_0_0
/-- A whole buffer of the bias call, as a region that the body reads or writes. -/
abbrev r0_1 : Rect S1x128 := Rect.unit (s := S1x128) ![0, 0] S1x128.size inb_S1x128_S1x128_0_0
/-- A whole buffer of the bias call, as a region that the body reads or writes. -/
abbrev r0_2 : Rect S8x128 := Rect.unit (s := S8x128) ![0, 0] S8x128.size inb_S8x128_S8x128_0_0

/-- The 256 columns of query row `q` of the block lie inside the product. -/
theorem slicesBias (q : Fin 32) : S8x8192.Slices ![0, 256 * q.val] S8x256 := by
  refine ⟨rfl, fun a => ?_⟩
  have hq := q.isLt
  match a with
  | 0 => show 0 + 8 ≤ 8; omega
  | 1 => show 256 * q.val + 256 ≤ 8192; omega

/-- Query row `q` lies inside the block. -/
theorem inbQuery (q : Fin 32) : ∀ a, (![0, q.val, 0] : Fin S8x32x256.rank → ℕ) a + S8x1x256.size a ≤ S8x32x256.size a := by
  intro a
  have hq := q.isLt
  match a with
  | 0 => show 0 + 8 ≤ 8; omega
  | 1 => show q.val + 1 ≤ 32; omega
  | 2 => show 0 + 256 ≤ 256; omega

/-- Query row `q` of the projected pair block. -/
def biasRow (e : FVec F S8x8192 .f32) (q : Fin 32) : FVec F S8x1x256 .f32 :=
  shapeCast S8x1x256 (extractStridedSlice S8x256 ![0, 256 * q.val] e (slicesBias q)) shapeCasts_S8x256_S8x1x256

/-- The projected pair block. -/
def biasProd (x0 : Vec F S32x256x128 .f32) (x1 x2 : Vec F S1x128 .f32) (x3 : Vec F S8x128 .f32) : FVec F S8x8192 .f32 :=
  k0_pay2 (View.ld x0 r0_0) (View.ld x1 r0_1) (View.ld x2 r0_1) (View.ld x3 r0_2)

/-- What the bias call leaves in its output block: a piece for each query row, the last written first. -/
def out0_4 (x0 : Vec F S32x256x128 .f32) (x1 x2 : Vec F S1x128 .f32) (x3 : Vec F S8x128 .f32) : Vec F S8x32x256 .f32 :=
  View.canon (List.ofFn fun q : Fin 32 =>
    (⟨Rect.unit (s := S8x32x256) ![0, q.rev.val, 0] S8x1x256.size (inbQuery q.rev), biasRow (biasProd x0 x1 x2 x3) q.rev⟩ :
      View.Piece (Elt F) S8x32x256 .f32))

/-! ### The row call's output blocks -/

/-- A whole buffer of the row call, as a region that the body reads or writes. -/
abbrev r1_0 : Rect S1x256x256 := Rect.unit (s := S1x256x256) ![0, 0, 0] S1x256x256.size inb_S1x256x256_S1x256x256_0_0_0
/-- A whole buffer of the row call, as a region that the body reads or writes. -/
abbrev r1_1 : Rect S1x256 := Rect.unit (s := S1x256) ![0, 0] S1x256.size inb_S1x256_S1x256_0_0
/-- A whole buffer of the row call, as a region that the body reads or writes. -/
abbrev r1_2 : Rect S256x256 := Rect.unit (s := S256x256) ![0, 0] S256x256.size inb_S256x256_S256x256_0_0
/-- A whole buffer of the row call, as a region that the body reads or writes. -/
abbrev r1_11 : Rect S256x1x1x256 := Rect.unit (s := S256x1x1x256) ![0, 0, 0, 0] S256x1x1x256.size inb_S256x1x1x256_S256x1x1x256_0_0_0_0

variable (x0 x1 x2 x3 x4 x5 x6 x7 : Vec F S1x256x256 .f32) (x8 : Vec F S8x256x256 .f32) (x9 x10 : Vec F S1x256 .f32)
  (x11 x12 x13 x14 : Vec F S256x256 .bf16) (x15 : Vec F S1x256 .f32) (x16 : Vec F S256x256 .bf16) (x17 : Vec F S1x256 .f32)

/-- The eight sequences' rows one under another. -/
def xOf : FVec F S2048x256 .f32 := k1_pay2 (View.ld x0 r1_0) (View.ld x1 r1_0) (View.ld x2 r1_0) (View.ld x3 r1_0) (View.ld x4 r1_0) (View.ld x5 r1_0) (View.ld x6 r1_0) (View.ld x7 r1_0)
/-- Their queries. -/
def qOf : FVec F S2048x256 .f32 := k1_pay8 (k1_pay3 (View.ld x9 r1_1)) (k1_pay4 (View.ld x10 r1_1))
  (k1_pay5 (View.ld x0 r1_0) (View.ld x1 r1_0) (View.ld x2 r1_0) (View.ld x3 r1_0) (View.ld x4 r1_0) (View.ld x5 r1_0) (View.ld x6 r1_0) (View.ld x7 r1_0))
  (k1_pay6 (View.ld x0 r1_0) (View.ld x1 r1_0) (View.ld x2 r1_0) (View.ld x3 r1_0) (View.ld x4 r1_0) (View.ld x5 r1_0) (View.ld x6 r1_0) (View.ld x7 r1_0)) (View.ld x11 r1_2)
/-- Their keys. -/
def kOf : FVec F S2048x256 .f32 := k1_pay9 (k1_pay3 (View.ld x9 r1_1)) (k1_pay4 (View.ld x10 r1_1))
  (k1_pay5 (View.ld x0 r1_0) (View.ld x1 r1_0) (View.ld x2 r1_0) (View.ld x3 r1_0) (View.ld x4 r1_0) (View.ld x5 r1_0) (View.ld x6 r1_0) (View.ld x7 r1_0))
  (k1_pay6 (View.ld x0 r1_0) (View.ld x1 r1_0) (View.ld x2 r1_0) (View.ld x3 r1_0) (View.ld x4 r1_0) (View.ld x5 r1_0) (View.ld x6 r1_0) (View.ld x7 r1_0)) (View.ld x12 r1_2)
/-- Their values. -/
def vOf : FVec F S2048x256 .f32 := k1_pay10 (k1_pay3 (View.ld x9 r1_1)) (k1_pay4 (View.ld x10 r1_1))
  (k1_pay5 (View.ld x0 r1_0) (View.ld x1 r1_0) (View.ld x2 r1_0) (View.ld x3 r1_0) (View.ld x4 r1_0) (View.ld x5 r1_0) (View.ld x6 r1_0) (View.ld x7 r1_0))
  (k1_pay6 (View.ld x0 r1_0) (View.ld x1 r1_0) (View.ld x2 r1_0) (View.ld x3 r1_0) (View.ld x4 r1_0) (View.ld x5 r1_0) (View.ld x6 r1_0) (View.ld x7 r1_0)) (View.ld x13 r1_2)
/-- Their gates. -/
def gOf : FVec F S2048x256 .f32 := k1_pay11 (k1_pay3 (View.ld x9 r1_1)) (k1_pay4 (View.ld x10 r1_1))
  (k1_pay5 (View.ld x0 r1_0) (View.ld x1 r1_0) (View.ld x2 r1_0) (View.ld x3 r1_0) (View.ld x4 r1_0) (View.ld x5 r1_0) (View.ld x6 r1_0) (View.ld x7 r1_0))
  (k1_pay6 (View.ld x0 r1_0) (View.ld x1 r1_0) (View.ld x2 r1_0) (View.ld x3 r1_0) (View.ld x4 r1_0) (View.ld x5 r1_0) (View.ld x6 r1_0) (View.ld x7 r1_0)) (View.ld x14 r1_2) (View.ld x15 r1_1)

/-- What a step of the row call leaves in the output block of sequence `c`. -/
def out1 (c : Fin 8) : Vec F S256x1x1x256 .f32 :=
  View.canon [⟨r1_11, rowsOf (xOf x0 x1 x2 x3 x4 x5 x6 x7) (qOf x0 x1 x2 x3 x4 x5 x6 x7 x9 x10 x11) (kOf x0 x1 x2 x3 x4 x5 x6 x7 x9 x10 x12) (vOf x0 x1 x2 x3 x4 x5 x6 x7 x9 x10 x13)
    (gOf x0 x1 x2 x3 x4 x5 x6 x7 x9 x10 x14 x15) x8 (View.ld x16 r1_2) (View.ld x17 r1_1) c⟩]

end Cert.RowIdeal.Body

end
-- ==== Proof.RowIdealBody.lean ====
/- The two calls' bodies on their staging buffers, at whatever the buffers of a device hold when a call is entered (`V`):
   the blocks of the input windows at a grid point, the bodies' triples with the output blocks of the stages, the proof data
   of the pipelines and their obligations. -/
module

public import proofs.«01_k».proof.Proof.RowIdealNeat
public import proofs.«01_k».proof.Proof.Gen.RowIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 65536

noncomputable section

namespace Cert.RowIdeal.Body

open Cert.RowIdeal Cert.RowIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The bias call -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, window by window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- What the body finds in window 1 of the bias call, for any proof data with that array and that block left behind. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- What the body finds in window 2 of the bias call, for any proof data with that array and that block left behind. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- What the body finds in window 3 of the bias call, for any proof data with that array and that block left behind. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
set_option maxHeartbeats 2000000 in
/-- The bias body runs to its continuation, the inputs as they were and the output at `out0_4` of them. -/
theorem sound_kernel0 (c : Dev nD) (E : Set ℕ) (i : grid0.Coords) (arg1 : Memref sig .tc .vmem S32x256x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S8x128 .f32) (harg4 : arg4.IsWhole) (arg5 : Memref sig .tc .vmem S8x32x256 .f32) (harg5 : arg5.IsWhole)
    (x0 : Vec F S32x256x128 .f32) (x1 : Vec F S1x128 .f32) (x2 : Vec F S1x128 .f32) (x3 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0_msa_pair_bias i arg1 harg1 arg2 harg2 arg3 harg3 arg4 harg4 arg5 harg5) K := by
  simp only [cc0_msa_pair_bias_eq_skeleton]; unfold cc0_msa_pair_bias_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine Eq.trans (View.read_writes_eq_canon _ _ _ fun y => ?_) ?_
  · exact View.cover_of_tiled (s := S8x32x256) _ ![8, 1, 256] (by rfl) y
  · rfl
/-- The bias pipeline's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match`, reduced). -/
theorem after0_0 (c : Dev nD) (t : Fin cfg0.N) : (dat0 V c).after 0 t = iblk0 V c 0 t := by dsimp only [dat0]
/-- What the body leaves in window 1 of the bias call. -/
theorem after0_1 (c : Dev nD) (t : Fin cfg0.N) : (dat0 V c).after 1 t = iblk0 V c 1 t := by dsimp only [dat0]
/-- What the body leaves in window 2 of the bias call. -/
theorem after0_2 (c : Dev nD) (t : Fin cfg0.N) : (dat0 V c).after 2 t = iblk0 V c 2 t := by dsimp only [dat0]
/-- What the body leaves in window 3 of the bias call. -/
theorem after0_3 (c : Dev nD) (t : Fin cfg0.N) : (dat0 V c).after 3 t = iblk0 V c 3 t := by dsimp only [dat0]
/-- What the body leaves in window 4 of the bias call. -/
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- What the body finds in window 1 of the bias call: its block. -/
theorem before0_1 (c : Dev nD) (t : Fin cfg0.N) (d) : (dat0 V c).before 1 t d = iblk0 V c 1 t :=
  before0_1_of V (dat0 V c) (A_eq0 V c 1) (after0_1 V c) t d
/-- What the body finds in window 2 of the bias call: its block. -/
theorem before0_2 (c : Dev nD) (t : Fin cfg0.N) (d) : (dat0 V c).before 2 t d = iblk0 V c 2 t :=
  before0_2_of V (dat0 V c) (A_eq0 V c 2) (after0_2 V c) t d
/-- What the body finds in window 3 of the bias call: its block. -/
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` , -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl
/-! ## The row call -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, window by window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- What the body finds in window 1 of the row call, for any proof data with that array and that block left behind. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- What the body finds in window 2 of the row call, for any proof data with that array and that block left behind. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- What the body finds in window 3 of the row call, for any proof data with that array and that block left behind. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- What the body finds in window 4 of the row call, for any proof data with that array and that block left behind. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- What the body finds in window 5 of the row call, for any proof data with that array and that block left behind. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- What the body finds in window 6 of the row call, for any proof data with that array and that block left behind. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- What the body finds in window 7 of the row call, for any proof data with that array and that block left behind. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- What the body finds in window 8 of the row call, for any proof data with that array and that block left behind. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- What the body finds in window 9 of the row call, for any proof data with that array and that block left behind. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- What the body finds in window 10 of the row call, for any proof data with that array and that block left behind. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- What the body finds in window 11 of the row call, for any proof data with that array and that block left behind. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- What the body finds in window 12 of the row call, for any proof data with that array and that block left behind. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- What the body finds in window 13 of the row call, for any proof data with that array and that block left behind. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- What the body finds in window 14 of the row call, for any proof data with that array and that block left behind. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
/-- What the body finds in window 15 of the row call, for any proof data with that array and that block left behind. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
/-- What the body finds in window 16 of the row call, for any proof data with that array and that block left behind. -/
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
/-- What the body finds in window 17 of the row call, for any proof data with that array and that block left behind. -/
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
set_option maxHeartbeats 7415850 in
/-- The row body runs to its continuation, the inputs as they were and each output at its sequence's rows. -/
theorem sound_kernel1 (c : Dev nD) (E : Set ℕ) (i : grid1.Coords) (arg1 : Memref sig .tc .vmem S1x256x256 .f32) (harg1 : arg1.IsWhole) (arg2 : Memref sig .tc .vmem S1x256x256 .f32) (harg2 : arg2.IsWhole) (arg3 : Memref sig .tc .vmem S1x256x256 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S8x256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x256 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x256 .bf16) (harg15 : arg15.IsWhole) (arg16 : Memref sig .tc .vmem S1x256 .f32) (harg16 : arg16.IsWhole) (arg17 : Memref sig .tc .vmem S256x256 .bf16) (harg17 : arg17.IsWhole) (arg18 : Memref sig .tc .vmem S1x256 .f32) (harg18 : arg18.IsWhole) (arg19 : Memref sig .tc .vmem S256x1x1x256 .f32) (harg19 : arg19.IsWhole) (arg20 : Memref sig .tc .vmem S256x1x1x256 .f32) (harg20 : arg20.IsWhole) (arg21 : Memref sig .tc .vmem S256x1x1x256 .f32) (harg21 : arg21.IsWhole) (arg22 : Memref sig .tc .vmem S256x1x1x256 .f32) (harg22 : arg22.IsWhole) (arg23 : Memref sig .tc .vmem S256x1x1x256 .f32) (harg23 : arg23.IsWhole) (arg24 : Memref sig .tc .vmem S256x1x1x256 .f32) (harg24 : arg24.IsWhole) (arg25 : Memref sig .tc .vmem S256x1x1x256 .f32) (harg25 : arg25.IsWhole) (arg26 : Memref sig .tc .vmem S256x1x1x256 .f32) (harg26 : arg26.IsWhole)
    (x0 : Vec F S1x256x256 .f32) (x1 : Vec F S1x256x256 .f32) (x2 : Vec F S1x256x256 .f32) (x3 : Vec F S1x256x256 .f32) (x4 : Vec F S1x256x256 .f32) (x5 : Vec F S1x256x256 .f32) (x6 : Vec F S1x256x256 .f32) (x7 : Vec F S1x256x256 .f32) (x8 : Vec F S8x256x256 .f32) (x9 : Vec F S1x256 .f32) (x10 : Vec F S1x256 .f32) (x11 : Vec F S256x256 .bf16) (x12 : Vec F S256x256 .bf16) (x13 : Vec F S256x256 .bf16) (x14 : Vec F S256x256 .bf16) (x15 : Vec F S1x256 .f32) (x16 : Vec F S256x256 .bf16) (x17 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (out1 x0 x1 x2 x3 x4 x5 x6 x7 x8 x9 x10 x11 x12 x13 x14 x15 x16 x17 0) ∗ owns (c : Thread nD τ) arg20 fullShare (out1 x0 x1 x2 x3 x4 x5 x6 x7 x8 x9 x10 x11 x12 x13 x14 x15 x16 x17 1) ∗ owns (c : Thread nD τ) arg21 fullShare (out1 x0 x1 x2 x3 x4 x5 x6 x7 x8 x9 x10 x11 x12 x13 x14 x15 x16 x17 2) ∗ owns (c : Thread nD τ) arg22 fullShare (out1 x0 x1 x2 x3 x4 x5 x6 x7 x8 x9 x10 x11 x12 x13 x14 x15 x16 x17 3) ∗ owns (c : Thread nD τ) arg23 fullShare (out1 x0 x1 x2 x3 x4 x5 x6 x7 x8 x9 x10 x11 x12 x13 x14 x15 x16 x17 4) ∗ owns (c : Thread nD τ) arg24 fullShare (out1 x0 x1 x2 x3 x4 x5 x6 x7 x8 x9 x10 x11 x12 x13 x14 x15 x16 x17 5) ∗ owns (c : Thread nD τ) arg25 fullShare (out1 x0 x1 x2 x3 x4 x5 x6 x7 x8 x9 x10 x11 x12 x13 x14 x15 x16 x17 6) ∗ owns (c : Thread nD τ) arg26 fullShare (out1 x0 x1 x2 x3 x4 x5 x6 x7 x8 x9 x10 x11 x12 x13 x14 x15 x16 x17 7)) -∗ K ⟨⟩))
      ⊢ wp frame (wpE (defs₀ (F := F)) Variants.none c none) E (cc1_msa_row_atten i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc1_msa_row_atten_eq_skeleton]; unfold cc1_msa_row_atten_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (View.read_writes_eq_canon _ _ _ fun y => View.cover_of_tiled _ S256x1x1x256.size (by rfl) y).trans ?_
    rfl
  isplitl [H19]
  · iexists _; isplitr
    swap; · iexact H19
    ipureintro
    refine (View.read_writes_eq_canon _ _ _ fun y => View.cover_of_tiled _ S256x1x1x256.size (by rfl) y).trans ?_
    rfl
  isplitl [H20]
  · iexists _; isplitr
    swap; · iexact H20
    ipureintro
    refine (View.read_writes_eq_canon _ _ _ fun y => View.cover_of_tiled _ S256x1x1x256.size (by rfl) y).trans ?_
    rfl
  isplitl [H21]
  · iexists _; isplitr
    swap; · iexact H21
    ipureintro
    refine (View.read_writes_eq_canon _ _ _ fun y => View.cover_of_tiled _ S256x1x1x256.size (by rfl) y).trans ?_
    rfl
  isplitl [H22]
  · iexists _; isplitr
    swap; · iexact H22
    ipureintro
    refine (View.read_writes_eq_canon _ _ _ fun y => View.cover_of_tiled _ S256x1x1x256.size (by rfl) y).trans ?_
    rfl
  isplitl [H23]
  · iexists _; isplitr
    swap; · iexact H23
    ipureintro
    refine (View.read_writes_eq_canon _ _ _ fun y => View.cover_of_tiled _ S256x1x1x256.size (by rfl) y).trans ?_
    rfl
  isplitl [H24]
  · iexists _; isplitr
    swap; · iexact H24
    ipureintro
    refine (View.read_writes_eq_canon _ _ _ fun y => View.cover_of_tiled _ S256x1x1x256.size (by rfl) y).trans ?_
    rfl
  iexists _; isplitr
  swap; · iexact H25
  ipureintro
  refine (View.read_writes_eq_canon _ _ _ fun y => View.cover_of_tiled _ S256x1x1x256.size (by rfl) y).trans ?_
  rfl
/-- What point `t` leaves in the output block of its sequence `k`. -/
def res1 (c : Dev nD) (t : Fin cfg1.N) (k : Fin 8) : Vec F S256x1x1x256 .f32 :=
  out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) k

/-- The row pipeline's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => res1 V c t 0
    | ⟨19, _⟩ => res1 V c t 1
    | ⟨20, _⟩ => res1 V c t 2
    | ⟨21, _⟩ => res1 V c t 3
    | ⟨22, _⟩ => res1 V c t 4
    | ⟨23, _⟩ => res1 V c t 5
    | ⟨24, _⟩ => res1 V c t 6
    | ⟨25, _⟩ => res1 V c t 7
    | ⟨_ + 26, h⟩ => absurd h (Nat.not_lt.2 (Nat.le_add_left _ _))
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match`, reduced). -/
theorem after1_0 (c : Dev nD) (t : Fin cfg1.N) : (dat1 V c).after 0 t = iblk1 V c 0 t := by dsimp only [dat1]
/-- What the body leaves in window 1 of the row call. -/
theorem after1_1 (c : Dev nD) (t : Fin cfg1.N) : (dat1 V c).after 1 t = iblk1 V c 1 t := by dsimp only [dat1]
/-- What the body leaves in window 2 of the row call. -/
theorem after1_2 (c : Dev nD) (t : Fin cfg1.N) : (dat1 V c).after 2 t = iblk1 V c 2 t := by dsimp only [dat1]
/-- What the body leaves in window 3 of the row call. -/
theorem after1_3 (c : Dev nD) (t : Fin cfg1.N) : (dat1 V c).after 3 t = iblk1 V c 3 t := by dsimp only [dat1]
/-- What the body leaves in window 4 of the row call. -/
theorem after1_4 (c : Dev nD) (t : Fin cfg1.N) : (dat1 V c).after 4 t = iblk1 V c 4 t := by dsimp only [dat1]
/-- What the body leaves in window 5 of the row call. -/
theorem after1_5 (c : Dev nD) (t : Fin cfg1.N) : (dat1 V c).after 5 t = iblk1 V c 5 t := by dsimp only [dat1]
/-- What the body leaves in window 6 of the row call. -/
theorem after1_6 (c : Dev nD) (t : Fin cfg1.N) : (dat1 V c).after 6 t = iblk1 V c 6 t := by dsimp only [dat1]
/-- What the body leaves in window 7 of the row call. -/
theorem after1_7 (c : Dev nD) (t : Fin cfg1.N) : (dat1 V c).after 7 t = iblk1 V c 7 t := by dsimp only [dat1]
/-- What the body leaves in window 8 of the row call. -/
theorem after1_8 (c : Dev nD) (t : Fin cfg1.N) : (dat1 V c).after 8 t = iblk1 V c 8 t := by dsimp only [dat1]
/-- What the body leaves in window 9 of the row call. -/
theorem after1_9 (c : Dev nD) (t : Fin cfg1.N) : (dat1 V c).after 9 t = iblk1 V c 9 t := by dsimp only [dat1]
/-- What the body leaves in window 10 of the row call. -/
theorem after1_10 (c : Dev nD) (t : Fin cfg1.N) : (dat1 V c).after 10 t = iblk1 V c 10 t := by dsimp only [dat1]
/-- What the body leaves in window 11 of the row call. -/
theorem after1_11 (c : Dev nD) (t : Fin cfg1.N) : (dat1 V c).after 11 t = iblk1 V c 11 t := by dsimp only [dat1]
/-- What the body leaves in window 12 of the row call. -/
theorem after1_12 (c : Dev nD) (t : Fin cfg1.N) : (dat1 V c).after 12 t = iblk1 V c 12 t := by dsimp only [dat1]
/-- What the body leaves in window 13 of the row call. -/
theorem after1_13 (c : Dev nD) (t : Fin cfg1.N) : (dat1 V c).after 13 t = iblk1 V c 13 t := by dsimp only [dat1]
/-- What the body leaves in window 14 of the row call. -/
theorem after1_14 (c : Dev nD) (t : Fin cfg1.N) : (dat1 V c).after 14 t = iblk1 V c 14 t := by dsimp only [dat1]
/-- What the body leaves in window 15 of the row call. -/
theorem after1_15 (c : Dev nD) (t : Fin cfg1.N) : (dat1 V c).after 15 t = iblk1 V c 15 t := by dsimp only [dat1]
/-- What the body leaves in window 16 of the row call. -/
theorem after1_16 (c : Dev nD) (t : Fin cfg1.N) : (dat1 V c).after 16 t = iblk1 V c 16 t := by dsimp only [dat1]
/-- What the body leaves in window 17 of the row call. -/
theorem after1_17 (c : Dev nD) (t : Fin cfg1.N) : (dat1 V c).after 17 t = iblk1 V c 17 t := by dsimp only [dat1]
/-- What the body leaves in window 18 of the row call. -/
theorem after1_18 (c : Dev nD) (t : Fin cfg1.N) : (dat1 V c).after 18 t = res1 V c t 0 := by dsimp only [dat1]
/-- What the body leaves in window 19 of the row call. -/
theorem after1_19 (c : Dev nD) (t : Fin cfg1.N) : (dat1 V c).after 19 t = res1 V c t 1 := by dsimp only [dat1]
/-- What the body leaves in window 20 of the row call. -/
theorem after1_20 (c : Dev nD) (t : Fin cfg1.N) : (dat1 V c).after 20 t = res1 V c t 2 := by dsimp only [dat1]
/-- What the body leaves in window 21 of the row call. -/
theorem after1_21 (c : Dev nD) (t : Fin cfg1.N) : (dat1 V c).after 21 t = res1 V c t 3 := by dsimp only [dat1]
/-- What the body leaves in window 22 of the row call. -/
theorem after1_22 (c : Dev nD) (t : Fin cfg1.N) : (dat1 V c).after 22 t = res1 V c t 4 := by dsimp only [dat1]
/-- What the body leaves in window 23 of the row call. -/
theorem after1_23 (c : Dev nD) (t : Fin cfg1.N) : (dat1 V c).after 23 t = res1 V c t 5 := by dsimp only [dat1]
/-- What the body leaves in window 24 of the row call. -/
theorem after1_24 (c : Dev nD) (t : Fin cfg1.N) : (dat1 V c).after 24 t = res1 V c t 6 := by dsimp only [dat1]
/-- What the body leaves in window 25 of the row call. -/
theorem after1_25 (c : Dev nD) (t : Fin cfg1.N) : (dat1 V c).after 25 t = res1 V c t 7 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What the body finds in window 1 of the row call: its block. -/
theorem before1_1 (c : Dev nD) (t : Fin cfg1.N) (d) : (dat1 V c).before 1 t d = iblk1 V c 1 t :=
  before1_1_of V (dat1 V c) (A_eq1 V c 1) (after1_1 V c) t d
/-- What the body finds in window 2 of the row call: its block. -/
theorem before1_2 (c : Dev nD) (t : Fin cfg1.N) (d) : (dat1 V c).before 2 t d = iblk1 V c 2 t :=
  before1_2_of V (dat1 V c) (A_eq1 V c 2) (after1_2 V c) t d
/-- What the body finds in window 3 of the row call: its block. -/
theorem before1_3 (c : Dev nD) (t : Fin cfg1.N) (d) : (dat1 V c).before 3 t d = iblk1 V c 3 t :=
  before1_3_of V (dat1 V c) (A_eq1 V c 3) (after1_3 V c) t d
/-- What the body finds in window 4 of the row call: its block. -/
theorem before1_4 (c : Dev nD) (t : Fin cfg1.N) (d) : (dat1 V c).before 4 t d = iblk1 V c 4 t :=
  before1_4_of V (dat1 V c) (A_eq1 V c 4) (after1_4 V c) t d
/-- What the body finds in window 5 of the row call: its block. -/
theorem before1_5 (c : Dev nD) (t : Fin cfg1.N) (d) : (dat1 V c).before 5 t d = iblk1 V c 5 t :=
  before1_5_of V (dat1 V c) (A_eq1 V c 5) (after1_5 V c) t d
/-- What the body finds in window 6 of the row call: its block. -/
theorem before1_6 (c : Dev nD) (t : Fin cfg1.N) (d) : (dat1 V c).before 6 t d = iblk1 V c 6 t :=
  before1_6_of V (dat1 V c) (A_eq1 V c 6) (after1_6 V c) t d
/-- What the body finds in window 7 of the row call: its block. -/
theorem before1_7 (c : Dev nD) (t : Fin cfg1.N) (d) : (dat1 V c).before 7 t d = iblk1 V c 7 t :=
  before1_7_of V (dat1 V c) (A_eq1 V c 7) (after1_7 V c) t d
/-- What the body finds in window 8 of the row call: its block. -/
theorem before1_8 (c : Dev nD) (t : Fin cfg1.N) (d) : (dat1 V c).before 8 t d = iblk1 V c 8 t :=
  before1_8_of V (dat1 V c) (A_eq1 V c 8) (after1_8 V c) t d
/-- What the body finds in window 9 of the row call: its block. -/
theorem before1_9 (c : Dev nD) (t : Fin cfg1.N) (d) : (dat1 V c).before 9 t d = iblk1 V c 9 t :=
  before1_9_of V (dat1 V c) (A_eq1 V c 9) (after1_9 V c) t d
/-- What the body finds in window 10 of the row call: its block. -/
theorem before1_10 (c : Dev nD) (t : Fin cfg1.N) (d) : (dat1 V c).before 10 t d = iblk1 V c 10 t :=
  before1_10_of V (dat1 V c) (A_eq1 V c 10) (after1_10 V c) t d
/-- What the body finds in window 11 of the row call: its block. -/
theorem before1_11 (c : Dev nD) (t : Fin cfg1.N) (d) : (dat1 V c).before 11 t d = iblk1 V c 11 t :=
  before1_11_of V (dat1 V c) (A_eq1 V c 11) (after1_11 V c) t d
/-- What the body finds in window 12 of the row call: its block. -/
theorem before1_12 (c : Dev nD) (t : Fin cfg1.N) (d) : (dat1 V c).before 12 t d = iblk1 V c 12 t :=
  before1_12_of V (dat1 V c) (A_eq1 V c 12) (after1_12 V c) t d
/-- What the body finds in window 13 of the row call: its block. -/
theorem before1_13 (c : Dev nD) (t : Fin cfg1.N) (d) : (dat1 V c).before 13 t d = iblk1 V c 13 t :=
  before1_13_of V (dat1 V c) (A_eq1 V c 13) (after1_13 V c) t d
/-- What the body finds in window 14 of the row call: its block. -/
theorem before1_14 (c : Dev nD) (t : Fin cfg1.N) (d) : (dat1 V c).before 14 t d = iblk1 V c 14 t :=
  before1_14_of V (dat1 V c) (A_eq1 V c 14) (after1_14 V c) t d
/-- What the body finds in window 15 of the row call: its block. -/
theorem before1_15 (c : Dev nD) (t : Fin cfg1.N) (d) : (dat1 V c).before 15 t d = iblk1 V c 15 t :=
  before1_15_of V (dat1 V c) (A_eq1 V c 15) (after1_15 V c) t d
/-- What the body finds in window 16 of the row call: its block. -/
theorem before1_16 (c : Dev nD) (t : Fin cfg1.N) (d) : (dat1 V c).before 16 t d = iblk1 V c 16 t :=
  before1_16_of V (dat1 V c) (A_eq1 V c 16) (after1_16 V c) t d
/-- What the body finds in window 17 of the row call: its block. -/
theorem before1_17 (c : Dev nD) (t : Fin cfg1.N) (d) : (dat1 V c).before 17 t d = iblk1 V c 17 t :=
  before1_17_of V (dat1 V c) (A_eq1 V c 17) (after1_17 V c) t d

/-! ## The body obligation, at a generic point -/

/-- What the body is called with at point `t` , -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d))
    ∗ (∃ d, owns (c : Thread nD τ) (st1_23 t) fullShare ((dat1 V c).before 23 t d))
    ∗ (∃ d, owns (c : Thread nD τ) (st1_24 t) fullShare ((dat1 V c).before 24 t d))
    ∗ (∃ d, owns (c : Thread nD τ) (st1_25 t) fullShare ((dat1 V c).before 25 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t)
    ∗ owns (c : Thread nD τ) (st1_22 t) fullShare ((dat1 V c).after 22 t)
    ∗ owns (c : Thread nD τ) (st1_23 t) fullShare ((dat1 V c).after 23 t)
    ∗ owns (c : Thread nD τ) (st1_24 t) fullShare ((dat1 V c).after 24 t)
    ∗ owns (c : Thread nD τ) (st1_25 t) fullShare ((dat1 V c).after 25 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25]
  unfold res1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel1 c Set.univ (grid1.coords t) _ _ _ _ _ _ _ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

set_option maxHeartbeats 4000000 in
/-- The library's body obligation, at every point: the body's triple restated . -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.RowIdeal.Body

end
-- ==== Proof.RowIdealFrame.lean ====
/- The run of the two calls: what every buffer holds after each stretch of host operations and after each call, and
   the whole program's run to the last of them. -/
module

public import proofs.«01_k».proof.Proof.RowIdealBody

@[expose] public section

set_option maxRecDepth 65536

noncomputable section

namespace Cert.RowIdeal.Body

open Cert.RowIdeal Cert.RowIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
/-- What the first host stretch writes is in its list. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v4, main_v5, main_v6, main_v7, main_v8, main_v9, main_v10, main_v11, main_v12]
/-- What the second host stretch writes is in its list. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- At launch the arguments are as launched. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The bias call is entered with the arguments as launched. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
/-- The bias call leaves in each of its arrays what its pipeline does. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is no array of the bias call keeps its contents across it. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The bias call leaves the arguments as launched. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): what `unscopedBufs_of_arrays` asks. -/
theorem hF0 (c : Dev nD) (w : Fin cfg0.W) : (dat0 (V1 m ρ) c).arrAt w cfg0.N = V2 m ρ c (Pipeline.arrRef spec0 w) :=
  (W2_arr m ρ c w).symm
/-- The same, over all buffers that are no array of the bias call. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The row call is entered with the arguments as launched. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
/-- The row call leaves in each of its arrays what its pipeline does. -/
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
/-- A buffer that is no array of the row call keeps its contents across it. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The row call leaves the arguments as launched. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): what `unscopedBufs_of_arrays_shared` asks. -/
theorem hF1 (c : Dev nD) (w : Fin cfg1.W) : (dat1 (V3 m ρ) c).arrAt w cfg1.N = V4 m ρ c (Pipeline.arrRef spec1 w) :=
  (W4_arr m ρ c w).symm
/-- The same, over all buffers that are no array of the row call. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the
    family at a numeral reduces to that pipeline's data. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- No loop variant is used. -/
abbrev 𝒱₀ : Variants := Variants.none
/-- No core owes another anything: no level is assigned. -/
abbrev L : GSem nD τ sig → Finset Unit := fun _ => ∅
/-- No level either. -/
abbrev lv : GSem nD τ sig → Unit → ℕ := fun _ _ => 0
/-- What rides beside the buffers through every segment: the core's generator register at some state (each
    call takes it in and gives it back) and its debts, none. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the run ends at it with the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- The bias call over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- The row call over the thread state: entered from every unscoped buffer at `W3`, left at `W4`
    (what the launch reads at the end). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its segments, by unfolding. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every run ends with every buffer that outlives the calls at the last contents and every semaphore at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- What a run leaves in an array argument: what was there. -/
theorem arg_kept {s : MemSt nD τ sig (Elt F)} (h : ∀ c : Dev nD, ∀ b ∈ Pipeline.ucRefs τ sig, s.mem (((c : Thread nD τ)).1, b) = W4 m ρ c b)
    (c : Dev nD) (a : Ref sig .tc) (ha : a ∈ argRefs) (hs : ¬ (Proc.devRef .tc a : DevRef τ sig).isScoped) :
    s.mem ((c.tc : Thread nD τ).loc a) = m ((c.tc : Thread nD τ).loc a) :=
  (h c _ (mem_uc a hs)).trans (W4_args m ρ c a ha)

/-- Every run ends with the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) := by
  refine (θ_run defs _ _).mono (fun r h => ⟨fun c => ?_, h.2⟩) (run m ρ)
  have k := arg_kept m ρ h.1 c
  exact ⟨k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide), k main_arg11 (by decide) (by decide), k main_arg12 (by decide) (by decide), k main_arg13 (by decide) (by decide)⟩

end Cert.RowIdeal.Body

end
-- ==== Proof.RowMath.lean ====
/- The mathematics of the row block over the extended reals, apart from any program: the LayerNorm of a pair of residues,
   the pair bias, and the attention over the 256 residues of a sequence with that bias added to the scores.  `rowAt_eq`
   is the step at which the kernel's text and the reference's really differ. -/
module

public import proofs.«01_k».proof.Proof.ColMath

@[expose] public section

noncomputable section

namespace Cert.RowMath

open Idealize.ShloMosaic
open Cert.ColMath (n256 eps scale scale2 eps_pos scale_eq mean ln dotp chan headIx mid real_sum sq_nonneg real_ln real_dotp sum_mul_real)

/-- The number of channels of a pair, as both programs write it. -/
def n128 : EReal := Ideal.ofBits .f32 0x43000000#32
/-- One over the natural logarithm of two. -/
def log2e : EReal := (((Real.log 2)⁻¹ : ℝ) : EReal)

/-- The channel count is the real number 128. -/
theorem n128_eq : n128 = ((128 : ℝ) : EReal) := by
  unfold n128
  simp [Ideal.ofBits, Ideal.ieee, -EReal.coe_mul]; norm_num

/-- The mean over the channels of a pair. -/
def meanZ (f : Fin 128 → EReal) : EReal := Ideal.div (∑ k, f k) n128

/-- The LayerNorm of a pair. -/
def lnZ (f w b : Fin 128 → EReal) (ch : Fin 128) : EReal :=
  (f ch - meanZ f) * Ideal.rsqrt (meanZ (fun k => (f k - meanZ f) * (f k - meanZ f)) + eps) * w ch + b ch

/-- The pair bias of head `h` as the kernel writes it: the weights carry the factor one over the logarithm of two. -/
def biasK (z w b : Fin 128 → EReal) (wb : Fin 128 → Fin 8 → EReal) (h : Fin 8) : EReal :=
  ∑ k, (wb k h * log2e) * lnZ z w b k

/-- The pair bias of head `h` as the reference writes it. -/
def biasR (z w b : Fin 128 → EReal) (wb : Fin 128 → Fin 8 → EReal) (h : Fin 8) : EReal := dotp (lnZ z w b) wb h

/-- The score of residues `s` and `t` in head `h`, before the bias. -/
def score (q k : Fin 256 → Fin 256 → EReal) (h : Fin 8) (s t : Fin 256) : EReal :=
  ∑ d : Fin 32, q s (chan h d) * k t (chan h d)

/-- The largest of 256 scores. -/
def top (l : Fin 256 → EReal) : EReal := Finset.univ.fold max ⊥ l

/-- Softmax attention as the kernel writes it: powers of two, the division after the sum. -/
def attnK (l v : Fin 256 → EReal) : EReal :=
  (∑ t, Ideal.exp2 (l t - top l) * v t) * Ideal.div 1 (∑ t, Ideal.exp2 (l t - top l))

/-- Softmax attention as the reference writes it: exponentials, the division before the sum. -/
def attnR (l v : Fin 256 → EReal) : EReal :=
  ∑ t, v t * Ideal.div (Ideal.exp (l t - top l)) (∑ u, Ideal.exp (l u - top l))

/-- Row `s` of one sequence `X` after the row attention, the attention written by `A` from queries scaled by `sc` and scores
    biased by `bias`. -/
def rowAt (A : (Fin 256 → EReal) → (Fin 256 → EReal) → EReal) (sc : EReal) (bias : Fin 256 → Fin 256 → Fin 8 → EReal)
    (X : Fin 256 → Fin 256 → EReal) (w b : Fin 256 → EReal) (wq wk wv wg : Fin 256 → Fin 256 → EReal) (bg : Fin 256 → EReal)
    (wo : Fin 256 → Fin 256 → EReal) (bo : Fin 256 → EReal) (s ch : Fin 256) : EReal :=
  mid (X s) (fun j =>
    A (fun t => score (fun s j => dotp (ln (X s) w b) wq j * sc) (fun s j => dotp (ln (X s) w b) wk j) (headIx j) s t
        + bias s t (headIx j))
      (fun t => dotp (ln (X t) w b) wv j)) w b wg bg wo bo ch

/-- Dividing by the channel count is multiplying by a positive real. -/
theorem div_n128 (x : EReal) : Ideal.div x n128 = x * (((128 : ℝ)⁻¹ : ℝ) : EReal) := by
  rw [n128_eq]
  unfold Ideal.div
  rw [if_neg (by exact_mod_cast (by norm_num : (128 : ℝ) ≠ 0)), EReal.coe_inv]

/-- A pair's LayerNorm with real scale and shift is real at every pair, infinite ones included. -/
theorem real_lnZ (f w b : Fin 128 → EReal) (hw : ∀ k, ∃ r : ℝ, w k = r) (hb : ∀ k, ∃ r : ℝ, b k = r) (ch : Fin 128) :
    ∃ r : ℝ, lnZ f w b ch = r := by
  obtain ⟨rw', hw⟩ := hw ch
  obtain ⟨rb, hb⟩ := hb ch
  obtain ⟨e, he, hE⟩ := eps_pos
  unfold lnZ
  generalize hd : (fun k => f k - meanZ f) = d
  have hd' : ∀ k, f k - meanZ f = d k := fun k => congrFun hd k
  simp only [hd', hw, hb]
  suffices h : ∃ r : ℝ, d ch * Ideal.rsqrt (meanZ (fun k => d k * d k) + eps) = r by
    obtain ⟨r, hr⟩ := h
    exact ⟨r * rw' + rb, by rw [hr]; push_cast; rfl⟩
  have hnn : (0 : EReal) ≤ ∑ k, d k * d k := Finset.sum_nonneg fun k _ => sq_nonneg _
  by_cases htop : (∑ k, d k * d k) = ⊤
  · refine ⟨0, ?_⟩
    have hv : meanZ (fun k => d k * d k) + eps = ⊤ := by
      unfold meanZ
      rw [htop, div_n128, EReal.top_mul_coe_of_pos (by norm_num), hE, EReal.top_add_coe]
    rw [hv]
    show d ch * 0 = _
    simp
  · have hsq : d ch * d ch ≤ ∑ k, d k * d k :=
      Finset.single_le_sum (f := fun k => d k * d k) (fun i _ => sq_nonneg _) (Finset.mem_univ ch)
    obtain ⟨g, hg⟩ : ∃ g : ℝ, d ch = g := by
      induction hx : d ch with
      | bot => exact absurd (top_le_iff.1 (by rw [hx, EReal.bot_mul_bot] at hsq; exact hsq)) htop
      | top => exact absurd (top_le_iff.1 (by rw [hx, EReal.top_mul_top] at hsq; exact hsq)) htop
      | coe r => exact ⟨r, rfl⟩
    obtain ⟨s, hs⟩ : ∃ s : ℝ, ∑ k, d k * d k = s := by
      generalize (∑ k, d k * d k) = y at hnn htop
      induction y with
      | bot => exact absurd hnn (by simp)
      | top => exact absurd rfl htop
      | coe r => exact ⟨r, rfl⟩
    have hs0 : 0 ≤ s := by rw [hs] at hnn; exact_mod_cast hnn
    have hv : meanZ (fun k => d k * d k) + eps = ((s * 128⁻¹ + e : ℝ) : EReal) := by
      unfold meanZ
      rw [hs, div_n128, hE]; push_cast; rfl
    have hpos : 0 < s * 128⁻¹ + e := by positivity
    refine ⟨g * (Real.sqrt (s * 128⁻¹ + e))⁻¹, ?_⟩
    rw [hv, hg]
    show (g : EReal) * (if _ then _ else if _ then _ else _) = _
    rw [if_neg (not_lt.2 hpos.le), if_neg hpos.ne', EReal.coe_mul]

/-- A sum of real numbers taken in the extended reals is the sum of the reals. -/
theorem coe_sum {n : ℕ} (f : Fin n → ℝ) : (∑ d, (f d : EReal)) = ((∑ d, f d : ℝ) : EReal) := by
  induction (Finset.univ : Finset (Fin n)) using Finset.cons_induction with
  | empty => simp
  | cons a s ha ih => rw [Finset.sum_cons, Finset.sum_cons, ih, EReal.coe_add]

/-- The largest score is one of the scores, and no score is above it. -/
theorem top_spec (l : Fin 256 → EReal) : (∃ t, top l = l t) ∧ ∀ t, l t ≤ top l := by
  have h : top l = Finset.univ.sup l := rfl
  rw [h]
  refine ⟨?_, fun t => Finset.le_sup (Finset.mem_univ t)⟩
  obtain ⟨t, -, ht⟩ := Finset.exists_mem_eq_sup (Finset.univ : Finset (Fin 256)) ⟨0, Finset.mem_univ _⟩ l
  exact ⟨t, ht⟩

/-- The two ways of writing the attention agree when the kernel's scores are the reference's over the natural logarithm
    of two and those are real; the values may be infinite. -/
theorem attn_eq (lR : Fin 256 → ℝ) (v : Fin 256 → EReal) :
    attnK (fun t => ((lR t * (Real.log 2)⁻¹ : ℝ) : EReal)) v = attnR (fun t => (lR t : EReal)) v := by
  have hlog : 0 < Real.log 2 := Real.log_pos (by norm_num)
  obtain ⟨⟨t1, h1⟩, hR⟩ := top_spec (fun t => (lR t : EReal))
  have hmax : ∀ t, lR t ≤ lR t1 := fun t => by
    have := hR t; rw [h1] at this; exact_mod_cast this
  have hK : top (fun t => ((lR t * (Real.log 2)⁻¹ : ℝ) : EReal)) = ((lR t1 * (Real.log 2)⁻¹ : ℝ) : EReal) := by
    obtain ⟨⟨t0, h0⟩, hK⟩ := top_spec (fun t => ((lR t * (Real.log 2)⁻¹ : ℝ) : EReal))
    refine le_antisymm ?_ (hK t1)
    rw [h0]
    exact_mod_cast mul_le_mul_of_nonneg_right (hmax t0) (inv_nonneg.2 hlog.le)
  have he2 : ∀ t, Ideal.exp2 (((lR t * (Real.log 2)⁻¹ : ℝ) : EReal) - top (fun t => ((lR t * (Real.log 2)⁻¹ : ℝ) : EReal)))
      = ((Real.exp (lR t - lR t1) : ℝ) : EReal) := fun t => by
    rw [hK, ← EReal.coe_sub]
    show ((Real.rpow 2 _ : ℝ) : EReal) = _
    congr 1
    show (2 : ℝ) ^ (_ : ℝ) = _
    rw [Real.rpow_def_of_pos (by norm_num)]
    congr 1
    field_simp
  have he : ∀ t, Ideal.exp ((lR t : EReal) - top (fun t => (lR t : EReal))) = ((Real.exp (lR t - lR t1) : ℝ) : EReal) := fun t => by
    rw [h1, ← EReal.coe_sub]; rfl
  unfold attnK attnR
  simp only [he2, he, coe_sum]
  have hSpos : 0 < ∑ t, Real.exp (lR t - lR t1) :=
    Finset.sum_pos (fun t _ => Real.exp_pos _) ⟨t1, Finset.mem_univ _⟩
  generalize (∑ t, Real.exp (lR t - lR t1)) = S at hSpos
  have hdiv : ∀ x : EReal, Ideal.div x (S : EReal) = x * ((S⁻¹ : ℝ) : EReal) := fun x => by
    unfold Ideal.div
    rw [if_neg (by exact_mod_cast hSpos.ne'), EReal.coe_inv]
  simp only [hdiv, one_mul]
  rw [sum_mul_real _ _ (inv_nonneg.2 hSpos.le)]
  refine Finset.sum_congr rfl fun t _ => ?_
  rw [mul_comm (((Real.exp (lR t - lR t1) : ℝ) : EReal)) (v t), mul_assoc]

/-- With real weights the pair bias is real, and the kernel's is the reference's over the logarithm of two. -/
theorem bias_eq (z w b : Fin 128 → EReal) (wb : Fin 128 → Fin 8 → EReal) (hw : ∀ k, ∃ r : ℝ, w k = r)
    (hb : ∀ k, ∃ r : ℝ, b k = r) (hwb : ∀ k j, ∃ r : ℝ, wb k j = r) (h : Fin 8) :
    ∃ r : ℝ, biasR z w b wb h = r ∧ biasK z w b wb h = ((r * (Real.log 2)⁻¹ : ℝ) : EReal) := by
  have hl := real_lnZ z w b hw hb
  choose L hL using hl
  choose W hW using hwb
  refine ⟨∑ k, L k * W k h, ?_, ?_⟩
  · unfold biasR dotp
    rw [← coe_sum]
    refine Finset.sum_congr rfl fun k _ => ?_
    rw [hL, hW, EReal.coe_mul]
  · unfold biasK
    rw [Finset.sum_mul, ← coe_sum]
    refine Finset.sum_congr rfl fun k _ => ?_
    rw [hL, hW, log2e, ← EReal.coe_mul, ← EReal.coe_mul]
    congr 1
    ring

/-- The kernel's attention of a row, from its scaled projections and scaled bias, is the reference's: with real weights
    every score is real. -/
theorem attn_rows (X : Fin 256 → Fin 256 → EReal) (w b : Fin 256 → EReal) (wq wk : Fin 256 → Fin 256 → EReal)
    (hw : ∀ k, ∃ r : ℝ, w k = r) (hb : ∀ k, ∃ r : ℝ, b k = r) (hq : ∀ k j, ∃ r : ℝ, wq k j = r)
    (hk : ∀ k j, ∃ r : ℝ, wk k j = r) (bK bR : Fin 256 → EReal)
    (hbias : ∀ t, ∃ r : ℝ, bR t = r ∧ bK t = ((r * (Real.log 2)⁻¹ : ℝ) : EReal))
    (v : Fin 256 → EReal) (h : Fin 8) (s : Fin 256) :
    attnK (fun t => score (fun s j => dotp (ln (X s) w b) wq j * scale2) (fun s j => dotp (ln (X s) w b) wk j) h s t + bK t) v =
    attnR (fun t => score (fun s j => dotp (ln (X s) w b) wq j * scale) (fun s j => dotp (ln (X s) w b) wk j) h s t + bR t) v := by
  have hQ : ∀ s j, ∃ r : ℝ, dotp (ln (X s) w b) wq j = r := fun s j => real_dotp _ _ (real_ln _ _ _ hw hb) hq j
  have hK : ∀ s j, ∃ r : ℝ, dotp (ln (X s) w b) wk j = r := fun s j => real_dotp _ _ (real_ln _ _ _ hw hb) hk j
  choose Q hQ using hQ
  choose K hK using hK
  choose B hB using hbias
  have hR : (fun t => score (fun s j => dotp (ln (X s) w b) wq j * scale) (fun s j => dotp (ln (X s) w b) wk j) h s t + bR t)
      = fun t => ((∑ d, Q s (chan h d) * (11863283 / 67108864) * K t (chan h d) + B t : ℝ) : EReal) := by
    funext t
    unfold score
    rw [(hB t).1, EReal.coe_add, ← coe_sum]
    congr 1
    refine Finset.sum_congr rfl fun d _ => ?_
    simp only [hQ, hK, scale_eq]
    push_cast
    rfl
  have hL : (fun t => score (fun s j => dotp (ln (X s) w b) wq j * scale2) (fun s j => dotp (ln (X s) w b) wk j) h s t + bK t)
      = fun t => (((∑ d, Q s (chan h d) * (11863283 / 67108864) * K t (chan h d) + B t) * (Real.log 2)⁻¹ : ℝ) : EReal) := by
    funext t
    unfold score
    rw [(hB t).2, add_mul, EReal.coe_add, Finset.sum_mul, ← coe_sum]
    congr 1
    refine Finset.sum_congr rfl fun d _ => ?_
    simp only [hQ, hK, scale2, ← EReal.coe_mul]
    congr 1
    ring
  rw [hR, hL]
  exact attn_eq _ _

/-- The block as the kernel writes it is the block as the reference writes it. -/
theorem rowAt_eq (Z : Fin 256 → Fin 256 → Fin 128 → EReal) (zw zb : Fin 128 → EReal) (wb : Fin 128 → Fin 8 → EReal)
    (X : Fin 256 → Fin 256 → EReal) (w b : Fin 256 → EReal) (wq wk wv wg : Fin 256 → Fin 256 → EReal) (bg : Fin 256 → EReal)
    (wo : Fin 256 → Fin 256 → EReal) (bo : Fin 256 → EReal) (hw : ∀ k, ∃ r : ℝ, w k = r) (hb : ∀ k, ∃ r : ℝ, b k = r)
    (hq : ∀ k j, ∃ r : ℝ, wq k j = r) (hk : ∀ k j, ∃ r : ℝ, wk k j = r) (hzw : ∀ k, ∃ r : ℝ, zw k = r)
    (hzb : ∀ k, ∃ r : ℝ, zb k = r) (hwb : ∀ k j, ∃ r : ℝ, wb k j = r) (s ch : Fin 256) :
    rowAt attnK scale2 (fun s t h => biasK (Z s t) zw zb wb h) X w b wq wk wv wg bg wo bo s ch =
    rowAt attnR scale (fun s t h => biasR (Z s t) zw zb wb h) X w b wq wk wv wg bg wo bo s ch := by
  unfold rowAt
  refine congrArg (fun o => mid (X s) o w b wg bg wo bo ch) (funext fun j => ?_)
  exact attn_rows X w b wq wk hw hb hq hk _ _ (fun t => bias_eq (Z s t) zw zb wb hzw hzb hwb (headIx j)) _ (headIx j) s

end Cert.RowMath
-- ==== Proof.RowValue.lean ====
/- The blocks the two calls compute, read at the extended reals: a row of the row call's block is the row the mathematics of
   RowMath gives, with the kernel's way of writing the attention, and an element of the bias call's block is the kernel's
   pair bias. -/
module

public import proofs.«01_k».proof.Proof.RowIdealNeat
public import proofs.«01_k».proof.Proof.RowMath
public import Idealize.ShloMosaic.Lib.Pointwise
public import Idealize.ShloMosaic.Lib.Pipeline.ValueKit.Tiles

@[expose] public section

set_option maxRecDepth 65536

noncomputable section

namespace Cert.RowIdeal.Body

open Idealize.ShloMosaic
open Cert.RowIdeal Cert.RowIdeal.Gen Cert.RowMath
open Cert.ColMath (n256 eps scale scale2 mean ln dotp chan headIx mid)

/-- Row `s` of sequence `c` in the block. -/
def rowIx (c : Fin 8) (s : Fin 256) : Fin 2048 := ⟨256 * c.val + s.val, by omega⟩

/-- Row `p` of a block. -/
def rowOf (x : FVec Ideal S2048x256 .f32) (p : Fin 2048) : Fin 256 → EReal := fun ch => x (ix2 p ch)

/-- The only row of a one-row operand. -/
def vecOf {n : ℕ} (x : FVec Ideal (⟨2, ![1, n]⟩ : Shape) .f32) : Fin n → EReal := fun ch => x (ix2 0 ch)

/-- A matrix operand as a function of two coordinates. -/
def matOf {n m : ℕ} (x : FVec Ideal (⟨2, ![n, m]⟩ : Shape) .bf16) : Fin n → Fin m → EReal := fun i j => x (ix2 i j)

/-- The pattern of minus infinity is the least extended real. -/
theorem ofBits_bot : Ideal.ofBits .f32 0xFF800000#32 = ⊥ := by
  simp [Ideal.ofBits, Ideal.ieee]

/-- The rows of a sequence and the channels of a head, read at an index. -/
theorem headOf_apply (x : FVec Ideal S2048x256 .f32) (c h : Fin 8) (s : Fin 256) (d : Fin 32) :
    headOf x c h (ix2 s d) = rowOf x (rowIx c s) (chan h d) := by
  pointwise [headOf, rowOf, rowIx, chan]

/-- The bias of a head, read at an index. -/
theorem biasPlane_apply (b : Vec Ideal S8x256x256 .f32) (h : Fin 8) (s t : Fin 256) :
    biasPlane b h (ix2 s t) = b (ix3 h s t) := by
  unfold biasPlane
  rw [shapeCast_apply _ _ _ (ix3 (0 : Fin 1) s t) (by
    pointwise [Shape.rowMajor_val_two, Shape.rowMajor_val_three])]
  refine View.ld_unit_apply_of b _ _ _ _ (ix3 h s t) fun a => ?_
  match a with
  | 0 => show h.val = h.val + 0; omega
  | 1 => show s.val = 0 + s.val; omega
  | 2 => show t.val = 0 + t.val; omega

/-- The scores, read at an index. -/
theorem scoresOf_apply (q k : FVec Ideal S2048x256 .f32) (b : Vec Ideal S8x256x256 .f32) (c h : Fin 8) (s t : Fin 256) :
    scoresOf q k b c h (ix2 s t) =
    score (fun s => rowOf q (rowIx c s)) (fun s => rowOf k (rowIx c s)) h s t + b (ix3 h s t) := by
  pointwise [scoresOf, score, headOf_apply, biasPlane_apply]

/-- The powers of two, read at an index. -/
theorem powOf_apply (l : FVec Ideal S256x256 .f32) (s t : Fin 256) :
    powOf l (ix2 s t) = Ideal.exp2 (l (ix2 s t) - top (fun u => l (ix2 s u))) := by
  pointwise [powOf]
  rw [ofBits_bot]
  rfl

/-- The reciprocals, read at an index. -/
theorem recipOf_apply (e : FVec Ideal S256x256 .f32) (s : Fin 256) (z : Fin 1) :
    recipOf e (ix2 s z) = Ideal.div 1 (∑ t, e (ix2 s t)) := by
  pointwise [recipOf]

/-- The attention output of a sequence and a head, read at an index. -/
theorem outOf_apply (l : FVec Ideal S256x256 .f32) (v : FVec Ideal S2048x256 .f32) (c h : Fin 8) (s : Fin 256) (d : Fin 32) :
    outOf (powOf l) v c h (ix2 s d) = attnK (fun t => l (ix2 s t)) (fun t => rowOf v (rowIx c t) (chan h d)) := by
  pointwise [outOf, headOf_apply, powOf_apply, recipOf_apply, attnK]

/-- The eight heads side by side, read at an index. -/
theorem headsOf_apply (q k v : FVec Ideal S2048x256 .f32) (b : Vec Ideal S8x256x256 .f32) (c : Fin 8) (s j : Fin 256) :
    headsOf q k v b c (ix2 s j) =
    attnK (fun t => score (fun s => rowOf q (rowIx c s)) (fun s => rowOf k (rowIx c s)) (headIx j) s t + b (ix3 (headIx j) s t))
      (fun t => rowOf v (rowIx c t) j) := by
  have hj : chan (headIx j) ⟨j.val % 32, Nat.mod_lt _ (by decide)⟩ = j :=
    Fin.ext (by show 32 * (j.val / 32) + j.val % 32 = j.val; omega)
  have h := outOf_apply (scoresOf q k b c (headIx j)) v c (headIx j) s ⟨j.val % 32, Nat.mod_lt _ (by decide)⟩
  rw [hj] at h
  simp only [scoresOf_apply] at h
  rw [← h]
  unfold headsOf
  exact concatenate_ofFn_apply (t := S256x256) (s₁ := S256x32) 1 (fun h : Fin 8 => outOf (powOf (scoresOf q k b c h)) v c h) _ rfl 32 rfl _
    (headIx j) rfl (ix2 s ⟨j.val % 32, Nat.mod_lt _ (by decide)⟩) rfl (fun b hb => by
      match b with
      | 0 => rfl
      | 1 => exact absurd rfl hb)

/-- The rows of a sequence with its attention added, read at an index. -/
theorem rowsOf_apply (x q k v g : FVec Ideal S2048x256 .f32) (b : Vec Ideal S8x256x256 .f32) (wo : Vec Ideal S256x256 .bf16)
    (bo : Vec Ideal S1x256 .f32) (c : Fin 8) (s ch : Fin 256) :
    rowsOf x q k v g b wo bo c (ix4 s (0 : Fin 1) (0 : Fin 1) ch) =
    rowOf x (rowIx c s) ch + (∑ j, rowOf g (rowIx c s) j * headsOf q k v b c (ix2 s j) * matOf wo j ch) + vecOf bo ch := by
  unfold rowsOf
  rw [shapeCast_apply _ _ _ (ix2 s ch) (by
    pointwise [Shape.rowMajor_val_two, Shape.rowMajor_val_four])]
  pointwise [partOf, rowOf, rowIx, matOf, vecOf]

/-- The normalised block, read at an index. -/
theorem ln_apply (v0 v2 v4 v6 v8 v10 v12 v14 : Vec Ideal S1x256x256 .f32) (w b : Vec Ideal S1x256 .f32) (p : Fin 2048) (ch : Fin 256) :
    k1_pay7 (F := Ideal) (k1_pay3 w) (k1_pay4 b) (k1_pay5 v0 v2 v4 v6 v8 v10 v12 v14) (k1_pay6 v0 v2 v4 v6 v8 v10 v12 v14) (ix2 p ch) =
    ln (rowOf (k1_pay2 (F := Ideal) v0 v2 v4 v6 v8 v10 v12 v14) p) (vecOf w) (vecOf b) ch := by
  generalize hx : k1_pay2 (F := Ideal) v0 v2 v4 v6 v8 v10 v12 v14 = x
  pointwise [k1_pay7, k1_pay6, k1_pay5, k1_pay4, k1_pay3, hx, ln, mean, rowOf, vecOf]
  rfl

/-- The scaled queries, read at an index. -/
theorem q_apply (v0 v2 v4 v6 v8 v10 v12 v14 : Vec Ideal S1x256x256 .f32) (w b : Vec Ideal S1x256 .f32) (wq : Vec Ideal S256x256 .bf16)
    (p : Fin 2048) :
    rowOf (k1_pay8 (F := Ideal) (k1_pay3 w) (k1_pay4 b) (k1_pay5 v0 v2 v4 v6 v8 v10 v12 v14) (k1_pay6 v0 v2 v4 v6 v8 v10 v12 v14) wq) p =
    fun j => dotp (ln (rowOf (k1_pay2 (F := Ideal) v0 v2 v4 v6 v8 v10 v12 v14) p) (vecOf w) (vecOf b)) (matOf wq) j * scale2 := by
  funext j
  have hs : Named.named (F := Ideal) κ "scale" (φ := .f32) 0x3E8293EE#32 = scale2 := IdealRules.named_const.ideal_named_scalar _ _ _ _ rfl
  pointwise [k1_pay8, rowOf, dotp, matOf, ln_apply]
  rw [hs]

/-- The keys, read at an index. -/
theorem k_apply (v0 v2 v4 v6 v8 v10 v12 v14 : Vec Ideal S1x256x256 .f32) (w b : Vec Ideal S1x256 .f32) (wk : Vec Ideal S256x256 .bf16)
    (p : Fin 2048) :
    rowOf (k1_pay9 (F := Ideal) (k1_pay3 w) (k1_pay4 b) (k1_pay5 v0 v2 v4 v6 v8 v10 v12 v14) (k1_pay6 v0 v2 v4 v6 v8 v10 v12 v14) wk) p =
    fun j => dotp (ln (rowOf (k1_pay2 (F := Ideal) v0 v2 v4 v6 v8 v10 v12 v14) p) (vecOf w) (vecOf b)) (matOf wk) j := by
  funext j
  pointwise [k1_pay9, rowOf, dotp, matOf, ln_apply]

/-- The values, read at an index. -/
theorem v_apply (v0 v2 v4 v6 v8 v10 v12 v14 : Vec Ideal S1x256x256 .f32) (w b : Vec Ideal S1x256 .f32) (wv : Vec Ideal S256x256 .bf16)
    (p : Fin 2048) :
    rowOf (k1_pay10 (F := Ideal) (k1_pay3 w) (k1_pay4 b) (k1_pay5 v0 v2 v4 v6 v8 v10 v12 v14) (k1_pay6 v0 v2 v4 v6 v8 v10 v12 v14) wv) p =
    fun j => dotp (ln (rowOf (k1_pay2 (F := Ideal) v0 v2 v4 v6 v8 v10 v12 v14) p) (vecOf w) (vecOf b)) (matOf wv) j := by
  funext j
  pointwise [k1_pay10, rowOf, dotp, matOf, ln_apply]

/-- The gates, read at an index. -/
theorem g_apply (v0 v2 v4 v6 v8 v10 v12 v14 : Vec Ideal S1x256x256 .f32) (w b : Vec Ideal S1x256 .f32) (wg : Vec Ideal S256x256 .bf16)
    (bg : Vec Ideal S1x256 .f32) (p : Fin 2048) :
    rowOf (k1_pay11 (F := Ideal) (k1_pay3 w) (k1_pay4 b) (k1_pay5 v0 v2 v4 v6 v8 v10 v12 v14) (k1_pay6 v0 v2 v4 v6 v8 v10 v12 v14) wg bg) p =
    fun j => Ideal.logistic (dotp (ln (rowOf (k1_pay2 (F := Ideal) v0 v2 v4 v6 v8 v10 v12 v14) p) (vecOf w) (vecOf b)) (matOf wg) j + vecOf bg j) := by
  funext j
  pointwise [k1_pay11, rowOf, dotp, matOf, vecOf, ln_apply]

/-- The block's input rows: row `s` of sequence `c` is row `s` of operand `c`. -/
theorem x_apply (vs : Fin 8 → Vec Ideal S1x256x256 .f32) (c : Fin 8) (s : Fin 256) :
    rowOf (k1_pay2 (F := Ideal) (vs 0) (vs 1) (vs 2) (vs 3) (vs 4) (vs 5) (vs 6) (vs 7)) (rowIx c s) =
    fun ch => vs c (ix3 0 s ch) := by
  funext ch
  have h : k1_pay2 (F := Ideal) (vs 0) (vs 1) (vs 2) (vs 3) (vs 4) (vs 5) (vs 6) (vs 7) =
      concatenate S2048x256 0
        (List.ofFn fun i : Fin 8 => (⟨S256x256, shapeCast S256x256 (vs i) shapeCasts_S1x256x256_S256x256⟩ : (s : Shape) × (s.Idx → Ideal .f32)))
        concatenates_S256x256_S256x256_S256x256_S256x256_S256x256_S256x256_S256x256_S256x256_S2048x256_d0 := rfl
  unfold rowOf
  rw [h]
  refine (concatenate_ofFn_apply (t := S2048x256) (s₁ := S256x256) 0
    (fun i : Fin 8 => shapeCast S256x256 (vs i) shapeCasts_S1x256x256_S256x256) _ rfl 256 rfl _ c
    (by show (256 * c.val + s.val) / 256 = c.val; omega) (ix2 s ch)
    (by show s.val = (256 * c.val + s.val) % 256; omega) (fun b hb => by
      match b with
      | 0 => exact absurd rfl hb
      | 1 => rfl)).trans ?_
  pointwise

/-- A whole operand is read as it is. -/
theorem ld_seq (x : Vec Ideal S1x256x256 .f32) : View.ld x r1_0 = x := View.ld_unit_lit _ _ (by decide)
/-- A whole operand is read as it is. -/
theorem ld_vec (x : Vec Ideal S1x256 .f32) : View.ld x r1_1 = x := View.ld_unit_lit _ _ (by decide)
/-- A whole operand is read as it is. -/
theorem ld_mat (x : Vec Ideal S256x256 .bf16) : View.ld x r1_2 = x := View.ld_unit_lit _ _ (by decide)

/-- The block a step of the row call leaves for a sequence, read at an index: the mathematics' row, with the kernel's
    attention. -/
theorem out1_apply (vs : Fin 8 → Vec Ideal S1x256x256 .f32) (x8 : Vec Ideal S8x256x256 .f32) (x9 x10 : Vec Ideal S1x256 .f32)
    (x11 x12 x13 x14 : Vec Ideal S256x256 .bf16) (x15 : Vec Ideal S1x256 .f32) (x16 : Vec Ideal S256x256 .bf16) (x17 : Vec Ideal S1x256 .f32)
    (c : Fin 8) (s ch : Fin 256) :
    out1 (vs 0) (vs 1) (vs 2) (vs 3) (vs 4) (vs 5) (vs 6) (vs 7) x8 x9 x10 x11 x12 x13 x14 x15 x16 x17 c (ix4 s (0 : Fin 1) (0 : Fin 1) ch) =
    rowAt attnK scale2 (fun s t h => x8 (ix3 h s t)) (fun s ch => vs c (ix3 0 s ch))
      (vecOf x9) (vecOf x10) (matOf x11) (matOf x12) (matOf x13) (matOf x14) (vecOf x15) (matOf x16) (vecOf x17) s ch := by
  unfold out1
  rw [show ∀ w, View.canon (Val := Elt Ideal) [(⟨r1_11, w⟩ : View.Piece (Elt Ideal) S256x1x1x256 .f32)] = w from fun w =>
    View.canon_unit_zero (by funext a; revert a; decide) _ w]
  refine (rowsOf_apply _ _ _ _ _ _ _ _ c s ch).trans ?_
  unfold xOf qOf kOf vOf gOf
  simp only [ld_seq, ld_vec, ld_mat, headsOf_apply, q_apply, k_apply, v_apply, g_apply, x_apply]
  unfold rowAt mid
  rw [add_assoc]

/-! ### The bias call -/

/-- The projected pair block, read at an index. -/
theorem biasProd_apply (x0 : Vec Ideal S32x256x128 .f32) (x1 x2 : Vec Ideal S1x128 .f32) (x3 : Vec Ideal S8x128 .f32)
    (h : Fin 8) (q : Fin 32) (t : Fin 256) :
    biasProd x0 x1 x2 x3 (ix2 h (⟨256 * q.val + t.val, by omega⟩ : Fin 8192)) =
    ∑ k, (x3 (ix2 h k) * log2e) * lnZ (fun k => x0 (ix3 q t k)) (vecOf x1) (vecOf x2) k := by
  have h0 : View.ld x0 r0_0 = x0 := View.ld_unit_lit _ _ (by decide)
  have h1 : ∀ x : Vec Ideal S1x128 .f32, View.ld x r0_1 = x := fun x => View.ld_unit_lit _ _ (by decide)
  have h2 : View.ld x3 r0_2 = x3 := View.ld_unit_lit _ _ (by decide)
  unfold biasProd
  rw [h0, h1, h1, h2]
  have hz : ∀ k : Fin 128, shapeCast S8192x128 x0 shapeCasts_S32x256x128_S8192x128
      (ix2 (⟨256 * q.val + t.val, by omega⟩ : Fin 8192) k) = x0 (ix3 q t k) := fun k =>
    shapeCast_apply _ _ _ (ix3 q t k) (by
      pointwise [Shape.rowMajor_val_two, Shape.rowMajor_val_three]
      omega)
  have hs : Named.named (F := Ideal) κ "log2e" (φ := .f32) 0x3FB8AA3B#32 = log2e := IdealRules.named_const.ideal_named_scalar _ _ _ _ rfl
  unfold k0_pay2
  generalize shapeCast S8192x128 x0 shapeCasts_S32x256x128_S8192x128 = z at hz ⊢
  simp only [← hz]
  pointwise [lnZ, meanZ, n128, vecOf, hs]
  rfl

/-- The block the bias call leaves, read at an index. -/
theorem out0_apply (x0 : Vec Ideal S32x256x128 .f32) (x1 x2 : Vec Ideal S1x128 .f32) (x3 : Vec Ideal S8x128 .f32)
    (h : Fin 8) (q : Fin 32) (t : Fin 256) :
    out0_4 x0 x1 x2 x3 (ix3 h q t) = ∑ k, (x3 (ix2 h k) * log2e) * lnZ (fun k => x0 (ix3 q t k)) (vecOf x1) (vecOf x2) k := by
  rw [← biasProd_apply]
  unfold out0_4
  generalize biasProd x0 x1 x2 x3 = e
  refine View.canon_ofFn_unit_eq_of_forall (Val := Elt Ideal) (S := S8x32x256) (e := .f32) (fun q : Fin 32 => ![0, q.rev.val, 0]) S8x1x256.size (fun q => inbQuery q.rev)
    (fun q => biasRow e q.rev) (ix3 h q t) _ ⟨q.rev, fun a => ?_⟩ fun k x hx => ?_
  · match a with
    | 0 => exact ⟨Nat.zero_le _, by show h.val < 0 + 8; omega⟩
    | 1 => rw [Fin.rev_rev]; exact ⟨Nat.le_refl _, by show q.val < q.val + 1; omega⟩
    | 2 => exact ⟨Nat.zero_le _, by show t.val < 0 + 256; omega⟩
  · have e0 : h.val = 0 + (x 0).val := hx 0
    have e1 : q.val = k.rev.val + (x 1).val := hx 1
    have e2 : t.val = 0 + (x 2).val := hx 2
    have l1 : (x 1).val < 1 := (x 1).isLt
    have hk : k.rev = q := Fin.ext (by omega)
    have hx' : x = (ix3 h (0 : Fin 1) t : S8x1x256.Idx) := by
      funext a
      match a with
      | 0 => exact Fin.ext (by show (x 0).val = h.val; omega)
      | 1 => exact Fin.ext (by show (x 1).val = 0; omega)
      | 2 => exact Fin.ext (by show (x 2).val = t.val; omega)
    rw [hx', hk]
    unfold biasRow
    rw [shapeCast_apply _ _ _ (ix2 h t) (by
      pointwise [Shape.rowMajor_val_two, Shape.rowMajor_val_three])]
    pointwise

end Cert.RowIdeal.Body

end
-- ==== Proof.RowBlocks.lean ====
/- The operands of a step of the two calls, read back to the arrays the step's call was entered with, and what each call
   leaves in its result arrays in those terms. -/
module

public import proofs.«01_k».proof.Proof.RowValue
public import proofs.«01_k».proof.Proof.RowIdealBody
public import Idealize.ShloMosaic.Lib.Pipeline.ValueKit.Point
public import Idealize.ShloMosaic.Lib.Claim

@[expose] public section

set_option maxRecDepth 65536
set_option maxHeartbeats 4000000

noncomputable section

namespace Cert.RowIdeal.Body

open Idealize.ShloMosaic Idealize.ShloMosaic.TcCoe Idealize.SL.Sem
open Cert.RowIdeal Cert.RowIdeal.Gen Cert.RowMath
open Cert.ColMath (n256 eps scale scale2 mean ln dotp chan headIx mid)

variable (V : (c : Dev nD) → (b : Ref sig .tc) → Buf (Elt Ideal) ((c : Thread nD τ).loc b)) (c : Dev nD)

/-! ### The bias call -/

/-- Row `q` of step `t`'s block of the pair array, counted in the array. -/
def pairIx (t : Fin cfg0.N) (q : Fin 32) : Fin 256 := ⟨32 * t.val + q.val, by
  have h : cfg0.N = 8 := by decide
  have ht := t.isLt
  omega⟩

/-- Sequence `n` of stream `k`, counted in the alignment. -/
def seqIx (k : Fin 8) (n : Fin 16) : Fin 128 := ⟨16 * k.val + n.val, by omega⟩

/-- A step's block of the pair array is its thirty-two rows. -/
theorem pair_block (t : Fin cfg0.N) (q : Fin 32) (s : Fin 256) (k : Fin 128) :
    iblk0 V c 0 t (ix3 q s k) = V c main_arg1 (ix3 (pairIx t q) s k) := by
  have h : ∀ t, win0_0.index t 0 = t.val ∧ win0_0.index t 1 = 0 ∧ win0_0.index t 2 = 0 := by decide +kernel
  blk_ext [iblk0, pairIx, (h t).1, (h t).2.1, (h t).2.2]

/-- Each step's block of the normalisation's weight is the whole operand. -/
theorem lnw_block (t : Fin cfg0.N) (k : Fin 128) : iblk0 V c 1 t (ix2 0 k) = V c main_v0 (ix2 0 k) := by
  have h : ∀ t, win0_1.index t 0 = 0 ∧ win0_1.index t 1 = 0 := by decide +kernel
  blk_ext [iblk0, (h t).1, (h t).2]

/-- Each step's block of the normalisation's shift is the whole operand. -/
theorem lnb_block (t : Fin cfg0.N) (k : Fin 128) : iblk0 V c 2 t (ix2 0 k) = V c main_v1 (ix2 0 k) := by
  have h : ∀ t, win0_2.index t 0 = 0 ∧ win0_2.index t 1 = 0 := by decide +kernel
  blk_ext [iblk0, (h t).1, (h t).2]

/-- Each step's block of the bias weights is the whole operand. -/
theorem wb_block (t : Fin cfg0.N) (h : Fin 8) (k : Fin 128) : iblk0 V c 3 t (ix2 h k) = V c main_v2 (ix2 h k) := by
  have hi : ∀ t, win0_3.index t 0 = 0 ∧ win0_3.index t 1 = 0 := by decide +kernel
  blk_ext [iblk0, (hi t).1, (hi t).2]

/-- The pair bias of a head and a pair, from the arrays the bias call was entered with. -/
def biasAt (h : Fin 8) (s t : Fin 256) : EReal :=
  biasK (fun k => V c main_arg1 (ix3 s t k)) (fun k => V c main_v0 (ix2 0 k)) (fun k => V c main_v1 (ix2 0 k))
    (fun k h => V c main_v2 (ix2 h k)) h

/-- The block a step of the bias call leaves, read at an index. -/
theorem bias_step (t : Fin cfg0.N) (h : Fin 8) (q : Fin 32) (s : Fin 256) :
    out0_4 (iblk0 V c 0 t) (iblk0 V c 1 t) (iblk0 V c 2 t) (iblk0 V c 3 t) (ix3 h q s) = biasAt V c h (pairIx t q) s := by
  refine (out0_apply (iblk0 V c 0 t) (iblk0 V c 1 t) (iblk0 V c 2 t) (iblk0 V c 3 t) h q s).trans ?_
  have key : ∀ Z zw zb wb, Z = (fun k => V c main_arg1 (ix3 (pairIx t q) s k)) → zw = (fun k => V c main_v0 (ix2 0 k)) →
      zb = (fun k => V c main_v1 (ix2 0 k)) → wb = (fun k h => V c main_v2 (ix2 h k)) →
      biasK Z zw zb wb h = biasAt V c h (pairIx t q) s := by
    rintro _ _ _ _ rfl rfl rfl rfl
    rfl
  exact key (fun k => iblk0 V c 0 t (ix3 q s k)) (vecOf (iblk0 V c 1 t)) (vecOf (iblk0 V c 2 t)) (fun k h => iblk0 V c 3 t (ix2 h k))
    (funext fun k => pair_block V c t q s k) (funext fun k => lnw_block V c t k) (funext fun k => lnb_block V c t k)
    (funext fun k => funext fun h => wb_block V c t h k)

/-- The bias call leaves the pair bias in its result array. -/
theorem bias_array : (dat0 V c).arrAt 4 cfg0.N = fun i : S8x256x256.Idx => biasAt V c (i 0) (i 1) (i 2) := by
  refine (dat0 V c).arrAt_eq_of_covers 4 _ (by decide +kernel) fun t hf y => ?_
  have hi : ∀ t, win0_4.index t 0 = 0 ∧ win0_4.index t 1 = t.val ∧ win0_4.index t 2 = 0 := by decide +kernel
  rw [after0_4]
  have hy : y = (ix3 (y 0 : Fin 8) (y 1 : Fin 32) (y 2 : Fin 256) : S8x32x256.Idx) := by
    funext a
    match a with
    | 0 => rfl
    | 1 => rfl
    | 2 => rfl
  have he : ∀ (h : Fin 8) (q : Fin 32) (s : Fin 256),
      ((cfg0.win 4).blk t).view.emb (ix3 h q s : S8x32x256.Idx) = (ix3 h (pairIx t q) s : S8x256x256.Idx) := by
    intro h q s
    blk_ext [pairIx, (hi t).1, (hi t).2.1, (hi t).2.2]
  refine (congrArg _ hy).trans ((bias_step V c t (y 0) (y 1) (y 2)).trans ?_)
  have e := (congrArg ((cfg0.win 4).blk t).view.emb hy).trans (he (y 0) (y 1) (y 2))
  exact (congrArg (fun i : S8x256x256.Idx => biasAt V c (i 0) (i 1) (i 2)) e).symm

/-! ### The row call -/

/-- A step's block of a sequence operand is its sequence of the argument. -/
theorem seq_blocks (t : Fin cfg1.N) (s ch : Fin 256) (g : Fin 8 → Fin 128)
    (hg : ∀ k, (g k).val = 16 * k.val + t.val) :
    iblk1 V c 0 t (ix3 0 s ch) = V c main_arg0 (ix3 (g 0) s ch) ∧
    iblk1 V c 1 t (ix3 0 s ch) = V c main_arg0 (ix3 (g 1) s ch) ∧
    iblk1 V c 2 t (ix3 0 s ch) = V c main_arg0 (ix3 (g 2) s ch) ∧
    iblk1 V c 3 t (ix3 0 s ch) = V c main_arg0 (ix3 (g 3) s ch) ∧
    iblk1 V c 4 t (ix3 0 s ch) = V c main_arg0 (ix3 (g 4) s ch) ∧
    iblk1 V c 5 t (ix3 0 s ch) = V c main_arg0 (ix3 (g 5) s ch) ∧
    iblk1 V c 6 t (ix3 0 s ch) = V c main_arg0 (ix3 (g 6) s ch) ∧
    iblk1 V c 7 t (ix3 0 s ch) = V c main_arg0 (ix3 (g 7) s ch) := by
  refine ⟨?_, ?_, ?_, ?_, ?_, ?_, ?_, ?_⟩
  · have h : ∀ t, win1_0.index t 0 = 16 * 0 + t.val ∧ win1_0.index t 1 = 0 ∧ win1_0.index t 2 = 0 := by decide +kernel
    have e : (g 0).val = 16 * 0 + t.val := hg 0
    blk_ext [iblk1, (h t).1, (h t).2.1, (h t).2.2]
  · have h : ∀ t, win1_1.index t 0 = 16 * 1 + t.val ∧ win1_1.index t 1 = 0 ∧ win1_1.index t 2 = 0 := by decide +kernel
    have e : (g 1).val = 16 * 1 + t.val := hg 1
    blk_ext [iblk1, (h t).1, (h t).2.1, (h t).2.2]
  · have h : ∀ t, win1_2.index t 0 = 16 * 2 + t.val ∧ win1_2.index t 1 = 0 ∧ win1_2.index t 2 = 0 := by decide +kernel
    have e : (g 2).val = 16 * 2 + t.val := hg 2
    blk_ext [iblk1, (h t).1, (h t).2.1, (h t).2.2]
  · have h : ∀ t, win1_3.index t 0 = 16 * 3 + t.val ∧ win1_3.index t 1 = 0 ∧ win1_3.index t 2 = 0 := by decide +kernel
    have e : (g 3).val = 16 * 3 + t.val := hg 3
    blk_ext [iblk1, (h t).1, (h t).2.1, (h t).2.2]
  · have h : ∀ t, win1_4.index t 0 = 16 * 4 + t.val ∧ win1_4.index t 1 = 0 ∧ win1_4.index t 2 = 0 := by decide +kernel
    have e : (g 4).val = 16 * 4 + t.val := hg 4
    blk_ext [iblk1, (h t).1, (h t).2.1, (h t).2.2]
  · have h : ∀ t, win1_5.index t 0 = 16 * 5 + t.val ∧ win1_5.index t 1 = 0 ∧ win1_5.index t 2 = 0 := by decide +kernel
    have e : (g 5).val = 16 * 5 + t.val := hg 5
    blk_ext [iblk1, (h t).1, (h t).2.1, (h t).2.2]
  · have h : ∀ t, win1_6.index t 0 = 16 * 6 + t.val ∧ win1_6.index t 1 = 0 ∧ win1_6.index t 2 = 0 := by decide +kernel
    have e : (g 6).val = 16 * 6 + t.val := hg 6
    blk_ext [iblk1, (h t).1, (h t).2.1, (h t).2.2]
  · have h : ∀ t, win1_7.index t 0 = 16 * 7 + t.val ∧ win1_7.index t 1 = 0 ∧ win1_7.index t 2 = 0 := by decide +kernel
    have e : (g 7).val = 16 * 7 + t.val := hg 7
    blk_ext [iblk1, (h t).1, (h t).2.1, (h t).2.2]

/-- Each step's block of the bias is the whole array. -/
theorem bias_block (t : Fin cfg1.N) (h : Fin 8) (r s : Fin 256) : iblk1 V c 8 t (ix3 h r s) = V c main_v3 (ix3 h r s) := by
  have hi : ∀ t, win1_8.index t 0 = 0 ∧ win1_8.index t 1 = 0 ∧ win1_8.index t 2 = 0 := by decide +kernel
  blk_ext [iblk1, (hi t).1, (hi t).2.1, (hi t).2.2]

/-- Each step's block of a vector operand is the whole operand. -/
theorem vec_blocks (t : Fin cfg1.N) (ch : Fin 256) :
    iblk1 V c 9 t (ix2 0 ch) = V c main_v4 (ix2 0 ch) ∧
    iblk1 V c 10 t (ix2 0 ch) = V c main_v5 (ix2 0 ch) ∧
    iblk1 V c 15 t (ix2 0 ch) = V c main_v10 (ix2 0 ch) ∧
    iblk1 V c 17 t (ix2 0 ch) = V c main_v12 (ix2 0 ch) := by
  refine ⟨?_, ?_, ?_, ?_⟩
  · have h : ∀ t, win1_9.index t 0 = 0 ∧ win1_9.index t 1 = 0 := by decide +kernel
    blk_ext [iblk1, (h t).1, (h t).2]
  · have h : ∀ t, win1_10.index t 0 = 0 ∧ win1_10.index t 1 = 0 := by decide +kernel
    blk_ext [iblk1, (h t).1, (h t).2]
  · have h : ∀ t, win1_15.index t 0 = 0 ∧ win1_15.index t 1 = 0 := by decide +kernel
    blk_ext [iblk1, (h t).1, (h t).2]
  · have h : ∀ t, win1_17.index t 0 = 0 ∧ win1_17.index t 1 = 0 := by decide +kernel
    blk_ext [iblk1, (h t).1, (h t).2]

/-- Each step's block of a matrix operand is the whole operand. -/
theorem mat_blocks (t : Fin cfg1.N) (i j : Fin 256) :
    iblk1 V c 11 t (ix2 i j) = V c main_v6 (ix2 i j) ∧
    iblk1 V c 12 t (ix2 i j) = V c main_v7 (ix2 i j) ∧
    iblk1 V c 13 t (ix2 i j) = V c main_v8 (ix2 i j) ∧
    iblk1 V c 14 t (ix2 i j) = V c main_v9 (ix2 i j) ∧
    iblk1 V c 16 t (ix2 i j) = V c main_v11 (ix2 i j) := by
  refine ⟨?_, ?_, ?_, ?_, ?_⟩
  · have h : ∀ t, win1_11.index t 0 = 0 ∧ win1_11.index t 1 = 0 := by decide +kernel
    blk_ext [iblk1, (h t).1, (h t).2]
  · have h : ∀ t, win1_12.index t 0 = 0 ∧ win1_12.index t 1 = 0 := by decide +kernel
    blk_ext [iblk1, (h t).1, (h t).2]
  · have h : ∀ t, win1_13.index t 0 = 0 ∧ win1_13.index t 1 = 0 := by decide +kernel
    blk_ext [iblk1, (h t).1, (h t).2]
  · have h : ∀ t, win1_14.index t 0 = 0 ∧ win1_14.index t 1 = 0 := by decide +kernel
    blk_ext [iblk1, (h t).1, (h t).2]
  · have h : ∀ t, win1_16.index t 0 = 0 ∧ win1_16.index t 1 = 0 := by decide +kernel
    blk_ext [iblk1, (h t).1, (h t).2]

/-- A row of the attention of sequence `g`, from the arrays the row call was entered with. -/
def attnRow (g : Fin 128) (s ch : Fin 256) : EReal :=
  rowAt attnK scale2 (fun s t h => (V c main_v3 : S8x256x256.Idx → EReal) (ix3 h s t))
    (fun s ch => (V c main_arg0 : S128x256x256.Idx → EReal) (ix3 g s ch))
    (fun k => (V c main_v4 : S1x256.Idx → EReal) (ix2 0 k)) (fun k => (V c main_v5 : S1x256.Idx → EReal) (ix2 0 k))
    (fun i j => (V c main_v6 : S256x256.Idx → EReal) (ix2 i j)) (fun i j => (V c main_v7 : S256x256.Idx → EReal) (ix2 i j))
    (fun i j => (V c main_v8 : S256x256.Idx → EReal) (ix2 i j)) (fun i j => (V c main_v9 : S256x256.Idx → EReal) (ix2 i j))
    (fun k => (V c main_v10 : S1x256.Idx → EReal) (ix2 0 k)) (fun i j => (V c main_v11 : S256x256.Idx → EReal) (ix2 i j))
    (fun k => (V c main_v12 : S1x256.Idx → EReal) (ix2 0 k)) s ch

/-- The block a step leaves for stream `k`, read at an index. -/
theorem res1_apply (t : Fin cfg1.N) (k : Fin 8) (g : Fin 128) (hg : g.val = 16 * k.val + t.val) (s ch : Fin 256) :
    res1 V c t k (ix4 s (0 : Fin 1) (0 : Fin 1) ch) = attnRow V c g s ch := by
  have hN : cfg1.N = 16 := by decide
  have ht := t.isLt
  unfold res1
  refine (out1_apply ![iblk1 V c 0 t, iblk1 V c 1 t, iblk1 V c 2 t, iblk1 V c 3 t, iblk1 V c 4 t, iblk1 V c 5 t, iblk1 V c 6 t, iblk1 V c 7 t]
    (iblk1 V c 8 t) (iblk1 V c 9 t) (iblk1 V c 10 t) (iblk1 V c 11 t) (iblk1 V c 12 t) (iblk1 V c 13 t) (iblk1 V c 14 t) (iblk1 V c 15 t)
    (iblk1 V c 16 t) (iblk1 V c 17 t) k s ch).trans ?_
  have hx : (fun s ch => (![iblk1 V c 0 t, iblk1 V c 1 t, iblk1 V c 2 t, iblk1 V c 3 t, iblk1 V c 4 t, iblk1 V c 5 t, iblk1 V c 6 t,
      iblk1 V c 7 t] : Fin 8 → Vec Ideal S1x256x256 .f32) k (ix3 0 s ch)) = fun (s ch : Fin 256) => V c main_arg0 (ix3 g s ch) := by
    funext s ch
    have hgk : ∀ k : Fin 8, 16 * k.val + t.val < 128 := fun k => by omega
    have eg : g = ⟨16 * k.val + t.val, hgk k⟩ := Fin.ext hg
    have h := seq_blocks V c t s ch (fun k => ⟨16 * k.val + t.val, hgk k⟩) fun _ => rfl
    rw [eg]
    clear eg hg
    match k with
    | 0 => exact h.1
    | 1 => exact h.2.1
    | 2 => exact h.2.2.1
    | 3 => exact h.2.2.2.1
    | 4 => exact h.2.2.2.2.1
    | 5 => exact h.2.2.2.2.2.1
    | 6 => exact h.2.2.2.2.2.2.1
    | 7 => exact h.2.2.2.2.2.2.2
  have h8 : (fun s u h => iblk1 V c 8 t (ix3 h s u)) = fun (s u : Fin 256) (h : Fin 8) => V c main_v3 (ix3 h s u) :=
    funext fun s => funext fun u => funext fun h => bias_block V c t h s u
  have h9 : vecOf (iblk1 V c 9 t) = fun k => V c main_v4 (ix2 0 k) := funext fun k => (vec_blocks V c t k).1
  have h10 : vecOf (iblk1 V c 10 t) = fun k => V c main_v5 (ix2 0 k) := funext fun k => (vec_blocks V c t k).2.1
  have h15 : vecOf (iblk1 V c 15 t) = fun k => V c main_v10 (ix2 0 k) := funext fun k => (vec_blocks V c t k).2.2.1
  have h17 : vecOf (iblk1 V c 17 t) = fun k => V c main_v12 (ix2 0 k) := funext fun k => (vec_blocks V c t k).2.2.2
  have h11 : matOf (iblk1 V c 11 t) = fun i j => V c main_v6 (ix2 i j) := funext fun i => funext fun j => (mat_blocks V c t i j).1
  have h12 : matOf (iblk1 V c 12 t) = fun i j => V c main_v7 (ix2 i j) := funext fun i => funext fun j => (mat_blocks V c t i j).2.1
  have h13 : matOf (iblk1 V c 13 t) = fun i j => V c main_v8 (ix2 i j) := funext fun i => funext fun j => (mat_blocks V c t i j).2.2.1
  have h14 : matOf (iblk1 V c 14 t) = fun i j => V c main_v9 (ix2 i j) := funext fun i => funext fun j => (mat_blocks V c t i j).2.2.2.1
  have h16 : matOf (iblk1 V c 16 t) = fun i j => V c main_v11 (ix2 i j) := funext fun i => funext fun j => (mat_blocks V c t i j).2.2.2.2
  rw [hx, h8, h9, h10, h11, h12, h13, h14, h15, h16, h17]
  rfl

/-- The contents of stream `k`'s result array: row `s` of its `n`-th sequence. -/
def stream (k : Fin 8) (i : S256x16x1x256.Idx) : EReal :=
  attnRow V c (seqIx k (i 1)) (i 0) (i 3)

/-- A step's block of a result array, read at an index, is the stream there: the block of step `t` is the array's
    `t`-th sequence. -/
theorem stream_of_block (t : Fin cfg1.N) (k : Fin 8) (y : S256x1x1x256.Idx) (i : S256x16x1x256.Idx)
    (h0 : (i 0).val = (y 0).val) (h1 : (i 1).val = t.val) (h3 : (i 3).val = (y 3).val) :
    res1 V c t k y = stream V c k i := by
  have hy : y = (ix4 (y 0 : Fin 256) (0 : Fin 1) (0 : Fin 1) (y 3 : Fin 256) : S256x1x1x256.Idx) := by
    funext a
    match a with
    | 0 => rfl
    | 1 => exact Fin.ext (by have : (y 1).val < 1 := (y 1).isLt
                             show (y 1).val = 0; omega)
    | 2 => exact Fin.ext (by have : (y 2).val < 1 := (y 2).isLt
                             show (y 2).val = 0; omega)
    | 3 => rfl
  have e0 : (i 0 : Fin 256) = (y 0 : Fin 256) := Fin.ext h0
  have e3 : (i 3 : Fin 256) = (y 3 : Fin 256) := Fin.ext h3
  rw [hy]
  refine (res1_apply V c t k (seqIx k (i 1)) (by show 16 * k.val + (i 1).val = 16 * k.val + t.val; rw [h1]) (y 0) (y 3)).trans ?_
  unfold stream
  rw [e0, e3]

end Cert.RowIdeal.Body

end
-- ==== Proof.RowArrays.lean ====
/- What the row call leaves in its eight result arrays: the streams. -/
module

public import proofs.«01_k».proof.Proof.RowBlocks

@[expose] public section

set_option maxRecDepth 65536
set_option maxHeartbeats 4000000

noncomputable section

namespace Cert.RowIdeal.Body

open Idealize.ShloMosaic Idealize.ShloMosaic.TcCoe Idealize.SL.Sem
open Cert.RowIdeal Cert.RowIdeal.Gen Cert.RowMath

variable (V : (c : Dev nD) → (b : Ref sig .tc) → Buf (Elt Ideal) ((c : Thread nD τ).loc b)) (c : Dev nD)

/-- The row call leaves stream 0 in its first result array. -/
theorem array_0 : (dat1 V c).arrAt 18 cfg1.N = stream V c 0 := by
  have hi : ∀ t, win1_18.index t 0 = 0 ∧ win1_18.index t 1 = t.val ∧ win1_18.index t 3 = 0 := by decide +kernel
  refine (dat1 V c).arrAt_eq_of_covers 18 _ (by decide +kernel) fun t hf y => ?_
  blk_simp
  rw [after1_18]
  exact stream_of_block V c t 0 y _ (by blk_simp [(hi t).1]) (by blk_simp [(hi t).2.1]) (by blk_simp [(hi t).2.2])

/-- The row call leaves stream 1 in its second result array. -/
theorem array_1 : (dat1 V c).arrAt 19 cfg1.N = stream V c 1 := by
  have hi : ∀ t, win1_19.index t 0 = 0 ∧ win1_19.index t 1 = t.val ∧ win1_19.index t 3 = 0 := by decide +kernel
  refine (dat1 V c).arrAt_eq_of_covers 19 _ (by decide +kernel) fun t hf y => ?_
  blk_simp
  rw [after1_19]
  exact stream_of_block V c t 1 y _ (by blk_simp [(hi t).1]) (by blk_simp [(hi t).2.1]) (by blk_simp [(hi t).2.2])

/-- The row call leaves stream 2 in its third result array. -/
theorem array_2 : (dat1 V c).arrAt 20 cfg1.N = stream V c 2 := by
  have hi : ∀ t, win1_20.index t 0 = 0 ∧ win1_20.index t 1 = t.val ∧ win1_20.index t 3 = 0 := by decide +kernel
  refine (dat1 V c).arrAt_eq_of_covers 20 _ (by decide +kernel) fun t hf y => ?_
  blk_simp
  rw [after1_20]
  exact stream_of_block V c t 2 y _ (by blk_simp [(hi t).1]) (by blk_simp [(hi t).2.1]) (by blk_simp [(hi t).2.2])

/-- The row call leaves stream 3 in its fourth result array. -/
theorem array_3 : (dat1 V c).arrAt 21 cfg1.N = stream V c 3 := by
  have hi : ∀ t, win1_21.index t 0 = 0 ∧ win1_21.index t 1 = t.val ∧ win1_21.index t 3 = 0 := by decide +kernel
  refine (dat1 V c).arrAt_eq_of_covers 21 _ (by decide +kernel) fun t hf y => ?_
  blk_simp
  rw [after1_21]
  exact stream_of_block V c t 3 y _ (by blk_simp [(hi t).1]) (by blk_simp [(hi t).2.1]) (by blk_simp [(hi t).2.2])

/-- The row call leaves stream 4 in its fifth result array. -/
theorem array_4 : (dat1 V c).arrAt 22 cfg1.N = stream V c 4 := by
  have hi : ∀ t, win1_22.index t 0 = 0 ∧ win1_22.index t 1 = t.val ∧ win1_22.index t 3 = 0 := by decide +kernel
  refine (dat1 V c).arrAt_eq_of_covers 22 _ (by decide +kernel) fun t hf y => ?_
  blk_simp
  rw [after1_22]
  exact stream_of_block V c t 4 y _ (by blk_simp [(hi t).1]) (by blk_simp [(hi t).2.1]) (by blk_simp [(hi t).2.2])

/-- The row call leaves stream 5 in its sixth result array. -/
theorem array_5 : (dat1 V c).arrAt 23 cfg1.N = stream V c 5 := by
  have hi : ∀ t, win1_23.index t 0 = 0 ∧ win1_23.index t 1 = t.val ∧ win1_23.index t 3 = 0 := by decide +kernel
  refine (dat1 V c).arrAt_eq_of_covers 23 _ (by decide +kernel) fun t hf y => ?_
  blk_simp
  rw [after1_23]
  exact stream_of_block V c t 5 y _ (by blk_simp [(hi t).1]) (by blk_simp [(hi t).2.1]) (by blk_simp [(hi t).2.2])

/-- The row call leaves stream 6 in its seventh result array. -/
theorem array_6 : (dat1 V c).arrAt 24 cfg1.N = stream V c 6 := by
  have hi : ∀ t, win1_24.index t 0 = 0 ∧ win1_24.index t 1 = t.val ∧ win1_24.index t 3 = 0 := by decide +kernel
  refine (dat1 V c).arrAt_eq_of_covers 24 _ (by decide +kernel) fun t hf y => ?_
  blk_simp
  rw [after1_24]
  exact stream_of_block V c t 6 y _ (by blk_simp [(hi t).1]) (by blk_simp [(hi t).2.1]) (by blk_simp [(hi t).2.2])

/-- The row call leaves stream 7 in its eighth result array. -/
theorem array_7 : (dat1 V c).arrAt 25 cfg1.N = stream V c 7 := by
  have hi : ∀ t, win1_25.index t 0 = 0 ∧ win1_25.index t 1 = t.val ∧ win1_25.index t 3 = 0 := by decide +kernel
  refine (dat1 V c).arrAt_eq_of_covers 25 _ (by decide +kernel) fun t hf y => ?_
  blk_simp
  rw [after1_25]
  exact stream_of_block V c t 7 y _ (by blk_simp [(hi t).1]) (by blk_simp [(hi t).2.1]) (by blk_simp [(hi t).2.2])

end Cert.RowIdeal.Body

end
-- ==== Proof.RowHost.lean ====
/- What the host operations before each of the two calls leave in the calls' operands, read at an index. -/
module

public import proofs.«01_k».proof.Proof.Gen.RowIdeal.Launch
public import proofs.«01_k».proof.Proof.RowMath
public import Idealize.ShloMosaic.Lib.Pointwise
public import Idealize.ShloMosaic.Lib.Claim

@[expose] public section

set_option maxRecDepth 65536
set_option maxHeartbeats 4000000

noncomputable section

namespace Cert.RowIdeal.Body

open Idealize.ShloMosaic Idealize.ShloMosaic.TcCoe Idealize.SL.Sem
open Cert.RowIdeal Cert.RowIdeal.Gen Cert.RowMath

variable (W : Valuation τ sig (Elt Ideal))

/-- The bias call's normalisation weight is the argument as one row. -/
theorem host_lnw (k : Fin 128) : StableHlo.after hostOps0 W (Proc.devRef .tc main_v0) (ix2 0 k) = W (Proc.devRef .tc main_arg4) (ix1 k) := by
  entry_read
  pointwise

/-- The bias call's normalisation shift is the argument as one row. -/
theorem host_lnb (k : Fin 128) : StableHlo.after hostOps0 W (Proc.devRef .tc main_v1) (ix2 0 k) = W (Proc.devRef .tc main_arg5) (ix1 k) := by
  entry_read
  pointwise

/-- The bias call's weights are the argument's transpose. -/
theorem host_wb (h : Fin 8) (k : Fin 128) :
    StableHlo.after hostOps0 W (Proc.devRef .tc main_v2) (ix2 h k) = W (Proc.devRef .tc main_arg9) (ix2 k h) := by
  entry_read
  pointwise

/-- The row call's vector operands are the arguments as one row each. -/
theorem host_vecs (k : Fin 256) :
    StableHlo.after hostOps1 W (Proc.devRef .tc main_v4) (ix2 0 k) = W (Proc.devRef .tc main_arg2) (ix1 k) ∧
    StableHlo.after hostOps1 W (Proc.devRef .tc main_v5) (ix2 0 k) = W (Proc.devRef .tc main_arg3) (ix1 k) ∧
    StableHlo.after hostOps1 W (Proc.devRef .tc main_v10) (ix2 0 k) = W (Proc.devRef .tc main_arg11) (ix1 k) ∧
    StableHlo.after hostOps1 W (Proc.devRef .tc main_v12) (ix2 0 k) = W (Proc.devRef .tc main_arg13) (ix1 k) := by
  refine ⟨?_, ?_, ?_, ?_⟩
  · entry_read; pointwise
  · entry_read; pointwise
  · entry_read; pointwise
  · entry_read; pointwise

/-- The row call's matrix operands are the arguments. -/
theorem host_mats (i j : Fin 256) :
    (StableHlo.after hostOps1 W (Proc.devRef .tc main_v6) (ix2 i j) : EReal) = W (Proc.devRef .tc main_arg6) (ix2 i j) ∧
    (StableHlo.after hostOps1 W (Proc.devRef .tc main_v7) (ix2 i j) : EReal) = W (Proc.devRef .tc main_arg7) (ix2 i j) ∧
    (StableHlo.after hostOps1 W (Proc.devRef .tc main_v8) (ix2 i j) : EReal) = W (Proc.devRef .tc main_arg8) (ix2 i j) ∧
    (StableHlo.after hostOps1 W (Proc.devRef .tc main_v9) (ix2 i j) : EReal) = W (Proc.devRef .tc main_arg10) (ix2 i j) ∧
    (StableHlo.after hostOps1 W (Proc.devRef .tc main_v11) (ix2 i j) : EReal) = W (Proc.devRef .tc main_arg12) (ix2 i j) := by
  refine ⟨?_, ?_, ?_, ?_, ?_⟩
  · entry_read; pointwise
  · entry_read; pointwise
  · entry_read; pointwise
  · entry_read; pointwise
  · entry_read; pointwise

end Cert.RowIdeal.Body

end
-- ==== Proof.RowRef.lean ====
/- The reference of the row block, read at an element of its results: residue `r` of sequence `s`, in the mathematics of
   RowMath, with the reference's way of writing the attention and the pair bias. -/
module

public import proofs.«01_k».proof.Proof.Gen.RowReferenceIdeal
public import proofs.«01_k».proof.Proof.Gen.RowReferenceIdeal.Run
public import proofs.«01_k».proof.Proof.Gen.RowReferenceIdeal.Read
public import proofs.«01_k».proof.Proof.RefBlock
public import proofs.«01_k».proof.Proof.RowMath

@[expose] public section

set_option maxRecDepth 65536
set_option maxHeartbeats 1000000

noncomputable section

namespace Cert.RowReferenceIdeal.Row

open Idealize.ShloMosaic
open Cert.RowReferenceIdeal Cert.RowReferenceIdeal.Gen Cert.RowReferenceIdeal.Read Cert.RowMath
open Cert.ColMath (n256 n256_eq eps scale ln dotp chan headIx mid)
open Cert.ReferenceIdeal.Col (vec mat at2 at3 at4 subIx chan_sub count_eq n256_pos)

variable (x0 : (⟨S128x256x256, .f32⟩ : BufTy).Contents (Elt Ideal)) (x1 : (⟨S256x256x128, .f32⟩ : BufTy).Contents (Elt Ideal))
  (x2 x3 : (⟨S256, .f32⟩ : BufTy).Contents (Elt Ideal)) (x4 x5 : (⟨S128, .f32⟩ : BufTy).Contents (Elt Ideal))
  (x6 x7 x8 : (⟨S256x256, .f32⟩ : BufTy).Contents (Elt Ideal)) (x9 : (⟨S128x8, .f32⟩ : BufTy).Contents (Elt Ideal))
  (x10 : (⟨S256x256, .f32⟩ : BufTy).Contents (Elt Ideal)) (x11 : (⟨S256, .f32⟩ : BufTy).Contents (Elt Ideal))
  (x12 : (⟨S256x256, .f32⟩ : BufTy).Contents (Elt Ideal)) (x13 : (⟨S256, .f32⟩ : BufTy).Contents (Elt Ideal))

/-- Sequence `s` of the alignment: residue and channel. -/
def sq (s : Fin 128) (r ch : Fin 256) : EReal := x0 (ix3 s r ch)

/-- The pair of residues `r` and `t`. -/
def pr (r t : Fin 256) (ch : Fin 128) : EReal := x1 (ix3 r t ch)

/-- Residue `r` of sequence `s` after the LayerNorm. -/
def nrm (s : Fin 128) (r : Fin 256) : Fin 256 → EReal := ln (sq x0 s r) (vec x2) (vec x3)

/-- The normalised alignment, read at an index. -/
theorem v17_row (s : Fin 128) (r ch : Fin 256) : val_main_v17 (F := Ideal) x0 x2 x3 (ix3 s r ch) = nrm x0 x2 x3 s r ch := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_call0_v0, val_main_call0_call0_v1, val_main_cst, val_main_cst_0, val_main_c, val_main_cst_1, val_main_call0_cst, val_main_call0_cst_0, val_main_call0_cst_1, val_main_call0_cst_2, val_main_call0_cst_3, val_main_call0_cst_4]
  simp only [count_eq, if_pos n256_pos]
  rfl

/-- The divisor of the pairs' variance is their channel count. -/
theorem countZ_eq : (Ideal.ofBits .f32 0x43000000#32 : EReal) - FloatOps.sitofp (F := Ideal) .f32 0#32 = n128 := by
  have h : (FloatOps.sitofp (F := Ideal) .f32 (0#32 : BitVec 32) : EReal) = 0 := by
    show (((0 : Int) : ℝ) : EReal) = 0; simp
  rw [h, sub_zero]
  rfl

/-- The pairs' channel count is positive. -/
theorem n128_pos : 0 < n128 := by
  rw [n128_eq]
  exact_mod_cast (by norm_num : (0 : ℝ) < 128)

/-- The normalised pairs, read at an index. -/
theorem v43_row (r t : Fin 256) (ch : Fin 128) : val_main_v43 (F := Ideal) x1 x4 x5 (ix3 r t ch) = lnZ (pr x1 r t) (vec x4) (vec x5) ch := by
  pointwise [val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_v12, val_main_call1_v13, val_main_call1_call0_v0, val_main_call1_call0_v1, val_main_cst_3, val_main_cst_4, val_main_c_5, val_main_cst_6, val_main_call1_cst, val_main_call1_cst_0, val_main_call1_cst_1, val_main_call1_cst_2, val_main_call1_cst_3, val_main_call1_cst_4]
  simp only [countZ_eq, if_pos n128_pos]
  rfl

/-- The pair bias of head `h` between residues `s` and `t`. -/
theorem v45_row (h : Fin 8) (r t : Fin 256) : val_main_v45 (F := Ideal) x1 x4 x5 x9 (ix3 h r t) = biasR (pr x1 r t) (vec x4) (vec x5) (mat x9) h := by
  rw [val_main_v45_apply, val_main_v44_apply]
  unfold biasR dotp
  refine Finset.sum_congr rfl fun k _ => congrArg₂ (· * ·) ?_ (congrArg _ (at2 _ _ _ rfl rfl))
  exact (congrArg _ (at3 _ _ _ _ rfl rfl rfl)).trans (v43_row x1 x4 x5 r t k)

/-- The projection of the queries. -/
theorem v18_row (s : Fin 128) (r j : Fin 256) : val_main_v18 (F := Ideal) x0 x2 x3 x6 (ix3 s r j) = dotp (nrm x0 x2 x3 s r) (mat x6) j := by
  rw [val_main_v18_apply]
  refine Finset.sum_congr rfl fun k _ => congrArg₂ (· * ·) ?_ (congrArg _ (at2 _ _ _ rfl rfl))
  exact (congrArg _ (at3 _ _ _ _ rfl rfl rfl)).trans (v17_row x0 x2 x3 s r k)

/-- The projection of the keys. -/
theorem v22_row (s : Fin 128) (r j : Fin 256) : val_main_v22 (F := Ideal) x0 x2 x3 x7 (ix3 s r j) = dotp (nrm x0 x2 x3 s r) (mat x7) j := by
  rw [val_main_v22_apply]
  refine Finset.sum_congr rfl fun k _ => congrArg₂ (· * ·) ?_ (congrArg _ (at2 _ _ _ rfl rfl))
  exact (congrArg _ (at3 _ _ _ _ rfl rfl rfl)).trans (v17_row x0 x2 x3 s r k)

/-- The projection of the values. -/
theorem v24_row (s : Fin 128) (r j : Fin 256) : val_main_v24 (F := Ideal) x0 x2 x3 x8 (ix3 s r j) = dotp (nrm x0 x2 x3 s r) (mat x8) j := by
  rw [val_main_v24_apply]
  refine Finset.sum_congr rfl fun k _ => congrArg₂ (· * ·) ?_ (congrArg _ (at2 _ _ _ rfl rfl))
  exact (congrArg _ (at3 _ _ _ _ rfl rfl rfl)).trans (v17_row x0 x2 x3 s r k)

/-- The projection of the gate. -/
theorem v63_row (s : Fin 128) (r j : Fin 256) : val_main_v63 (F := Ideal) x0 x2 x3 x10 (ix3 s r j) = dotp (nrm x0 x2 x3 s r) (mat x10) j := by
  rw [val_main_v63_apply]
  refine Finset.sum_congr rfl fun k _ => congrArg₂ (· * ·) ?_ (congrArg _ (at2 _ _ _ rfl rfl))
  exact (congrArg _ (at3 _ _ _ _ rfl rfl rfl)).trans (v17_row x0 x2 x3 s r k)

/-- Splitting the channels into heads: channel `d` of head `h`. -/
theorem head_ix (s : Fin 128) (r : Fin 256) (h : Fin 8) (d : Fin 32) :
    idx_main_v19 (ix4 s r h d) = ix3 s r (chan h d) := by
  refine at3 _ _ _ _ ?_ ?_ ?_
  · show (((s.val * 256 + r.val) * 8 + h.val) * 32 + d.val) / 65536 = s.val
    omega
  · show (((s.val * 256 + r.val) * 8 + h.val) * 32 + d.val) / 256 % 256 = r.val
    omega
  · show (((s.val * 256 + r.val) * 8 + h.val) * 32 + d.val) % 256 = 32 * h.val + d.val
    omega

/-- Joining the heads: a channel is read in its head. -/
theorem join_ix (s : Fin 128) (r j : Fin 256) : idx_main_v75 (ix3 s r j) = ix4 s r (headIx j) (subIx j) := by
  refine at4 _ _ _ _ _ ?_ ?_ ?_ ?_
  · show ((s.val * 256 + r.val) * 256 + j.val) / 65536 = s.val
    omega
  · show ((s.val * 256 + r.val) * 256 + j.val) / 256 % 256 = r.val
    omega
  · show ((s.val * 256 + r.val) * 256 + j.val) / 32 % 8 = j.val / 32
    omega
  · show ((s.val * 256 + r.val) * 256 + j.val) % 32 = j.val % 32
    omega

/-- The scaled queries by heads. -/
theorem v21_row (s : Fin 128) (r : Fin 256) (h : Fin 8) (d : Fin 32) : val_main_v21 (F := Ideal) x0 x2 x3 x6 (ix4 s r h d) = dotp (nrm x0 x2 x3 s r) (mat x6) (chan h d) * scale := by
  rw [val_main_v21_apply, val_main_v19_apply, val_main_v20_apply, head_ix, v18_row]
  rfl

/-- The keys by heads. -/
theorem v23_row (s : Fin 128) (r : Fin 256) (h : Fin 8) (d : Fin 32) : val_main_v23 (F := Ideal) x0 x2 x3 x7 (ix4 s r h d) = dotp (nrm x0 x2 x3 s r) (mat x7) (chan h d) := by
  rw [val_main_v23_apply]
  exact (congrArg _ (head_ix s r h d)).trans (v22_row x0 x2 x3 x7 s r _)

/-- The values by heads. -/
theorem v25_row (s : Fin 128) (r : Fin 256) (h : Fin 8) (d : Fin 32) : val_main_v25 (F := Ideal) x0 x2 x3 x8 (ix4 s r h d) = dotp (nrm x0 x2 x3 s r) (mat x8) (chan h d) := by
  rw [val_main_v25_apply]
  exact (congrArg _ (head_ix s r h d)).trans (v24_row x0 x2 x3 x8 s r _)

/-- The biased scores of sequence `s` in head `h`. -/
def scr (s : Fin 128) (h : Fin 8) (r t : Fin 256) : EReal :=
  score (fun r j => dotp (nrm x0 x2 x3 s r) (mat x6) j * scale) (fun r j => dotp (nrm x0 x2 x3 s r) (mat x7) j) h r t
    + biasR (pr x1 r t) (vec x4) (vec x5) (mat x9) h

/-- The biased scores, read at an index. -/
theorem v49_row (s : Fin 128) (h : Fin 8) (r t : Fin 256) : val_main_v49 (F := Ideal) x0 x1 x2 x3 x4 x5 x6 x7 x9 (ix4 s h r t) = scr x0 x1 x2 x3 x4 x5 x6 x7 x9 s h r t := by
  rw [val_main_v49_apply, val_main_v48_apply, val_main_v47_apply, val_main_v46_apply]
  have e : idx_main_v47 (idx_main_v48 (ix4 s h r t)) = ix3 h r t := at3 _ _ _ _ rfl rfl rfl
  rw [e, v45_row]
  unfold scr score
  refine congrArg₂ (· + ·) (Finset.sum_congr rfl fun d _ => congrArg₂ (· * ·) ?_ ?_) rfl
  · exact (congrArg _ (at4 _ _ _ _ _ rfl rfl rfl rfl)).trans (v21_row x0 x2 x3 x6 s r h d)
  · exact (congrArg _ (at4 _ _ _ _ _ rfl rfl rfl rfl)).trans (v23_row x0 x2 x3 x7 s t h d)

/-- The maximum over the last axis from minus infinity, read at an index. -/
theorem rowMax_apply (y : FVec Ideal S128x8x256x256 .f32) (s : Fin 128) (h : Fin 8) (r : Fin 256) :
    Host.reduce FloatOps.maximumf y (constant S_ .f32 0xFF800000#32) reducesTo_S128x8x256x256_S128x8x256_d3 h_S_ (ix3 s h r) =
    top (fun t => y (ix4 s h r t)) := by
  have hred : S128x8x256x256.Reduces [3] S128x8x256 := by decide
  refine (congrFun (hostReduce_maximumf_eq_multiReduction y 0xFF800000#32 reducesTo_S128x8x256x256_S128x8x256_d3 h_S_ hred
    (.inl rfl) rfl) (ix3 s h r)).trans ((Ideal.multiReduction_maximumf_single y _ hred (.inl rfl) rfl _).trans ?_)
  have hb : (FloatOps.ofBits .f32 0xFF800000#32 : Ideal .f32) = (⊥ : EReal) := by
    show Ideal.ofBits .f32 0xFF800000#32 = ⊥
    simp [Ideal.ofBits, Ideal.ieee]
  refine (congrArg (fun b : EReal => Finset.univ.fold max b _) hb).trans ?_
  unfold top
  refine congrArg (fun f : Fin 256 → EReal => Finset.univ.fold max ⊥ f) (funext fun t => ?_)
  exact congrArg y (funext fun a => Fin.ext (by match a with | ⟨0, _⟩ => rfl | ⟨1, _⟩ => rfl | ⟨2, _⟩ => rfl | ⟨3, _⟩ => rfl))

/-- The row maxima, read at an index. -/
theorem v52_row (s : Fin 128) (h : Fin 8) (r : Fin 256) : val_main_v52 (F := Ideal) x0 x1 x2 x3 x4 x5 x6 x7 x9 (ix3 s h r) = top (scr x0 x1 x2 x3 x4 x5 x6 x7 x9 s h r) := by
  have hb : (val_main_v51 (F := Ideal)) (ix3 s h r) = (⊥ : EReal) := by
    show Ideal.ofBits .f32 0xFF800000#32 = ⊥
    simp [Ideal.ofBits, Ideal.ieee]
  have hm : val_main_v50 (F := Ideal) x0 x1 x2 x3 x4 x5 x6 x7 x9 (ix3 s h r) = top (fun t => val_main_v49 (F := Ideal) x0 x1 x2 x3 x4 x5 x6 x7 x9 (ix4 s h r t)) :=
    rowMax_apply _ s h r
  rw [val_main_v52_apply, hb, hm, funext fun t => v49_row x0 x1 x2 x3 x4 x5 x6 x7 x9 s h r t]
  exact max_eq_right bot_le

/-- The exponentials of the scores less their row's maximum. -/
theorem v56_row (s : Fin 128) (h : Fin 8) (r t : Fin 256) : val_main_v56 (F := Ideal) x0 x1 x2 x3 x4 x5 x6 x7 x9 (ix4 s h r t) =
    Ideal.exp (scr x0 x1 x2 x3 x4 x5 x6 x7 x9 s h r t - top (scr x0 x1 x2 x3 x4 x5 x6 x7 x9 s h r)) := by
  rw [val_main_v56_apply, val_main_v55_apply, val_main_v54_apply, val_main_v53_apply, v49_row]
  have e : idx_main_v53 (idx_main_v54 (ix4 s h r t)) = ix3 s h r := at3 _ _ _ _ rfl rfl rfl
  rw [e, v52_row]
  rfl

/-- The sums of the exponentials. -/
theorem v57_row (s : Fin 128) (h : Fin 8) (r : Fin 256) : val_main_v57 (F := Ideal) x0 x1 x2 x3 x4 x5 x6 x7 x9 (ix3 s h r) =
    ∑ t, Ideal.exp (scr x0 x1 x2 x3 x4 x5 x6 x7 x9 s h r t - top (scr x0 x1 x2 x3 x4 x5 x6 x7 x9 s h r)) := by
  have e : ∀ t, idx_main_v57 (ix3 s h r) t = ix4 s h r t := fun t => at4 _ _ _ _ _ rfl rfl rfl rfl
  rw [val_main_v57_apply]
  simp only [e, v56_row]
  have hz : (val_main_cst_9 (F := Ideal)) ((Shape.Idx.first (s := S_)) h_S_) = (0 : EReal) := Ideal.ofBits_zero_f32
  exact (congrArg (· + _) hz).trans (zero_add _)

/-- The weights. -/
theorem v60_row (s : Fin 128) (h : Fin 8) (r t : Fin 256) : val_main_v60 (F := Ideal) x0 x1 x2 x3 x4 x5 x6 x7 x9 (ix4 s h r t) =
    Ideal.div (Ideal.exp (scr x0 x1 x2 x3 x4 x5 x6 x7 x9 s h r t - top (scr x0 x1 x2 x3 x4 x5 x6 x7 x9 s h r)))
      (∑ t, Ideal.exp (scr x0 x1 x2 x3 x4 x5 x6 x7 x9 s h r t - top (scr x0 x1 x2 x3 x4 x5 x6 x7 x9 s h r))) := by
  rw [val_main_v60_apply, val_main_v59_apply, val_main_v58_apply, v56_row]
  have e : idx_main_v58 (idx_main_v59 (ix4 s h r t)) = ix3 s h r := at3 _ _ _ _ rfl rfl rfl
  rw [e, v57_row]
  rfl

/-- The attention's output at residue `r` and channel `d` of head `h`. -/
theorem v61_row (s : Fin 128) (h : Fin 8) (d : Fin 32) (r : Fin 256) : val_main_v61 (F := Ideal) x0 x1 x2 x3 x4 x5 x6 x7 x8 x9 (ix4 s h d r) =
    attnR (scr x0 x1 x2 x3 x4 x5 x6 x7 x9 s h r) (fun t => dotp (nrm x0 x2 x3 s t) (mat x8) (chan h d)) := by
  rw [val_main_v61_apply]
  refine Finset.sum_congr rfl fun t _ => congrArg₂ (· * ·) ?_ ?_
  · exact (congrArg _ (at4 _ _ _ _ _ rfl rfl rfl rfl)).trans (v25_row x0 x2 x3 x8 s t h d)
  · exact (congrArg _ (at4 _ _ _ _ _ rfl rfl rfl rfl)).trans (v60_row x0 x1 x2 x3 x4 x5 x6 x7 x9 s h r t)

/-- The gate. -/
theorem v72_row (s : Fin 128) (r j : Fin 256) : val_main_v72 (F := Ideal) x0 x2 x3 x10 x11 (ix3 s r j) =
    Ideal.logistic (dotp (nrm x0 x2 x3 s r) (mat x10) j + vec x11 j) := by
  rw [val_main_v72_apply, val_main_v71_apply, val_main_v70_apply, val_main_v69_apply, val_main_v68_apply, val_main_v67_apply,
    val_main_v66_apply, val_main_v65_apply, val_main_v64_apply, v63_row]
  have e : x11 (idx_main_v64 (idx_main_v65 (ix3 s r j))) = vec x11 j :=
    congrArg x11 (funext fun q => Fin.ext (by match q with | ⟨0, _⟩ => rfl))
  have h1 : (FloatOps.ofBits .f32 0x3F800000#32 : Ideal .f32) = (1 : EReal) := Ideal.ofBits_one_f32
  rw [e]
  show Ideal.div (FloatOps.ofBits (F := Ideal) .f32 0x3F800000#32) ((FloatOps.ofBits (F := Ideal) .f32 0x3F800000#32 : EReal) +
    Ideal.exp (-(dotp (nrm x0 x2 x3 s r) (mat x10) j + vec x11 j))) = _
  rw [h1]
  rfl

/-- The gated attention, its heads joined. -/
theorem v75_row (s : Fin 128) (r j : Fin 256) : val_main_v75 (F := Ideal) x0 x1 x2 x3 x4 x5 x6 x7 x8 x9 x10 x11 (ix3 s r j) =
    Ideal.logistic (dotp (nrm x0 x2 x3 s r) (mat x10) j + vec x11 j) *
      attnR (scr x0 x1 x2 x3 x4 x5 x6 x7 x9 s (headIx j) r) (fun t => dotp (nrm x0 x2 x3 s t) (mat x8) j) := by
  rw [val_main_v75_apply, join_ix, val_main_v74_apply, val_main_v73_apply, val_main_v62_apply]
  have e : idx_main_v62 (ix4 s r (headIx j) (subIx j)) = ix4 s (headIx j) (subIx j) r := at4 _ _ _ _ _ rfl rfl rfl rfl
  have e' : idx_main_v73 (ix4 s r (headIx j) (subIx j)) = ix3 s r j :=
    (head_ix s r (headIx j) (subIx j)).trans (congrArg (ix3 s r) (chan_sub j))
  rw [e, e', v72_row, v61_row, chan_sub]
  rfl

/-- The block in the reference's writing: residue `r` of sequence `s`. -/
def refRow (s : Fin 128) (r ch : Fin 256) : EReal :=
  rowAt attnR scale (fun r t h => biasR (pr x1 r t) (vec x4) (vec x5) (mat x9) h) (sq x0 s) (vec x2) (vec x3) (mat x6) (mat x7) (mat x8)
    (mat x10) (vec x11) (mat x12) (vec x13) r ch

/-- The alignment after the attention, read at an index. -/
theorem v80_row (s : Fin 128) (r ch : Fin 256) : val_main_v80 (F := Ideal) x0 x1 x2 x3 x4 x5 x6 x7 x8 x9 x10 x11 x12 x13 (ix3 s r ch) = refRow x0 x1 x2 x3 x4 x5 x6 x7 x8 x9 x10 x11 x12 x13 s r ch := by
  rw [val_main_v80_apply, val_main_v79_apply, val_main_v78_apply, val_main_v77_apply]
  have e : x13 (idx_main_v77 (idx_main_v78 (ix3 s r ch))) = vec x13 ch :=
    congrArg x13 (funext fun q => Fin.ext (by match q with | ⟨0, _⟩ => rfl))
  have hp : val_main_v76 (F := Ideal) x0 x1 x2 x3 x4 x5 x6 x7 x8 x9 x10 x11 x12 (ix3 s r ch) = ∑ j, Ideal.logistic (dotp (nrm x0 x2 x3 s r) (mat x10) j + vec x11 j) *
      attnR (scr x0 x1 x2 x3 x4 x5 x6 x7 x9 s (headIx j) r) (fun t => dotp (nrm x0 x2 x3 s t) (mat x8) j) * mat x12 j ch := by
    rw [val_main_v76_apply]
    refine Finset.sum_congr rfl fun k _ => congrArg₂ (· * ·) ?_ (congrArg _ (at2 _ _ _ rfl rfl))
    exact (congrArg _ (at3 _ _ _ _ rfl rfl rfl)).trans (v75_row x0 x1 x2 x3 x4 x5 x6 x7 x8 x9 x10 x11 s r k)
  rw [e, hp]
  rfl

/-- The eight results. -/
def streams : Fin 8 → (⟨S256x16x1x256, .f32⟩ : BufTy).Contents (Elt Ideal) :=
  ![val_main_v83 (F := Ideal) x0 x1 x2 x3 x4 x5 x6 x7 x8 x9 x10 x11 x12 x13,
    val_main_v86 (F := Ideal) x0 x1 x2 x3 x4 x5 x6 x7 x8 x9 x10 x11 x12 x13,
    val_main_v89 (F := Ideal) x0 x1 x2 x3 x4 x5 x6 x7 x8 x9 x10 x11 x12 x13,
    val_main_v92 (F := Ideal) x0 x1 x2 x3 x4 x5 x6 x7 x8 x9 x10 x11 x12 x13,
    val_main_v95 (F := Ideal) x0 x1 x2 x3 x4 x5 x6 x7 x8 x9 x10 x11 x12 x13,
    val_main_v98 (F := Ideal) x0 x1 x2 x3 x4 x5 x6 x7 x8 x9 x10 x11 x12 x13,
    val_main_v101 (F := Ideal) x0 x1 x2 x3 x4 x5 x6 x7 x8 x9 x10 x11 x12 x13,
    val_main_v104 (F := Ideal) x0 x1 x2 x3 x4 x5 x6 x7 x8 x9 x10 x11 x12 x13]

/-- Result `c`, read at an index: its sequences are the sixteen from `16 c` on. -/
theorem streams_apply (c : Fin 8) (r : Fin 256) (i : Fin 16) (ch : Fin 256) :
    streams x0 x1 x2 x3 x4 x5 x6 x7 x8 x9 x10 x11 x12 x13 c (ix4 r i 0 ch) = refRow x0 x1 x2 x3 x4 x5 x6 x7 x8 x9 x10 x11 x12 x13 ⟨16 * c.val + i.val, by omega⟩ r ch := by
  rw [← v80_row]
  match c with
  | 0 => exact (val_main_v83_apply x0 x1 x2 x3 x4 x5 x6 x7 x8 x9 x10 x11 x12 x13 _).trans ((val_main_v82_apply x0 x1 x2 x3 x4 x5 x6 x7 x8 x9 x10 x11 x12 x13 _).trans ((val_main_v81_apply x0 x1 x2 x3 x4 x5 x6 x7 x8 x9 x10 x11 x12 x13 _).trans
      (congrArg _ (at3 _ _ _ _ (Nat.zero_add _).symm rfl rfl))))
  | 1 => exact (val_main_v86_apply x0 x1 x2 x3 x4 x5 x6 x7 x8 x9 x10 x11 x12 x13 _).trans ((val_main_v85_apply x0 x1 x2 x3 x4 x5 x6 x7 x8 x9 x10 x11 x12 x13 _).trans ((val_main_v84_apply x0 x1 x2 x3 x4 x5 x6 x7 x8 x9 x10 x11 x12 x13 _).trans
      (congrArg _ (at3 _ _ _ _ rfl rfl rfl))))
  | 2 => exact (val_main_v89_apply x0 x1 x2 x3 x4 x5 x6 x7 x8 x9 x10 x11 x12 x13 _).trans ((val_main_v88_apply x0 x1 x2 x3 x4 x5 x6 x7 x8 x9 x10 x11 x12 x13 _).trans ((val_main_v87_apply x0 x1 x2 x3 x4 x5 x6 x7 x8 x9 x10 x11 x12 x13 _).trans
      (congrArg _ (at3 _ _ _ _ rfl rfl rfl))))
  | 3 => exact (val_main_v92_apply x0 x1 x2 x3 x4 x5 x6 x7 x8 x9 x10 x11 x12 x13 _).trans ((val_main_v91_apply x0 x1 x2 x3 x4 x5 x6 x7 x8 x9 x10 x11 x12 x13 _).trans ((val_main_v90_apply x0 x1 x2 x3 x4 x5 x6 x7 x8 x9 x10 x11 x12 x13 _).trans
      (congrArg _ (at3 _ _ _ _ rfl rfl rfl))))
  | 4 => exact (val_main_v95_apply x0 x1 x2 x3 x4 x5 x6 x7 x8 x9 x10 x11 x12 x13 _).trans ((val_main_v94_apply x0 x1 x2 x3 x4 x5 x6 x7 x8 x9 x10 x11 x12 x13 _).trans ((val_main_v93_apply x0 x1 x2 x3 x4 x5 x6 x7 x8 x9 x10 x11 x12 x13 _).trans
      (congrArg _ (at3 _ _ _ _ rfl rfl rfl))))
  | 5 => exact (val_main_v98_apply x0 x1 x2 x3 x4 x5 x6 x7 x8 x9 x10 x11 x12 x13 _).trans ((val_main_v97_apply x0 x1 x2 x3 x4 x5 x6 x7 x8 x9 x10 x11 x12 x13 _).trans ((val_main_v96_apply x0 x1 x2 x3 x4 x5 x6 x7 x8 x9 x10 x11 x12 x13 _).trans
      (congrArg _ (at3 _ _ _ _ rfl rfl rfl))))
  | 6 => exact (val_main_v101_apply x0 x1 x2 x3 x4 x5 x6 x7 x8 x9 x10 x11 x12 x13 _).trans ((val_main_v100_apply x0 x1 x2 x3 x4 x5 x6 x7 x8 x9 x10 x11 x12 x13 _).trans ((val_main_v99_apply x0 x1 x2 x3 x4 x5 x6 x7 x8 x9 x10 x11 x12 x13 _).trans
      (congrArg _ (at3 _ _ _ _ rfl rfl rfl))))
  | 7 => exact (val_main_v104_apply x0 x1 x2 x3 x4 x5 x6 x7 x8 x9 x10 x11 x12 x13 _).trans ((val_main_v103_apply x0 x1 x2 x3 x4 x5 x6 x7 x8 x9 x10 x11 x12 x13 _).trans ((val_main_v102_apply x0 x1 x2 x3 x4 x5 x6 x7 x8 x9 x10 x11 x12 x13 _).trans
      (congrArg _ (at3 _ _ _ _ rfl rfl rfl))))

end Cert.RowReferenceIdeal.Row
-- ==== Proof.RowResult.lean ====
/- The results of the pair bias and row attention calls at an element, in terms of the program's arguments. -/
module

public import proofs.«01_k».proof.Proof.RowArrays
public import proofs.«01_k».proof.Proof.RowIdealFrame
public import proofs.«01_k».proof.Proof.RowHost
public import proofs.«01_k».proof.Proof.RowRef

@[expose] public section

set_option maxRecDepth 65536
set_option maxHeartbeats 1000000

noncomputable section

namespace Cert.RowIdeal.Body

open Idealize.ShloMosaic Idealize.ShloMosaic.TcCoe Idealize.SL.Sem
open Cert.RowIdeal Cert.RowIdeal.Gen Cert.RowMath
open Cert.ColMath (scale scale2)
open Cert.ReferenceIdeal.Col (vec mat)
open Cert.RowReferenceIdeal.Row (sq pr)

variable (m : (ℓ : Loc nD τ sig) → Buf (Elt Ideal) ℓ) (ρ : Dev nD → PrngReg) (c : Dev nD)

/-- The pair bias, from the program's arguments. -/
theorem biasAt_eq (h : Fin 8) (s t : Fin 256) : biasAt (V1 m ρ) c h s t =
    biasK (pr (m ((c : Thread nD τ).loc main_arg1)) s t) (vec (m ((c : Thread nD τ).loc main_arg4))) (vec (m ((c : Thread nD τ).loc main_arg5)))
      (mat (m ((c : Thread nD τ).loc main_arg9))) h := by
  have key : ∀ Z zw zb wb, Z = pr (m ((c : Thread nD τ).loc main_arg1)) s t → zw = vec (m ((c : Thread nD τ).loc main_arg4)) →
      zb = vec (m ((c : Thread nD τ).loc main_arg5)) → wb = mat (m ((c : Thread nD τ).loc main_arg9)) →
      biasK Z zw zb wb h = biasK (pr (m ((c : Thread nD τ).loc main_arg1)) s t) (vec (m ((c : Thread nD τ).loc main_arg4)))
        (vec (m ((c : Thread nD τ).loc main_arg5))) (mat (m ((c : Thread nD τ).loc main_arg9))) h := by
    rintro _ _ _ _ rfl rfl rfl rfl
    rfl
  exact key _ _ _ _ (funext fun k => congrFun (W1_args m ρ c main_arg1 (by decide)) (ix3 s t k)) (funext fun k => host_lnw (W0 m ρ c) k)
    (funext fun k => host_lnb (W0 m ρ c) k) (funext fun k => funext fun h => host_wb (W0 m ρ c) h k)

/-- The row call is entered with the pair bias. -/
theorem bias_entry (h : Fin 8) (s t : Fin 256) : V3 m ρ c main_v3 (ix3 h s t) = biasAt (V1 m ρ) c h s t :=
  congrFun ((W3_of m ρ c main_v3 (by decide)).trans ((W2_arr m ρ c 4).trans (bias_array (V1 m ρ) c))) (ix3 h s t)

/-- A row of the attention of sequence `g`, from the program's arguments. -/
theorem attnRow_eq (g : Fin 128) (s ch : Fin 256) : attnRow (V3 m ρ) c g s ch =
    rowAt attnK scale2 (fun r t h => biasK (pr (m ((c : Thread nD τ).loc main_arg1)) r t) (vec (m ((c : Thread nD τ).loc main_arg4))) (vec (m ((c : Thread nD τ).loc main_arg5))) (mat (m ((c : Thread nD τ).loc main_arg9))) h)
      (sq (m ((c : Thread nD τ).loc main_arg0)) g) (vec (m ((c : Thread nD τ).loc main_arg2))) (vec (m ((c : Thread nD τ).loc main_arg3)))
      (mat (m ((c : Thread nD τ).loc main_arg6))) (mat (m ((c : Thread nD τ).loc main_arg7)))
      (mat (m ((c : Thread nD τ).loc main_arg8))) (mat (m ((c : Thread nD τ).loc main_arg10))) (vec (m ((c : Thread nD τ).loc main_arg11)))
      (mat (m ((c : Thread nD τ).loc main_arg12))) (vec (m ((c : Thread nD τ).loc main_arg13))) s ch := by
  have key : ∀ B X w b wq wk wv wg bg wo bo,
      B = (fun r t h => biasK (pr (m ((c : Thread nD τ).loc main_arg1)) r t) (vec (m ((c : Thread nD τ).loc main_arg4))) (vec (m ((c : Thread nD τ).loc main_arg5))) (mat (m ((c : Thread nD τ).loc main_arg9))) h) →
      X = sq (m ((c : Thread nD τ).loc main_arg0)) g → w = vec (m ((c : Thread nD τ).loc main_arg2)) → b = vec (m ((c : Thread nD τ).loc main_arg3)) →
      wq = mat (m ((c : Thread nD τ).loc main_arg6)) → wk = mat (m ((c : Thread nD τ).loc main_arg7)) →
      wv = mat (m ((c : Thread nD τ).loc main_arg8)) → wg = mat (m ((c : Thread nD τ).loc main_arg10)) →
      bg = vec (m ((c : Thread nD τ).loc main_arg11)) → wo = mat (m ((c : Thread nD τ).loc main_arg12)) →
      bo = vec (m ((c : Thread nD τ).loc main_arg13)) →
      rowAt attnK scale2 B X w b wq wk wv wg bg wo bo s ch = rowAt attnK scale2 (fun r t h => biasK (pr (m ((c : Thread nD τ).loc main_arg1)) r t) (vec (m ((c : Thread nD τ).loc main_arg4))) (vec (m ((c : Thread nD τ).loc main_arg5))) (mat (m ((c : Thread nD τ).loc main_arg9))) h)
      (sq (m ((c : Thread nD τ).loc main_arg0)) g) (vec (m ((c : Thread nD τ).loc main_arg2))) (vec (m ((c : Thread nD τ).loc main_arg3)))
      (mat (m ((c : Thread nD τ).loc main_arg6))) (mat (m ((c : Thread nD τ).loc main_arg7)))
      (mat (m ((c : Thread nD τ).loc main_arg8))) (mat (m ((c : Thread nD τ).loc main_arg10))) (vec (m ((c : Thread nD τ).loc main_arg11)))
      (mat (m ((c : Thread nD τ).loc main_arg12))) (vec (m ((c : Thread nD τ).loc main_arg13))) s ch := by
    rintro _ _ _ _ _ _ _ _ _ _ _ rfl rfl rfl rfl rfl rfl rfl rfl rfl rfl rfl
    rfl
  have hv := host_vecs (W2 m ρ c)
  have hm := host_mats (W2 m ρ c)
  exact key _ _ _ _ _ _ _ _ _ _ _
    (funext fun r => funext fun t => funext fun h => (bias_entry m ρ c h r t).trans (biasAt_eq m ρ c h r t))
    (funext fun r => funext fun k => congrFun (W3_args m ρ c main_arg0 (by decide)) (ix3 g r k))
    (funext fun k => (hv k).1.trans (congrFun (W2_args m ρ c main_arg2 (by decide)) (ix1 k)))
    (funext fun k => (hv k).2.1.trans (congrFun (W2_args m ρ c main_arg3 (by decide)) (ix1 k)))
    (funext fun i => funext fun j => (hm i j).1.trans (congrFun (W2_args m ρ c main_arg6 (by decide)) (ix2 i j)))
    (funext fun i => funext fun j => (hm i j).2.1.trans (congrFun (W2_args m ρ c main_arg7 (by decide)) (ix2 i j)))
    (funext fun i => funext fun j => (hm i j).2.2.1.trans (congrFun (W2_args m ρ c main_arg8 (by decide)) (ix2 i j)))
    (funext fun i => funext fun j => (hm i j).2.2.2.1.trans (congrFun (W2_args m ρ c main_arg10 (by decide)) (ix2 i j)))
    (funext fun k => (hv k).2.2.1.trans (congrFun (W2_args m ρ c main_arg11 (by decide)) (ix1 k)))
    (funext fun i => funext fun j => (hm i j).2.2.2.2.trans (congrFun (W2_args m ρ c main_arg12 (by decide)) (ix2 i j)))
    (funext fun k => (hv k).2.2.2.trans (congrFun (W2_args m ρ c main_arg13 (by decide)) (ix1 k)))

/-- Every run ends with the eight streams in the result arrays and the arguments as launched. -/
theorem run_value : θ_run defs (onTc (τ := τ) (main (F := Ideal))) ⟨m, fun _ => 0, ρ⟩ (fun r => ∀ c : Dev nD,
      r.2.mem ((c.tc : Thread nD τ).loc main_v13_0) = stream (V3 m ρ) c 0
      ∧ r.2.mem ((c.tc : Thread nD τ).loc main_v13_1) = stream (V3 m ρ) c 1
      ∧ r.2.mem ((c.tc : Thread nD τ).loc main_v13_2) = stream (V3 m ρ) c 2
      ∧ r.2.mem ((c.tc : Thread nD τ).loc main_v13_3) = stream (V3 m ρ) c 3
      ∧ r.2.mem ((c.tc : Thread nD τ).loc main_v13_4) = stream (V3 m ρ) c 4
      ∧ r.2.mem ((c.tc : Thread nD τ).loc main_v13_5) = stream (V3 m ρ) c 5
      ∧ r.2.mem ((c.tc : Thread nD τ).loc main_v13_6) = stream (V3 m ρ) c 6
      ∧ r.2.mem ((c.tc : Thread nD τ).loc main_v13_7) = stream (V3 m ρ) c 7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run defs _ _).mono (fun r h c => ?_) (run m ρ)
  have k := arg_kept m ρ h.1 c
  have a := fun b hs => h.1 c (Proc.devRef .tc b) (mem_uc b hs)
  exact ⟨(a main_v13_0 (by decide)).trans ((W4_arr m ρ c 18).trans (array_0 (V3 m ρ) c)),
    (a main_v13_1 (by decide)).trans ((W4_arr m ρ c 19).trans (array_1 (V3 m ρ) c)),
    (a main_v13_2 (by decide)).trans ((W4_arr m ρ c 20).trans (array_2 (V3 m ρ) c)),
    (a main_v13_3 (by decide)).trans ((W4_arr m ρ c 21).trans (array_3 (V3 m ρ) c)),
    (a main_v13_4 (by decide)).trans ((W4_arr m ρ c 22).trans (array_4 (V3 m ρ) c)),
    (a main_v13_5 (by decide)).trans ((W4_arr m ρ c 23).trans (array_5 (V3 m ρ) c)),
    (a main_v13_6 (by decide)).trans ((W4_arr m ρ c 24).trans (array_6 (V3 m ρ) c)),
    (a main_v13_7 (by decide)).trans ((W4_arr m ρ c 25).trans (array_7 (V3 m ρ) c)),
    k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide), k main_arg11 (by decide) (by decide), k main_arg12 (by decide) (by decide), k main_arg13 (by decide) (by decide)⟩

end Cert.RowIdeal.Body

end
-- ==== Proof.RowFinite.lean ====
/- The row program's precondition, read at an element: the two LayerNorms' scales and shifts and the query, key and bias
   weights are real numbers. -/
module

public import proofs.«01_k».proof.Pre_finite_row_weights
public import proofs.«01_k».proof.Proof.Finite

@[expose] public section

set_option maxRecDepth 65536

noncomputable section

namespace Cert.Pre_finite_row_weights

open Idealize.ShloMosaic

/-- The shape relations of the precondition's operations hold. -/
theorem shapes : Facts := ⟨by decide, by decide, by decide, by decide, by decide, by decide, by decide, by decide, by decide, by decide,
  by decide, by decide⟩

/-- Two bits joined are one only where both are. -/
theorem both : ∀ a b : BitVec 1, IntOp.andi a b = 1#1 → a = 1#1 ∧ b = 1#1 := by decide

/-- The bit of a condition is one only where it holds. -/
theorem holds_of (p : Prop) [Decidable p] (h : BitVec.ofBool (decide p) = 1#1) : p := by
  by_cases hp : p
  · exact hp
  · simp [hp] at h

/-- What the precondition says, element by element. -/
theorem real_of_pre [Facts] (x0 : FVec Ideal S128x256x256 .f32) (x1 : FVec Ideal S256x256x128 .f32) (w b : FVec Ideal S256 .f32)
    (zw zb : FVec Ideal S128 .f32) (wq wk wv : FVec Ideal S256x256 .f32) (wb : FVec Ideal S128x8 .f32) (wg : FVec Ideal S256x256 .f32)
    (bg : FVec Ideal S256 .f32) (wo : FVec Ideal S256x256 .f32) (bo : FVec Ideal S256 .f32)
    (h : fn x0 x1 w b zw zb wq wk wv wb wg bg wo bo = fun _ => 1#1) (i j : Fin 256) (k : Fin 128) (l : Fin 8) :
    ((∃ r : ℝ, w (ix1 i) = r) ∧ (∃ r : ℝ, b (ix1 i) = r) ∧ (∃ r : ℝ, wq (ix2 i j) = r) ∧ (∃ r : ℝ, wk (ix2 i j) = r)) ∧
    (∃ r : ℝ, zw (ix1 k) = r) ∧ (∃ r : ℝ, zb (ix1 k) = r) ∧ (∃ r : ℝ, wb (ix2 k l) = r) := by
  have h1 := congrFun h (ix4 i j k l)
  revert h1
  pointwise [fn, fn_part1]
  intro h1
  obtain ⟨ha, hb⟩ := both _ _ h1
  obtain ⟨ha, h_b⟩ := both _ _ ha
  obtain ⟨ha, h_w⟩ := both _ _ ha
  obtain ⟨h_q, h_k⟩ := both _ _ ha
  obtain ⟨hb, h_zb⟩ := both _ _ hb
  obtain ⟨h_wb, h_zw⟩ := both _ _ hb
  have real := @Cert.Pre_finite_weights.real_of_abs
  exact ⟨⟨real _ (holds_of _ h_w), real _ (holds_of _ h_b), real _ (holds_of _ h_q), real _ (holds_of _ h_k)⟩,
    real _ (holds_of _ h_zw), real _ (holds_of _ h_zb), real _ (holds_of _ h_wb)⟩

end Cert.Pre_finite_row_weights
-- ==== Proof.RowMeet.lean ====
/- The streams the two calls leave and the reference's eight results are the same arrays, where the precondition holds. -/
module

public import proofs.«01_k».proof.Proof.RowResult
public import proofs.«01_k».proof.Proof.RowFinite

@[expose] public section

set_option maxRecDepth 65536
set_option maxHeartbeats 1000000

noncomputable section

namespace Cert.RowIdeal.Body

open Idealize.ShloMosaic Idealize.ShloMosaic.TcCoe Idealize.SL.Sem
open Cert.RowIdeal Cert.RowIdeal.Gen Cert.RowMath
open Cert.ColMath (scale scale2)
open Cert.ReferenceIdeal.Col (vec mat)
open Cert.RowReferenceIdeal.Row (sq pr)

/-- On equal arguments with finite weights of the two LayerNorms, of the queries and keys and of the pair bias, each stream is the
    reference's. -/
theorem meet_row [Cert.Pre_finite_row_weights.Facts] (m : (ℓ : Loc nD τ sig) → Buf (Elt Ideal) ℓ) (ρ : Dev nD → PrngReg) (c : Dev nD)
    (x0 : (⟨Cert.RowReferenceIdeal.S128x256x256, .f32⟩ : BufTy).Contents (Elt Ideal))
    (x1 : (⟨Cert.RowReferenceIdeal.S256x256x128, .f32⟩ : BufTy).Contents (Elt Ideal))
    (x2 : (⟨Cert.RowReferenceIdeal.S256, .f32⟩ : BufTy).Contents (Elt Ideal))
    (x3 : (⟨Cert.RowReferenceIdeal.S256, .f32⟩ : BufTy).Contents (Elt Ideal))
    (x4 : (⟨Cert.RowReferenceIdeal.S128, .f32⟩ : BufTy).Contents (Elt Ideal))
    (x5 : (⟨Cert.RowReferenceIdeal.S128, .f32⟩ : BufTy).Contents (Elt Ideal))
    (x6 : (⟨Cert.RowReferenceIdeal.S256x256, .f32⟩ : BufTy).Contents (Elt Ideal))
    (x7 : (⟨Cert.RowReferenceIdeal.S256x256, .f32⟩ : BufTy).Contents (Elt Ideal))
    (x8 : (⟨Cert.RowReferenceIdeal.S256x256, .f32⟩ : BufTy).Contents (Elt Ideal))
    (x9 : (⟨Cert.RowReferenceIdeal.S128x8, .f32⟩ : BufTy).Contents (Elt Ideal))
    (x10 : (⟨Cert.RowReferenceIdeal.S256x256, .f32⟩ : BufTy).Contents (Elt Ideal))
    (x11 : (⟨Cert.RowReferenceIdeal.S256, .f32⟩ : BufTy).Contents (Elt Ideal))
    (x12 : (⟨Cert.RowReferenceIdeal.S256x256, .f32⟩ : BufTy).Contents (Elt Ideal))
    (x13 : (⟨Cert.RowReferenceIdeal.S256, .f32⟩ : BufTy).Contents (Elt Ideal))
    (h0 : x0 = (m ((c : Thread nD τ).loc main_arg0)))
    (h1 : x1 = (m ((c : Thread nD τ).loc main_arg1)))
    (h2 : x2 = (m ((c : Thread nD τ).loc main_arg2)))
    (h3 : x3 = (m ((c : Thread nD τ).loc main_arg3)))
    (h4 : x4 = (m ((c : Thread nD τ).loc main_arg4)))
    (h5 : x5 = (m ((c : Thread nD τ).loc main_arg5)))
    (h6 : x6 = (m ((c : Thread nD τ).loc main_arg6)))
    (h7 : x7 = (m ((c : Thread nD τ).loc main_arg7)))
    (h8 : x8 = (m ((c : Thread nD τ).loc main_arg8)))
    (h9 : x9 = (m ((c : Thread nD τ).loc main_arg9)))
    (h10 : x10 = (m ((c : Thread nD τ).loc main_arg10)))
    (h11 : x11 = (m ((c : Thread nD τ).loc main_arg11)))
    (h12 : x12 = (m ((c : Thread nD τ).loc main_arg12)))
    (h13 : x13 = (m ((c : Thread nD τ).loc main_arg13)))
    (hpre : Cert.Pre_finite_row_weights.fn (F := Ideal) x0 x1 x2 x3 x4 x5 x6 x7 x8 x9 x10 x11 x12 x13 = fun _ => 1#1) (k : Fin 8) :
    Cert.RowReferenceIdeal.Row.streams x0 x1 x2 x3 x4 x5 x6 x7 x8 x9 x10 x11 x12 x13 k = stream (V3 m ρ) c k := by
  have hf := Cert.Pre_finite_row_weights.real_of_pre x0 x1 x2 x3 x4 x5 x6 x7 x8 x9 x10 x11 x12 x13 hpre
  subst h0 h1 h2 h3 h4 h5 h6 h7 h8 h9 h10 h11 h12 h13
  funext i
  have e : i = (ix4 (i 0) (i 1) 0 (i 3) : S256x16x1x256.Idx) := Cert.ReferenceIdeal.Col.at4 i _ _ _ _ rfl rfl
    (by have h : (i 2).val < 1 := (i 2).isLt
        show (i 2).val = 0; omega) rfl
  rw [e]
  refine (Cert.RowReferenceIdeal.Row.streams_apply _ _ _ _ _ _ _ _ _ _ _ _ _ _ k (i 0) (i 1) (i 3)).trans (Eq.trans ?_ (attnRow_eq m ρ c
    (seqIx k (i 1)) (i 0) (i 3)).symm)
  exact (rowAt_eq _ _ _ _ _ _ _ _ _ _ _ _ _ _ (fun k => (hf k 0 0 0).1.1) (fun k => (hf k 0 0 0).1.2.1)
    (fun k j => (hf k j 0 0).1.2.2.1) (fun k j => (hf k j 0 0).1.2.2.2) (fun k => (hf 0 0 k 0).2.1) (fun k => (hf 0 0 k 0).2.2.1)
    (fun k j => (hf 0 0 k j).2.2.2) (i 0) (i 3)).symm

end Cert.RowIdeal.Body

end
-- ==== Proof.lean ====
module

public import proofs.«01_k».proof.Defs
public import proofs.«01_k».proof.Proof.Gen.Col
public import proofs.«01_k».proof.Proof.Gen.Col.Skeleton
public import proofs.«01_k».proof.Proof.Gen.Col.Launch
public import proofs.«01_k».proof.Proof.Gen.Col.Points
public import proofs.«01_k».proof.Proof.Gen.Col.Frame
public import proofs.«01_k».proof.Proof.Gen.ColIdeal
public import proofs.«01_k».proof.Proof.Gen.ColIdeal.Skeleton
public import proofs.«01_k».proof.Proof.Gen.ColIdeal.Launch
public import proofs.«01_k».proof.Proof.Gen.ColIdeal.Points
public import proofs.«01_k».proof.Proof.Gen.ColIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Row
public import proofs.«01_k».proof.Proof.Gen.Row.Skeleton
public import proofs.«01_k».proof.Proof.Gen.Row.Launch
public import proofs.«01_k».proof.Proof.Gen.Row.Points
public import proofs.«01_k».proof.Proof.Gen.RowIdeal
public import proofs.«01_k».proof.Proof.Gen.RowIdeal.Skeleton
public import proofs.«01_k».proof.Proof.Gen.RowIdeal.Launch
public import proofs.«01_k».proof.Proof.Gen.RowIdeal.Points
public import proofs.«01_k».proof.Proof.Gen.RowReferenceIdeal
public import proofs.«01_k».proof.Proof.Gen.RowReferenceIdeal.Run
public import proofs.«01_k».proof.Proof.Gen.RowReferenceIdeal.Read
public import proofs.«01_k».proof.Proof.ColFrame
public import proofs.«01_k».proof.Proof.ColIdealFrame
public import proofs.«01_k».proof.Proof.Meet
public import proofs.«01_k».proof.Proof.RowFrame
public import proofs.«01_k».proof.Proof.RowIdealFrame
public import proofs.«01_k».proof.Proof.RowMeet
public import Idealize.ShloMosaic.Adequacy
public import Idealize.ShloMosaic.Init
public import Idealize.ShloMosaic.Lib.Quiescent

@[expose] public section

noncomputable section

namespace Cert.Proof

open Idealize.ShloMosaic Idealize.SL.Sem Cert.Col

/-- The reference leaves its arguments unchanged and its semaphores at zero. -/
theorem reference_frame : quiescent_ReferenceIdeal (hReferenceIdeal := Cert.ReferenceIdeal.Gen.facts) := fun m g _ =>
  (θ_run Cert.ReferenceIdeal.defs _ _).mono (fun r h => ⟨fun c => (h c).2, sem_eq_zero_of_no_sems rfl _⟩) (Cert.ReferenceIdeal.Value.run m g)

/-- From equal arguments that satisfy the precondition, the kernel and the reference leave one array. -/
theorem equal_results : algebraic_ColIdeal_ReferenceIdeal_pre_finite_weights (hColIdeal := Cert.ColIdeal.Gen.facts)
    (hReferenceIdeal := Cert.ReferenceIdeal.Gen.facts) (hPre_finite_weights := Cert.Pre_finite_weights.shapes) := by
  intro m g m' g' hpre hargs
  refine ⟨Cert.ColIdeal.Body.res m,
    (θ_run Cert.ColIdeal.defs _ _).mono (fun r h => h.1) (Cert.ColIdeal.Body.run_value m g),
    (θ_run Cert.ReferenceIdeal.defs _ _).mono (fun r h c => ⟨(h c).1.trans ?_, (h c).2⟩) (Cert.ReferenceIdeal.Value.run m' g')⟩
  refine (Cert.ReferenceIdeal.Read.val_main_v102_eq _).trans ?_
  obtain ⟨h0, h1, h2, h3, h4, h5, h6, h7, h8, h9, h10, h11, h12, h13, h14, h15, h16, h17, h18, h19, h20, h21, h22⟩ := hargs c
  exact @Cert.ColIdeal.Body.meet Cert.Pre_finite_weights.shapes m c _ _ _ _ _ _ _ _ _ _ _ _ _ _ _ _ _ _ _ _ _ _ _
    h0 h1 h2 h3 h4 h5 h6 h7 h8 h9 h10 h11 h12 h13 h14 h15 h16 h17 h18 h19 h20 h21 h22 (by
      have hp := hpre c
      rw [← h0, ← h1, ← h2, ← h3, ← h4, ← h5, ← h6, ← h7, ← h8, ← h9, ← h10, ← h11, ← h12, ← h13, ← h14, ← h15, ← h16, ← h17,
        ← h18, ← h19, ← h20, ← h21, ← h22] at hp
      exact hp)

/-- The row reference leaves its arguments unchanged and its semaphores at zero. -/
theorem row_reference_frame : quiescent_RowReferenceIdeal (hRowReferenceIdeal := Cert.RowReferenceIdeal.Gen.facts) := fun m g _ =>
  (θ_run Cert.RowReferenceIdeal.defs _ _).mono (fun r h => ⟨fun c => (h c).2.2.2.2.2.2.2.2, sem_eq_zero_of_no_sems rfl _⟩)
    (Cert.RowReferenceIdeal.Value.run m g)

/-- From equal arguments that satisfy the precondition, the bias and row calls and their reference leave the same eight arrays. -/
theorem equal_streams : algebraic_RowIdeal_RowReferenceIdeal_pre_finite_row_weights (hRowIdeal := Cert.RowIdeal.Gen.facts)
    (hRowReferenceIdeal := Cert.RowReferenceIdeal.Gen.facts) (hPre_finite_row_weights := Cert.Pre_finite_row_weights.shapes) := by
  intro m g m' g' hpre hargs
  have key := fun (c : Dev Cert.RowIdeal.nD) => by
    obtain ⟨h0, h1, h2, h3, h4, h5, h6, h7, h8, h9, h10, h11, h12, h13⟩ := hargs c
    have hp := hpre c
    rw [← h0, ← h1, ← h2, ← h3, ← h4, ← h5, ← h6, ← h7, ← h8, ← h9, ← h10, ← h11, ← h12, ← h13] at hp
    exact @Cert.RowIdeal.Body.meet_row Cert.Pre_finite_row_weights.shapes m g c _ _ _ _ _ _ _ _ _ _ _ _ _ _
      h0 h1 h2 h3 h4 h5 h6 h7 h8 h9 h10 h11 h12 h13 hp
  exact ⟨fun c => Cert.RowIdeal.Body.stream (Cert.RowIdeal.Body.V3 m g) c 0, fun c => Cert.RowIdeal.Body.stream (Cert.RowIdeal.Body.V3 m g) c 1,
    fun c => Cert.RowIdeal.Body.stream (Cert.RowIdeal.Body.V3 m g) c 2, fun c => Cert.RowIdeal.Body.stream (Cert.RowIdeal.Body.V3 m g) c 3,
    fun c => Cert.RowIdeal.Body.stream (Cert.RowIdeal.Body.V3 m g) c 4, fun c => Cert.RowIdeal.Body.stream (Cert.RowIdeal.Body.V3 m g) c 5,
    fun c => Cert.RowIdeal.Body.stream (Cert.RowIdeal.Body.V3 m g) c 6, fun c => Cert.RowIdeal.Body.stream (Cert.RowIdeal.Body.V3 m g) c 7,
    Cert.RowIdeal.Body.run_value m g,
    (θ_run Cert.RowReferenceIdeal.defs _ _).mono (fun r h c => ⟨((h c).1).trans ((Cert.RowReferenceIdeal.Read.val_main_v83_eq _ _).trans (key c 0)),
      ((h c).2.1).trans ((Cert.RowReferenceIdeal.Read.val_main_v86_eq _ _).trans (key c 1)),
      ((h c).2.2.1).trans ((Cert.RowReferenceIdeal.Read.val_main_v89_eq _ _).trans (key c 2)),
      ((h c).2.2.2.1).trans ((Cert.RowReferenceIdeal.Read.val_main_v92_eq _ _).trans (key c 3)),
      ((h c).2.2.2.2.1).trans ((Cert.RowReferenceIdeal.Read.val_main_v95_eq _ _).trans (key c 4)),
      ((h c).2.2.2.2.2.1).trans ((Cert.RowReferenceIdeal.Read.val_main_v98_eq _ _).trans (key c 5)),
      ((h c).2.2.2.2.2.2.1).trans ((Cert.RowReferenceIdeal.Read.val_main_v101_eq _ _).trans (key c 6)),
      ((h c).2.2.2.2.2.2.2.1).trans ((Cert.RowReferenceIdeal.Read.val_main_v104_eq _ _).trans (key c 7)),
      (h c).2.2.2.2.2.2.2.2⟩) (Cert.RowReferenceIdeal.Value.run m' g')⟩

/-- The certificate's claims: for each of the two programs, the frames of the kernel calls, of their idealization and of the
    reference, that the idealization is the kernel's with its constants named, and that calls and reference compute the same
    arrays over the extended reals. -/
theorem claim : Cert.Claim := ⟨Cert.Col.Gen.facts, Cert.ColIdeal.Gen.facts, Cert.ReferenceIdeal.Gen.facts,
  Cert.Row.Gen.facts, Cert.RowIdeal.Gen.facts, Cert.RowReferenceIdeal.Gen.facts,
  Cert.Pre_finite_weights.shapes, Cert.Pre_finite_row_weights.shapes,
  fun m g _ => Cert.Col.Body.frame m g,
  fun m g _ => Cert.ColIdeal.Body.frame m g,
  fun m g _ => Cert.ColIdeal.Body.frame m g,
  reference_frame,
  fun m g _ => reference_frame m g trivial,
  fun m g _ => Cert.Row.Body.frame m g,
  fun m g _ => Cert.RowIdeal.Body.frame m g,
  fun m g _ => Cert.RowIdeal.Body.frame m g,
  row_reference_frame,
  fun m g _ => row_reference_frame m g trivial,
  IdealRules.named_const.statement Cert.ColIdeal.κ "scale" .f32 0x3E8293EE#32 _ rfl,
  equal_results,
  ⟨IdealRules.named_const.statement Cert.RowIdeal.κ "log2e" .f32 0x3FB8AA3B#32 _ rfl,
    IdealRules.named_const.statement Cert.RowIdeal.κ "scale" .f32 0x3E8293EE#32 _ rfl⟩,
  equal_streams⟩

end Cert.Proof

end
